-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xC1F00000#32 ⊥

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 4096]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![4096, 512]⟩ 0 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v40) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x256x512 : Shape := ⟨3, ![2, 256, 512]⟩
abbrev S512x256 : Shape := ⟨2, ![512, 256]⟩
abbrev S2x256x64x64 : Shape := ⟨4, ![2, 256, 64, 64]⟩
abbrev S256x512 : Shape := ⟨2, ![256, 512]⟩
abbrev S_ : Shape := ⟨0, ![]⟩

class Facts : Prop where
  bitsLt_bf16_f32 : FTy.bits .bf16 < FTy.bits .f32
  bcast_S_S2x256x512 : S_.BroadcastsInDim S2x256x512 (![] : Fin 0 → Fin S2x256x512.rank)
  bcast_S_S512x256 : S_.BroadcastsInDim S512x256 (![] : Fin 0 → Fin S512x256.rank)
  bcast_S_S2x256x64x64 : S_.BroadcastsInDim S2x256x64x64 (![] : Fin 0 → Fin S2x256x64x64.rank)

variable [Facts]

def fn {F : FTy → Type} [FloatOps F] (main_arg0 : FVec F S2x256x512 .bf16) (main_arg1 : FVec F S512x256 .bf16) (main_arg2 : FVec F S2x256x64x64 .bf16) (main_arg3 : FVec F S2x256x64x64 .bf16) (main_arg4 : FVec F S256x512 .bf16) : IVec S2x256x512 1 × IVec S512x256 1 × IVec S2x256x64x64 1 :=
  let main_v0 : FVec F S2x256x512 .f32 := (extf .f32 · bitsLt_bf16_f32) main_arg0
  let main_v1 : FVec F S512x256 .f32 := (extf .f32 · bitsLt_bf16_f32) main_arg1
  let main_v2 : FVec F S2x256x64x64 .f32 := (extf .f32 · bitsLt_bf16_f32) main_arg2
  let main_v3 : FVec F S2x256x512 .f32 := Host.absf main_v0
  let main_cst : FVec F S_ .f32 := constant S_ .f32 0x7F800000#32
  let main_v4 : FVec F S2x256x512 .f32 := broadcastInDim S2x256x512 ![] bcast_S_S2x256x512 main_cst
  let main_v5 : IVec S2x256x512 1 := cmpf .olt main_v3 main_v4
  let main_v6 : FVec F S512x256 .f32 := Host.absf main_v1
  let main_cst_0 : FVec F S_ .f32 := constant S_ .f32 0x7F800000#32
  let main_v7 : FVec F S512x256 .f32 := broadcastInDim S512x256 ![] bcast_S_S512x256 main_cst_0
  let main_v8 : IVec S512x256 1 := cmpf .olt main_v6 main_v7
  let main_v9 : FVec F S2x256x64x64 .f32 := Host.absf main_v2
  let main_cst_1 : FVec F S_ .f32 := constant S_ .f32 0x7F800000#32
  let main_v10 : FVec F S2x256x64x64 .f32 := broadcastInDim S2x256x64x64 ![] bcast_S_S2x256x64x64 main_cst_1
  let main_v11 : IVec S2x256x64x64 1 := cmpf .olt main_v9 main_v10
  (main_v5, main_v8, main_v11)
-- ==== Pre_finite_scores_ReferenceIdeal.lean ====
abbrev S2x256x512 : Shape := ⟨3, ![2, 256, 512]⟩
abbrev S512x4096 : Shape := ⟨2, ![512, 4096]⟩
abbrev S2x256x64x64 : Shape := ⟨4, ![2, 256, 64, 64]⟩
abbrev S4096x512 : Shape := ⟨2, ![4096, 512]⟩
abbrev S_ : Shape := ⟨0, ![]⟩

class Facts : Prop where
  bitsLt_bf16_f32 : FTy.bits .bf16 < FTy.bits .f32
  bcast_S_S2x256x512 : S_.BroadcastsInDim S2x256x512 (![] : Fin 0 → Fin S2x256x512.rank)
  bcast_S_S512x4096 : S_.BroadcastsInDim S512x4096 (![] : Fin 0 → Fin S512x4096.rank)
  bcast_S_S2x256x64x64 : S_.BroadcastsInDim S2x256x64x64 (![] : Fin 0 → Fin S2x256x64x64.rank)

variable [Facts]

def fn {F : FTy → Type} [FloatOps F] (main_arg0 : FVec F S2x256x512 .bf16) (main_arg1 : FVec F S512x4096 .bf16) (main_arg2 : FVec F S2x256x64x64 .bf16) (main_arg3 : FVec F S2x256x64x64 .bf16) (main_arg4 : FVec F S4096x512 .bf16) : IVec S2x256x512 1 × IVec S512x4096 1 × IVec S2x256x64x64 1 :=
  let main_v0 : FVec F S2x256x512 .f32 := (extf .f32 · bitsLt_bf16_f32) main_arg0
  let main_v1 : FVec F S512x4096 .f32 := (extf .f32 · bitsLt_bf16_f32) main_arg1
  let main_v2 : FVec F S2x256x64x64 .f32 := (extf .f32 · bitsLt_bf16_f32) main_arg2
  let main_v3 : FVec F S2x256x512 .f32 := Host.absf main_v0
  let main_cst : FVec F S_ .f32 := constant S_ .f32 0x7F800000#32
  let main_v4 : FVec F S2x256x512 .f32 := broadcastInDim S2x256x512 ![] bcast_S_S2x256x512 main_cst
  let main_v5 : IVec S2x256x512 1 := cmpf .olt main_v3 main_v4
  let main_v6 : FVec F S512x4096 .f32 := Host.absf main_v1
  let main_cst_0 : FVec F S_ .f32 := constant S_ .f32 0x7F800000#32
  let main_v7 : FVec F S512x4096 .f32 := broadcastInDim S512x4096 ![] bcast_S_S512x4096 main_cst_0
  let main_v8 : IVec S512x4096 1 := cmpf .olt main_v6 main_v7
  let main_v9 : FVec F S2x256x64x64 .f32 := Host.absf main_v2
  let main_cst_1 : FVec F S_ .f32 := constant S_ .f32 0x7F800000#32
  let main_v10 : FVec F S2x256x64x64 .f32 := broadcastInDim S2x256x64x64 ![] bcast_S_S2x256x64x64 main_cst_1
  let main_v11 : IVec S2x256x64x64 1 := cmpf .olt main_v9 main_v10
  (main_v5, main_v8, main_v11)
-- ==== Kernel.lean ====
abbrev S2x256x512 : Shape := ⟨3, ![2, 256, 512]⟩
abbrev S512x256 : Shape := ⟨2, ![512, 256]⟩
abbrev S2x256x64x64 : Shape := ⟨4, ![2, 256, 64, 64]⟩
abbrev S256x512 : Shape := ⟨2, ![256, 512]⟩
abbrev S_ : Shape := ⟨0, ![]⟩
abbrev S512x512 : Shape := ⟨2, ![512, 512]⟩
abbrev S2x256x4x64 : Shape := ⟨4, ![2, 256, 4, 64]⟩
abbrev S2x4x256x64 : Shape := ⟨4, ![2, 4, 256, 64]⟩
abbrev S30x16x512 : Shape := ⟨3, ![30, 16, 512]⟩
abbrev S30 : Shape := ⟨1, ![30]⟩
abbrev S256x256 : Shape := ⟨2, ![256, 256]⟩
abbrev S256x64 : Shape := ⟨2, ![256, 64]⟩
abbrev S1x1x256x64 : Shape := ⟨4, ![1, 1, 256, 64]⟩
abbrev S256 : Shape := ⟨1, ![256]⟩
abbrev S256x1 : Shape := ⟨2, ![256, 1]⟩
abbrev S1 : Shape := ⟨1, ![1]⟩
abbrev S1x16x512 : Shape := ⟨3, ![1, 16, 512]⟩
abbrev S16x512 : Shape := ⟨2, ![16, 512]⟩

abbrev nBuf : Space → Nat
  | .hbm => 38
  | .vmem => 8
  | .smem => 0
  | _ => 0

abbrev bufTy : (tb : Table) → Fin (tcTables nBuf tb) → BufTy
  | .hbm, ⟨0, _⟩ => ⟨S2x256x512, .bf16⟩
  | .hbm, ⟨1, _⟩ => ⟨S512x256, .bf16⟩
  | .hbm, ⟨2, _⟩ => ⟨S2x256x64x64, .bf16⟩
  | .hbm, ⟨3, _⟩ => ⟨S2x256x64x64, .bf16⟩
  | .hbm, ⟨4, _⟩ => ⟨S256x512, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S512x512, .bf16⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S2x256x4x64, .bf16⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S2x256x4x64, .bf16⟩
  | .hbm, ⟨34, _⟩ => ⟨S2x4x256x64, .bf16⟩
  | .hbm, ⟨35, _⟩ => ⟨S2x4x256x64, .bf16⟩
  | .hbm, ⟨36, _⟩ => ⟨S512x512, .bf16⟩
  | .hbm, ⟨37, _⟩ => ⟨S2x256x512, .bf16⟩
  | .local _ .vmem, ⟨0, _⟩ => ⟨S512x512, .bf16⟩
  | .local _ .vmem, ⟨1, _⟩ => ⟨S512x256, .bf16⟩
  | .local _ .vmem, ⟨2, _⟩ => ⟨S2x4x256x64, .bf16⟩
  | .local _ .vmem, ⟨3, _⟩ => ⟨S2x4x256x64, .bf16⟩
  | .local _ .vmem, ⟨4, _⟩ => ⟨S256x512, .bf16⟩
  | .local _ .vmem, ⟨5, _⟩ => ⟨S512x512, .bf16⟩
  | .local _ .vmem, ⟨6, _⟩ => ⟨S512x512, .bf16⟩
  | .local _ .vmem, ⟨7, _⟩ => ⟨S30x16x512, .bf16⟩
  | _, _ => ⟨S2x256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 126 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | ⟨123, _⟩ => true
  | ⟨124, _⟩ => true
  | ⟨125, _⟩ => true
  | _ => false

abbrev sig : RefSig :=
  (ofTc nBuf bufTy 1 126 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_c_2 : Ref sig .tc := ⟨.hbm, 14, rfl⟩
abbrev main_v7 : Ref sig .tc := ⟨.hbm, 15, rfl⟩
abbrev main_c_3 : Ref sig .tc := ⟨.hbm, 16, rfl⟩
abbrev main_v8 : Ref sig .tc := ⟨.hbm, 17, rfl⟩
abbrev main_v9 : Ref sig .tc := ⟨.hbm, 18, rfl⟩
abbrev main_c_4 : Ref sig .tc := ⟨.hbm, 19, rfl⟩
abbrev main_c_5 : Ref sig .tc := ⟨.hbm, 20, rfl⟩
abbrev main_c_6 : Ref sig .tc := ⟨.hbm, 21, rfl⟩
abbrev main_v10 : Ref sig .tc := ⟨.hbm, 22, rfl⟩
abbrev main_c_7 : Ref sig .tc := ⟨.hbm, 23, rfl⟩
abbrev main_v11 : Ref sig .tc := ⟨.hbm, 24, rfl⟩
abbrev main_c_8 : Ref sig .tc := ⟨.hbm, 25, rfl⟩
abbrev main_v12 : Ref sig .tc := ⟨.hbm, 26, rfl⟩
abbrev main_c_9 : Ref sig .tc := ⟨.hbm, 27, rfl⟩
abbrev main_v13 : Ref sig .tc := ⟨.hbm, 28, rfl⟩
abbrev main_v14 : Ref sig .tc := ⟨.hbm, 29, rfl⟩
abbrev main_c_10 : Ref sig .tc := ⟨.hbm, 30, rfl⟩
abbrev main_c_11 : Ref sig .tc := ⟨.hbm, 31, rfl⟩
abbrev main_c_12 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let c0_i32 : BitVec 32 := 0#32
  let v5 : BitVec 1 := Scalar.cmpi .eq c16_i32_1 c0_i32
  let c1_i32_2 : BitVec 32 := 1#32
  let v6 : BitVec 32 := Scalar.select v5 c1_i32_2 c16_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v17 : BitVec 32 := Scalar.addi v2 c2_i32
  let c16_i32_9 : BitVec 32 := 16#32
  let c0_i32_10 : BitVec 32 := 0#32
  let v18 : BitVec 1 := Scalar.cmpi .eq c16_i32_9 c0_i32_10
  let c1_i32_11 : BitVec 32 := 1#32
  let v19 : BitVec 32 := Scalar.select v18 c1_i32_11 c16_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v30 : BitVec 32 := Scalar.addi v2 c3_i32
  let c16_i32_18 : BitVec 32 := 16#32
  let c0_i32_19 : BitVec 32 := 0#32
  let v31 : BitVec 1 := Scalar.cmpi .eq c16_i32_18 c0_i32_19
  let c1_i32_20 : BitVec 32 := 1#32
  let v32 : BitVec 32 := Scalar.select v31 c1_i32_20 c16_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v43 : BitVec 32 := Scalar.addi v2 c4_i32
  let c16_i32_27 : BitVec 32 := 16#32
  let c0_i32_28 : BitVec 32 := 0#32
  let v44 : BitVec 1 := Scalar.cmpi .eq c16_i32_27 c0_i32_28
  let c1_i32_29 : BitVec 32 := 1#32
  let v45 : BitVec 32 := Scalar.select v44 c1_i32_29 c16_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v56 : BitVec 32 := Scalar.addi v2 c5_i32
  let c16_i32_36 : BitVec 32 := 16#32
  let c0_i32_37 : BitVec 32 := 0#32
  let v57 : BitVec 1 := Scalar.cmpi .eq c16_i32_36 c0_i32_37
  let c1_i32_38 : BitVec 32 := 1#32
  let v58 : BitVec 32 := Scalar.select v57 c1_i32_38 c16_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v69 : BitVec 32 := Scalar.addi v2 c6_i32
  let c16_i32_45 : BitVec 32 := 16#32
  let c0_i32_46 : BitVec 32 := 0#32
  let v70 : BitVec 1 := Scalar.cmpi .eq c16_i32_45 c0_i32_46
  let c1_i32_47 : BitVec 32 := 1#32
  let v71 : BitVec 32 := Scalar.select v70 c1_i32_47 c16_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v82 : BitVec 32 := Scalar.addi v2 c7_i32
  let c16_i32_54 : BitVec 32 := 16#32
  let c0_i32_55 : BitVec 32 := 0#32
  let v83 : BitVec 1 := Scalar.cmpi .eq c16_i32_54 c0_i32_55
  let c1_i32_56 : BitVec 32 := 1#32
  let v84 : BitVec 32 := Scalar.select v83 c1_i32_56 c16_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v95 : BitVec 32 := Scalar.addi v2 c8_i32
  let c16_i32_63 : BitVec 32 := 16#32
  let c0_i32_64 : BitVec 32 := 0#32
  let v96 : BitVec 1 := Scalar.cmpi .eq c16_i32_63 c0_i32_64
  let c1_i32_65 : BitVec 32 := 1#32
  let v97 : BitVec 32 := Scalar.select v96 c1_i32_65 c16_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v108 : BitVec 32 := Scalar.addi v2 c9_i32
  let c16_i32_72 : BitVec 32 := 16#32
  let c0_i32_73 : BitVec 32 := 0#32
  let v109 : BitVec 1 := Scalar.cmpi .eq c16_i32_72 c0_i32_73
  let c1_i32_74 : BitVec 32 := 1#32
  let v110 : BitVec 32 := Scalar.select v109 c1_i32_74 c16_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v121 : BitVec 32 := Scalar.addi v2 c10_i32
  let c16_i32_81 : BitVec 32 := 16#32
  let c0_i32_82 : BitVec 32 := 0#32
  let v122 : BitVec 1 := Scalar.cmpi .eq c16_i32_81 c0_i32_82
  let c1_i32_83 : BitVec 32 := 1#32
  let v123 : BitVec 32 := Scalar.select v122 c1_i32_83 c16_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v134 : BitVec 32 := Scalar.addi v2 c11_i32
  let c16_i32_90 : BitVec 32 := 16#32
  let c0_i32_91 : BitVec 32 := 0#32
  let v135 : BitVec 1 := Scalar.cmpi .eq c16_i32_90 c0_i32_91
  let c1_i32_92 : BitVec 32 := 1#32
  let v136 : BitVec 32 := Scalar.select v135 c1_i32_92 c16_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v147 : BitVec 32 := Scalar.addi v2 c12_i32
  let c16_i32_99 : BitVec 32 := 16#32
  let c0_i32_100 : BitVec 32 := 0#32
  let v148 : BitVec 1 := Scalar.cmpi .eq c16_i32_99 c0_i32_100
  let c1_i32_101 : BitVec 32 := 1#32
  let v149 : BitVec 32 := Scalar.select v148 c1_i32_101 c16_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v160 : BitVec 32 := Scalar.addi v2 c13_i32
  let c16_i32_108 : BitVec 32 := 16#32
  let c0_i32_109 : BitVec 32 := 0#32
  let v161 : BitVec 1 := Scalar.cmpi .eq c16_i32_108 c0_i32_109
  let c1_i32_110 : BitVec 32 := 1#32
  let v162 : BitVec 32 := Scalar.select v161 c1_i32_110 c16_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v173 : BitVec 32 := Scalar.addi v2 c14_i32
  let c16_i32_117 : BitVec 32 := 16#32
  let c0_i32_118 : BitVec 32 := 0#32
  let v174 : BitVec 1 := Scalar.cmpi .eq c16_i32_117 c0_i32_118
  let c1_i32_119 : BitVec 32 := 1#32
  let v175 : BitVec 32 := Scalar.select v174 c1_i32_119 c16_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v186 : BitVec 32 := Scalar.addi v2 c15_i32
  let c16_i32_126 : BitVec 32 := 16#32
  let c0_i32_127 : BitVec 32 := 0#32
  let v187 : BitVec 1 := Scalar.cmpi .eq c16_i32_126 c0_i32_127
  let c1_i32_128 : BitVec 32 := 1#32
  let v188 : BitVec 32 := Scalar.select v187 c1_i32_128 c16_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_off1 (d0 : Dev nD) (c0_i32_201 : BitVec 32) (c1_i32_193 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v291 : BitVec 32 := Scalar.addi v2 c1_i32_193
  let c16_i32_194 : BitVec 32 := 16#32
  let c0_i32_195 : BitVec 32 := 0#32
  let v292 : BitVec 1 := Scalar.cmpi .eq c16_i32_194 c0_i32_195
  let c1_i32_196 : BitVec 32 := 1#32
  let v293 : BitVec 32 := Scalar.select v292 c1_i32_196 c16_i32_194
  let v294 : BitVec 32 := Scalar.remsi v291 v293
  let c0_i32_198 : BitVec 32 := 0#32
  let v296 : BitVec 1 := Scalar.cmpi .slt v294 c0_i32_198
  let c0_i32_199 : BitVec 32 := 0#32
  let v297 : BitVec 1 := Scalar.cmpi .slt v293 c0_i32_199
  let v298 : BitVec 1 := Scalar.xori v296 v297
  let c0_i32_197 : BitVec 32 := 0#32
  let v295 : BitVec 1 := Scalar.cmpi .ne v294 c0_i32_197
  let v299 : BitVec 1 := Scalar.andi v298 v295
  let v300 : BitVec 32 := Scalar.addi v294 v293
  let v301 : BitVec 32 := Scalar.select v299 v300 v294
  let c16_i32_200 : BitVec 32 := 16#32
  let v302 : BitVec 32 := Scalar.muli v301 c16_i32_200
  let v303 : BitVec 32 := Scalar.addi c0_i32_201 v302
  let c0_i32_209 : BitVec 32 := 0#32
  ![v303.toNat, 0]
def k0_dev16 (d0 : Dev nD) : Nat :=
  let c0_i32_206 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_193 : BitVec 32 := 1#32
  let v291 : BitVec 32 := Scalar.addi v2 c1_i32_193
  let c16_i32_194 : BitVec 32 := 16#32
  let c0_i32_195 : BitVec 32 := 0#32
  let v292 : BitVec 1 := Scalar.cmpi .eq c16_i32_194 c0_i32_195
  let c1_i32_196 : BitVec 32 := 1#32
  let v293 : BitVec 32 := Scalar.select v292 c1_i32_196 c16_i32_194
  let v294 : BitVec 32 := Scalar.remsi v291 v293
  let c0_i32_198 : BitVec 32 := 0#32
  let v296 : BitVec 1 := Scalar.cmpi .slt v294 c0_i32_198
  let c0_i32_199 : BitVec 32 := 0#32
  let v297 : BitVec 1 := Scalar.cmpi .slt v293 c0_i32_199
  let v298 : BitVec 1 := Scalar.xori v296 v297
  let c0_i32_197 : BitVec 32 := 0#32
  let v295 : BitVec 1 := Scalar.cmpi .ne v294 c0_i32_197
  let v299 : BitVec 1 := Scalar.andi v298 v295
  let v300 : BitVec 32 := Scalar.addi v294 v293
  let v301 : BitVec 32 := Scalar.select v299 v300 v294
  let c1_i32_205 : BitVec 32 := 1#32
  let v304 : BitVec 32 := Scalar.muli v301 c1_i32_205
  let v305 : BitVec 32 := Scalar.addi c0_i32_206 v304
  v305.toNat
def k0_dev17 (d0 : Dev nD) : Nat :=
  let c0_i32_223 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_210 : BitVec 32 := 2#32
  let v313 : BitVec 32 := Scalar.addi v2 c2_i32_210
  let c16_i32_211 : BitVec 32 := 16#32
  let c0_i32_212 : BitVec 32 := 0#32
  let v314 : BitVec 1 := Scalar.cmpi .eq c16_i32_211 c0_i32_212
  let c1_i32_213 : BitVec 32 := 1#32
  let v315 : BitVec 32 := Scalar.select v314 c1_i32_213 c16_i32_211
  let v316 : BitVec 32 := Scalar.remsi v313 v315
  let c0_i32_215 : BitVec 32 := 0#32
  let v318 : BitVec 1 := Scalar.cmpi .slt v316 c0_i32_215
  let c0_i32_216 : BitVec 32 := 0#32
  let v319 : BitVec 1 := Scalar.cmpi .slt v315 c0_i32_216
  let v320 : BitVec 1 := Scalar.xori v318 v319
  let c0_i32_214 : BitVec 32 := 0#32
  let v317 : BitVec 1 := Scalar.cmpi .ne v316 c0_i32_214
  let v321 : BitVec 1 := Scalar.andi v320 v317
  let v322 : BitVec 32 := Scalar.addi v316 v315
  let v323 : BitVec 32 := Scalar.select v321 v322 v316
  let c1_i32_222 : BitVec 32 := 1#32
  let v326 : BitVec 32 := Scalar.muli v323 c1_i32_222
  let v327 : BitVec 32 := Scalar.addi c0_i32_223 v326
  v327.toNat
def k0_dev18 (d0 : Dev nD) : Nat :=
  let c0_i32_240 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_227 : BitVec 32 := 3#32
  let v335 : BitVec 32 := Scalar.addi v2 c3_i32_227
  let c16_i32_228 : BitVec 32 := 16#32
  let c0_i32_229 : BitVec 32 := 0#32
  let v336 : BitVec 1 := Scalar.cmpi .eq c16_i32_228 c0_i32_229
  let c1_i32_230 : BitVec 32 := 1#32
  let v337 : BitVec 32 := Scalar.select v336 c1_i32_230 c16_i32_228
  let v338 : BitVec 32 := Scalar.remsi v335 v337
  let c0_i32_232 : BitVec 32 := 0#32
  let v340 : BitVec 1 := Scalar.cmpi .slt v338 c0_i32_232
  let c0_i32_233 : BitVec 32 := 0#32
  let v341 : BitVec 1 := Scalar.cmpi .slt v337 c0_i32_233
  let v342 : BitVec 1 := Scalar.xori v340 v341
  let c0_i32_231 : BitVec 32 := 0#32
  let v339 : BitVec 1 := Scalar.cmpi .ne v338 c0_i32_231
  let v343 : BitVec 1 := Scalar.andi v342 v339
  let v344 : BitVec 32 := Scalar.addi v338 v337
  let v345 : BitVec 32 := Scalar.select v343 v344 v338
  let c1_i32_239 : BitVec 32 := 1#32
  let v348 : BitVec 32 := Scalar.muli v345 c1_i32_239
  let v349 : BitVec 32 := Scalar.addi c0_i32_240 v348
  v349.toNat
def k0_dev19 (d0 : Dev nD) : Nat :=
  let c0_i32_257 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_244 : BitVec 32 := 4#32
  let v357 : BitVec 32 := Scalar.addi v2 c4_i32_244
  let c16_i32_245 : BitVec 32 := 16#32
  let c0_i32_246 : BitVec 32 := 0#32
  let v358 : BitVec 1 := Scalar.cmpi .eq c16_i32_245 c0_i32_246
  let c1_i32_247 : BitVec 32 := 1#32
  let v359 : BitVec 32 := Scalar.select v358 c1_i32_247 c16_i32_245
  let v360 : BitVec 32 := Scalar.remsi v357 v359
  let c0_i32_249 : BitVec 32 := 0#32
  let v362 : BitVec 1 := Scalar.cmpi .slt v360 c0_i32_249
  let c0_i32_250 : BitVec 32 := 0#32
  let v363 : BitVec 1 := Scalar.cmpi .slt v359 c0_i32_250
  let v364 : BitVec 1 := Scalar.xori v362 v363
  let c0_i32_248 : BitVec 32 := 0#32
  let v361 : BitVec 1 := Scalar.cmpi .ne v360 c0_i32_248
  let v365 : BitVec 1 := Scalar.andi v364 v361
  let v366 : BitVec 32 := Scalar.addi v360 v359
  let v367 : BitVec 32 := Scalar.select v365 v366 v360
  let c1_i32_256 : BitVec 32 := 1#32
  let v370 : BitVec 32 := Scalar.muli v367 c1_i32_256
  let v371 : BitVec 32 := Scalar.addi c0_i32_257 v370
  v371.toNat
def k0_dev20 (d0 : Dev nD) : Nat :=
  let c0_i32_274 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_261 : BitVec 32 := 5#32
  let v379 : BitVec 32 := Scalar.addi v2 c5_i32_261
  let c16_i32_262 : BitVec 32 := 16#32
  let c0_i32_263 : BitVec 32 := 0#32
  let v380 : BitVec 1 := Scalar.cmpi .eq c16_i32_262 c0_i32_263
  let c1_i32_264 : BitVec 32 := 1#32
  let v381 : BitVec 32 := Scalar.select v380 c1_i32_264 c16_i32_262
  let v382 : BitVec 32 := Scalar.remsi v379 v381
  let c0_i32_266 : BitVec 32 := 0#32
  let v384 : BitVec 1 := Scalar.cmpi .slt v382 c0_i32_266
  let c0_i32_267 : BitVec 32 := 0#32
  let v385 : BitVec 1 := Scalar.cmpi .slt v381 c0_i32_267
  let v386 : BitVec 1 := Scalar.xori v384 v385
  let c0_i32_265 : BitVec 32 := 0#32
  let v383 : BitVec 1 := Scalar.cmpi .ne v382 c0_i32_265
  let v387 : BitVec 1 := Scalar.andi v386 v383
  let v388 : BitVec 32 := Scalar.addi v382 v381
  let v389 : BitVec 32 := Scalar.select v387 v388 v382
  let c1_i32_273 : BitVec 32 := 1#32
  let v392 : BitVec 32 := Scalar.muli v389 c1_i32_273
  let v393 : BitVec 32 := Scalar.addi c0_i32_274 v392
  v393.toNat
def k0_dev21 (d0 : Dev nD) : Nat :=
  let c0_i32_291 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_278 : BitVec 32 := 6#32
  let v401 : BitVec 32 := Scalar.addi v2 c6_i32_278
  let c16_i32_279 : BitVec 32 := 16#32
  let c0_i32_280 : BitVec 32 := 0#32
  let v402 : BitVec 1 := Scalar.cmpi .eq c16_i32_279 c0_i32_280
  let c1_i32_281 : BitVec 32 := 1#32
  let v403 : BitVec 32 := Scalar.select v402 c1_i32_281 c16_i32_279
  let v404 : BitVec 32 := Scalar.remsi v401 v403
  let c0_i32_283 : BitVec 32 := 0#32
  let v406 : BitVec 1 := Scalar.cmpi .slt v404 c0_i32_283
  let c0_i32_284 : BitVec 32 := 0#32
  let v407 : BitVec 1 := Scalar.cmpi .slt v403 c0_i32_284
  let v408 : BitVec 1 := Scalar.xori v406 v407
  let c0_i32_282 : BitVec 32 := 0#32
  let v405 : BitVec 1 := Scalar.cmpi .ne v404 c0_i32_282
  let v409 : BitVec 1 := Scalar.andi v408 v405
  let v410 : BitVec 32 := Scalar.addi v404 v403
  let v411 : BitVec 32 := Scalar.select v409 v410 v404
  let c1_i32_290 : BitVec 32 := 1#32
  let v414 : BitVec 32 := Scalar.muli v411 c1_i32_290
  let v415 : BitVec 32 := Scalar.addi c0_i32_291 v414
  v415.toNat
def k0_dev22 (d0 : Dev nD) : Nat :=
  let c0_i32_308 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_295 : BitVec 32 := 7#32
  let v423 : BitVec 32 := Scalar.addi v2 c7_i32_295
  let c16_i32_296 : BitVec 32 := 16#32
  let c0_i32_297 : BitVec 32 := 0#32
  let v424 : BitVec 1 := Scalar.cmpi .eq c16_i32_296 c0_i32_297
  let c1_i32_298 : BitVec 32 := 1#32
  let v425 : BitVec 32 := Scalar.select v424 c1_i32_298 c16_i32_296
  let v426 : BitVec 32 := Scalar.remsi v423 v425
  let c0_i32_300 : BitVec 32 := 0#32
  let v428 : BitVec 1 := Scalar.cmpi .slt v426 c0_i32_300
  let c0_i32_301 : BitVec 32 := 0#32
  let v429 : BitVec 1 := Scalar.cmpi .slt v425 c0_i32_301
  let v430 : BitVec 1 := Scalar.xori v428 v429
  let c0_i32_299 : BitVec 32 := 0#32
  let v427 : BitVec 1 := Scalar.cmpi .ne v426 c0_i32_299
  let v431 : BitVec 1 := Scalar.andi v430 v427
  let v432 : BitVec 32 := Scalar.addi v426 v425
  let v433 : BitVec 32 := Scalar.select v431 v432 v426
  let c1_i32_307 : BitVec 32 := 1#32
  let v436 : BitVec 32 := Scalar.muli v433 c1_i32_307
  let v437 : BitVec 32 := Scalar.addi c0_i32_308 v436
  v437.toNat
def k0_dev23 (d0 : Dev nD) : Nat :=
  let c0_i32_325 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_312 : BitVec 32 := 8#32
  let v445 : BitVec 32 := Scalar.addi v2 c8_i32_312
  let c16_i32_313 : BitVec 32 := 16#32
  let c0_i32_314 : BitVec 32 := 0#32
  let v446 : BitVec 1 := Scalar.cmpi .eq c16_i32_313 c0_i32_314
  let c1_i32_315 : BitVec 32 := 1#32
  let v447 : BitVec 32 := Scalar.select v446 c1_i32_315 c16_i32_313
  let v448 : BitVec 32 := Scalar.remsi v445 v447
  let c0_i32_317 : BitVec 32 := 0#32
  let v450 : BitVec 1 := Scalar.cmpi .slt v448 c0_i32_317
  let c0_i32_318 : BitVec 32 := 0#32
  let v451 : BitVec 1 := Scalar.cmpi .slt v447 c0_i32_318
  let v452 : BitVec 1 := Scalar.xori v450 v451
  let c0_i32_316 : BitVec 32 := 0#32
  let v449 : BitVec 1 := Scalar.cmpi .ne v448 c0_i32_316
  let v453 : BitVec 1 := Scalar.andi v452 v449
  let v454 : BitVec 32 := Scalar.addi v448 v447
  let v455 : BitVec 32 := Scalar.select v453 v454 v448
  let c1_i32_324 : BitVec 32 := 1#32
  let v458 : BitVec 32 := Scalar.muli v455 c1_i32_324
  let v459 : BitVec 32 := Scalar.addi c0_i32_325 v458
  v459.toNat
def k0_dev24 (d0 : Dev nD) : Nat :=
  let c0_i32_342 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_329 : BitVec 32 := 9#32
  let v467 : BitVec 32 := Scalar.addi v2 c9_i32_329
  let c16_i32_330 : BitVec 32 := 16#32
  let c0_i32_331 : BitVec 32 := 0#32
  let v468 : BitVec 1 := Scalar.cmpi .eq c16_i32_330 c0_i32_331
  let c1_i32_332 : BitVec 32 := 1#32
  let v469 : BitVec 32 := Scalar.select v468 c1_i32_332 c16_i32_330
  let v470 : BitVec 32 := Scalar.remsi v467 v469
  let c0_i32_334 : BitVec 32 := 0#32
  let v472 : BitVec 1 := Scalar.cmpi .slt v470 c0_i32_334
  let c0_i32_335 : BitVec 32 := 0#32
  let v473 : BitVec 1 := Scalar.cmpi .slt v469 c0_i32_335
  let v474 : BitVec 1 := Scalar.xori v472 v473
  let c0_i32_333 : BitVec 32 := 0#32
  let v471 : BitVec 1 := Scalar.cmpi .ne v470 c0_i32_333
  let v475 : BitVec 1 := Scalar.andi v474 v471
  let v476 : BitVec 32 := Scalar.addi v470 v469
  let v477 : BitVec 32 := Scalar.select v475 v476 v470
  let c1_i32_341 : BitVec 32 := 1#32
  let v480 : BitVec 32 := Scalar.muli v477 c1_i32_341
  let v481 : BitVec 32 := Scalar.addi c0_i32_342 v480
  v481.toNat
def k0_dev25 (d0 : Dev nD) : Nat :=
  let c0_i32_359 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_346 : BitVec 32 := 10#32
  let v489 : BitVec 32 := Scalar.addi v2 c10_i32_346
  let c16_i32_347 : BitVec 32 := 16#32
  let c0_i32_348 : BitVec 32 := 0#32
  let v490 : BitVec 1 := Scalar.cmpi .eq c16_i32_347 c0_i32_348
  let c1_i32_349 : BitVec 32 := 1#32
  let v491 : BitVec 32 := Scalar.select v490 c1_i32_349 c16_i32_347
  let v492 : BitVec 32 := Scalar.remsi v489 v491
  let c0_i32_351 : BitVec 32 := 0#32
  let v494 : BitVec 1 := Scalar.cmpi .slt v492 c0_i32_351
  let c0_i32_352 : BitVec 32 := 0#32
  let v495 : BitVec 1 := Scalar.cmpi .slt v491 c0_i32_352
  let v496 : BitVec 1 := Scalar.xori v494 v495
  let c0_i32_350 : BitVec 32 := 0#32
  let v493 : BitVec 1 := Scalar.cmpi .ne v492 c0_i32_350
  let v497 : BitVec 1 := Scalar.andi v496 v493
  let v498 : BitVec 32 := Scalar.addi v492 v491
  let v499 : BitVec 32 := Scalar.select v497 v498 v492
  let c1_i32_358 : BitVec 32 := 1#32
  let v502 : BitVec 32 := Scalar.muli v499 c1_i32_358
  let v503 : BitVec 32 := Scalar.addi c0_i32_359 v502
  v503.toNat
def k0_dev26 (d0 : Dev nD) : Nat :=
  let c0_i32_376 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_363 : BitVec 32 := 11#32
  let v511 : BitVec 32 := Scalar.addi v2 c11_i32_363
  let c16_i32_364 : BitVec 32 := 16#32
  let c0_i32_365 : BitVec 32 := 0#32
  let v512 : BitVec 1 := Scalar.cmpi .eq c16_i32_364 c0_i32_365
  let c1_i32_366 : BitVec 32 := 1#32
  let v513 : BitVec 32 := Scalar.select v512 c1_i32_366 c16_i32_364
  let v514 : BitVec 32 := Scalar.remsi v511 v513
  let c0_i32_368 : BitVec 32 := 0#32
  let v516 : BitVec 1 := Scalar.cmpi .slt v514 c0_i32_368
  let c0_i32_369 : BitVec 32 := 0#32
  let v517 : BitVec 1 := Scalar.cmpi .slt v513 c0_i32_369
  let v518 : BitVec 1 := Scalar.xori v516 v517
  let c0_i32_367 : BitVec 32 := 0#32
  let v515 : BitVec 1 := Scalar.cmpi .ne v514 c0_i32_367
  let v519 : BitVec 1 := Scalar.andi v518 v515
  let v520 : BitVec 32 := Scalar.addi v514 v513
  let v521 : BitVec 32 := Scalar.select v519 v520 v514
  let c1_i32_375 : BitVec 32 := 1#32
  let v524 : BitVec 32 := Scalar.muli v521 c1_i32_375
  let v525 : BitVec 32 := Scalar.addi c0_i32_376 v524
  v525.toNat
def k0_dev27 (d0 : Dev nD) : Nat :=
  let c0_i32_393 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_380 : BitVec 32 := 12#32
  let v533 : BitVec 32 := Scalar.addi v2 c12_i32_380
  let c16_i32_381 : BitVec 32 := 16#32
  let c0_i32_382 : BitVec 32 := 0#32
  let v534 : BitVec 1 := Scalar.cmpi .eq c16_i32_381 c0_i32_382
  let c1_i32_383 : BitVec 32 := 1#32
  let v535 : BitVec 32 := Scalar.select v534 c1_i32_383 c16_i32_381
  let v536 : BitVec 32 := Scalar.remsi v533 v535
  let c0_i32_385 : BitVec 32 := 0#32
  let v538 : BitVec 1 := Scalar.cmpi .slt v536 c0_i32_385
  let c0_i32_386 : BitVec 32 := 0#32
  let v539 : BitVec 1 := Scalar.cmpi .slt v535 c0_i32_386
  let v540 : BitVec 1 := Scalar.xori v538 v539
  let c0_i32_384 : BitVec 32 := 0#32
  let v537 : BitVec 1 := Scalar.cmpi .ne v536 c0_i32_384
  let v541 : BitVec 1 := Scalar.andi v540 v537
  let v542 : BitVec 32 := Scalar.addi v536 v535
  let v543 : BitVec 32 := Scalar.select v541 v542 v536
  let c1_i32_392 : BitVec 32 := 1#32
  let v546 : BitVec 32 := Scalar.muli v543 c1_i32_392
  let v547 : BitVec 32 := Scalar.addi c0_i32_393 v546
  v547.toNat
def k0_dev28 (d0 : Dev nD) : Nat :=
  let c0_i32_410 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_397 : BitVec 32 := 13#32
  let v555 : BitVec 32 := Scalar.addi v2 c13_i32_397
  let c16_i32_398 : BitVec 32 := 16#32
  let c0_i32_399 : BitVec 32 := 0#32
  let v556 : BitVec 1 := Scalar.cmpi .eq c16_i32_398 c0_i32_399
  let c1_i32_400 : BitVec 32 := 1#32
  let v557 : BitVec 32 := Scalar.select v556 c1_i32_400 c16_i32_398
  let v558 : BitVec 32 := Scalar.remsi v555 v557
  let c0_i32_402 : BitVec 32 := 0#32
  let v560 : BitVec 1 := Scalar.cmpi .slt v558 c0_i32_402
  let c0_i32_403 : BitVec 32 := 0#32
  let v561 : BitVec 1 := Scalar.cmpi .slt v557 c0_i32_403
  let v562 : BitVec 1 := Scalar.xori v560 v561
  let c0_i32_401 : BitVec 32 := 0#32
  let v559 : BitVec 1 := Scalar.cmpi .ne v558 c0_i32_401
  let v563 : BitVec 1 := Scalar.andi v562 v559
  let v564 : BitVec 32 := Scalar.addi v558 v557
  let v565 : BitVec 32 := Scalar.select v563 v564 v558
  let c1_i32_409 : BitVec 32 := 1#32
  let v568 : BitVec 32 := Scalar.muli v565 c1_i32_409
  let v569 : BitVec 32 := Scalar.addi c0_i32_410 v568
  v569.toNat
def k0_dev29 (d0 : Dev nD) : Nat :=
  let c0_i32_427 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_414 : BitVec 32 := 14#32
  let v577 : BitVec 32 := Scalar.addi v2 c14_i32_414
  let c16_i32_415 : BitVec 32 := 16#32
  let c0_i32_416 : BitVec 32 := 0#32
  let v578 : BitVec 1 := Scalar.cmpi .eq c16_i32_415 c0_i32_416
  let c1_i32_417 : BitVec 32 := 1#32
  let v579 : BitVec 32 := Scalar.select v578 c1_i32_417 c16_i32_415
  let v580 : BitVec 32 := Scalar.remsi v577 v579
  let c0_i32_419 : BitVec 32 := 0#32
  let v582 : BitVec 1 := Scalar.cmpi .slt v580 c0_i32_419
  let c0_i32_420 : BitVec 32 := 0#32
  let v583 : BitVec 1 := Scalar.cmpi .slt v579 c0_i32_420
  let v584 : BitVec 1 := Scalar.xori v582 v583
  let c0_i32_418 : BitVec 32 := 0#32
  let v581 : BitVec 1 := Scalar.cmpi .ne v580 c0_i32_418
  let v585 : BitVec 1 := Scalar.andi v584 v581
  let v586 : BitVec 32 := Scalar.addi v580 v579
  let v587 : BitVec 32 := Scalar.select v585 v586 v580
  let c1_i32_426 : BitVec 32 := 1#32
  let v590 : BitVec 32 := Scalar.muli v587 c1_i32_426
  let v591 : BitVec 32 := Scalar.addi c0_i32_427 v590
  v591.toNat
def k0_dev30 (d0 : Dev nD) : Nat :=
  let c0_i32_444 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_431 : BitVec 32 := 15#32
  let v599 : BitVec 32 := Scalar.addi v2 c15_i32_431
  let c16_i32_432 : BitVec 32 := 16#32
  let c0_i32_433 : BitVec 32 := 0#32
  let v600 : BitVec 1 := Scalar.cmpi .eq c16_i32_432 c0_i32_433
  let c1_i32_434 : BitVec 32 := 1#32
  let v601 : BitVec 32 := Scalar.select v600 c1_i32_434 c16_i32_432
  let v602 : BitVec 32 := Scalar.remsi v599 v601
  let c0_i32_436 : BitVec 32 := 0#32
  let v604 : BitVec 1 := Scalar.cmpi .slt v602 c0_i32_436
  let c0_i32_437 : BitVec 32 := 0#32
  let v605 : BitVec 1 := Scalar.cmpi .slt v601 c0_i32_437
  let v606 : BitVec 1 := Scalar.xori v604 v605
  let c0_i32_435 : BitVec 32 := 0#32
  let v603 : BitVec 1 := Scalar.cmpi .ne v602 c0_i32_435
  let v607 : BitVec 1 := Scalar.andi v606 v603
  let v608 : BitVec 32 := Scalar.addi v602 v601
  let v609 : BitVec 32 := Scalar.select v607 v608 v602
  let c1_i32_443 : BitVec 32 := 1#32
  let v612 : BitVec 32 := Scalar.muli v609 c1_i32_443
  let v613 : BitVec 32 := Scalar.addi c0_i32_444 v612
  v613.toNat
def k0_dev31 (d0 : Dev nD) : Nat :=
  let c0_i32_517 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_505 : BitVec 32 := 1#32
  let v703 : BitVec 32 := Scalar.addi v2 c1_i32_505
  let c16_i32_506 : BitVec 32 := 16#32
  let c0_i32_507 : BitVec 32 := 0#32
  let v704 : BitVec 1 := Scalar.cmpi .eq c16_i32_506 c0_i32_507
  let c1_i32_508 : BitVec 32 := 1#32
  let v705 : BitVec 32 := Scalar.select v704 c1_i32_508 c16_i32_506
  let v706 : BitVec 32 := Scalar.remsi v703 v705
  let c0_i32_510 : BitVec 32 := 0#32
  let v708 : BitVec 1 := Scalar.cmpi .slt v706 c0_i32_510
  let c0_i32_511 : BitVec 32 := 0#32
  let v709 : BitVec 1 := Scalar.cmpi .slt v705 c0_i32_511
  let v710 : BitVec 1 := Scalar.xori v708 v709
  let c0_i32_509 : BitVec 32 := 0#32
  let v707 : BitVec 1 := Scalar.cmpi .ne v706 c0_i32_509
  let v711 : BitVec 1 := Scalar.andi v710 v707
  let v712 : BitVec 32 := Scalar.addi v706 v705
  let v713 : BitVec 32 := Scalar.select v711 v712 v706
  let c1_i32_516 : BitVec 32 := 1#32
  let v716 : BitVec 32 := Scalar.muli v713 c1_i32_516
  let v717 : BitVec 32 := Scalar.addi c0_i32_517 v716
  v717.toNat
def k0_dev32 (d0 : Dev nD) : Nat :=
  let c0_i32_534 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_521 : BitVec 32 := 2#32
  let v725 : BitVec 32 := Scalar.addi v2 c2_i32_521
  let c16_i32_522 : BitVec 32 := 16#32
  let c0_i32_523 : BitVec 32 := 0#32
  let v726 : BitVec 1 := Scalar.cmpi .eq c16_i32_522 c0_i32_523
  let c1_i32_524 : BitVec 32 := 1#32
  let v727 : BitVec 32 := Scalar.select v726 c1_i32_524 c16_i32_522
  let v728 : BitVec 32 := Scalar.remsi v725 v727
  let c0_i32_526 : BitVec 32 := 0#32
  let v730 : BitVec 1 := Scalar.cmpi .slt v728 c0_i32_526
  let c0_i32_527 : BitVec 32 := 0#32
  let v731 : BitVec 1 := Scalar.cmpi .slt v727 c0_i32_527
  let v732 : BitVec 1 := Scalar.xori v730 v731
  let c0_i32_525 : BitVec 32 := 0#32
  let v729 : BitVec 1 := Scalar.cmpi .ne v728 c0_i32_525
  let v733 : BitVec 1 := Scalar.andi v732 v729
  let v734 : BitVec 32 := Scalar.addi v728 v727
  let v735 : BitVec 32 := Scalar.select v733 v734 v728
  let c1_i32_533 : BitVec 32 := 1#32
  let v738 : BitVec 32 := Scalar.muli v735 c1_i32_533
  let v739 : BitVec 32 := Scalar.addi c0_i32_534 v738
  v739.toNat
def k0_dev33 (d0 : Dev nD) : Nat :=
  let c0_i32_550 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_538 : BitVec 32 := 3#32
  let v747 : BitVec 32 := Scalar.addi v2 c3_i32_538
  let c16_i32_539 : BitVec 32 := 16#32
  let c0_i32_540 : BitVec 32 := 0#32
  let v748 : BitVec 1 := Scalar.cmpi .eq c16_i32_539 c0_i32_540
  let c1_i32_541 : BitVec 32 := 1#32
  let v749 : BitVec 32 := Scalar.select v748 c1_i32_541 c16_i32_539
  let v750 : BitVec 32 := Scalar.remsi v747 v749
  let c0_i32_543 : BitVec 32 := 0#32
  let v752 : BitVec 1 := Scalar.cmpi .slt v750 c0_i32_543
  let c0_i32_544 : BitVec 32 := 0#32
  let v753 : BitVec 1 := Scalar.cmpi .slt v749 c0_i32_544
  let v754 : BitVec 1 := Scalar.xori v752 v753
  let c0_i32_542 : BitVec 32 := 0#32
  let v751 : BitVec 1 := Scalar.cmpi .ne v750 c0_i32_542
  let v755 : BitVec 1 := Scalar.andi v754 v751
  let v756 : BitVec 32 := Scalar.addi v750 v749
  let v757 : BitVec 32 := Scalar.select v755 v756 v750
  let c1_i32_549 : BitVec 32 := 1#32
  let v760 : BitVec 32 := Scalar.muli v757 c1_i32_549
  let v761 : BitVec 32 := Scalar.addi c0_i32_550 v760
  v761.toNat
def k0_dev34 (d0 : Dev nD) : Nat :=
  let c0_i32_566 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_554 : BitVec 32 := 4#32
  let v769 : BitVec 32 := Scalar.addi v2 c4_i32_554
  let c16_i32_555 : BitVec 32 := 16#32
  let c0_i32_556 : BitVec 32 := 0#32
  let v770 : BitVec 1 := Scalar.cmpi .eq c16_i32_555 c0_i32_556
  let c1_i32_557 : BitVec 32 := 1#32
  let v771 : BitVec 32 := Scalar.select v770 c1_i32_557 c16_i32_555
  let v772 : BitVec 32 := Scalar.remsi v769 v771
  let c0_i32_559 : BitVec 32 := 0#32
  let v774 : BitVec 1 := Scalar.cmpi .slt v772 c0_i32_559
  let c0_i32_560 : BitVec 32 := 0#32
  let v775 : BitVec 1 := Scalar.cmpi .slt v771 c0_i32_560
  let v776 : BitVec 1 := Scalar.xori v774 v775
  let c0_i32_558 : BitVec 32 := 0#32
  let v773 : BitVec 1 := Scalar.cmpi .ne v772 c0_i32_558
  let v777 : BitVec 1 := Scalar.andi v776 v773
  let v778 : BitVec 32 := Scalar.addi v772 v771
  let v779 : BitVec 32 := Scalar.select v777 v778 v772
  let c1_i32_565 : BitVec 32 := 1#32
  let v782 : BitVec 32 := Scalar.muli v779 c1_i32_565
  let v783 : BitVec 32 := Scalar.addi c0_i32_566 v782
  v783.toNat
def k0_dev35 (d0 : Dev nD) : Nat :=
  let c0_i32_582 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_570 : BitVec 32 := 5#32
  let v791 : BitVec 32 := Scalar.addi v2 c5_i32_570
  let c16_i32_571 : BitVec 32 := 16#32
  let c0_i32_572 : BitVec 32 := 0#32
  let v792 : BitVec 1 := Scalar.cmpi .eq c16_i32_571 c0_i32_572
  let c1_i32_573 : BitVec 32 := 1#32
  let v793 : BitVec 32 := Scalar.select v792 c1_i32_573 c16_i32_571
  let v794 : BitVec 32 := Scalar.remsi v791 v793
  let c0_i32_575 : BitVec 32 := 0#32
  let v796 : BitVec 1 := Scalar.cmpi .slt v794 c0_i32_575
  let c0_i32_576 : BitVec 32 := 0#32
  let v797 : BitVec 1 := Scalar.cmpi .slt v793 c0_i32_576
  let v798 : BitVec 1 := Scalar.xori v796 v797
  let c0_i32_574 : BitVec 32 := 0#32
  let v795 : BitVec 1 := Scalar.cmpi .ne v794 c0_i32_574
  let v799 : BitVec 1 := Scalar.andi v798 v795
  let v800 : BitVec 32 := Scalar.addi v794 v793
  let v801 : BitVec 32 := Scalar.select v799 v800 v794
  let c1_i32_581 : BitVec 32 := 1#32
  let v804 : BitVec 32 := Scalar.muli v801 c1_i32_581
  let v805 : BitVec 32 := Scalar.addi c0_i32_582 v804
  v805.toNat
def k0_dev36 (d0 : Dev nD) : Nat :=
  let c0_i32_598 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_586 : BitVec 32 := 6#32
  let v813 : BitVec 32 := Scalar.addi v2 c6_i32_586
  let c16_i32_587 : BitVec 32 := 16#32
  let c0_i32_588 : BitVec 32 := 0#32
  let v814 : BitVec 1 := Scalar.cmpi .eq c16_i32_587 c0_i32_588
  let c1_i32_589 : BitVec 32 := 1#32
  let v815 : BitVec 32 := Scalar.select v814 c1_i32_589 c16_i32_587
  let v816 : BitVec 32 := Scalar.remsi v813 v815
  let c0_i32_591 : BitVec 32 := 0#32
  let v818 : BitVec 1 := Scalar.cmpi .slt v816 c0_i32_591
  let c0_i32_592 : BitVec 32 := 0#32
  let v819 : BitVec 1 := Scalar.cmpi .slt v815 c0_i32_592
  let v820 : BitVec 1 := Scalar.xori v818 v819
  let c0_i32_590 : BitVec 32 := 0#32
  let v817 : BitVec 1 := Scalar.cmpi .ne v816 c0_i32_590
  let v821 : BitVec 1 := Scalar.andi v820 v817
  let v822 : BitVec 32 := Scalar.addi v816 v815
  let v823 : BitVec 32 := Scalar.select v821 v822 v816
  let c1_i32_597 : BitVec 32 := 1#32
  let v826 : BitVec 32 := Scalar.muli v823 c1_i32_597
  let v827 : BitVec 32 := Scalar.addi c0_i32_598 v826
  v827.toNat
def k0_dev37 (d0 : Dev nD) : Nat :=
  let c0_i32_614 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_602 : BitVec 32 := 7#32
  let v835 : BitVec 32 := Scalar.addi v2 c7_i32_602
  let c16_i32_603 : BitVec 32 := 16#32
  let c0_i32_604 : BitVec 32 := 0#32
  let v836 : BitVec 1 := Scalar.cmpi .eq c16_i32_603 c0_i32_604
  let c1_i32_605 : BitVec 32 := 1#32
  let v837 : BitVec 32 := Scalar.select v836 c1_i32_605 c16_i32_603
  let v838 : BitVec 32 := Scalar.remsi v835 v837
  let c0_i32_607 : BitVec 32 := 0#32
  let v840 : BitVec 1 := Scalar.cmpi .slt v838 c0_i32_607
  let c0_i32_608 : BitVec 32 := 0#32
  let v841 : BitVec 1 := Scalar.cmpi .slt v837 c0_i32_608
  let v842 : BitVec 1 := Scalar.xori v840 v841
  let c0_i32_606 : BitVec 32 := 0#32
  let v839 : BitVec 1 := Scalar.cmpi .ne v838 c0_i32_606
  let v843 : BitVec 1 := Scalar.andi v842 v839
  let v844 : BitVec 32 := Scalar.addi v838 v837
  let v845 : BitVec 32 := Scalar.select v843 v844 v838
  let c1_i32_613 : BitVec 32 := 1#32
  let v848 : BitVec 32 := Scalar.muli v845 c1_i32_613
  let v849 : BitVec 32 := Scalar.addi c0_i32_614 v848
  v849.toNat
def k0_dev38 (d0 : Dev nD) : Nat :=
  let c0_i32_630 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_618 : BitVec 32 := 8#32
  let v857 : BitVec 32 := Scalar.addi v2 c8_i32_618
  let c16_i32_619 : BitVec 32 := 16#32
  let c0_i32_620 : BitVec 32 := 0#32
  let v858 : BitVec 1 := Scalar.cmpi .eq c16_i32_619 c0_i32_620
  let c1_i32_621 : BitVec 32 := 1#32
  let v859 : BitVec 32 := Scalar.select v858 c1_i32_621 c16_i32_619
  let v860 : BitVec 32 := Scalar.remsi v857 v859
  let c0_i32_623 : BitVec 32 := 0#32
  let v862 : BitVec 1 := Scalar.cmpi .slt v860 c0_i32_623
  let c0_i32_624 : BitVec 32 := 0#32
  let v863 : BitVec 1 := Scalar.cmpi .slt v859 c0_i32_624
  let v864 : BitVec 1 := Scalar.xori v862 v863
  let c0_i32_622 : BitVec 32 := 0#32
  let v861 : BitVec 1 := Scalar.cmpi .ne v860 c0_i32_622
  let v865 : BitVec 1 := Scalar.andi v864 v861
  let v866 : BitVec 32 := Scalar.addi v860 v859
  let v867 : BitVec 32 := Scalar.select v865 v866 v860
  let c1_i32_629 : BitVec 32 := 1#32
  let v870 : BitVec 32 := Scalar.muli v867 c1_i32_629
  let v871 : BitVec 32 := Scalar.addi c0_i32_630 v870
  v871.toNat
def k0_dev39 (d0 : Dev nD) : Nat :=
  let c0_i32_646 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_634 : BitVec 32 := 9#32
  let v879 : BitVec 32 := Scalar.addi v2 c9_i32_634
  let c16_i32_635 : BitVec 32 := 16#32
  let c0_i32_636 : BitVec 32 := 0#32
  let v880 : BitVec 1 := Scalar.cmpi .eq c16_i32_635 c0_i32_636
  let c1_i32_637 : BitVec 32 := 1#32
  let v881 : BitVec 32 := Scalar.select v880 c1_i32_637 c16_i32_635
  let v882 : BitVec 32 := Scalar.remsi v879 v881
  let c0_i32_639 : BitVec 32 := 0#32
  let v884 : BitVec 1 := Scalar.cmpi .slt v882 c0_i32_639
  let c0_i32_640 : BitVec 32 := 0#32
  let v885 : BitVec 1 := Scalar.cmpi .slt v881 c0_i32_640
  let v886 : BitVec 1 := Scalar.xori v884 v885
  let c0_i32_638 : BitVec 32 := 0#32
  let v883 : BitVec 1 := Scalar.cmpi .ne v882 c0_i32_638
  let v887 : BitVec 1 := Scalar.andi v886 v883
  let v888 : BitVec 32 := Scalar.addi v882 v881
  let v889 : BitVec 32 := Scalar.select v887 v888 v882
  let c1_i32_645 : BitVec 32 := 1#32
  let v892 : BitVec 32 := Scalar.muli v889 c1_i32_645
  let v893 : BitVec 32 := Scalar.addi c0_i32_646 v892
  v893.toNat
def k0_dev40 (d0 : Dev nD) : Nat :=
  let c0_i32_662 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_650 : BitVec 32 := 10#32
  let v901 : BitVec 32 := Scalar.addi v2 c10_i32_650
  let c16_i32_651 : BitVec 32 := 16#32
  let c0_i32_652 : BitVec 32 := 0#32
  let v902 : BitVec 1 := Scalar.cmpi .eq c16_i32_651 c0_i32_652
  let c1_i32_653 : BitVec 32 := 1#32
  let v903 : BitVec 32 := Scalar.select v902 c1_i32_653 c16_i32_651
  let v904 : BitVec 32 := Scalar.remsi v901 v903
  let c0_i32_655 : BitVec 32 := 0#32
  let v906 : BitVec 1 := Scalar.cmpi .slt v904 c0_i32_655
  let c0_i32_656 : BitVec 32 := 0#32
  let v907 : BitVec 1 := Scalar.cmpi .slt v903 c0_i32_656
  let v908 : BitVec 1 := Scalar.xori v906 v907
  let c0_i32_654 : BitVec 32 := 0#32
  let v905 : BitVec 1 := Scalar.cmpi .ne v904 c0_i32_654
  let v909 : BitVec 1 := Scalar.andi v908 v905
  let v910 : BitVec 32 := Scalar.addi v904 v903
  let v911 : BitVec 32 := Scalar.select v909 v910 v904
  let c1_i32_661 : BitVec 32 := 1#32
  let v914 : BitVec 32 := Scalar.muli v911 c1_i32_661
  let v915 : BitVec 32 := Scalar.addi c0_i32_662 v914
  v915.toNat
def k0_dev41 (d0 : Dev nD) : Nat :=
  let c0_i32_678 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_666 : BitVec 32 := 11#32
  let v923 : BitVec 32 := Scalar.addi v2 c11_i32_666
  let c16_i32_667 : BitVec 32 := 16#32
  let c0_i32_668 : BitVec 32 := 0#32
  let v924 : BitVec 1 := Scalar.cmpi .eq c16_i32_667 c0_i32_668
  let c1_i32_669 : BitVec 32 := 1#32
  let v925 : BitVec 32 := Scalar.select v924 c1_i32_669 c16_i32_667
  let v926 : BitVec 32 := Scalar.remsi v923 v925
  let c0_i32_671 : BitVec 32 := 0#32
  let v928 : BitVec 1 := Scalar.cmpi .slt v926 c0_i32_671
  let c0_i32_672 : BitVec 32 := 0#32
  let v929 : BitVec 1 := Scalar.cmpi .slt v925 c0_i32_672
  let v930 : BitVec 1 := Scalar.xori v928 v929
  let c0_i32_670 : BitVec 32 := 0#32
  let v927 : BitVec 1 := Scalar.cmpi .ne v926 c0_i32_670
  let v931 : BitVec 1 := Scalar.andi v930 v927
  let v932 : BitVec 32 := Scalar.addi v926 v925
  let v933 : BitVec 32 := Scalar.select v931 v932 v926
  let c1_i32_677 : BitVec 32 := 1#32
  let v936 : BitVec 32 := Scalar.muli v933 c1_i32_677
  let v937 : BitVec 32 := Scalar.addi c0_i32_678 v936
  v937.toNat
def k0_dev42 (d0 : Dev nD) : Nat :=
  let c0_i32_694 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_682 : BitVec 32 := 12#32
  let v945 : BitVec 32 := Scalar.addi v2 c12_i32_682
  let c16_i32_683 : BitVec 32 := 16#32
  let c0_i32_684 : BitVec 32 := 0#32
  let v946 : BitVec 1 := Scalar.cmpi .eq c16_i32_683 c0_i32_684
  let c1_i32_685 : BitVec 32 := 1#32
  let v947 : BitVec 32 := Scalar.select v946 c1_i32_685 c16_i32_683
  let v948 : BitVec 32 := Scalar.remsi v945 v947
  let c0_i32_687 : BitVec 32 := 0#32
  let v950 : BitVec 1 := Scalar.cmpi .slt v948 c0_i32_687
  let c0_i32_688 : BitVec 32 := 0#32
  let v951 : BitVec 1 := Scalar.cmpi .slt v947 c0_i32_688
  let v952 : BitVec 1 := Scalar.xori v950 v951
  let c0_i32_686 : BitVec 32 := 0#32
  let v949 : BitVec 1 := Scalar.cmpi .ne v948 c0_i32_686
  let v953 : BitVec 1 := Scalar.andi v952 v949
  let v954 : BitVec 32 := Scalar.addi v948 v947
  let v955 : BitVec 32 := Scalar.select v953 v954 v948
  let c1_i32_693 : BitVec 32 := 1#32
  let v958 : BitVec 32 := Scalar.muli v955 c1_i32_693
  let v959 : BitVec 32 := Scalar.addi c0_i32_694 v958
  v959.toNat
def k0_dev43 (d0 : Dev nD) : Nat :=
  let c0_i32_710 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_698 : BitVec 32 := 13#32
  let v967 : BitVec 32 := Scalar.addi v2 c13_i32_698
  let c16_i32_699 : BitVec 32 := 16#32
  let c0_i32_700 : BitVec 32 := 0#32
  let v968 : BitVec 1 := Scalar.cmpi .eq c16_i32_699 c0_i32_700
  let c1_i32_701 : BitVec 32 := 1#32
  let v969 : BitVec 32 := Scalar.select v968 c1_i32_701 c16_i32_699
  let v970 : BitVec 32 := Scalar.remsi v967 v969
  let c0_i32_703 : BitVec 32 := 0#32
  let v972 : BitVec 1 := Scalar.cmpi .slt v970 c0_i32_703
  let c0_i32_704 : BitVec 32 := 0#32
  let v973 : BitVec 1 := Scalar.cmpi .slt v969 c0_i32_704
  let v974 : BitVec 1 := Scalar.xori v972 v973
  let c0_i32_702 : BitVec 32 := 0#32
  let v971 : BitVec 1 := Scalar.cmpi .ne v970 c0_i32_702
  let v975 : BitVec 1 := Scalar.andi v974 v971
  let v976 : BitVec 32 := Scalar.addi v970 v969
  let v977 : BitVec 32 := Scalar.select v975 v976 v970
  let c1_i32_709 : BitVec 32 := 1#32
  let v980 : BitVec 32 := Scalar.muli v977 c1_i32_709
  let v981 : BitVec 32 := Scalar.addi c0_i32_710 v980
  v981.toNat
def k0_dev44 (d0 : Dev nD) : Nat :=
  let c0_i32_726 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_714 : BitVec 32 := 14#32
  let v989 : BitVec 32 := Scalar.addi v2 c14_i32_714
  let c16_i32_715 : BitVec 32 := 16#32
  let c0_i32_716 : BitVec 32 := 0#32
  let v990 : BitVec 1 := Scalar.cmpi .eq c16_i32_715 c0_i32_716
  let c1_i32_717 : BitVec 32 := 1#32
  let v991 : BitVec 32 := Scalar.select v990 c1_i32_717 c16_i32_715
  let v992 : BitVec 32 := Scalar.remsi v989 v991
  let c0_i32_719 : BitVec 32 := 0#32
  let v994 : BitVec 1 := Scalar.cmpi .slt v992 c0_i32_719
  let c0_i32_720 : BitVec 32 := 0#32
  let v995 : BitVec 1 := Scalar.cmpi .slt v991 c0_i32_720
  let v996 : BitVec 1 := Scalar.xori v994 v995
  let c0_i32_718 : BitVec 32 := 0#32
  let v993 : BitVec 1 := Scalar.cmpi .ne v992 c0_i32_718
  let v997 : BitVec 1 := Scalar.andi v996 v993
  let v998 : BitVec 32 := Scalar.addi v992 v991
  let v999 : BitVec 32 := Scalar.select v997 v998 v992
  let c1_i32_725 : BitVec 32 := 1#32
  let v1002 : BitVec 32 := Scalar.muli v999 c1_i32_725
  let v1003 : BitVec 32 := Scalar.addi c0_i32_726 v1002
  v1003.toNat
def k0_dev45 (d0 : Dev nD) : Nat :=
  let c0_i32_742 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_730 : BitVec 32 := 15#32
  let v1011 : BitVec 32 := Scalar.addi v2 c15_i32_730
  let c16_i32_731 : BitVec 32 := 16#32
  let c0_i32_732 : BitVec 32 := 0#32
  let v1012 : BitVec 1 := Scalar.cmpi .eq c16_i32_731 c0_i32_732
  let c1_i32_733 : BitVec 32 := 1#32
  let v1013 : BitVec 32 := Scalar.select v1012 c1_i32_733 c16_i32_731
  let v1014 : BitVec 32 := Scalar.remsi v1011 v1013
  let c0_i32_735 : BitVec 32 := 0#32
  let v1016 : BitVec 1 := Scalar.cmpi .slt v1014 c0_i32_735
  let c0_i32_736 : BitVec 32 := 0#32
  let v1017 : BitVec 1 := Scalar.cmpi .slt v1013 c0_i32_736
  let v1018 : BitVec 1 := Scalar.xori v1016 v1017
  let c0_i32_734 : BitVec 32 := 0#32
  let v1015 : BitVec 1 := Scalar.cmpi .ne v1014 c0_i32_734
  let v1019 : BitVec 1 := Scalar.andi v1018 v1015
  let v1020 : BitVec 32 := Scalar.addi v1014 v1013
  let v1021 : BitVec 32 := Scalar.select v1019 v1020 v1014
  let c1_i32_741 : BitVec 32 := 1#32
  let v1024 : BitVec 32 := Scalar.muli v1021 c1_i32_741
  let v1025 : BitVec 32 := Scalar.addi c0_i32_742 v1024
  v1025.toNat
def k0_off2 (d0 : Dev nD) (c0_i32_747 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_746 : BitVec 32 := 16#32
  let v1033 : BitVec 32 := Scalar.muli v2 c16_i32_746
  let v1034 : BitVec 32 := Scalar.addi c0_i32_747 v1033
  let v1035 : Index := Scalar.indexCast v1034
  let c0_748 : Index := 0#32
  ![v1035.toNat, 0]
def k0_off3 (d0 : Dev nD) (c0_i32_1051 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_1050 : BitVec 32 := 16#32
  let v1416 : BitVec 32 := Scalar.muli v2 c16_i32_1050
  let v1417 : BitVec 32 := Scalar.addi c0_i32_1051 v1416
  let c0_i32_1056 : BitVec 32 := 0#32
  ![v1417.toNat, 0]
def k0_dev46 (d0 : Dev nD) : Nat :=
  let c0_i32_1055 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1041 : BitVec 32 := 1#32
  let v1403 : BitVec 32 := Scalar.addi v2 c1_i32_1041
  let c16_i32_1042 : BitVec 32 := 16#32
  let c0_i32_1043 : BitVec 32 := 0#32
  let v1404 : BitVec 1 := Scalar.cmpi .eq c16_i32_1042 c0_i32_1043
  let c1_i32_1044 : BitVec 32 := 1#32
  let v1405 : BitVec 32 := Scalar.select v1404 c1_i32_1044 c16_i32_1042
  let v1406 : BitVec 32 := Scalar.remsi v1403 v1405
  let c0_i32_1046 : BitVec 32 := 0#32
  let v1408 : BitVec 1 := Scalar.cmpi .slt v1406 c0_i32_1046
  let c0_i32_1047 : BitVec 32 := 0#32
  let v1409 : BitVec 1 := Scalar.cmpi .slt v1405 c0_i32_1047
  let v1410 : BitVec 1 := Scalar.xori v1408 v1409
  let c0_i32_1045 : BitVec 32 := 0#32
  let v1407 : BitVec 1 := Scalar.cmpi .ne v1406 c0_i32_1045
  let v1411 : BitVec 1 := Scalar.andi v1410 v1407
  let v1412 : BitVec 32 := Scalar.addi v1406 v1405
  let v1413 : BitVec 32 := Scalar.select v1411 v1412 v1406
  let c1_i32_1054 : BitVec 32 := 1#32
  let v1418 : BitVec 32 := Scalar.muli v1413 c1_i32_1054
  let v1419 : BitVec 32 := Scalar.addi c0_i32_1055 v1418
  v1419.toNat
def k0_dev47 (d0 : Dev nD) : Nat :=
  let c0_i32_1072 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1058 : BitVec 32 := 2#32
  let v1426 : BitVec 32 := Scalar.addi v2 c2_i32_1058
  let c16_i32_1059 : BitVec 32 := 16#32
  let c0_i32_1060 : BitVec 32 := 0#32
  let v1427 : BitVec 1 := Scalar.cmpi .eq c16_i32_1059 c0_i32_1060
  let c1_i32_1061 : BitVec 32 := 1#32
  let v1428 : BitVec 32 := Scalar.select v1427 c1_i32_1061 c16_i32_1059
  let v1429 : BitVec 32 := Scalar.remsi v1426 v1428
  let c0_i32_1063 : BitVec 32 := 0#32
  let v1431 : BitVec 1 := Scalar.cmpi .slt v1429 c0_i32_1063
  let c0_i32_1064 : BitVec 32 := 0#32
  let v1432 : BitVec 1 := Scalar.cmpi .slt v1428 c0_i32_1064
  let v1433 : BitVec 1 := Scalar.xori v1431 v1432
  let c0_i32_1062 : BitVec 32 := 0#32
  let v1430 : BitVec 1 := Scalar.cmpi .ne v1429 c0_i32_1062
  let v1434 : BitVec 1 := Scalar.andi v1433 v1430
  let v1435 : BitVec 32 := Scalar.addi v1429 v1428
  let v1436 : BitVec 32 := Scalar.select v1434 v1435 v1429
  let c1_i32_1071 : BitVec 32 := 1#32
  let v1441 : BitVec 32 := Scalar.muli v1436 c1_i32_1071
  let v1442 : BitVec 32 := Scalar.addi c0_i32_1072 v1441
  v1442.toNat
def k0_dev48 (d0 : Dev nD) : Nat :=
  let c0_i32_1089 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1075 : BitVec 32 := 3#32
  let v1449 : BitVec 32 := Scalar.addi v2 c3_i32_1075
  let c16_i32_1076 : BitVec 32 := 16#32
  let c0_i32_1077 : BitVec 32 := 0#32
  let v1450 : BitVec 1 := Scalar.cmpi .eq c16_i32_1076 c0_i32_1077
  let c1_i32_1078 : BitVec 32 := 1#32
  let v1451 : BitVec 32 := Scalar.select v1450 c1_i32_1078 c16_i32_1076
  let v1452 : BitVec 32 := Scalar.remsi v1449 v1451
  let c0_i32_1080 : BitVec 32 := 0#32
  let v1454 : BitVec 1 := Scalar.cmpi .slt v1452 c0_i32_1080
  let c0_i32_1081 : BitVec 32 := 0#32
  let v1455 : BitVec 1 := Scalar.cmpi .slt v1451 c0_i32_1081
  let v1456 : BitVec 1 := Scalar.xori v1454 v1455
  let c0_i32_1079 : BitVec 32 := 0#32
  let v1453 : BitVec 1 := Scalar.cmpi .ne v1452 c0_i32_1079
  let v1457 : BitVec 1 := Scalar.andi v1456 v1453
  let v1458 : BitVec 32 := Scalar.addi v1452 v1451
  let v1459 : BitVec 32 := Scalar.select v1457 v1458 v1452
  let c1_i32_1088 : BitVec 32 := 1#32
  let v1464 : BitVec 32 := Scalar.muli v1459 c1_i32_1088
  let v1465 : BitVec 32 := Scalar.addi c0_i32_1089 v1464
  v1465.toNat
def k0_dev49 (d0 : Dev nD) : Nat :=
  let c0_i32_1106 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1092 : BitVec 32 := 4#32
  let v1472 : BitVec 32 := Scalar.addi v2 c4_i32_1092
  let c16_i32_1093 : BitVec 32 := 16#32
  let c0_i32_1094 : BitVec 32 := 0#32
  let v1473 : BitVec 1 := Scalar.cmpi .eq c16_i32_1093 c0_i32_1094
  let c1_i32_1095 : BitVec 32 := 1#32
  let v1474 : BitVec 32 := Scalar.select v1473 c1_i32_1095 c16_i32_1093
  let v1475 : BitVec 32 := Scalar.remsi v1472 v1474
  let c0_i32_1097 : BitVec 32 := 0#32
  let v1477 : BitVec 1 := Scalar.cmpi .slt v1475 c0_i32_1097
  let c0_i32_1098 : BitVec 32 := 0#32
  let v1478 : BitVec 1 := Scalar.cmpi .slt v1474 c0_i32_1098
  let v1479 : BitVec 1 := Scalar.xori v1477 v1478
  let c0_i32_1096 : BitVec 32 := 0#32
  let v1476 : BitVec 1 := Scalar.cmpi .ne v1475 c0_i32_1096
  let v1480 : BitVec 1 := Scalar.andi v1479 v1476
  let v1481 : BitVec 32 := Scalar.addi v1475 v1474
  let v1482 : BitVec 32 := Scalar.select v1480 v1481 v1475
  let c1_i32_1105 : BitVec 32 := 1#32
  let v1487 : BitVec 32 := Scalar.muli v1482 c1_i32_1105
  let v1488 : BitVec 32 := Scalar.addi c0_i32_1106 v1487
  v1488.toNat
def k0_dev50 (d0 : Dev nD) : Nat :=
  let c0_i32_1123 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1109 : BitVec 32 := 5#32
  let v1495 : BitVec 32 := Scalar.addi v2 c5_i32_1109
  let c16_i32_1110 : BitVec 32 := 16#32
  let c0_i32_1111 : BitVec 32 := 0#32
  let v1496 : BitVec 1 := Scalar.cmpi .eq c16_i32_1110 c0_i32_1111
  let c1_i32_1112 : BitVec 32 := 1#32
  let v1497 : BitVec 32 := Scalar.select v1496 c1_i32_1112 c16_i32_1110
  let v1498 : BitVec 32 := Scalar.remsi v1495 v1497
  let c0_i32_1114 : BitVec 32 := 0#32
  let v1500 : BitVec 1 := Scalar.cmpi .slt v1498 c0_i32_1114
  let c0_i32_1115 : BitVec 32 := 0#32
  let v1501 : BitVec 1 := Scalar.cmpi .slt v1497 c0_i32_1115
  let v1502 : BitVec 1 := Scalar.xori v1500 v1501
  let c0_i32_1113 : BitVec 32 := 0#32
  let v1499 : BitVec 1 := Scalar.cmpi .ne v1498 c0_i32_1113
  let v1503 : BitVec 1 := Scalar.andi v1502 v1499
  let v1504 : BitVec 32 := Scalar.addi v1498 v1497
  let v1505 : BitVec 32 := Scalar.select v1503 v1504 v1498
  let c1_i32_1122 : BitVec 32 := 1#32
  let v1510 : BitVec 32 := Scalar.muli v1505 c1_i32_1122
  let v1511 : BitVec 32 := Scalar.addi c0_i32_1123 v1510
  v1511.toNat
def k0_dev51 (d0 : Dev nD) : Nat :=
  let c0_i32_1140 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1126 : BitVec 32 := 6#32
  let v1518 : BitVec 32 := Scalar.addi v2 c6_i32_1126
  let c16_i32_1127 : BitVec 32 := 16#32
  let c0_i32_1128 : BitVec 32 := 0#32
  let v1519 : BitVec 1 := Scalar.cmpi .eq c16_i32_1127 c0_i32_1128
  let c1_i32_1129 : BitVec 32 := 1#32
  let v1520 : BitVec 32 := Scalar.select v1519 c1_i32_1129 c16_i32_1127
  let v1521 : BitVec 32 := Scalar.remsi v1518 v1520
  let c0_i32_1131 : BitVec 32 := 0#32
  let v1523 : BitVec 1 := Scalar.cmpi .slt v1521 c0_i32_1131
  let c0_i32_1132 : BitVec 32 := 0#32
  let v1524 : BitVec 1 := Scalar.cmpi .slt v1520 c0_i32_1132
  let v1525 : BitVec 1 := Scalar.xori v1523 v1524
  let c0_i32_1130 : BitVec 32 := 0#32
  let v1522 : BitVec 1 := Scalar.cmpi .ne v1521 c0_i32_1130
  let v1526 : BitVec 1 := Scalar.andi v1525 v1522
  let v1527 : BitVec 32 := Scalar.addi v1521 v1520
  let v1528 : BitVec 32 := Scalar.select v1526 v1527 v1521
  let c1_i32_1139 : BitVec 32 := 1#32
  let v1533 : BitVec 32 := Scalar.muli v1528 c1_i32_1139
  let v1534 : BitVec 32 := Scalar.addi c0_i32_1140 v1533
  v1534.toNat
def k0_dev52 (d0 : Dev nD) : Nat :=
  let c0_i32_1157 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1143 : BitVec 32 := 7#32
  let v1541 : BitVec 32 := Scalar.addi v2 c7_i32_1143
  let c16_i32_1144 : BitVec 32 := 16#32
  let c0_i32_1145 : BitVec 32 := 0#32
  let v1542 : BitVec 1 := Scalar.cmpi .eq c16_i32_1144 c0_i32_1145
  let c1_i32_1146 : BitVec 32 := 1#32
  let v1543 : BitVec 32 := Scalar.select v1542 c1_i32_1146 c16_i32_1144
  let v1544 : BitVec 32 := Scalar.remsi v1541 v1543
  let c0_i32_1148 : BitVec 32 := 0#32
  let v1546 : BitVec 1 := Scalar.cmpi .slt v1544 c0_i32_1148
  let c0_i32_1149 : BitVec 32 := 0#32
  let v1547 : BitVec 1 := Scalar.cmpi .slt v1543 c0_i32_1149
  let v1548 : BitVec 1 := Scalar.xori v1546 v1547
  let c0_i32_1147 : BitVec 32 := 0#32
  let v1545 : BitVec 1 := Scalar.cmpi .ne v1544 c0_i32_1147
  let v1549 : BitVec 1 := Scalar.andi v1548 v1545
  let v1550 : BitVec 32 := Scalar.addi v1544 v1543
  let v1551 : BitVec 32 := Scalar.select v1549 v1550 v1544
  let c1_i32_1156 : BitVec 32 := 1#32
  let v1556 : BitVec 32 := Scalar.muli v1551 c1_i32_1156
  let v1557 : BitVec 32 := Scalar.addi c0_i32_1157 v1556
  v1557.toNat
def k0_dev53 (d0 : Dev nD) : Nat :=
  let c0_i32_1174 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1160 : BitVec 32 := 8#32
  let v1564 : BitVec 32 := Scalar.addi v2 c8_i32_1160
  let c16_i32_1161 : BitVec 32 := 16#32
  let c0_i32_1162 : BitVec 32 := 0#32
  let v1565 : BitVec 1 := Scalar.cmpi .eq c16_i32_1161 c0_i32_1162
  let c1_i32_1163 : BitVec 32 := 1#32
  let v1566 : BitVec 32 := Scalar.select v1565 c1_i32_1163 c16_i32_1161
  let v1567 : BitVec 32 := Scalar.remsi v1564 v1566
  let c0_i32_1165 : BitVec 32 := 0#32
  let v1569 : BitVec 1 := Scalar.cmpi .slt v1567 c0_i32_1165
  let c0_i32_1166 : BitVec 32 := 0#32
  let v1570 : BitVec 1 := Scalar.cmpi .slt v1566 c0_i32_1166
  let v1571 : BitVec 1 := Scalar.xori v1569 v1570
  let c0_i32_1164 : BitVec 32 := 0#32
  let v1568 : BitVec 1 := Scalar.cmpi .ne v1567 c0_i32_1164
  let v1572 : BitVec 1 := Scalar.andi v1571 v1568
  let v1573 : BitVec 32 := Scalar.addi v1567 v1566
  let v1574 : BitVec 32 := Scalar.select v1572 v1573 v1567
  let c1_i32_1173 : BitVec 32 := 1#32
  let v1579 : BitVec 32 := Scalar.muli v1574 c1_i32_1173
  let v1580 : BitVec 32 := Scalar.addi c0_i32_1174 v1579
  v1580.toNat
def k0_dev54 (d0 : Dev nD) : Nat :=
  let c0_i32_1191 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1177 : BitVec 32 := 9#32
  let v1587 : BitVec 32 := Scalar.addi v2 c9_i32_1177
  let c16_i32_1178 : BitVec 32 := 16#32
  let c0_i32_1179 : BitVec 32 := 0#32
  let v1588 : BitVec 1 := Scalar.cmpi .eq c16_i32_1178 c0_i32_1179
  let c1_i32_1180 : BitVec 32 := 1#32
  let v1589 : BitVec 32 := Scalar.select v1588 c1_i32_1180 c16_i32_1178
  let v1590 : BitVec 32 := Scalar.remsi v1587 v1589
  let c0_i32_1182 : BitVec 32 := 0#32
  let v1592 : BitVec 1 := Scalar.cmpi .slt v1590 c0_i32_1182
  let c0_i32_1183 : BitVec 32 := 0#32
  let v1593 : BitVec 1 := Scalar.cmpi .slt v1589 c0_i32_1183
  let v1594 : BitVec 1 := Scalar.xori v1592 v1593
  let c0_i32_1181 : BitVec 32 := 0#32
  let v1591 : BitVec 1 := Scalar.cmpi .ne v1590 c0_i32_1181
  let v1595 : BitVec 1 := Scalar.andi v1594 v1591
  let v1596 : BitVec 32 := Scalar.addi v1590 v1589
  let v1597 : BitVec 32 := Scalar.select v1595 v1596 v1590
  let c1_i32_1190 : BitVec 32 := 1#32
  let v1602 : BitVec 32 := Scalar.muli v1597 c1_i32_1190
  let v1603 : BitVec 32 := Scalar.addi c0_i32_1191 v1602
  v1603.toNat
def k0_dev55 (d0 : Dev nD) : Nat :=
  let c0_i32_1208 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1194 : BitVec 32 := 10#32
  let v1610 : BitVec 32 := Scalar.addi v2 c10_i32_1194
  let c16_i32_1195 : BitVec 32 := 16#32
  let c0_i32_1196 : BitVec 32 := 0#32
  let v1611 : BitVec 1 := Scalar.cmpi .eq c16_i32_1195 c0_i32_1196
  let c1_i32_1197 : BitVec 32 := 1#32
  let v1612 : BitVec 32 := Scalar.select v1611 c1_i32_1197 c16_i32_1195
  let v1613 : BitVec 32 := Scalar.remsi v1610 v1612
  let c0_i32_1199 : BitVec 32 := 0#32
  let v1615 : BitVec 1 := Scalar.cmpi .slt v1613 c0_i32_1199
  let c0_i32_1200 : BitVec 32 := 0#32
  let v1616 : BitVec 1 := Scalar.cmpi .slt v1612 c0_i32_1200
  let v1617 : BitVec 1 := Scalar.xori v1615 v1616
  let c0_i32_1198 : BitVec 32 := 0#32
  let v1614 : BitVec 1 := Scalar.cmpi .ne v1613 c0_i32_1198
  let v1618 : BitVec 1 := Scalar.andi v1617 v1614
  let v1619 : BitVec 32 := Scalar.addi v1613 v1612
  let v1620 : BitVec 32 := Scalar.select v1618 v1619 v1613
  let c1_i32_1207 : BitVec 32 := 1#32
  let v1625 : BitVec 32 := Scalar.muli v1620 c1_i32_1207
  let v1626 : BitVec 32 := Scalar.addi c0_i32_1208 v1625
  v1626.toNat
def k0_dev56 (d0 : Dev nD) : Nat :=
  let c0_i32_1225 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1211 : BitVec 32 := 11#32
  let v1633 : BitVec 32 := Scalar.addi v2 c11_i32_1211
  let c16_i32_1212 : BitVec 32 := 16#32
  let c0_i32_1213 : BitVec 32 := 0#32
  let v1634 : BitVec 1 := Scalar.cmpi .eq c16_i32_1212 c0_i32_1213
  let c1_i32_1214 : BitVec 32 := 1#32
  let v1635 : BitVec 32 := Scalar.select v1634 c1_i32_1214 c16_i32_1212
  let v1636 : BitVec 32 := Scalar.remsi v1633 v1635
  let c0_i32_1216 : BitVec 32 := 0#32
  let v1638 : BitVec 1 := Scalar.cmpi .slt v1636 c0_i32_1216
  let c0_i32_1217 : BitVec 32 := 0#32
  let v1639 : BitVec 1 := Scalar.cmpi .slt v1635 c0_i32_1217
  let v1640 : BitVec 1 := Scalar.xori v1638 v1639
  let c0_i32_1215 : BitVec 32 := 0#32
  let v1637 : BitVec 1 := Scalar.cmpi .ne v1636 c0_i32_1215
  let v1641 : BitVec 1 := Scalar.andi v1640 v1637
  let v1642 : BitVec 32 := Scalar.addi v1636 v1635
  let v1643 : BitVec 32 := Scalar.select v1641 v1642 v1636
  let c1_i32_1224 : BitVec 32 := 1#32
  let v1648 : BitVec 32 := Scalar.muli v1643 c1_i32_1224
  let v1649 : BitVec 32 := Scalar.addi c0_i32_1225 v1648
  v1649.toNat
def k0_dev57 (d0 : Dev nD) : Nat :=
  let c0_i32_1242 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1228 : BitVec 32 := 12#32
  let v1656 : BitVec 32 := Scalar.addi v2 c12_i32_1228
  let c16_i32_1229 : BitVec 32 := 16#32
  let c0_i32_1230 : BitVec 32 := 0#32
  let v1657 : BitVec 1 := Scalar.cmpi .eq c16_i32_1229 c0_i32_1230
  let c1_i32_1231 : BitVec 32 := 1#32
  let v1658 : BitVec 32 := Scalar.select v1657 c1_i32_1231 c16_i32_1229
  let v1659 : BitVec 32 := Scalar.remsi v1656 v1658
  let c0_i32_1233 : BitVec 32 := 0#32
  let v1661 : BitVec 1 := Scalar.cmpi .slt v1659 c0_i32_1233
  let c0_i32_1234 : BitVec 32 := 0#32
  let v1662 : BitVec 1 := Scalar.cmpi .slt v1658 c0_i32_1234
  let v1663 : BitVec 1 := Scalar.xori v1661 v1662
  let c0_i32_1232 : BitVec 32 := 0#32
  let v1660 : BitVec 1 := Scalar.cmpi .ne v1659 c0_i32_1232
  let v1664 : BitVec 1 := Scalar.andi v1663 v1660
  let v1665 : BitVec 32 := Scalar.addi v1659 v1658
  let v1666 : BitVec 32 := Scalar.select v1664 v1665 v1659
  let c1_i32_1241 : BitVec 32 := 1#32
  let v1671 : BitVec 32 := Scalar.muli v1666 c1_i32_1241
  let v1672 : BitVec 32 := Scalar.addi c0_i32_1242 v1671
  v1672.toNat
def k0_dev58 (d0 : Dev nD) : Nat :=
  let c0_i32_1259 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1245 : BitVec 32 := 13#32
  let v1679 : BitVec 32 := Scalar.addi v2 c13_i32_1245
  let c16_i32_1246 : BitVec 32 := 16#32
  let c0_i32_1247 : BitVec 32 := 0#32
  let v1680 : BitVec 1 := Scalar.cmpi .eq c16_i32_1246 c0_i32_1247
  let c1_i32_1248 : BitVec 32 := 1#32
  let v1681 : BitVec 32 := Scalar.select v1680 c1_i32_1248 c16_i32_1246
  let v1682 : BitVec 32 := Scalar.remsi v1679 v1681
  let c0_i32_1250 : BitVec 32 := 0#32
  let v1684 : BitVec 1 := Scalar.cmpi .slt v1682 c0_i32_1250
  let c0_i32_1251 : BitVec 32 := 0#32
  let v1685 : BitVec 1 := Scalar.cmpi .slt v1681 c0_i32_1251
  let v1686 : BitVec 1 := Scalar.xori v1684 v1685
  let c0_i32_1249 : BitVec 32 := 0#32
  let v1683 : BitVec 1 := Scalar.cmpi .ne v1682 c0_i32_1249
  let v1687 : BitVec 1 := Scalar.andi v1686 v1683
  let v1688 : BitVec 32 := Scalar.addi v1682 v1681
  let v1689 : BitVec 32 := Scalar.select v1687 v1688 v1682
  let c1_i32_1258 : BitVec 32 := 1#32
  let v1694 : BitVec 32 := Scalar.muli v1689 c1_i32_1258
  let v1695 : BitVec 32 := Scalar.addi c0_i32_1259 v1694
  v1695.toNat
def k0_dev59 (d0 : Dev nD) : Nat :=
  let c0_i32_1276 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1262 : BitVec 32 := 14#32
  let v1702 : BitVec 32 := Scalar.addi v2 c14_i32_1262
  let c16_i32_1263 : BitVec 32 := 16#32
  let c0_i32_1264 : BitVec 32 := 0#32
  let v1703 : BitVec 1 := Scalar.cmpi .eq c16_i32_1263 c0_i32_1264
  let c1_i32_1265 : BitVec 32 := 1#32
  let v1704 : BitVec 32 := Scalar.select v1703 c1_i32_1265 c16_i32_1263
  let v1705 : BitVec 32 := Scalar.remsi v1702 v1704
  let c0_i32_1267 : BitVec 32 := 0#32
  let v1707 : BitVec 1 := Scalar.cmpi .slt v1705 c0_i32_1267
  let c0_i32_1268 : BitVec 32 := 0#32
  let v1708 : BitVec 1 := Scalar.cmpi .slt v1704 c0_i32_1268
  let v1709 : BitVec 1 := Scalar.xori v1707 v1708
  let c0_i32_1266 : BitVec 32 := 0#32
  let v1706 : BitVec 1 := Scalar.cmpi .ne v1705 c0_i32_1266
  let v1710 : BitVec 1 := Scalar.andi v1709 v1706
  let v1711 : BitVec 32 := Scalar.addi v1705 v1704
  let v1712 : BitVec 32 := Scalar.select v1710 v1711 v1705
  let c1_i32_1275 : BitVec 32 := 1#32
  let v1717 : BitVec 32 := Scalar.muli v1712 c1_i32_1275
  let v1718 : BitVec 32 := Scalar.addi c0_i32_1276 v1717
  v1718.toNat
def k0_dev60 (d0 : Dev nD) : Nat :=
  let c0_i32_1293 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1279 : BitVec 32 := 15#32
  let v1725 : BitVec 32 := Scalar.addi v2 c15_i32_1279
  let c16_i32_1280 : BitVec 32 := 16#32
  let c0_i32_1281 : BitVec 32 := 0#32
  let v1726 : BitVec 1 := Scalar.cmpi .eq c16_i32_1280 c0_i32_1281
  let c1_i32_1282 : BitVec 32 := 1#32
  let v1727 : BitVec 32 := Scalar.select v1726 c1_i32_1282 c16_i32_1280
  let v1728 : BitVec 32 := Scalar.remsi v1725 v1727
  let c0_i32_1284 : BitVec 32 := 0#32
  let v1730 : BitVec 1 := Scalar.cmpi .slt v1728 c0_i32_1284
  let c0_i32_1285 : BitVec 32 := 0#32
  let v1731 : BitVec 1 := Scalar.cmpi .slt v1727 c0_i32_1285
  let v1732 : BitVec 1 := Scalar.xori v1730 v1731
  let c0_i32_1283 : BitVec 32 := 0#32
  let v1729 : BitVec 1 := Scalar.cmpi .ne v1728 c0_i32_1283
  let v1733 : BitVec 1 := Scalar.andi v1732 v1729
  let v1734 : BitVec 32 := Scalar.addi v1728 v1727
  let v1735 : BitVec 32 := Scalar.select v1733 v1734 v1728
  let c1_i32_1292 : BitVec 32 := 1#32
  let v1740 : BitVec 32 := Scalar.muli v1735 c1_i32_1292
  let v1741 : BitVec 32 := Scalar.addi c0_i32_1293 v1740
  v1741.toNat
def k0_dev61 (d0 : Dev nD) : Nat :=
  let c0_i32_1601 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1587 : BitVec 32 := 1#32
  let v2118 : BitVec 32 := Scalar.addi v2 c1_i32_1587
  let c16_i32_1588 : BitVec 32 := 16#32
  let c0_i32_1589 : BitVec 32 := 0#32
  let v2119 : BitVec 1 := Scalar.cmpi .eq c16_i32_1588 c0_i32_1589
  let c1_i32_1590 : BitVec 32 := 1#32
  let v2120 : BitVec 32 := Scalar.select v2119 c1_i32_1590 c16_i32_1588
  let v2121 : BitVec 32 := Scalar.remsi v2118 v2120
  let c0_i32_1592 : BitVec 32 := 0#32
  let v2123 : BitVec 1 := Scalar.cmpi .slt v2121 c0_i32_1592
  let c0_i32_1593 : BitVec 32 := 0#32
  let v2124 : BitVec 1 := Scalar.cmpi .slt v2120 c0_i32_1593
  let v2125 : BitVec 1 := Scalar.xori v2123 v2124
  let c0_i32_1591 : BitVec 32 := 0#32
  let v2122 : BitVec 1 := Scalar.cmpi .ne v2121 c0_i32_1591
  let v2126 : BitVec 1 := Scalar.andi v2125 v2122
  let v2127 : BitVec 32 := Scalar.addi v2121 v2120
  let v2128 : BitVec 32 := Scalar.select v2126 v2127 v2121
  let c1_i32_1600 : BitVec 32 := 1#32
  let v2133 : BitVec 32 := Scalar.muli v2128 c1_i32_1600
  let v2134 : BitVec 32 := Scalar.addi c0_i32_1601 v2133
  v2134.toNat
def k0_dev62 (d0 : Dev nD) : Nat :=
  let c0_i32_1618 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1604 : BitVec 32 := 2#32
  let v2141 : BitVec 32 := Scalar.addi v2 c2_i32_1604
  let c16_i32_1605 : BitVec 32 := 16#32
  let c0_i32_1606 : BitVec 32 := 0#32
  let v2142 : BitVec 1 := Scalar.cmpi .eq c16_i32_1605 c0_i32_1606
  let c1_i32_1607 : BitVec 32 := 1#32
  let v2143 : BitVec 32 := Scalar.select v2142 c1_i32_1607 c16_i32_1605
  let v2144 : BitVec 32 := Scalar.remsi v2141 v2143
  let c0_i32_1609 : BitVec 32 := 0#32
  let v2146 : BitVec 1 := Scalar.cmpi .slt v2144 c0_i32_1609
  let c0_i32_1610 : BitVec 32 := 0#32
  let v2147 : BitVec 1 := Scalar.cmpi .slt v2143 c0_i32_1610
  let v2148 : BitVec 1 := Scalar.xori v2146 v2147
  let c0_i32_1608 : BitVec 32 := 0#32
  let v2145 : BitVec 1 := Scalar.cmpi .ne v2144 c0_i32_1608
  let v2149 : BitVec 1 := Scalar.andi v2148 v2145
  let v2150 : BitVec 32 := Scalar.addi v2144 v2143
  let v2151 : BitVec 32 := Scalar.select v2149 v2150 v2144
  let c1_i32_1617 : BitVec 32 := 1#32
  let v2156 : BitVec 32 := Scalar.muli v2151 c1_i32_1617
  let v2157 : BitVec 32 := Scalar.addi c0_i32_1618 v2156
  v2157.toNat
def k0_dev63 (d0 : Dev nD) : Nat :=
  let c0_i32_1635 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1621 : BitVec 32 := 3#32
  let v2164 : BitVec 32 := Scalar.addi v2 c3_i32_1621
  let c16_i32_1622 : BitVec 32 := 16#32
  let c0_i32_1623 : BitVec 32 := 0#32
  let v2165 : BitVec 1 := Scalar.cmpi .eq c16_i32_1622 c0_i32_1623
  let c1_i32_1624 : BitVec 32 := 1#32
  let v2166 : BitVec 32 := Scalar.select v2165 c1_i32_1624 c16_i32_1622
  let v2167 : BitVec 32 := Scalar.remsi v2164 v2166
  let c0_i32_1626 : BitVec 32 := 0#32
  let v2169 : BitVec 1 := Scalar.cmpi .slt v2167 c0_i32_1626
  let c0_i32_1627 : BitVec 32 := 0#32
  let v2170 : BitVec 1 := Scalar.cmpi .slt v2166 c0_i32_1627
  let v2171 : BitVec 1 := Scalar.xori v2169 v2170
  let c0_i32_1625 : BitVec 32 := 0#32
  let v2168 : BitVec 1 := Scalar.cmpi .ne v2167 c0_i32_1625
  let v2172 : BitVec 1 := Scalar.andi v2171 v2168
  let v2173 : BitVec 32 := Scalar.addi v2167 v2166
  let v2174 : BitVec 32 := Scalar.select v2172 v2173 v2167
  let c1_i32_1634 : BitVec 32 := 1#32
  let v2179 : BitVec 32 := Scalar.muli v2174 c1_i32_1634
  let v2180 : BitVec 32 := Scalar.addi c0_i32_1635 v2179
  v2180.toNat
def k0_dev64 (d0 : Dev nD) : Nat :=
  let c0_i32_1652 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1638 : BitVec 32 := 4#32
  let v2187 : BitVec 32 := Scalar.addi v2 c4_i32_1638
  let c16_i32_1639 : BitVec 32 := 16#32
  let c0_i32_1640 : BitVec 32 := 0#32
  let v2188 : BitVec 1 := Scalar.cmpi .eq c16_i32_1639 c0_i32_1640
  let c1_i32_1641 : BitVec 32 := 1#32
  let v2189 : BitVec 32 := Scalar.select v2188 c1_i32_1641 c16_i32_1639
  let v2190 : BitVec 32 := Scalar.remsi v2187 v2189
  let c0_i32_1643 : BitVec 32 := 0#32
  let v2192 : BitVec 1 := Scalar.cmpi .slt v2190 c0_i32_1643
  let c0_i32_1644 : BitVec 32 := 0#32
  let v2193 : BitVec 1 := Scalar.cmpi .slt v2189 c0_i32_1644
  let v2194 : BitVec 1 := Scalar.xori v2192 v2193
  let c0_i32_1642 : BitVec 32 := 0#32
  let v2191 : BitVec 1 := Scalar.cmpi .ne v2190 c0_i32_1642
  let v2195 : BitVec 1 := Scalar.andi v2194 v2191
  let v2196 : BitVec 32 := Scalar.addi v2190 v2189
  let v2197 : BitVec 32 := Scalar.select v2195 v2196 v2190
  let c1_i32_1651 : BitVec 32 := 1#32
  let v2202 : BitVec 32 := Scalar.muli v2197 c1_i32_1651
  let v2203 : BitVec 32 := Scalar.addi c0_i32_1652 v2202
  v2203.toNat
def k0_dev65 (d0 : Dev nD) : Nat :=
  let c0_i32_1669 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1655 : BitVec 32 := 5#32
  let v2210 : BitVec 32 := Scalar.addi v2 c5_i32_1655
  let c16_i32_1656 : BitVec 32 := 16#32
  let c0_i32_1657 : BitVec 32 := 0#32
  let v2211 : BitVec 1 := Scalar.cmpi .eq c16_i32_1656 c0_i32_1657
  let c1_i32_1658 : BitVec 32 := 1#32
  let v2212 : BitVec 32 := Scalar.select v2211 c1_i32_1658 c16_i32_1656
  let v2213 : BitVec 32 := Scalar.remsi v2210 v2212
  let c0_i32_1660 : BitVec 32 := 0#32
  let v2215 : BitVec 1 := Scalar.cmpi .slt v2213 c0_i32_1660
  let c0_i32_1661 : BitVec 32 := 0#32
  let v2216 : BitVec 1 := Scalar.cmpi .slt v2212 c0_i32_1661
  let v2217 : BitVec 1 := Scalar.xori v2215 v2216
  let c0_i32_1659 : BitVec 32 := 0#32
  let v2214 : BitVec 1 := Scalar.cmpi .ne v2213 c0_i32_1659
  let v2218 : BitVec 1 := Scalar.andi v2217 v2214
  let v2219 : BitVec 32 := Scalar.addi v2213 v2212
  let v2220 : BitVec 32 := Scalar.select v2218 v2219 v2213
  let c1_i32_1668 : BitVec 32 := 1#32
  let v2225 : BitVec 32 := Scalar.muli v2220 c1_i32_1668
  let v2226 : BitVec 32 := Scalar.addi c0_i32_1669 v2225
  v2226.toNat
def k0_dev66 (d0 : Dev nD) : Nat :=
  let c0_i32_1686 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1672 : BitVec 32 := 6#32
  let v2233 : BitVec 32 := Scalar.addi v2 c6_i32_1672
  let c16_i32_1673 : BitVec 32 := 16#32
  let c0_i32_1674 : BitVec 32 := 0#32
  let v2234 : BitVec 1 := Scalar.cmpi .eq c16_i32_1673 c0_i32_1674
  let c1_i32_1675 : BitVec 32 := 1#32
  let v2235 : BitVec 32 := Scalar.select v2234 c1_i32_1675 c16_i32_1673
  let v2236 : BitVec 32 := Scalar.remsi v2233 v2235
  let c0_i32_1677 : BitVec 32 := 0#32
  let v2238 : BitVec 1 := Scalar.cmpi .slt v2236 c0_i32_1677
  let c0_i32_1678 : BitVec 32 := 0#32
  let v2239 : BitVec 1 := Scalar.cmpi .slt v2235 c0_i32_1678
  let v2240 : BitVec 1 := Scalar.xori v2238 v2239
  let c0_i32_1676 : BitVec 32 := 0#32
  let v2237 : BitVec 1 := Scalar.cmpi .ne v2236 c0_i32_1676
  let v2241 : BitVec 1 := Scalar.andi v2240 v2237
  let v2242 : BitVec 32 := Scalar.addi v2236 v2235
  let v2243 : BitVec 32 := Scalar.select v2241 v2242 v2236
  let c1_i32_1685 : BitVec 32 := 1#32
  let v2248 : BitVec 32 := Scalar.muli v2243 c1_i32_1685
  let v2249 : BitVec 32 := Scalar.addi c0_i32_1686 v2248
  v2249.toNat
def k0_dev67 (d0 : Dev nD) : Nat :=
  let c0_i32_1703 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1689 : BitVec 32 := 7#32
  let v2256 : BitVec 32 := Scalar.addi v2 c7_i32_1689
  let c16_i32_1690 : BitVec 32 := 16#32
  let c0_i32_1691 : BitVec 32 := 0#32
  let v2257 : BitVec 1 := Scalar.cmpi .eq c16_i32_1690 c0_i32_1691
  let c1_i32_1692 : BitVec 32 := 1#32
  let v2258 : BitVec 32 := Scalar.select v2257 c1_i32_1692 c16_i32_1690
  let v2259 : BitVec 32 := Scalar.remsi v2256 v2258
  let c0_i32_1694 : BitVec 32 := 0#32
  let v2261 : BitVec 1 := Scalar.cmpi .slt v2259 c0_i32_1694
  let c0_i32_1695 : BitVec 32 := 0#32
  let v2262 : BitVec 1 := Scalar.cmpi .slt v2258 c0_i32_1695
  let v2263 : BitVec 1 := Scalar.xori v2261 v2262
  let c0_i32_1693 : BitVec 32 := 0#32
  let v2260 : BitVec 1 := Scalar.cmpi .ne v2259 c0_i32_1693
  let v2264 : BitVec 1 := Scalar.andi v2263 v2260
  let v2265 : BitVec 32 := Scalar.addi v2259 v2258
  let v2266 : BitVec 32 := Scalar.select v2264 v2265 v2259
  let c1_i32_1702 : BitVec 32 := 1#32
  let v2271 : BitVec 32 := Scalar.muli v2266 c1_i32_1702
  let v2272 : BitVec 32 := Scalar.addi c0_i32_1703 v2271
  v2272.toNat
def k0_dev68 (d0 : Dev nD) : Nat :=
  let c0_i32_1720 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1706 : BitVec 32 := 8#32
  let v2279 : BitVec 32 := Scalar.addi v2 c8_i32_1706
  let c16_i32_1707 : BitVec 32 := 16#32
  let c0_i32_1708 : BitVec 32 := 0#32
  let v2280 : BitVec 1 := Scalar.cmpi .eq c16_i32_1707 c0_i32_1708
  let c1_i32_1709 : BitVec 32 := 1#32
  let v2281 : BitVec 32 := Scalar.select v2280 c1_i32_1709 c16_i32_1707
  let v2282 : BitVec 32 := Scalar.remsi v2279 v2281
  let c0_i32_1711 : BitVec 32 := 0#32
  let v2284 : BitVec 1 := Scalar.cmpi .slt v2282 c0_i32_1711
  let c0_i32_1712 : BitVec 32 := 0#32
  let v2285 : BitVec 1 := Scalar.cmpi .slt v2281 c0_i32_1712
  let v2286 : BitVec 1 := Scalar.xori v2284 v2285
  let c0_i32_1710 : BitVec 32 := 0#32
  let v2283 : BitVec 1 := Scalar.cmpi .ne v2282 c0_i32_1710
  let v2287 : BitVec 1 := Scalar.andi v2286 v2283
  let v2288 : BitVec 32 := Scalar.addi v2282 v2281
  let v2289 : BitVec 32 := Scalar.select v2287 v2288 v2282
  let c1_i32_1719 : BitVec 32 := 1#32
  let v2294 : BitVec 32 := Scalar.muli v2289 c1_i32_1719
  let v2295 : BitVec 32 := Scalar.addi c0_i32_1720 v2294
  v2295.toNat
def k0_dev69 (d0 : Dev nD) : Nat :=
  let c0_i32_1737 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1723 : BitVec 32 := 9#32
  let v2302 : BitVec 32 := Scalar.addi v2 c9_i32_1723
  let c16_i32_1724 : BitVec 32 := 16#32
  let c0_i32_1725 : BitVec 32 := 0#32
  let v2303 : BitVec 1 := Scalar.cmpi .eq c16_i32_1724 c0_i32_1725
  let c1_i32_1726 : BitVec 32 := 1#32
  let v2304 : BitVec 32 := Scalar.select v2303 c1_i32_1726 c16_i32_1724
  let v2305 : BitVec 32 := Scalar.remsi v2302 v2304
  let c0_i32_1728 : BitVec 32 := 0#32
  let v2307 : BitVec 1 := Scalar.cmpi .slt v2305 c0_i32_1728
  let c0_i32_1729 : BitVec 32 := 0#32
  let v2308 : BitVec 1 := Scalar.cmpi .slt v2304 c0_i32_1729
  let v2309 : BitVec 1 := Scalar.xori v2307 v2308
  let c0_i32_1727 : BitVec 32 := 0#32
  let v2306 : BitVec 1 := Scalar.cmpi .ne v2305 c0_i32_1727
  let v2310 : BitVec 1 := Scalar.andi v2309 v2306
  let v2311 : BitVec 32 := Scalar.addi v2305 v2304
  let v2312 : BitVec 32 := Scalar.select v2310 v2311 v2305
  let c1_i32_1736 : BitVec 32 := 1#32
  let v2317 : BitVec 32 := Scalar.muli v2312 c1_i32_1736
  let v2318 : BitVec 32 := Scalar.addi c0_i32_1737 v2317
  v2318.toNat
def k0_dev70 (d0 : Dev nD) : Nat :=
  let c0_i32_1754 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1740 : BitVec 32 := 10#32
  let v2325 : BitVec 32 := Scalar.addi v2 c10_i32_1740
  let c16_i32_1741 : BitVec 32 := 16#32
  let c0_i32_1742 : BitVec 32 := 0#32
  let v2326 : BitVec 1 := Scalar.cmpi .eq c16_i32_1741 c0_i32_1742
  let c1_i32_1743 : BitVec 32 := 1#32
  let v2327 : BitVec 32 := Scalar.select v2326 c1_i32_1743 c16_i32_1741
  let v2328 : BitVec 32 := Scalar.remsi v2325 v2327
  let c0_i32_1745 : BitVec 32 := 0#32
  let v2330 : BitVec 1 := Scalar.cmpi .slt v2328 c0_i32_1745
  let c0_i32_1746 : BitVec 32 := 0#32
  let v2331 : BitVec 1 := Scalar.cmpi .slt v2327 c0_i32_1746
  let v2332 : BitVec 1 := Scalar.xori v2330 v2331
  let c0_i32_1744 : BitVec 32 := 0#32
  let v2329 : BitVec 1 := Scalar.cmpi .ne v2328 c0_i32_1744
  let v2333 : BitVec 1 := Scalar.andi v2332 v2329
  let v2334 : BitVec 32 := Scalar.addi v2328 v2327
  let v2335 : BitVec 32 := Scalar.select v2333 v2334 v2328
  let c1_i32_1753 : BitVec 32 := 1#32
  let v2340 : BitVec 32 := Scalar.muli v2335 c1_i32_1753
  let v2341 : BitVec 32 := Scalar.addi c0_i32_1754 v2340
  v2341.toNat
def k0_dev71 (d0 : Dev nD) : Nat :=
  let c0_i32_1771 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1757 : BitVec 32 := 11#32
  let v2348 : BitVec 32 := Scalar.addi v2 c11_i32_1757
  let c16_i32_1758 : BitVec 32 := 16#32
  let c0_i32_1759 : BitVec 32 := 0#32
  let v2349 : BitVec 1 := Scalar.cmpi .eq c16_i32_1758 c0_i32_1759
  let c1_i32_1760 : BitVec 32 := 1#32
  let v2350 : BitVec 32 := Scalar.select v2349 c1_i32_1760 c16_i32_1758
  let v2351 : BitVec 32 := Scalar.remsi v2348 v2350
  let c0_i32_1762 : BitVec 32 := 0#32
  let v2353 : BitVec 1 := Scalar.cmpi .slt v2351 c0_i32_1762
  let c0_i32_1763 : BitVec 32 := 0#32
  let v2354 : BitVec 1 := Scalar.cmpi .slt v2350 c0_i32_1763
  let v2355 : BitVec 1 := Scalar.xori v2353 v2354
  let c0_i32_1761 : BitVec 32 := 0#32
  let v2352 : BitVec 1 := Scalar.cmpi .ne v2351 c0_i32_1761
  let v2356 : BitVec 1 := Scalar.andi v2355 v2352
  let v2357 : BitVec 32 := Scalar.addi v2351 v2350
  let v2358 : BitVec 32 := Scalar.select v2356 v2357 v2351
  let c1_i32_1770 : BitVec 32 := 1#32
  let v2363 : BitVec 32 := Scalar.muli v2358 c1_i32_1770
  let v2364 : BitVec 32 := Scalar.addi c0_i32_1771 v2363
  v2364.toNat
def k0_dev72 (d0 : Dev nD) : Nat :=
  let c0_i32_1788 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1774 : BitVec 32 := 12#32
  let v2371 : BitVec 32 := Scalar.addi v2 c12_i32_1774
  let c16_i32_1775 : BitVec 32 := 16#32
  let c0_i32_1776 : BitVec 32 := 0#32
  let v2372 : BitVec 1 := Scalar.cmpi .eq c16_i32_1775 c0_i32_1776
  let c1_i32_1777 : BitVec 32 := 1#32
  let v2373 : BitVec 32 := Scalar.select v2372 c1_i32_1777 c16_i32_1775
  let v2374 : BitVec 32 := Scalar.remsi v2371 v2373
  let c0_i32_1779 : BitVec 32 := 0#32
  let v2376 : BitVec 1 := Scalar.cmpi .slt v2374 c0_i32_1779
  let c0_i32_1780 : BitVec 32 := 0#32
  let v2377 : BitVec 1 := Scalar.cmpi .slt v2373 c0_i32_1780
  let v2378 : BitVec 1 := Scalar.xori v2376 v2377
  let c0_i32_1778 : BitVec 32 := 0#32
  let v2375 : BitVec 1 := Scalar.cmpi .ne v2374 c0_i32_1778
  let v2379 : BitVec 1 := Scalar.andi v2378 v2375
  let v2380 : BitVec 32 := Scalar.addi v2374 v2373
  let v2381 : BitVec 32 := Scalar.select v2379 v2380 v2374
  let c1_i32_1787 : BitVec 32 := 1#32
  let v2386 : BitVec 32 := Scalar.muli v2381 c1_i32_1787
  let v2387 : BitVec 32 := Scalar.addi c0_i32_1788 v2386
  v2387.toNat
def k0_dev73 (d0 : Dev nD) : Nat :=
  let c0_i32_1805 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1791 : BitVec 32 := 13#32
  let v2394 : BitVec 32 := Scalar.addi v2 c13_i32_1791
  let c16_i32_1792 : BitVec 32 := 16#32
  let c0_i32_1793 : BitVec 32 := 0#32
  let v2395 : BitVec 1 := Scalar.cmpi .eq c16_i32_1792 c0_i32_1793
  let c1_i32_1794 : BitVec 32 := 1#32
  let v2396 : BitVec 32 := Scalar.select v2395 c1_i32_1794 c16_i32_1792
  let v2397 : BitVec 32 := Scalar.remsi v2394 v2396
  let c0_i32_1796 : BitVec 32 := 0#32
  let v2399 : BitVec 1 := Scalar.cmpi .slt v2397 c0_i32_1796
  let c0_i32_1797 : BitVec 32 := 0#32
  let v2400 : BitVec 1 := Scalar.cmpi .slt v2396 c0_i32_1797
  let v2401 : BitVec 1 := Scalar.xori v2399 v2400
  let c0_i32_1795 : BitVec 32 := 0#32
  let v2398 : BitVec 1 := Scalar.cmpi .ne v2397 c0_i32_1795
  let v2402 : BitVec 1 := Scalar.andi v2401 v2398
  let v2403 : BitVec 32 := Scalar.addi v2397 v2396
  let v2404 : BitVec 32 := Scalar.select v2402 v2403 v2397
  let c1_i32_1804 : BitVec 32 := 1#32
  let v2409 : BitVec 32 := Scalar.muli v2404 c1_i32_1804
  let v2410 : BitVec 32 := Scalar.addi c0_i32_1805 v2409
  v2410.toNat
def k0_dev74 (d0 : Dev nD) : Nat :=
  let c0_i32_1822 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1808 : BitVec 32 := 14#32
  let v2417 : BitVec 32 := Scalar.addi v2 c14_i32_1808
  let c16_i32_1809 : BitVec 32 := 16#32
  let c0_i32_1810 : BitVec 32 := 0#32
  let v2418 : BitVec 1 := Scalar.cmpi .eq c16_i32_1809 c0_i32_1810
  let c1_i32_1811 : BitVec 32 := 1#32
  let v2419 : BitVec 32 := Scalar.select v2418 c1_i32_1811 c16_i32_1809
  let v2420 : BitVec 32 := Scalar.remsi v2417 v2419
  let c0_i32_1813 : BitVec 32 := 0#32
  let v2422 : BitVec 1 := Scalar.cmpi .slt v2420 c0_i32_1813
  let c0_i32_1814 : BitVec 32 := 0#32
  let v2423 : BitVec 1 := Scalar.cmpi .slt v2419 c0_i32_1814
  let v2424 : BitVec 1 := Scalar.xori v2422 v2423
  let c0_i32_1812 : BitVec 32 := 0#32
  let v2421 : BitVec 1 := Scalar.cmpi .ne v2420 c0_i32_1812
  let v2425 : BitVec 1 := Scalar.andi v2424 v2421
  let v2426 : BitVec 32 := Scalar.addi v2420 v2419
  let v2427 : BitVec 32 := Scalar.select v2425 v2426 v2420
  let c1_i32_1821 : BitVec 32 := 1#32
  let v2432 : BitVec 32 := Scalar.muli v2427 c1_i32_1821
  let v2433 : BitVec 32 := Scalar.addi c0_i32_1822 v2432
  v2433.toNat
def k0_dev75 (d0 : Dev nD) : Nat :=
  let c0_i32_1839 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1825 : BitVec 32 := 15#32
  let v2440 : BitVec 32 := Scalar.addi v2 c15_i32_1825
  let c16_i32_1826 : BitVec 32 := 16#32
  let c0_i32_1827 : BitVec 32 := 0#32
  let v2441 : BitVec 1 := Scalar.cmpi .eq c16_i32_1826 c0_i32_1827
  let c1_i32_1828 : BitVec 32 := 1#32
  let v2442 : BitVec 32 := Scalar.select v2441 c1_i32_1828 c16_i32_1826
  let v2443 : BitVec 32 := Scalar.remsi v2440 v2442
  let c0_i32_1830 : BitVec 32 := 0#32
  let v2445 : BitVec 1 := Scalar.cmpi .slt v2443 c0_i32_1830
  let c0_i32_1831 : BitVec 32 := 0#32
  let v2446 : BitVec 1 := Scalar.cmpi .slt v2442 c0_i32_1831
  let v2447 : BitVec 1 := Scalar.xori v2445 v2446
  let c0_i32_1829 : BitVec 32 := 0#32
  let v2444 : BitVec 1 := Scalar.cmpi .ne v2443 c0_i32_1829
  let v2448 : BitVec 1 := Scalar.andi v2447 v2444
  let v2449 : BitVec 32 := Scalar.addi v2443 v2442
  let v2450 : BitVec 32 := Scalar.select v2448 v2449 v2443
  let c1_i32_1838 : BitVec 32 := 1#32
  let v2455 : BitVec 32 := Scalar.muli v2450 c1_i32_1838
  let v2456 : BitVec 32 := Scalar.addi c0_i32_1839 v2455
  v2456.toNat
abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x4x256x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x4x256x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x256x512 : Shape := ⟨3, ![2, 256, 512]⟩
abbrev S512x4096 : Shape := ⟨2, ![512, 4096]⟩
abbrev S2x256x64x64 : Shape := ⟨4, ![2, 256, 64, 64]⟩
abbrev S4096x512 : Shape := ⟨2, ![4096, 512]⟩
abbrev S2x256x4096 : Shape := ⟨3, ![2, 256, 4096]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S2x64x256x256 : Shape := ⟨4, ![2, 64, 256, 256]⟩
abbrev S1x1x256x256 : Shape := ⟨4, ![1, 1, 256, 256]⟩
abbrev S2x64x256 : Shape := ⟨3, ![2, 64, 256]⟩
abbrev S2x64x256x1 : Shape := ⟨4, ![2, 64, 256, 1]⟩
abbrev S1x1x256x1 : Shape := ⟨4, ![1, 1, 256, 1]⟩
abbrev S2x64x64x256 : Shape := ⟨4, ![2, 64, 64, 256]⟩

abbrev nBuf : Space → Nat
  | .hbm => 63
  | .vmem => 0
  | .smem => 0
  | _ => 0

abbrev bufTy : (tb : Table) → Fin (tcTables nBuf tb) → BufTy
  | .hbm, ⟨0, _⟩ => ⟨S2x256x512, .bf16⟩
  | .hbm, ⟨1, _⟩ => ⟨S512x4096, .bf16⟩
  | .hbm, ⟨2, _⟩ => ⟨S2x256x64x64, .bf16⟩
  | .hbm, ⟨3, _⟩ => ⟨S2x256x64x64, .bf16⟩
  | .hbm, ⟨4, _⟩ => ⟨S4096x512, .bf16⟩
  | .hbm, ⟨5, _⟩ => ⟨S2x256x512, .f32⟩
  | .hbm, ⟨6, _⟩ => ⟨S512x4096, .f32⟩
  | .hbm, ⟨7, _⟩ => ⟨S2x256x64x64, .f32⟩
  | .hbm, ⟨8, _⟩ => ⟨S2x256x64x64, .f32⟩
  | .hbm, ⟨9, _⟩ => ⟨S4096x512, .f32⟩
  | .hbm, ⟨10, _⟩ => ⟨S2x256x4096, .f32⟩
  | .hbm, ⟨11, _⟩ => ⟨S2x256x64x64, .f32⟩
  | .hbm, ⟨12, _⟩ => ⟨S256, .i32⟩
  | .hbm, ⟨13, _⟩ => ⟨S256x1, .i32⟩
  | .hbm, ⟨14, _⟩ => ⟨S256, .i32⟩
  | .hbm, ⟨15, _⟩ => ⟨S1x256, .i32⟩
  | .hbm, ⟨16, _⟩ => ⟨S256x256, .i32⟩
  | .hbm, ⟨17, _⟩ => ⟨S256x256, .i32⟩
  | .hbm, ⟨18, _⟩ => ⟨S256x256, .i32⟩
  | .hbm, ⟨19, _⟩ => ⟨S256x256, .i32⟩
  | .hbm, ⟨20, _⟩ => ⟨S_, .i32⟩
  | .hbm, ⟨21, _⟩ => ⟨S256x256, .i32⟩
  | .hbm, ⟨22, _⟩ => ⟨S256x256, .i1⟩
  | .hbm, ⟨23, _⟩ => ⟨S2x64x256x256, .f32⟩
  | .hbm, ⟨24, _⟩ => ⟨S_, .f32⟩
  | .hbm, ⟨25, _⟩ => ⟨S2x64x256x256, .f32⟩
  | .hbm, ⟨26, _⟩ => ⟨S2x64x256x256, .f32⟩
  | .hbm, ⟨27, _⟩ => ⟨S1x1x256x256, .i1⟩
  | .hbm, ⟨28, _⟩ => ⟨S_, .f32⟩
  | .hbm, ⟨29, _⟩ => ⟨S_, .f32⟩
  | .hbm, ⟨30, _⟩ => ⟨S2x64x256x256, .i1⟩
  | .hbm, ⟨31, _⟩ => ⟨S2x64x256x256, .f32⟩
  | .hbm, ⟨32, _⟩ => ⟨S2x64x256x256, .f32⟩
  | .hbm, ⟨33, _⟩ => ⟨S_, .f32⟩
  | .hbm, ⟨34, _⟩ => ⟨S2x64x256, .f32⟩
  | .hbm, ⟨35, _⟩ => ⟨S2x64x256x1, .f32⟩
  | .hbm, ⟨36, _⟩ => ⟨S2x64x256x256, .f32⟩
  | .hbm, ⟨37, _⟩ => ⟨S2x64x256x256, .f32⟩
  | .hbm, ⟨38, _⟩ => ⟨S2x64x256x256, .f32⟩
  | .hbm, ⟨39, _⟩ => ⟨S_, .i1⟩
  | .hbm, ⟨40, _⟩ => ⟨S256, .i1⟩
  | .hbm, ⟨41, _⟩ => ⟨S1x1x256x1, .i1⟩
  | .hbm, ⟨42, _⟩ => ⟨S_, .f32⟩
  | .hbm, ⟨43, _⟩ => ⟨S2x64x256, .f32⟩
  | .hbm, ⟨44, _⟩ => ⟨S2x64x256x1, .f32⟩
  | .hbm, ⟨45, _⟩ => ⟨S_, .f32⟩
  | .hbm, ⟨46, _⟩ => ⟨S_, .f32⟩
  | .hbm, ⟨47, _⟩ => ⟨S2x64x256x1, .i1⟩
  | .hbm, ⟨48, _⟩ => ⟨S2x64x256x1, .f32⟩
  | .hbm, ⟨49, _⟩ => ⟨S2x64x256x1, .f32⟩
  | .hbm, ⟨50, _⟩ => ⟨S2x64x256x256, .f32⟩
  | .hbm, ⟨51, _⟩ => ⟨S2x64x256x256, .f32⟩
  | .hbm, ⟨52, _⟩ => ⟨S1x1x256x1, .i1⟩
  | .hbm, ⟨53, _⟩ => ⟨S_, .f32⟩
  | .hbm, ⟨54, _⟩ => ⟨S_, .f32⟩
  | .hbm, ⟨55, _⟩ => ⟨S2x64x256x256, .i1⟩
  | .hbm, ⟨56, _⟩ => ⟨S2x64x256x256, .f32⟩
  | .hbm, ⟨57, _⟩ => ⟨S2x64x256x256, .f32⟩
  | .hbm, ⟨58, _⟩ => ⟨S2x64x64x256, .f32⟩
  | .hbm, ⟨59, _⟩ => ⟨S2x256x64x64, .f32⟩
  | .hbm, ⟨60, _⟩ => ⟨S2x256x4096, .f32⟩
  | .hbm, ⟨61, _⟩ => ⟨S2x256x512, .f32⟩
  | .hbm, ⟨62, _⟩ => ⟨S2x256x512, .bf16⟩
  | _, _ => ⟨S2x256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_2 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_5 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩

abbrev nD : Nat := 1
abbrev τ : Topo := Topo.v7x

variable {F : FTy → Type} [FloatOps F]
-- ==== Proof.KI.Sched.lean ====
/-
  The message schedule of the kernel: who signals whom, who copies what onto whom, and what each arrival hands over.

  Sixteen devices. Each device c keeps three arrays it shares with the others:
    * `part` (512 rows): its own contribution to the result;
    * `slots` (30 slots of 16 rows): where the contributions of the other devices arrive;
    * `out` (512 rows): the result.
  The rows are cut into two halves of 256 and each half into sixteen chunks of 16, chunk p belonging to device p.
  For a half h and a shift o (0 … 14, meaning the device o + 1 places further on) device c
    * copies chunk (h, c + o + 1) of its `part` into slot (h, o) of device c + o + 1;
    * adds its own chunk and the fifteen slots of half h into chunk (h, c) of `out`;
    * copies that chunk into chunk (h, c) of `out` on device c + o + 1.
  Before the copies every device signals the barrier of the fifteen others; that signal hands over the slots and the
  chunks the other device will write.
-/
module

public import proofs.«01_k».proof.Proof.Gen.KernelIdeal.Points
public import proofs.«01_k».proof.Proof.Gen.KernelIdeal.Launch
public import Idealize.ShloMosaic.Lib.Rounds
public import Idealize.ShloMosaic.Lib.Rounds.Family
public import Idealize.ShloMosaic.Lib.ShareLeaves
public import Idealize.ShloMosaic.Lib.ValueIdxCore
public import Idealize.ShloMosaic.Lib.Pipeline.RegionTalk
public import Idealize.ShloMosaic.Lib.Pipeline.ValueKit.Geometry
public import Idealize.ShloMosaic.Lib.Tactic

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F] [Named F]

/-! ## Devices around the ring -/

/-- The device `o + 1` places after `c`. -/
def nx (c : Dev nD) (o : Fin 15) : Dev nD := ⟨(c.val + o.val + 1) % 16, Nat.mod_lt _ (by decide)⟩
/-- The device `o + 1` places before `c`. -/
def pv (c : Dev nD) (o : Fin 15) : Dev nD := ⟨(c.val + 15 - o.val) % 16, Nat.mod_lt _ (by decide)⟩
/-- The shift that undoes `o`: together they go once around. -/
def rv (o : Fin 15) : Fin 15 := ⟨14 - o.val, by omega⟩

theorem pv_nx (c : Dev nD) (o : Fin 15) : pv (nx c o) o = c := by revert c o; decide
theorem nx_pv (c : Dev nD) (o : Fin 15) : nx (pv c o) o = c := by revert c o; decide
theorem nx_rv (c : Dev nD) (o : Fin 15) : nx (nx c o) (rv o) = c := by revert c o; decide
theorem rv_rv (o : Fin 15) : rv (rv o) = o := by revert o; decide

/-- Every device but `c` is `nx c o` for exactly one `o`. -/
theorem univ_nx (c : Dev nD) : (Finset.univ : Finset (Dev nD)) = insert c (Finset.univ.image (nx c)) := by revert c; decide
theorem notMem_nx (c : Dev nD) : c ∉ Finset.univ.image (nx c) := by revert c; decide
theorem nx_inj (c : Dev nD) : Function.Injective (nx c) := by revert c; decide
theorem univ_pv (c : Dev nD) : (Finset.univ : Finset (Dev nD)) = insert c (Finset.univ.image (pv c)) := by revert c; decide
theorem notMem_pv (c : Dev nD) : c ∉ Finset.univ.image (pv c) := by revert c; decide
theorem pv_inj (c : Dev nD) : Function.Injective (pv c) := by revert c; decide

/-! ## The memory the assertions speak of -/

/-- One record of duties per device and semaphore: the pipeline's own and the kernel's. -/
abbrev UU : Type := UR sig nD τ × URounds (GSem nD τ sig) (Fin 15)

local notation "𝕄" => MT nD τ sig Unit (Elt F) ℕ UU ℕ

abbrev EP : Emb (UR sig nD τ) (MT nD τ sig Unit (Elt F) ℕ UU ℕ) := embL
abbrev ER : Emb (URounds (GSem nD τ sig) (Fin 15)) (MT nD τ sig Unit (Elt F) ℕ UU ℕ) := embR

/-- 512 rows of 512 entries. -/
abbrev Mat (F : FTy → Type) : Type := S512x512.Idx → Elt F .bf16
/-- 30 slots of 16 rows of 512 entries. -/
abbrev Slots (F : FTy → Type) : Type := S30x16x512.Idx → Elt F .bf16

/-- The first row of chunk `p` of half `h`. -/
def row (h : Fin 2) (p : Dev nD) : ℕ := 256 * h.val + 16 * p.val
/-- The number of the slot of half `h` and shift `o`. -/
def sl (h : Fin 2) (o : Fin 15) : ℕ := 15 * h.val + o.val

theorem row_le (h : Fin 2) (p : Dev nD) : row h p + 16 ≤ 512 := by
  have := h.isLt; have : p.val < 16 := p.isLt; unfold row; omega
theorem sl_lt (h : Fin 2) (o : Fin 15) : sl h o < 30 := by have := h.isLt; have := o.isLt; unfold sl; omega

/-- The entries of the 16 rows from row `a` on. -/
def rows (a : ℕ) : Finset S512x512.Idx := Finset.univ.filter fun i => a ≤ (i 0).val ∧ (i 0).val < a + 16
/-- The entries of slot `j`. -/
def slotSet (j : ℕ) : Finset S30x16x512.Idx := Finset.univ.filter fun i => (i 0).val = j

theorem mem_rows (a : ℕ) (i : S512x512.Idx) : i ∈ rows a ↔ a ≤ (i 0).val ∧ (i 0).val < a + 16 := by simp [rows]
theorem mem_slotSet (j : ℕ) (i : S30x16x512.Idx) : i ∈ slotSet j ↔ (i 0).val = j := by simp [slotSet]

/-- Chunk `(h, p)` of device `c`'s `part` at `f`. -/
abbrev partPt (c : Dev nD) (h : Fin 2) (p : Dev nD) (f : Mat F) : sProp 𝕄 :=
  (c : Thread nD τ).loc cc0_scratch0 ↦[rows (row h p)]{fullShare} f
/-- A share of chunk `(h, p)` of device `c`'s `out` at `f`. -/
abbrev outPt (c : Dev nD) (h : Fin 2) (p : Dev nD) (q : PosShare TreeShare) (f : Mat F) : sProp 𝕄 :=
  (c : Thread nD τ).loc cc0_stg5_0 ↦[rows (row h p)]{q} f
/-- Slot `(h, o)` of device `c` at `f`. -/
abbrev slotPt (c : Dev nD) (h : Fin 2) (o : Fin 15) (f : Slots F) : sProp 𝕄 :=
  (c : Thread nD τ).loc cc0_scratch1 ↦[slotSet (sl h o)]{fullShare} f

/-- The half, the shift and the row a slot number and a row within it speak of. -/
def slotHalf (j : Fin 30) : Fin 2 := ⟨j.val / 15, by omega⟩
def slotShift (j : Fin 30) : Fin 15 := ⟨j.val % 15, Nat.mod_lt _ (by decide)⟩
/-- Row `r` of chunk `(h, p)`, column `k`. -/
def at2 (h : Fin 2) (p : Dev nD) (r : Fin 16) (k : Fin 512) : S512x512.Idx :=
  ix2 ⟨row h p + r.val, by have := row_le h p; omega⟩ k

/-- What device `c`'s slots hold once the others' copies have arrived, the contributions being `P`: slot `(h, o)` holds
    chunk `(h, c)` of device `c - o - 1`'s. -/
def recvVal (P : Dev nD → Mat F) (c : Dev nD) : Slots F := fun i =>
  P (pv c (slotShift (i 0))) (at2 (slotHalf (i 0)) c (i 1) (i 2))

/-! ## Semaphores -/

/-- A device's semaphores: its barrier (`none`), and of each of the four arrays of thirty the one of half `h`, shift `o`:
    0 the sends of contributions, 1 their arrivals, 2 the sends of results, 3 their arrivals. -/
abbrev Cell : Type := Option (Fin 4 × Fin 2 × Fin 15)

def semOf : Cell → SemLoc sig
  | none => .reg (sig.barrier 0 rfl)
  | some (q, h, o) => .dma (⟨6 + 30 * q.val + 15 * h.val + o.val, by
      have := q.isLt; have := h.isLt; have := o.isLt
      show _ < 126
      omega⟩ : Fin 126)

theorem semOf_inj : Function.Injective semOf := by
  intro x y hxy
  match x, y with
  | none, none => rfl
  | none, some _ => exact absurd hxy (by unfold semOf; intro h; cases h)
  | some _, none => exact absurd hxy (by unfold semOf; intro h; cases h)
  | some (q, h, o), some (q', h', o') =>
    have e := Fin.mk.inj (SemLoc.dma.inj hxy)
    have := q.isLt; have := h.isLt; have := o.isLt; have := q'.isLt; have := h'.isLt; have := o'.isLt
    have h1 : o = o' := Fin.ext (by omega)
    have h2 : h = h' := Fin.ext (by omega)
    have h3 : q = q' := Fin.ext (by omega)
    rw [h1, h2, h3]

/-- Semaphore `x` of device `c`. -/
def cell (c : Dev nD) (x : Cell) : GSem nD τ sig := ((c : Thread nD τ), semOf x)

theorem cell_inj : Function.Injective (fun p : Dev nD × Cell => cell p.1 p.2) := by
  rintro ⟨c, x⟩ ⟨c', x'⟩ h
  have h1 := congrArg (fun g : GSem nD τ sig => g.1.1) h
  have h2 := congrArg (fun g : GSem nD τ sig => g.2) h
  exact Prod.ext h1 (semOf_inj h2)

open Classical in
/-- Which of a device's semaphores this is, if it is one the kernel talks over. -/
def cellOfSem (s : SemLoc sig) : Option Cell := if h : ∃ x, semOf x = s then some h.choose else none

theorem cellOfSem_semOf (x : Cell) : cellOfSem (semOf x) = some x := by
  unfold cellOfSem
  rw [dif_pos ⟨x, rfl⟩]
  exact congrArg some (semOf_inj (Exists.choose_spec (⟨x, rfl⟩ : ∃ y, semOf y = semOf x)))

/-- What one copy of sixteen rows adds to a semaphore. -/
def N : ℕ := ((Memref.whole cc0_scratch0).slice (Rect.unit (s := S512x512) ![0, 0] S16x512.size (by decide)) (fun _ => rfl)).view.dmaCredit
theorem N_pos : 0 < N := View.dmaCredit_pos _ (by decide)

/-! ## The payloads -/

variable (P : Dev nD → Mat F) (O : Mat F)

/-- The share of a chunk of `out` that goes with the copy of shift `o`; the sixteenth stays. -/
abbrev leafOf (o : Fin 16) : PosShare TreeShare := ShareLeaves.leaf 4 fullShare o

/-- What device `nx c d` hands over with its signal to `c`'s barrier: its slots of shift `d` and chunk `c` of its `out`, in both
    halves, at any contents, and that their arrival semaphores are in use. -/
def barPay (c : Dev nD) (d : Fin 15) : sProp 𝕄 :=
  bigSep Finset.univ fun h : Fin 2 => iprop((∃ f, slotPt (nx c d) h d f) ∗ (∃ f, outPt (nx c d) h c fullShare f)
    ∗ reached ER (cell (nx c d) (some (1, h, d))) 0 ∗ reached ER (cell (nx c d) (some (3, h, d))) 0)

/-- What an arrival on semaphore `x` of device `c` hands over. -/
def pay (c : Dev nD) (x : Cell) (d : Fin 15) : sProp 𝕄 :=
  match x with
  | none => barPay c d
  | some (q, h, o) =>
    if q = 0 then partPt c h (nx c o) (P c)
    else if q = 1 then slotPt c h o (recvVal P c)
    else if q = 2 then outPt c h c (leafOf o.castSucc) O
    else outPt c h (pv c o) fullShare O

/-- The duties, the amount of each and the payload, by the semaphore (`none`: not one the kernel talks over). -/
def dutiesAt (r : ℕ) (tc : Prop) [Decidable tc] (x : Option Cell) : Finset (Fin 15) :=
  if r = 0 ∧ tc then x.elim ∅ fun y => y.elim Finset.univ fun _ => {0} else ∅
def amountAt (x : Option Cell) : ℕ := x.elim 1 fun y => y.elim 1 fun _ => N
def payAt (c : Dev nD) (x : Option Cell) (d : Fin 15) : sProp 𝕄 := x.elim iprop(emp) fun y => pay P O c y d

theorem amountAt_pos (x : Option Cell) : 0 < amountAt x :=
  match x with
  | none => Nat.one_pos
  | some none => Nat.one_pos
  | some (some _) => N_pos

/-- Who owes what to which semaphore: each barrier is paid one unit by each of the fifteen other devices, each of the other
    semaphores one copy. All of it once. -/
def sched : Rounds.Schedule (GSem nD τ sig) (Fin 15) 𝕄 where
  duties g r := dutiesAt r (g.1.2 = .tc) (cellOfSem g.2)
  unitless _ := False
  amount g _ _ := amountAt (cellOfSem g.2)
  payload g _ d := payAt P O g.1.1 (cellOfSem g.2) d
  amount_pos g _ _ _ := amountAt_pos _

instance barPay_storable (c : Dev nD) (d : Fin 15) : BI.Storable (upEmb : UEmb _ 𝕄) (barPay (F := F) c d) := by
  unfold barPay; infer_instance

instance pay_storable (c : Dev nD) (x : Cell) (d : Fin 15) : BI.Storable (upEmb : UEmb _ 𝕄) (pay P O c x d) := by
  rcases x with _ | ⟨q, h, o⟩
  · exact barPay_storable c d
  · unfold pay
    dsimp only
    (repeat' split) <;> infer_instance

instance payAt_storable (c : Dev nD) (x : Option Cell) (d : Fin 15) : BI.Storable (upEmb : UEmb _ 𝕄) (payAt P O c x d) := by
  cases x
  · show BI.Storable upEmb (iprop(emp) : sProp 𝕄); infer_instance
  · exact pay_storable P O c _ d

instance sched_storable (g : GSem nD τ sig) (r : ℕ) (d : Fin 15) :
    BI.Storable (upEmb : UEmb _ 𝕄) ((sched P O).payload g r d) := payAt_storable P O _ _ _

theorem duties_bar (c : Dev nD) : (sched P O).duties (cell c none) 0 = Finset.univ := by
  show dutiesAt 0 ((cell c none).1.2 = .tc) (cellOfSem (semOf none)) = _
  rw [cellOfSem_semOf]; exact if_pos ⟨rfl, rfl⟩
theorem duties_dma (c : Dev nD) (y : Fin 4 × Fin 2 × Fin 15) : (sched P O).duties (cell c (some y)) 0 = {0} := by
  show dutiesAt 0 ((cell c (some y)).1.2 = .tc) (cellOfSem (semOf (some y))) = _
  rw [cellOfSem_semOf]; exact if_pos ⟨rfl, rfl⟩
theorem duties_later (g : GSem nD τ sig) (r : ℕ) (hr : 1 ≤ r) : (sched P O).duties g r = ∅ :=
  if_neg (fun h => by omega)
theorem amount_bar (c : Dev nD) (d : Fin 15) : (sched P O).amount (cell c none) 0 d = 1 := by
  show amountAt (cellOfSem (semOf none)) = _
  rw [cellOfSem_semOf]; rfl
theorem amount_dma (c : Dev nD) (y : Fin 4 × Fin 2 × Fin 15) (d : Fin 15) : (sched P O).amount (cell c (some y)) 0 d = N := by
  show amountAt (cellOfSem (semOf (some y))) = _
  rw [cellOfSem_semOf]; rfl
theorem payload_cell (c : Dev nD) (x : Cell) (d : Fin 15) : (sched P O).payload (cell c x) 0 d = pay P O c x d := by
  show payAt P O c (cellOfSem (semOf x)) d = _
  rw [cellOfSem_semOf]; rfl
theorem expect_bar (c : Dev nD) : (sched P O).expect (cell c none) 0 = 15 := by
  unfold Schedule.expect Schedule.amountOf; rw [duties_bar]; simp only [amount_bar]; decide
theorem expect_dma (c : Dev nD) (y : Fin 4 × Fin 2 × Fin 15) : (sched P O).expect (cell c (some y)) 0 = N := by
  unfold Schedule.expect Schedule.amountOf; rw [duties_dma, Finset.sum_singleton, amount_dma]

end Cert.KernelIdeal.Talk

end
-- ==== Proof.KI.Geom.lean ====
/-
  The sixteen-row windows and the slots of the kernel's arrays as sets of entries, and what a copy leaves where it lands.
-/
module

public import proofs.«01_k».proof.Proof.KI.Sched

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F] [Named F]

/-- Sixteen rows of `part`, of `out`, and one slot, as the kernel names them. -/
abbrev partM (off : Fin 2 → ℕ) (inb : ∀ a, off a + S16x512.size a ≤ S512x512.size a) : Memref sig .tc .vmem S16x512 .bf16 :=
  (Memref.whole cc0_scratch0).slice (Rect.unit (s := S512x512) off S16x512.size inb) (fun _ => rfl)
abbrev outM (off : Fin 2 → ℕ) (inb : ∀ a, off a + S16x512.size a ≤ S512x512.size a) : Memref sig .tc .vmem S16x512 .bf16 :=
  (Memref.whole cc0_stg5_0).slice (Rect.unit (s := S512x512) off S16x512.size inb) (fun _ => rfl)
abbrev slotM (off : Fin 3 → ℕ) (inb : ∀ a, off a + S1x16x512.size a ≤ S30x16x512.size a) (sq : S1x16x512.Squeezes S16x512) :
    Memref sig .tc .vmem S16x512 .bf16 :=
  ((Memref.whole cc0_scratch1).slice (Rect.unit (s := S30x16x512) off S1x16x512.size inb) (fun _ => rfl)).squeeze S16x512 sq

/-- The rectangle of the rows of chunk `(h, p)` holds that chunk's entries. -/
theorem rect_rows (h : Fin 2) (p : Dev nD) (off : Fin 2 → ℕ) (inb : ∀ a, off a + S16x512.size a ≤ S512x512.size a) (ho : off = ![row h p, 0]) :
    (Rect.unit (s := S512x512) off S16x512.size inb).set = rows (row h p) := by
  subst ho
  ext i
  rw [Rect.mem_set_unit, mem_rows]
  have h1 : (i 1).val < 512 := (i 1).isLt
  constructor
  · intro hh; exact hh 0
  · intro hh a
    match a with
    | ⟨0, _⟩ => exact hh
    | ⟨1, _⟩ => exact ⟨Nat.zero_le _, by show (i 1).val < 0 + 512; omega⟩

theorem partM_set (h : Fin 2) (p : Dev nD) (off : Fin 2 → ℕ) (inb : ∀ a, off a + S16x512.size a ≤ S512x512.size a) (ho : off = ![row h p, 0]) :
    (partM off inb).view.set = rows (row h p) :=
  (View.set_slice_whole cc0_scratch0 _).trans (rect_rows h p off inb ho)
theorem outM_set (h : Fin 2) (p : Dev nD) (off : Fin 2 → ℕ) (inb : ∀ a, off a + S16x512.size a ≤ S512x512.size a) (ho : off = ![row h p, 0]) :
    (outM off inb).view.set = rows (row h p) :=
  (View.set_slice_whole cc0_stg5_0 _).trans (rect_rows h p off inb ho)

/-- The rectangle of slot `(h, o)` holds that slot's entries. -/
theorem rect_slot (h : Fin 2) (o : Fin 15) (off : Fin 3 → ℕ) (inb : ∀ a, off a + S1x16x512.size a ≤ S30x16x512.size a) (ho : off = ![sl h o, 0, 0]) :
    (Rect.unit (s := S30x16x512) off S1x16x512.size inb).set = slotSet (sl h o) := by
  subst ho
  ext i
  rw [Rect.mem_set_unit, mem_slotSet]
  have h1 : (i 1).val < 16 := (i 1).isLt
  have h2 : (i 2).val < 512 := (i 2).isLt
  constructor
  · intro hh
    have h0 := hh 0
    have a : sl h o ≤ (i 0).val := h0.1
    have b : (i 0).val < sl h o + 1 := h0.2
    omega
  · intro hh a
    match a with
    | ⟨0, _⟩ => exact ⟨le_of_eq hh.symm, by show (i 0).val < sl h o + 1; omega⟩
    | ⟨1, _⟩ => exact ⟨Nat.zero_le _, by show (i 1).val < 0 + 16; omega⟩
    | ⟨2, _⟩ => exact ⟨Nat.zero_le _, by show (i 2).val < 0 + 512; omega⟩

theorem slotM_set (h : Fin 2) (o : Fin 15) (off : Fin 3 → ℕ) (inb : ∀ a, off a + S1x16x512.size a ≤ S30x16x512.size a) (sq : S1x16x512.Squeezes S16x512)
    (ho : off = ![sl h o, 0, 0]) : (slotM off inb sq).view.set = slotSet (sl h o) :=
  (View.set_reshape _ _).trans ((View.set_slice_whole cc0_scratch1 _).trans (rect_slot h o off inb ho))

/-- The entry of the rows of chunk `(h, p)` under row `x 0`, column `x 1`. -/
theorem rowsAt (h : Fin 2) (p : Dev nD) (off : Fin 2 → ℕ) (inb : ∀ a, off a + S16x512.size a ≤ S512x512.size a) (ho : off = ![row h p, 0])
    (x : S16x512.Idx) : (Rect.unit (s := S512x512) off S16x512.size inb).emb x = at2 h p (x 0) (x 1) := by
  subst ho
  refine funext fun a => ?_
  match a with
  | ⟨0, _⟩ => exact Fin.ext (ValueKit.rect_emb_unit_val (s := S512x512) ![row h p, 0] S16x512.size inb x 0)
  | ⟨1, _⟩ => exact Fin.ext ((ValueKit.rect_emb_unit_val (s := S512x512) ![row h p, 0] S16x512.size inb x 1).trans (Nat.zero_add _))

theorem squeeze_at (sq : S1x16x512.Squeezes S16x512) (x : S16x512.Idx) :
    Shape.reshapeEquiv sq.numel_eq x = (ix3 0 (x 0) (x 1) : S1x16x512.Idx) := by
  refine Shape.reshapeEquiv_eq_of_rowMajor _ ?_
  rw [Shape.rowMajor_val_three, Shape.rowMajor_val_two]
  show (0 * 16 + (x 0).val) * 512 + (x 1).val = (x 0).val * 512 + (x 1).val
  omega

/-- The entry of slot `(h, o)` under row `x 0`, column `x 1`. -/
theorem slotAt (h : Fin 2) (o : Fin 15) (off : Fin 3 → ℕ) (inb : ∀ a, off a + S1x16x512.size a ≤ S30x16x512.size a) (sq : S1x16x512.Squeezes S16x512)
    (ho : off = ![sl h o, 0, 0]) (x : S16x512.Idx) :
    (slotM off inb sq).view.emb x = (ix3 ⟨sl h o, sl_lt h o⟩ (x 0) (x 1) : S30x16x512.Idx) := by
  subst ho
  show (Rect.unit (s := S30x16x512) _ S1x16x512.size inb).emb (Shape.reshapeEquiv sq.numel_eq x) = _
  rw [squeeze_at sq x]
  refine funext fun a => ?_
  match a with
  | ⟨0, _⟩ => exact Fin.ext (ValueKit.rect_emb_unit_val (s := S30x16x512) ![sl h o, 0, 0] S1x16x512.size inb _ 0)
  | ⟨1, _⟩ => exact Fin.ext ((ValueKit.rect_emb_unit_val (s := S30x16x512) ![sl h o, 0, 0] S1x16x512.size inb _ 1).trans (Nat.zero_add _))
  | ⟨2, _⟩ => exact Fin.ext ((ValueKit.rect_emb_unit_val (s := S30x16x512) ![sl h o, 0, 0] S1x16x512.size inb _ 2).trans (Nat.zero_add _))

theorem recvVal_at (P : Dev nD → Mat F) (c : Dev nD) (h : Fin 2) (o : Fin 15) (r : Fin 16) (k : Fin 512) :
    recvVal P c (ix3 ⟨sl h o, sl_lt h o⟩ r k : S30x16x512.Idx) = P (pv c o) (at2 h c r k) := by
  have e1 : slotHalf ⟨sl h o, sl_lt h o⟩ = h := by revert h o; decide
  have e2 : slotShift ⟨sl h o, sl_lt h o⟩ = o := by revert h o; decide
  show P (pv c (slotShift ⟨sl h o, sl_lt h o⟩)) (at2 (slotHalf ⟨sl h o, sl_lt h o⟩) c r k) = _
  rw [e1, e2]

/-- A copy of chunk `(h, c + o + 1)` of device `c`'s contribution into slot `(h, o)` leaves there what the slot is to hold. -/
theorem part_lands (P : Dev nD → Mat F) (c : Dev nD) (h : Fin 2) (o : Fin 15) (off : Fin 2 → ℕ) (inb) (ho : off = ![row h (nx c o), 0])
    (off' : Fin 3 → ℕ) (inb') (sq) (ho' : off' = ![sl h o, 0, 0]) (fd : Slots F) (i : S30x16x512.Idx) (hi : i ∈ slotSet (sl h o)) :
    (slotM off' inb' sq).view.write (Elt F) fd ((partM off inb).view.read (Elt F) (P c)) Finset.univ i = recvVal P (nx c o) i := by
  rw [← slotM_set h o off' inb' sq ho'] at hi
  obtain ⟨x, -, rfl⟩ := Finset.mem_map.mp hi
  rw [View.write_emb_of_mem _ _ (Finset.mem_univ x), slotAt h o off' inb' sq ho']
  refine Eq.trans ?_ (recvVal_at P (nx c o) h o (x 0) (x 1)).symm
  rw [pv_nx]
  show P c ((Rect.unit (s := S512x512) off S16x512.size inb).emb x) = _
  rw [rowsAt h (nx c o) off inb ho]

/-- A copy of sixteen rows of `out` onto the same rows leaves there the rows copied. -/
theorem out_lands (O : Mat F) (h : Fin 2) (p : Dev nD) (off : Fin 2 → ℕ) (inb) (ho : off = ![row h p, 0])
    (off' : Fin 2 → ℕ) (inb') (ho' : off' = ![row h p, 0]) (fd : Mat F) (i : S512x512.Idx) (hi : i ∈ rows (row h p)) :
    (outM off' inb').view.write (Elt F) fd ((outM off inb).view.read (Elt F) O) Finset.univ i = O i := by
  rw [← outM_set h p off' inb' ho'] at hi
  obtain ⟨x, -, rfl⟩ := Finset.mem_map.mp hi
  rw [View.write_emb_of_mem _ _ (Finset.mem_univ x)]
  show O ((Rect.unit (s := S512x512) off S16x512.size inb).emb x) = O ((Rect.unit (s := S512x512) off' S16x512.size inb').emb x)
  rw [rowsAt h p off inb ho, rowsAt h p off' inb' ho']

/-- A copy of sixteen rows counts `N`, whichever of the arrays it goes to. -/
theorem credit_part (off : Fin 2 → ℕ) (inb) : (partM off inb).view.dmaCredit = N := rfl
theorem credit_out (off : Fin 2 → ℕ) (inb) : (outM off inb).view.dmaCredit = N := rfl
theorem credit_slot (off : Fin 3 → ℕ) (inb) (sq) : (slotM off inb sq).view.dmaCredit = N := rfl

end Cert.KernelIdeal.Talk

end
-- ==== Proof.KI.Steps.lean ====
/-
  One step of the kernel of each kind — a signal, a copy, a wait — with what it uses up and what it leaves.

  The assertions of a stretch of like steps are kept as a `track`: what the steps still to come need, and what those taken have left.
-/
module

public import proofs.«01_k».proof.Proof.KI.Geom

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F] [Named F]

local notation "𝕄" => MT nD τ sig Unit (Elt F) ℕ UU ℕ

abbrev 𝒱₀ : Variants := Variants.none

/-- The program `p` on device `c` runs and ends as `Q` says. -/
abbrev wpc (c : Dev nD) {β : Type} (p : Prog (TpuEff nD τ sig (Elt F) Λ₀ .tc) β) (Q : β → sProp 𝕄) : sProp 𝕄 :=
  wp frame (wpE (defs₀ (F := F)) 𝒱₀ (c : Thread nD τ) none) Set.univ p Q

theorem wpc_seq {c : Dev nD} {β γ : Type} {p : Prog (TpuEff nD τ sig (Elt F) Λ₀ .tc) β} {k : β → Prog (TpuEff nD τ sig (Elt F) Λ₀ .tc) γ}
    {A : sProp 𝕄} {B : β → sProp 𝕄} {Q : γ → sProp 𝕄} (h : A ⊢ wpc c p B) (h' : ∀ r, B r ⊢ wpc c (k r) Q) : A ⊢ wpc c (p >>= k) Q := by
  unfold wpc; rw [wp_bind]; exact h.trans (wp_mono _ _ _ h')

theorem wpc_ret {c : Dev nD} {β : Type} {x : β} {A : sProp 𝕄} {Q : β → sProp 𝕄} (h : A ⊢ Q x) :
    A ⊢ wpc c (.ret x : Prog (TpuEff nD τ sig (Elt F) Λ₀ .tc) β) Q := by
  unfold wpc; rw [wp_ret]; exact h.trans BI.fupd_intro

theorem wpc_frame {c : Dev nD} {β : Type} {p : Prog (TpuEff nD τ sig (Elt F) Λ₀ .tc) β} {A R : sProp 𝕄} {B : β → sProp 𝕄}
    (h : A ⊢ wpc c p B) : iprop(A ∗ R) ⊢ wpc c p (fun r => iprop(B r ∗ R)) :=
  (sep_mono h .rfl).trans (wp_frame_r _ _ _)

theorem wpc_device {c : Dev nD} {A : sProp 𝕄} :
    A ⊢ wpc c (Prog.lift .deviceId : Prog (TpuEff nD τ sig (Elt F) Λ₀ .tc) (Dev nD)) (fun d => iprop(⌜d = c⌝ ∗ A)) := by
  unfold wpc Prog.lift
  rw [wp_deviceId, wp_ret]
  refine Entails.trans ?_ BI.fupd_intro
  iintro H
  isplitr; · ipureintro; rfl
  iexact H

/-! ## Tracks -/

def ge (k : ℕ) : Finset (Fin 15) := Finset.univ.filter fun o => k ≤ o.val
def lt (k : ℕ) : Finset (Fin 15) := Finset.univ.filter fun o => o.val < k

theorem ge_zero : ge 0 = Finset.univ := by decide
theorem lt_zero : lt 0 = ∅ := by decide
theorem ge_last : ge 15 = ∅ := by decide
theorem lt_last : lt 15 = Finset.univ := by decide
theorem ge_step (k : ℕ) (hk : k < 15) : ge k = insert ⟨k, hk⟩ (ge (k + 1)) := by
  ext o; simp only [ge, Finset.mem_filter, Finset.mem_univ, true_and, Finset.mem_insert, Fin.ext_iff]; omega
theorem ge_notMem (k : ℕ) (hk : k < 15) : (⟨k, hk⟩ : Fin 15) ∉ ge (k + 1) := by simp [ge]
theorem lt_step (k : ℕ) (hk : k < 15) : lt (k + 1) = insert ⟨k, hk⟩ (lt k) := by
  ext o; simp only [lt, Finset.mem_filter, Finset.mem_univ, true_and, Finset.mem_insert, Fin.ext_iff]; omega
theorem lt_notMem (k : ℕ) (hk : k < 15) : (⟨k, hk⟩ : Fin 15) ∉ lt k := by simp [lt]

/-- After `k` of fifteen steps: `A` of those to come, `B` of those taken. -/
def Trk (A B : Fin 15 → sProp 𝕄) (k : ℕ) : sProp 𝕄 := iprop(bigSep (ge k) A ∗ bigSep (lt k) B)

theorem trk_zero (A B : Fin 15 → sProp 𝕄) : bigSep Finset.univ A ⊢ Trk A B 0 := by
  unfold Trk; rw [ge_zero, lt_zero, bigSep_empty]; exact (sep_emp (PROP := sProp 𝕄)).2
theorem trk_last (A B : Fin 15 → sProp 𝕄) : Trk A B 15 ⊢ bigSep Finset.univ B := by
  unfold Trk; rw [ge_last, lt_last, bigSep_empty]; exact (emp_sep (PROP := sProp 𝕄)).1

theorem ge_peel (A : Fin 15 → sProp 𝕄) (k : ℕ) (hk : k < 15) : bigSep (ge k) A = iprop(A ⟨k, hk⟩ ∗ bigSep (ge (k + 1)) A) := by
  rw [ge_step k hk, bigSep_insert (ge_notMem k hk)]; rfl
theorem lt_peel (A : Fin 15 → sProp 𝕄) (k : ℕ) (hk : k < 15) : bigSep (lt (k + 1)) A = iprop(A ⟨k, hk⟩ ∗ bigSep (lt k) A) := by
  rw [lt_step k hk, bigSep_insert (lt_notMem k hk)]; rfl

/-- A step of a track, from what the step does on its own. -/
theorem trk_step {c : Dev nD} {β : Type} {p : Prog (TpuEff nD τ sig (Elt F) Λ₀ .tc) β} {A B : Fin 15 → sProp 𝕄} (k : ℕ) (hk : k < 15)
    {R R' : sProp 𝕄} (h : iprop(R ∗ A ⟨k, hk⟩) ⊢ wpc c p (fun _ => iprop(R' ∗ B ⟨k, hk⟩))) (G : sProp 𝕄) :
    iprop(R ∗ Trk A B k ∗ G) ⊢ wpc c p (fun _ => iprop(R' ∗ Trk A B (k + 1) ∗ G)) := by
  unfold Trk
  rw [ge_peel A k hk, lt_peel B k hk]
  have e1 : iprop(R ∗ ((A ⟨k, hk⟩ ∗ bigSep (ge (k + 1)) A) ∗ bigSep (lt k) B) ∗ G)
      ⊢ iprop((R ∗ A ⟨k, hk⟩) ∗ (bigSep (ge (k + 1)) A ∗ bigSep (lt k) B ∗ G)) := by
    iintro ⟨HR, ⟨⟨HA, HA'⟩, HB⟩, HG⟩
    isplitl [HR HA]
    · isplitl [HR]; · iexact HR
      iexact HA
    isplitl [HA']; · iexact HA'
    isplitl [HB]; · iexact HB
    iexact HG
  refine e1.trans ((wpc_frame h).trans (wp_mono _ _ _ fun _ => ?_))
  iintro ⟨⟨HR, HB⟩, HA', HB', HG⟩
  isplitl [HR]; · iexact HR
  isplitr [HG]
  · isplitl [HA']; · iexact HA'
    isplitl [HB]; · iexact HB
    iexact HB'
  iexact HG

/-! ## What a device owes -/

/-- Still owed after `k` of fifteen steps that pay `n` each to the semaphores `g`. -/
def oS (g : Fin 15 → GSem nD τ sig) (n k : ℕ) : CellTallies nD τ sig Unit := ∑ o ∈ ge k, tallyAt (g o) () n

theorem oS_last (g : Fin 15 → GSem nD τ sig) (n : ℕ) : oS g n 15 = 0 := by unfold oS; rw [ge_last]; rfl
theorem oS_step (g : Fin 15 → GSem nD τ sig) (n k : ℕ) (hk : k < 15) : oS g n k = oS g n (k + 1) + tallyAt (g ⟨k, hk⟩) () n := by
  unfold oS; rw [ge_step k hk, Finset.sum_insert (ge_notMem k hk), add_comm]

/-- Something owed in such a sum is owed to one of its semaphores. -/
theorem oS_pos (g : Fin 15 → GSem nD τ sig) (n k : ℕ) (s : GSem nD τ sig) (u : Unit) (h : 0 < oS g n k s u) : ∃ o, s = g o := by
  by_contra hne
  have : oS g n k s u = 0 := by
    unfold oS
    rw [Finset.sum_apply, Finsupp.finsetSum_apply]
    refine Finset.sum_eq_zero fun o _ => ?_
    rw [tallyAt_apply]
    exact if_neg fun e => hne ⟨o, e.1⟩
  omega

/-- The barriers of the other devices; the semaphore `(q, h, ·)` of each. -/
abbrev gBar (c : Dev nD) (o : Fin 15) : GSem nD τ sig := cell (nx c o) none
abbrev gDma (c : Dev nD) (q : Fin 4) (h : Fin 2) (o : Fin 15) : GSem nD τ sig := cell (nx c o) (some (q, h, o))

/-- The levels: a barrier below the arrivals of contributions, those below the arrivals of results; nothing is waited for that is
    above anything still owed. -/
def L (g : GSem nD τ sig) : Finset Unit := if g.1.2 = .tc then {()} else ∅
def lvOf (x : Option Cell) : ℕ := x.elim 0 fun y => y.elim 1 fun z => if z.1 = 1 then 2 else if z.1 = 3 then 3 else 0
def lv (g : GSem nD τ sig) (_ : Unit) : ℕ := lvOf (cellOfSem g.2)

theorem lv_cell (c : Dev nD) (x : Cell) (u : Unit) : lv (cell c x) u = lvOf (some x) := by
  show lvOf (cellOfSem (semOf x)) = _; rw [cellOfSem_semOf]
theorem L_cell (c : Dev nD) (x : Cell) : L (cell c x) = {()} := if_pos rfl

/-- A device may wait on its semaphore `x` while all it owes is at semaphores above. -/
theorem may_wait (c : Dev nD) (x : Cell) (O : CellTallies nD τ sig Unit)
    (hO : ∀ g u, 0 < O g u → ∃ p y, g = cell p y ∧ lvOf (some x) < lvOf (some y)) :
    (levAts L lv : sProp 𝕄) ⊢ MayWait (c : Thread nD τ) (semOf x) () O :=
  MayOwe.of_cut (L := L) (lev := lv) (lvOf (some x))
    (fun p hp => by rw [Finset.mem_singleton.mp hp]; exact (L_cell c x) ▸ Finset.mem_singleton_self _)
    (fun g u hg => by obtain ⟨p, y, rfl, -⟩ := hO g u hg; rw [L_cell]; exact Finset.mem_singleton_self _)
    (fun p hp => by rw [Finset.mem_singleton.mp hp]; exact (lv_cell c x ()).le)
    (fun g u hg => by obtain ⟨p, y, rfl, hl⟩ := hO g u hg; rw [lv_cell]; exact hl)

theorem may_wait_zero (c : Dev nD) (x : Cell) : (levAts L lv : sProp 𝕄) ⊢ MayWait (c : Thread nD τ) (semOf x) () 0 :=
  may_wait c x 0 fun g u h => absurd h (Nat.lt_irrefl 0)

/-- The levels, as one assertion. -/
def Lev : sProp 𝕄 := levAts L lv
instance Lev_persistent : BI.Persistent (Lev (F := F)) := by unfold Lev; infer_instance

theorem lev_may (c : Dev nD) (x : Cell) (o : CellTallies nD τ sig Unit)
    (ho : ∀ g u, 0 < o g u → ∃ p y, g = cell p y ∧ lvOf (some x) < lvOf (some y)) :
    Lev (F := F) ⊢ MayWait (c : Thread nD τ) (semOf x) () o := by
  unfold Lev; exact may_wait c x o ho

/-! ## What is known throughout -/

variable (P : Dev nD → Mat F) (O : Mat F) (K : GSem nD τ sig → ℕ)

/-- The rules of every semaphore, the levels, and that each of the device's own semaphores and every barrier is in use. -/
def Rec (c : Dev nD) : sProp 𝕄 :=
  iprop((bigSep Finset.univ fun x : Dev nD × Cell => cellInv ER (sched P O) (K (cell x.1 x.2)) (cell x.1 x.2)) ∗ Lev (F := F)
    ∗ (bigSep Finset.univ fun x : Cell => reached ER (cell c x) 0) ∗ (bigSep Finset.univ fun p : Dev nD => reached ER (cell p none) 0))

instance Rec_persistent (c : Dev nD) : BI.Persistent (Rec P O K c) := by unfold Rec; infer_instance

theorem rec_inv (c p : Dev nD) (x : Cell) : Rec P O K c ⊢ cellInv ER (sched P O) (K (cell p x)) (cell p x) := by
  unfold Rec
  have e : iprop(bigSep Finset.univ fun x : Dev nD × Cell => cellInv ER (sched P O) (K (cell x.1 x.2)) (cell x.1 x.2))
      ⊢ (cellInv ER (sched P O) (K (cell p x)) (cell p x) : sProp 𝕄) :=
    bigSep_elim (i := (p, x)) (Finset.mem_univ _) (Φ := fun x : Dev nD × Cell => (cellInv ER (sched P O) (K (cell x.1 x.2)) (cell x.1 x.2) : sProp 𝕄))
  iintro ⟨H, -⟩
  iapply e; iexact H
theorem rec_lev (c : Dev nD) : Rec P O K c ⊢ Lev (F := F) := by unfold Rec; iintro ⟨-, H, -⟩; iexact H
theorem rec_own (c : Dev nD) (x : Cell) : Rec P O K c ⊢ reached ER (cell c x) 0 := by
  unfold Rec
  have e : iprop(bigSep Finset.univ fun x : Cell => reached ER (cell c x) 0) ⊢ (reached ER (cell c x) 0 : sProp 𝕄) :=
    bigSep_elim (i := x) (Finset.mem_univ _) (Φ := fun x : Cell => (reached ER (cell c x) 0 : sProp 𝕄))
  iintro ⟨-, -, H, -⟩
  iapply e; iexact H
theorem rec_bar (c p : Dev nD) : Rec P O K c ⊢ reached ER (cell p none) 0 := by
  unfold Rec
  have e : iprop(bigSep Finset.univ fun p : Dev nD => reached ER (cell p none) 0) ⊢ (reached ER (cell p none) 0 : sProp 𝕄) :=
    bigSep_elim (i := p) (Finset.mem_univ _) (Φ := fun p : Dev nD => (reached ER (cell p none) 0 : sProp 𝕄))
  iintro ⟨-, -, -, H⟩
  iapply e; iexact H

set_option maxRecDepth 8000 in
theorem rec_may (c : Dev nD) (x : Cell) (o : CellTallies nD τ sig Unit)
    (ho : ∀ g u, 0 < o g u → ∃ p y, g = cell p y ∧ lvOf (some x) < lvOf (some y)) :
    Rec P O K c ⊢ MayWait (c : Thread nD τ) (semOf x) () o := by
  exact BIBase.Entails.trans (rec_lev P O K c) (lev_may c x o ho)

/-- The device's standing knowledge and what it owes. -/
def base (c : Dev nD) (o : CellTallies nD τ sig Unit) : sProp 𝕄 := iprop(Rec P O K c ∗ ∃ W, owes (c : Thread nD τ) o W)

/-! ## The steps -/

theorem payload_bar (c : Dev nD) (d : Fin 15) : (sched P O).payload ((c : Thread nD τ), semOf none) 0 d = barPay c d := payload_cell P O c none d

/-- Signals: each hands the other device the slots and the chunks it is to write. -/
def sigA (c : Dev nD) (o : Fin 15) : sProp 𝕄 := iprop(dutyTok ER (gBar c o) 0 (rv o)
  ∗ bigSep Finset.univ fun h : Fin 2 => iprop((∃ f, slotPt c h (rv o) f) ∗ ∃ f, outPt c h (nx c o) fullShare f))
def sigB (_ : Fin 15) : sProp 𝕄 := iprop(emp)

theorem step_signal (c : Dev nD) (k : ℕ) (hk : k < 15) (dv : Dev nD) (hdv : dv = nx c ⟨k, hk⟩) (sem : Sem sig) (hs : SemLoc.reg sem = semOf none)
    (o : CellTallies nD τ sig Unit) (G : sProp 𝕄) :
    iprop(base P O K c (oS (gBar c) 1 k + o) ∗ Trk (sigA c) sigB k ∗ G)
      ⊢ wpc c (semSignalWord dv sem 1#32) (fun _ => iprop(base P O K c (oS (gBar c) 1 (k + 1) + o) ∗ Trk (sigA c) sigB (k + 1) ∗ G)) := by
  subst hdv
  refine trk_step k hk ?_ G
  unfold base sigA sigB wpc semSignalWord
  iintro ⟨⟨#HR, ⟨%W, HO⟩⟩, Htok, Hp⟩
  iapply (Rounds.wp_signal 𝒱₀ ER (sched P O) (c : Thread nD τ) none (dst := (nx c ⟨k, hk⟩ : Thread nD τ)) (sem := sem) (r := 0)
      (d := rv ⟨k, hk⟩) (κ := K (gBar c ⟨k, hk⟩)) (k' := 1)
      (by rw [hs]; exact (duties_bar P O (nx c ⟨k, hk⟩)) ▸ Finset.mem_univ _)
      (by rw [hs]; exact amount_bar P O (nx c ⟨k, hk⟩) _) () (oS (gBar c) 1 (k + 1) + o) (O₀ := oS (gBar c) 1 k + o)
      (by rw [hs, oS_step _ _ k hk]; exact add_right_comm _ _ _)) $$ [HO Htok Hp]
  · rw [hs]
    isplitr; · iapply (rec_inv P O K c (nx c ⟨k, hk⟩) none); iexact HR
    isplitl [HO]; · iexact HO
    isplitl [Htok]; · iexact Htok
    isplitl [Hp]
    · rw [payload_bar]
      unfold barPay
      rw [nx_rv]
      iapply (bigSep_with_persistent (R := Rec P O K c)
        (Φ := fun h : Fin 2 => iprop((∃ f, slotPt c h (rv ⟨k, hk⟩) f) ∗ ∃ f, outPt c h (nx c ⟨k, hk⟩) fullShare f)) (fun h _ => by
          iintro ⟨#HR, Hs, Ho⟩
          isplitl [Hs]; · iexact Hs
          isplitl [Ho]; · iexact Ho
          isplitr; · iapply (rec_own P O K c (some (1, h, rv ⟨k, hk⟩))); iexact HR
          iapply (rec_own P O K c (some (3, h, rv ⟨k, hk⟩))); iexact HR))
      isplitr; · iexact HR
      iexact Hp
    · iapply (rec_bar P O K c (nx c ⟨k, hk⟩)); iexact HR
  iintro HO
  rw [wp_ret]
  imodintro
  isplitl [HO]
  · isplitr; · iexact HR
    iexists W; iexact HO
  iempintro

/-- The wait at the barrier: the slots and the chunks of the fifteen others come with it. -/
theorem step_barrier (c : Dev nD) (sem : Sem sig) (hs : SemLoc.reg sem = semOf none) (o : CellTallies nD τ sig Unit)
    (hO : ∀ g u, 0 < o g u → ∃ p y, g = cell p y ∧ 1 < lvOf (some y)) (G : sProp 𝕄) :
    iprop(base P O K c o ∗ (cred (tallyAt (cell c none) () 15) ∗ atPos ER (cell c none) 0 ∅ 0) ∗ G)
      ⊢ wpc c (semWaitWord sem 15#32) (fun _ => iprop(base P O K c o ∗ (atPos ER (cell c none) 1 ∅ 0 ∗ bigSep Finset.univ (barPay c)) ∗ G)) := by
  unfold base wpc semWaitWord
  iintro ⟨⟨#HR, ⟨%W, HO⟩⟩, ⟨Hc, Hat⟩, HG⟩
  iapply (Rounds.wp_wait_rest_token 𝒱₀ ER (sched P O) (c : Thread nD τ) none (κ := K (cell c none)) (sm := semOf none) (k' := 15)
      (fun Kt => (wpE_semWait_eq 𝒱₀ (c : Thread nD τ) none Set.univ Kt).trans (by rw [hs]; rfl)) (Set.mem_univ _) () (O := o) (W := W) (R := 0) (m := 0) (T := ∅)
      ((Nat.zero_add 15).trans (expect_bar P O c).symm)) $$ [Hc HO Hat]
  · isplitr; · iapply (rec_inv P O K c c none); iexact HR
    isplitl [Hc]; · iexact Hc
    isplitl [HO]; · iexact HO
    isplitr; · iapply (rec_may P O K c none o hO); iexact HR
    iexact Hat
  iintro ⟨HO, Hat, -, Hp⟩
  rw [wp_ret]
  imodintro
  isplitl [HO]
  · isplitr; · iexact HR
    iexists _; iexact HO
  isplitr [HG]
  · isplitl [Hat]; · iexact Hat
    iapply (Entails.of_eq (show bigSep ((sched P O).duties (cell c none) 0 \ ∅) (fun d => (sched P O).payload (cell c none) 0 d)
        = bigSep Finset.univ (barPay c) from by
      rw [Finset.sdiff_empty, duties_bar]
      exact bigSep_congr fun d _ => payload_cell P O c none d)); iexact Hp
  iexact HG

/-- The wait on one of the device's own copy semaphores: what the arrival hands over comes with it. -/
def waitA (c : Dev nD) (q : Fin 4) (h : Fin 2) (o : Fin 15) : sProp 𝕄 :=
  iprop(cred (tallyAt (cell c (some (q, h, o))) () N) ∗ atPos ER (cell c (some (q, h, o))) 0 ∅ 0)
def waitB (c : Dev nD) (q : Fin 4) (h : Fin 2) (o : Fin 15) : sProp 𝕄 :=
  iprop(atPos ER (cell c (some (q, h, o))) 1 ∅ 0 ∗ pay P O c (some (q, h, o)) 0)

theorem step_wait (c : Dev nD) (q : Fin 4) (h : Fin 2) (k : ℕ) (hk : k < 15) {sp sp' : Space} {s s' : Shape} {e e' : EltTy} (sem : DmaSem sig)
    (hs : SemLoc.dma sem = semOf (some (q, h, ⟨k, hk⟩))) {src : Memref sig .tc sp' s' e'} {dst : Memref sig .tc sp s e}
    {h1 : src.view.WordExact} {h2 : dst.view.WordExact} (hN : dst.view.dmaCredit = N) (o : CellTallies nD τ sig Unit)
    (hO : ∀ g u, 0 < o g u → ∃ p y, g = cell p y ∧ lvOf (some (some (q, h, ⟨k, hk⟩))) < lvOf (some y)) (G : sProp 𝕄) :
    iprop(base P O K c o ∗ Trk (waitA c q h) (waitB P O c q h) k ∗ G)
      ⊢ wpc c (Prog.lift (.waitDma2 sem src dst h1 h2)) (fun _ => iprop(base P O K c o ∗ Trk (waitA c q h) (waitB P O c q h) (k + 1) ∗ G)) := by
  refine trk_step k hk ?_ G
  unfold base waitA waitB wpc Prog.lift
  iintro ⟨⟨#HR, ⟨%W, HO⟩⟩, Hc, Hat⟩
  iapply (Rounds.wp_wait_rest_token 𝒱₀ ER (sched P O) (c : Thread nD τ) none (κ := K (cell c (some (q, h, ⟨k, hk⟩))))
      (sm := semOf (some (q, h, ⟨k, hk⟩))) (k' := N)
      (fun Kt => (wpE_waitDma2_eq 𝒱₀ (c : Thread nD τ) none Set.univ Kt).trans (by rw [hs, hN])) (Set.mem_univ _) () (O := o) (W := W) (R := 0) (m := 0) (T := ∅)
      ((Nat.zero_add N).trans (expect_dma P O c _).symm)) $$ [Hc HO Hat]
  · isplitr; · iapply (rec_inv P O K c c (some (q, h, ⟨k, hk⟩))); iexact HR
    isplitl [Hc]; · iexact Hc
    isplitl [HO]; · iexact HO
    isplitr; · iapply (rec_may P O K c (some (q, h, ⟨k, hk⟩)) o hO); iexact HR
    iexact Hat
  iintro ⟨HO, Hat, -, Hp⟩
  rw [wp_ret]
  imodintro
  isplitl [HO]
  · isplitr; · iexact HR
    iexists _; iexact HO
  isplitl [Hat]; · iexact Hat
  iapply (Entails.of_eq (show bigSep ((sched P O).duties (cell c (some (q, h, ⟨k, hk⟩))) 0 \ ∅) (fun d => (sched P O).payload (cell c (some (q, h, ⟨k, hk⟩))) 0 d)
      = pay P O c (some (q, h, ⟨k, hk⟩)) 0 from by
    rw [Finset.sdiff_empty, duties_dma, bigSep_singleton]
    exact payload_cell P O c _ 0)); iexact Hp

/-- The copy of a chunk of `part` into another device's slot. -/
def sendA (c : Dev nD) (h : Fin 2) (o : Fin 15) : sProp 𝕄 :=
  iprop(partPt c h (nx c o) (P c) ∗ dutyTok ER (cell c (some (0, h, o))) 0 0 ∗ dutyTok ER (gDma c 1 h o) 0 0
    ∗ (∃ f, slotPt (nx c o) h o f) ∗ reached ER (gDma c 1 h o) 0)
/-- The copy of the device's own chunk of `out` onto another device's `out`. -/
def sendA' (c : Dev nD) (h : Fin 2) (o : Fin 15) : sProp 𝕄 :=
  iprop(outPt c h c (leafOf o.castSucc) O ∗ dutyTok ER (cell c (some (2, h, o))) 0 0 ∗ dutyTok ER (gDma c 3 h o) 0 0
    ∗ (∃ f, outPt (nx c o) h c fullShare f) ∗ reached ER (gDma c 3 h o) 0)
/-- Either leaves the right to wait for its own end. -/
def sendB (c : Dev nD) (q : Fin 4) (h : Fin 2) (o : Fin 15) : sProp 𝕄 := cred (tallyAt (cell c (some (q, h, o))) () N)

theorem step_send (c : Dev nD) (h : Fin 2) (k : ℕ) (hk : k < 15) (dv : Dev nD) (hdv : dv = nx c ⟨k, hk⟩) (sS sR : DmaSem sig)
    (hS : SemLoc.dma sS = semOf (some (0, h, ⟨k, hk⟩))) (hR : SemLoc.dma sR = semOf (some (1, h, ⟨k, hk⟩)))
    (off : Fin 2 → ℕ) (inb) (ho : off = ![row h (nx c ⟨k, hk⟩), 0]) (off' : Fin 3 → ℕ) (inb') (sq) (ho' : off' = ![sl h ⟨k, hk⟩, 0, 0])
    {h1 : (partM off inb).view.WordExact} {h2 : (slotM off' inb' sq).view.WordExact} {h4 : (slotM off' inb' sq).view.ref.isScScratch = false}
    {h3 : DmaTarget.Typed .vmem (.dma sR) (.remote (Dev.tc dv) (slotM off' inb' sq) (.dma sS) h4)}
    (o : CellTallies nD τ sig Unit) (G : sProp 𝕄) :
    iprop(base P O K c (oS (gDma c 1 h) N k + o) ∗ Trk (sendA P c h) (sendB c 0 h) k ∗ G)
      ⊢ wpc c (Prog.lift (.enqueueDma (partM off inb) (.remote (Dev.tc dv) (slotM off' inb' sq) (.dma sS) h4) (.dma sR) h1 h2 h3))
        (fun _ => iprop(base P O K c (oS (gDma c 1 h) N (k + 1) + o) ∗ Trk (sendA P c h) (sendB c 0 h) (k + 1) ∗ G)) := by
  subst hdv
  refine trk_step k hk ?_ G
  unfold base sendA sendB wpc Prog.lift
  iintro ⟨⟨#HR, ⟨%W, HO⟩⟩, Hsrc, Ht1, Ht2, ⟨%fd, Hdst⟩, #Hr⟩
  iapply (Rounds.wp_send_pointsTo 𝒱₀ ER (sched P O) (c : Thread nD τ) none (c' := (nx c ⟨k, hk⟩ : Thread nD τ)) (src := partM off inb)
      (dst := slotM off' inb' sq) (sS := .dma sS) (sem := .dma sR) (q := fullShare) (fs := P c) (fd := fd)
      (κ₁ := K (cell c (some (0, h, ⟨k, hk⟩)))) (κ₂ := K (gDma c 1 h ⟨k, hk⟩)) (r₁ := 0) (r₂ := 0) (d₁ := 0) (d₂ := 0)
      (by rw [hS]; exact (duties_dma P O c _) ▸ Finset.mem_singleton_self _)
      (by rw [hR]; exact (duties_dma P O (nx c ⟨k, hk⟩) _) ▸ Finset.mem_singleton_self _)
      () () N (credit_slot off' inb' sq) (by rw [hS]; exact amount_dma P O c _ 0) (by rw [hR]; exact amount_dma P O (nx c ⟨k, hk⟩) _ 0)
      (oS (gDma c 1 h) N (k + 1) + o) (O₀ := oS (gDma c 1 h) N k + o) (by rw [oS_step _ _ k hk, hR]; exact add_right_comm _ _ _) (W := W)
      (by rw [hS]; refine BIBase.Entails.trans ?_ (Entails.of_eq (payload_cell P O c (some (0, h, ⟨k, hk⟩)) 0).symm)
          rw [partM_set h (nx c ⟨k, hk⟩) off inb ho]; exact .rfl)
      (by rw [hR]; refine BIBase.Entails.trans ?_ (Entails.of_eq (payload_cell P O (nx c ⟨k, hk⟩) (some (1, h, ⟨k, hk⟩)) 0).symm)
          rw [slotM_set h ⟨k, hk⟩ off' inb' sq ho']
          exact Entails.of_eq (pointsTo_congr fun i hi => part_lands P c h ⟨k, hk⟩ off inb ho off' inb' sq ho' fd i hi)))
    $$ [HO Hsrc Ht1 Ht2 Hdst]
  · rw [hS, hR]
    isplitr; · iapply (rec_inv P O K c c (some (0, h, ⟨k, hk⟩))); iexact HR
    isplitr; · iapply (rec_inv P O K c (nx c ⟨k, hk⟩) (some (1, h, ⟨k, hk⟩))); iexact HR
    isplitl [Hsrc]; · rw [partM_set h (nx c ⟨k, hk⟩) off inb ho]; iexact Hsrc
    isplitl [Hdst]; · rw [slotM_set h ⟨k, hk⟩ off' inb' sq ho']; iexact Hdst
    isplitl [HO]; · iexact HO
    isplitl [Ht1]; · iexact Ht1
    isplitr; · iapply (rec_own P O K c (some (0, h, ⟨k, hk⟩))); iexact HR
    isplitl [Ht2]; · iexact Ht2
    iexact Hr
  rw [hS]
  iintro ⟨Hc, HO⟩
  rw [wp_ret]
  imodintro
  isplitl [HO]
  · isplitr; · iexact HR
    iexists W; iexact HO
  iexact Hc

theorem step_send' (c : Dev nD) (h : Fin 2) (k : ℕ) (hk : k < 15) (dv : Dev nD) (hdv : dv = nx c ⟨k, hk⟩) (sS sR : DmaSem sig)
    (hS : SemLoc.dma sS = semOf (some (2, h, ⟨k, hk⟩))) (hR : SemLoc.dma sR = semOf (some (3, h, ⟨k, hk⟩)))
    (off : Fin 2 → ℕ) (inb) (ho : off = ![row h c, 0])
    {h1 : (outM off inb).view.WordExact} {h2 : (outM off inb).view.WordExact} {h4 : (outM off inb).view.ref.isScScratch = false}
    {h3 : DmaTarget.Typed .vmem (.dma sR) (.remote (Dev.tc dv) (outM off inb) (.dma sS) h4)}
    (o : CellTallies nD τ sig Unit) (G : sProp 𝕄) :
    iprop(base P O K c (oS (gDma c 3 h) N k + o) ∗ Trk (sendA' O c h) (sendB c 2 h) k ∗ G)
      ⊢ wpc c (Prog.lift (.enqueueDma (outM off inb) (.remote (Dev.tc dv) (outM off inb) (.dma sS) h4) (.dma sR) h1 h2 h3))
        (fun _ => iprop(base P O K c (oS (gDma c 3 h) N (k + 1) + o) ∗ Trk (sendA' O c h) (sendB c 2 h) (k + 1) ∗ G)) := by
  subst hdv
  refine trk_step k hk ?_ G
  unfold base sendA' sendB wpc Prog.lift
  iintro ⟨⟨#HR, ⟨%W, HO⟩⟩, Hsrc, Ht1, Ht2, ⟨%fd, Hdst⟩, #Hr⟩
  iapply (Rounds.wp_send_pointsTo 𝒱₀ ER (sched P O) (c : Thread nD τ) none (c' := (nx c ⟨k, hk⟩ : Thread nD τ)) (src := outM off inb)
      (dst := outM off inb) (sS := .dma sS) (sem := .dma sR) (q := leafOf (Fin.castSucc ⟨k, hk⟩)) (fs := O) (fd := fd)
      (κ₁ := K (cell c (some (2, h, ⟨k, hk⟩)))) (κ₂ := K (gDma c 3 h ⟨k, hk⟩)) (r₁ := 0) (r₂ := 0) (d₁ := 0) (d₂ := 0)
      (by rw [hS]; exact (duties_dma P O c _) ▸ Finset.mem_singleton_self _)
      (by rw [hR]; exact (duties_dma P O (nx c ⟨k, hk⟩) _) ▸ Finset.mem_singleton_self _)
      () () N (credit_out off inb) (by rw [hS]; exact amount_dma P O c _ 0) (by rw [hR]; exact amount_dma P O (nx c ⟨k, hk⟩) _ 0)
      (oS (gDma c 3 h) N (k + 1) + o) (O₀ := oS (gDma c 3 h) N k + o) (by rw [oS_step _ _ k hk, hR]; exact add_right_comm _ _ _) (W := W)
      (by rw [hS]; refine BIBase.Entails.trans ?_ (Entails.of_eq (payload_cell P O c (some (2, h, ⟨k, hk⟩)) 0).symm)
          rw [outM_set h c off inb ho]; exact .rfl)
      (by rw [hR]; refine BIBase.Entails.trans ?_ (Entails.of_eq (payload_cell P O (nx c ⟨k, hk⟩) (some (3, h, ⟨k, hk⟩)) 0).symm)
          rw [outM_set h c off inb ho]
          show _ ⊢ outPt (nx c ⟨k, hk⟩) h (pv (nx c ⟨k, hk⟩) ⟨k, hk⟩) fullShare O
          rw [pv_nx]
          exact Entails.of_eq (pointsTo_congr fun i hi => out_lands O h c off inb ho off inb ho fd i hi)))
    $$ [HO Hsrc Ht1 Ht2 Hdst]
  · rw [hS, hR]
    isplitr; · iapply (rec_inv P O K c c (some (2, h, ⟨k, hk⟩))); iexact HR
    isplitr; · iapply (rec_inv P O K c (nx c ⟨k, hk⟩) (some (3, h, ⟨k, hk⟩))); iexact HR
    isplitl [Hsrc]; · rw [outM_set h c off inb ho]; iexact Hsrc
    isplitl [Hdst]; · rw [outM_set h c off inb ho]; iexact Hdst
    isplitl [HO]; · iexact HO
    isplitl [Ht1]; · iexact Ht1
    isplitr; · iapply (rec_own P O K c (some (2, h, ⟨k, hk⟩))); iexact HR
    isplitl [Ht2]; · iexact Ht2
    iexact Hr
  rw [hS]
  iintro ⟨Hc, HO⟩
  rw [wp_ret]
  imodintro
  isplitl [HO]
  · isplitr; · iexact HR
    iexists W; iexact HO
  iexact Hc

end Cert.KernelIdeal.Talk

end
-- ==== Proof.KI.Dev.lean ====
/-
  The devices the kernel computes and the rows it computes, in closed form.
-/
module

public import proofs.«01_k».proof.Proof.KI.Geom

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

open Cert.KernelIdeal.Gen

theorem dev1 (c : Dev nD) : (⟨k0_dev1 c, k0_dev1_lt c⟩ : Dev nD) = nx c 0 := by revert c; decide
theorem dev2 (c : Dev nD) : (⟨k0_dev2 c, k0_dev2_lt c⟩ : Dev nD) = nx c 1 := by revert c; decide
theorem dev3 (c : Dev nD) : (⟨k0_dev3 c, k0_dev3_lt c⟩ : Dev nD) = nx c 2 := by revert c; decide
theorem dev4 (c : Dev nD) : (⟨k0_dev4 c, k0_dev4_lt c⟩ : Dev nD) = nx c 3 := by revert c; decide
theorem dev5 (c : Dev nD) : (⟨k0_dev5 c, k0_dev5_lt c⟩ : Dev nD) = nx c 4 := by revert c; decide
theorem dev6 (c : Dev nD) : (⟨k0_dev6 c, k0_dev6_lt c⟩ : Dev nD) = nx c 5 := by revert c; decide
theorem dev7 (c : Dev nD) : (⟨k0_dev7 c, k0_dev7_lt c⟩ : Dev nD) = nx c 6 := by revert c; decide
theorem dev8 (c : Dev nD) : (⟨k0_dev8 c, k0_dev8_lt c⟩ : Dev nD) = nx c 7 := by revert c; decide
theorem dev9 (c : Dev nD) : (⟨k0_dev9 c, k0_dev9_lt c⟩ : Dev nD) = nx c 8 := by revert c; decide
theorem dev10 (c : Dev nD) : (⟨k0_dev10 c, k0_dev10_lt c⟩ : Dev nD) = nx c 9 := by revert c; decide
theorem dev11 (c : Dev nD) : (⟨k0_dev11 c, k0_dev11_lt c⟩ : Dev nD) = nx c 10 := by revert c; decide
theorem dev12 (c : Dev nD) : (⟨k0_dev12 c, k0_dev12_lt c⟩ : Dev nD) = nx c 11 := by revert c; decide
theorem dev13 (c : Dev nD) : (⟨k0_dev13 c, k0_dev13_lt c⟩ : Dev nD) = nx c 12 := by revert c; decide
theorem dev14 (c : Dev nD) : (⟨k0_dev14 c, k0_dev14_lt c⟩ : Dev nD) = nx c 13 := by revert c; decide
theorem dev15 (c : Dev nD) : (⟨k0_dev15 c, k0_dev15_lt c⟩ : Dev nD) = nx c 14 := by revert c; decide
theorem dev16 (c : Dev nD) : (⟨k0_dev16 c, k0_dev16_lt c⟩ : Dev nD) = nx c 0 := by revert c; decide
theorem dev17 (c : Dev nD) : (⟨k0_dev17 c, k0_dev17_lt c⟩ : Dev nD) = nx c 1 := by revert c; decide
theorem dev18 (c : Dev nD) : (⟨k0_dev18 c, k0_dev18_lt c⟩ : Dev nD) = nx c 2 := by revert c; decide
theorem dev19 (c : Dev nD) : (⟨k0_dev19 c, k0_dev19_lt c⟩ : Dev nD) = nx c 3 := by revert c; decide
theorem dev20 (c : Dev nD) : (⟨k0_dev20 c, k0_dev20_lt c⟩ : Dev nD) = nx c 4 := by revert c; decide
theorem dev21 (c : Dev nD) : (⟨k0_dev21 c, k0_dev21_lt c⟩ : Dev nD) = nx c 5 := by revert c; decide
theorem dev22 (c : Dev nD) : (⟨k0_dev22 c, k0_dev22_lt c⟩ : Dev nD) = nx c 6 := by revert c; decide
theorem dev23 (c : Dev nD) : (⟨k0_dev23 c, k0_dev23_lt c⟩ : Dev nD) = nx c 7 := by revert c; decide
theorem dev24 (c : Dev nD) : (⟨k0_dev24 c, k0_dev24_lt c⟩ : Dev nD) = nx c 8 := by revert c; decide
theorem dev25 (c : Dev nD) : (⟨k0_dev25 c, k0_dev25_lt c⟩ : Dev nD) = nx c 9 := by revert c; decide
theorem dev26 (c : Dev nD) : (⟨k0_dev26 c, k0_dev26_lt c⟩ : Dev nD) = nx c 10 := by revert c; decide
theorem dev27 (c : Dev nD) : (⟨k0_dev27 c, k0_dev27_lt c⟩ : Dev nD) = nx c 11 := by revert c; decide
theorem dev28 (c : Dev nD) : (⟨k0_dev28 c, k0_dev28_lt c⟩ : Dev nD) = nx c 12 := by revert c; decide
theorem dev29 (c : Dev nD) : (⟨k0_dev29 c, k0_dev29_lt c⟩ : Dev nD) = nx c 13 := by revert c; decide
theorem dev30 (c : Dev nD) : (⟨k0_dev30 c, k0_dev30_lt c⟩ : Dev nD) = nx c 14 := by revert c; decide
theorem dev31 (c : Dev nD) : (⟨k0_dev31 c, k0_dev31_lt c⟩ : Dev nD) = nx c 0 := by revert c; decide
theorem dev32 (c : Dev nD) : (⟨k0_dev32 c, k0_dev32_lt c⟩ : Dev nD) = nx c 1 := by revert c; decide
theorem dev33 (c : Dev nD) : (⟨k0_dev33 c, k0_dev33_lt c⟩ : Dev nD) = nx c 2 := by revert c; decide
theorem dev34 (c : Dev nD) : (⟨k0_dev34 c, k0_dev34_lt c⟩ : Dev nD) = nx c 3 := by revert c; decide
theorem dev35 (c : Dev nD) : (⟨k0_dev35 c, k0_dev35_lt c⟩ : Dev nD) = nx c 4 := by revert c; decide
theorem dev36 (c : Dev nD) : (⟨k0_dev36 c, k0_dev36_lt c⟩ : Dev nD) = nx c 5 := by revert c; decide
theorem dev37 (c : Dev nD) : (⟨k0_dev37 c, k0_dev37_lt c⟩ : Dev nD) = nx c 6 := by revert c; decide
theorem dev38 (c : Dev nD) : (⟨k0_dev38 c, k0_dev38_lt c⟩ : Dev nD) = nx c 7 := by revert c; decide
theorem dev39 (c : Dev nD) : (⟨k0_dev39 c, k0_dev39_lt c⟩ : Dev nD) = nx c 8 := by revert c; decide
theorem dev40 (c : Dev nD) : (⟨k0_dev40 c, k0_dev40_lt c⟩ : Dev nD) = nx c 9 := by revert c; decide
theorem dev41 (c : Dev nD) : (⟨k0_dev41 c, k0_dev41_lt c⟩ : Dev nD) = nx c 10 := by revert c; decide
theorem dev42 (c : Dev nD) : (⟨k0_dev42 c, k0_dev42_lt c⟩ : Dev nD) = nx c 11 := by revert c; decide
theorem dev43 (c : Dev nD) : (⟨k0_dev43 c, k0_dev43_lt c⟩ : Dev nD) = nx c 12 := by revert c; decide
theorem dev44 (c : Dev nD) : (⟨k0_dev44 c, k0_dev44_lt c⟩ : Dev nD) = nx c 13 := by revert c; decide
theorem dev45 (c : Dev nD) : (⟨k0_dev45 c, k0_dev45_lt c⟩ : Dev nD) = nx c 14 := by revert c; decide
theorem dev46 (c : Dev nD) : (⟨k0_dev46 c, k0_dev46_lt c⟩ : Dev nD) = nx c 0 := by revert c; decide
theorem dev47 (c : Dev nD) : (⟨k0_dev47 c, k0_dev47_lt c⟩ : Dev nD) = nx c 1 := by revert c; decide
theorem dev48 (c : Dev nD) : (⟨k0_dev48 c, k0_dev48_lt c⟩ : Dev nD) = nx c 2 := by revert c; decide
theorem dev49 (c : Dev nD) : (⟨k0_dev49 c, k0_dev49_lt c⟩ : Dev nD) = nx c 3 := by revert c; decide
theorem dev50 (c : Dev nD) : (⟨k0_dev50 c, k0_dev50_lt c⟩ : Dev nD) = nx c 4 := by revert c; decide
theorem dev51 (c : Dev nD) : (⟨k0_dev51 c, k0_dev51_lt c⟩ : Dev nD) = nx c 5 := by revert c; decide
theorem dev52 (c : Dev nD) : (⟨k0_dev52 c, k0_dev52_lt c⟩ : Dev nD) = nx c 6 := by revert c; decide
theorem dev53 (c : Dev nD) : (⟨k0_dev53 c, k0_dev53_lt c⟩ : Dev nD) = nx c 7 := by revert c; decide
theorem dev54 (c : Dev nD) : (⟨k0_dev54 c, k0_dev54_lt c⟩ : Dev nD) = nx c 8 := by revert c; decide
theorem dev55 (c : Dev nD) : (⟨k0_dev55 c, k0_dev55_lt c⟩ : Dev nD) = nx c 9 := by revert c; decide
theorem dev56 (c : Dev nD) : (⟨k0_dev56 c, k0_dev56_lt c⟩ : Dev nD) = nx c 10 := by revert c; decide
theorem dev57 (c : Dev nD) : (⟨k0_dev57 c, k0_dev57_lt c⟩ : Dev nD) = nx c 11 := by revert c; decide
theorem dev58 (c : Dev nD) : (⟨k0_dev58 c, k0_dev58_lt c⟩ : Dev nD) = nx c 12 := by revert c; decide
theorem dev59 (c : Dev nD) : (⟨k0_dev59 c, k0_dev59_lt c⟩ : Dev nD) = nx c 13 := by revert c; decide
theorem dev60 (c : Dev nD) : (⟨k0_dev60 c, k0_dev60_lt c⟩ : Dev nD) = nx c 14 := by revert c; decide
theorem dev61 (c : Dev nD) : (⟨k0_dev61 c, k0_dev61_lt c⟩ : Dev nD) = nx c 0 := by revert c; decide
theorem dev62 (c : Dev nD) : (⟨k0_dev62 c, k0_dev62_lt c⟩ : Dev nD) = nx c 1 := by revert c; decide
theorem dev63 (c : Dev nD) : (⟨k0_dev63 c, k0_dev63_lt c⟩ : Dev nD) = nx c 2 := by revert c; decide
theorem dev64 (c : Dev nD) : (⟨k0_dev64 c, k0_dev64_lt c⟩ : Dev nD) = nx c 3 := by revert c; decide
theorem dev65 (c : Dev nD) : (⟨k0_dev65 c, k0_dev65_lt c⟩ : Dev nD) = nx c 4 := by revert c; decide
theorem dev66 (c : Dev nD) : (⟨k0_dev66 c, k0_dev66_lt c⟩ : Dev nD) = nx c 5 := by revert c; decide
theorem dev67 (c : Dev nD) : (⟨k0_dev67 c, k0_dev67_lt c⟩ : Dev nD) = nx c 6 := by revert c; decide
theorem dev68 (c : Dev nD) : (⟨k0_dev68 c, k0_dev68_lt c⟩ : Dev nD) = nx c 7 := by revert c; decide
theorem dev69 (c : Dev nD) : (⟨k0_dev69 c, k0_dev69_lt c⟩ : Dev nD) = nx c 8 := by revert c; decide
theorem dev70 (c : Dev nD) : (⟨k0_dev70 c, k0_dev70_lt c⟩ : Dev nD) = nx c 9 := by revert c; decide
theorem dev71 (c : Dev nD) : (⟨k0_dev71 c, k0_dev71_lt c⟩ : Dev nD) = nx c 10 := by revert c; decide
theorem dev72 (c : Dev nD) : (⟨k0_dev72 c, k0_dev72_lt c⟩ : Dev nD) = nx c 11 := by revert c; decide
theorem dev73 (c : Dev nD) : (⟨k0_dev73 c, k0_dev73_lt c⟩ : Dev nD) = nx c 12 := by revert c; decide
theorem dev74 (c : Dev nD) : (⟨k0_dev74 c, k0_dev74_lt c⟩ : Dev nD) = nx c 13 := by revert c; decide
theorem dev75 (c : Dev nD) : (⟨k0_dev75 c, k0_dev75_lt c⟩ : Dev nD) = nx c 14 := by revert c; decide

theorem off1_0_0 (c : Dev nD) : k0_off1 c 0#32 1#32 = ![row 0 (nx c 0), 0] := by revert c; decide
theorem off1_0_1 (c : Dev nD) : k0_off1 c 0#32 2#32 = ![row 0 (nx c 1), 0] := by revert c; decide
theorem off1_0_2 (c : Dev nD) : k0_off1 c 0#32 3#32 = ![row 0 (nx c 2), 0] := by revert c; decide
theorem off1_0_3 (c : Dev nD) : k0_off1 c 0#32 4#32 = ![row 0 (nx c 3), 0] := by revert c; decide
theorem off1_0_4 (c : Dev nD) : k0_off1 c 0#32 5#32 = ![row 0 (nx c 4), 0] := by revert c; decide
theorem off1_0_5 (c : Dev nD) : k0_off1 c 0#32 6#32 = ![row 0 (nx c 5), 0] := by revert c; decide
theorem off1_0_6 (c : Dev nD) : k0_off1 c 0#32 7#32 = ![row 0 (nx c 6), 0] := by revert c; decide
theorem off1_0_7 (c : Dev nD) : k0_off1 c 0#32 8#32 = ![row 0 (nx c 7), 0] := by revert c; decide
theorem off1_0_8 (c : Dev nD) : k0_off1 c 0#32 9#32 = ![row 0 (nx c 8), 0] := by revert c; decide
theorem off1_0_9 (c : Dev nD) : k0_off1 c 0#32 10#32 = ![row 0 (nx c 9), 0] := by revert c; decide
theorem off1_0_10 (c : Dev nD) : k0_off1 c 0#32 11#32 = ![row 0 (nx c 10), 0] := by revert c; decide
theorem off1_0_11 (c : Dev nD) : k0_off1 c 0#32 12#32 = ![row 0 (nx c 11), 0] := by revert c; decide
theorem off1_0_12 (c : Dev nD) : k0_off1 c 0#32 13#32 = ![row 0 (nx c 12), 0] := by revert c; decide
theorem off1_0_13 (c : Dev nD) : k0_off1 c 0#32 14#32 = ![row 0 (nx c 13), 0] := by revert c; decide
theorem off1_0_14 (c : Dev nD) : k0_off1 c 0#32 15#32 = ![row 0 (nx c 14), 0] := by revert c; decide
theorem off2_0 (c : Dev nD) : k0_off2 c 0#32 = ![row 0 c, 0] := by revert c; decide
theorem off3_0 (c : Dev nD) : k0_off3 c 0#32 = ![row 0 c, 0] := by revert c; decide
theorem off1_1_0 (c : Dev nD) : k0_off1 c 256#32 1#32 = ![row 1 (nx c 0), 0] := by revert c; decide
theorem off1_1_1 (c : Dev nD) : k0_off1 c 256#32 2#32 = ![row 1 (nx c 1), 0] := by revert c; decide
theorem off1_1_2 (c : Dev nD) : k0_off1 c 256#32 3#32 = ![row 1 (nx c 2), 0] := by revert c; decide
theorem off1_1_3 (c : Dev nD) : k0_off1 c 256#32 4#32 = ![row 1 (nx c 3), 0] := by revert c; decide
theorem off1_1_4 (c : Dev nD) : k0_off1 c 256#32 5#32 = ![row 1 (nx c 4), 0] := by revert c; decide
theorem off1_1_5 (c : Dev nD) : k0_off1 c 256#32 6#32 = ![row 1 (nx c 5), 0] := by revert c; decide
theorem off1_1_6 (c : Dev nD) : k0_off1 c 256#32 7#32 = ![row 1 (nx c 6), 0] := by revert c; decide
theorem off1_1_7 (c : Dev nD) : k0_off1 c 256#32 8#32 = ![row 1 (nx c 7), 0] := by revert c; decide
theorem off1_1_8 (c : Dev nD) : k0_off1 c 256#32 9#32 = ![row 1 (nx c 8), 0] := by revert c; decide
theorem off1_1_9 (c : Dev nD) : k0_off1 c 256#32 10#32 = ![row 1 (nx c 9), 0] := by revert c; decide
theorem off1_1_10 (c : Dev nD) : k0_off1 c 256#32 11#32 = ![row 1 (nx c 10), 0] := by revert c; decide
theorem off1_1_11 (c : Dev nD) : k0_off1 c 256#32 12#32 = ![row 1 (nx c 11), 0] := by revert c; decide
theorem off1_1_12 (c : Dev nD) : k0_off1 c 256#32 13#32 = ![row 1 (nx c 12), 0] := by revert c; decide
theorem off1_1_13 (c : Dev nD) : k0_off1 c 256#32 14#32 = ![row 1 (nx c 13), 0] := by revert c; decide
theorem off1_1_14 (c : Dev nD) : k0_off1 c 256#32 15#32 = ![row 1 (nx c 14), 0] := by revert c; decide
theorem off2_1 (c : Dev nD) : k0_off2 c 256#32 = ![row 1 c, 0] := by revert c; decide
theorem off3_1 (c : Dev nD) : k0_off3 c 256#32 = ![row 1 c, 0] := by revert c; decide

end Cert.KernelIdeal.Talk

end
-- ==== Proof.KI.State.lean ====
/-
  What the kernel computes, as functions of what it is given, and its loads and stores.
-/
module

public import proofs.«01_k».proof.Proof.KI.Steps
public import proofs.«01_k».proof.Proof.KI.Dev
public import proofs.«01_k».proof.Proof.Gen.KernelIdeal.Skeleton

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

open Cert.KernelIdeal.Gen

variable {F : FTy → Type} [FloatOps F] [Named F]

local notation "𝕄" => MT nD τ sig Unit (Elt F) ℕ UU ℕ

/-- The buffers the kernel is called with, each whole. -/
abbrev M0 := (Memref.whole cc0_stg0_0 : Memref sig .tc .vmem _ _)
abbrev M1 := (Memref.whole cc0_stg1_0 : Memref sig .tc .vmem _ _)
abbrev M2 := (Memref.whole cc0_stg2_0 : Memref sig .tc .vmem _ _)
abbrev M3 := (Memref.whole cc0_stg3_0 : Memref sig .tc .vmem _ _)
abbrev M4 := (Memref.whole cc0_stg4_0 : Memref sig .tc .vmem _ _)
abbrev M5 := (Memref.whole cc0_stg5_0 : Memref sig .tc .vmem _ _)
abbrev M6 := (Memref.whole cc0_scratch0 : Memref sig .tc .vmem _ _)
abbrev M7 := (Memref.whole cc0_scratch1 : Memref sig .tc .vmem _ _)
theorem W0 : M0.IsWhole := Memref.isWhole_whole _
theorem W1 : M1.IsWhole := Memref.isWhole_whole _
theorem W2 : M2.IsWhole := Memref.isWhole_whole _
theorem W3 : M3.IsWhole := Memref.isWhole_whole _
theorem W4 : M4.IsWhole := Memref.isWhole_whole _
theorem W5 : M5.IsWhole := Memref.isWhole_whole _
theorem W6 : M6.IsWhole := Memref.isWhole_whole _
theorem W7 : M7.IsWhole := Memref.isWhole_whole _

/-! ## The values -/

/-- A device's inputs: the rows, its columns of the query weights, its heads of keys and values, its rows of the output weights. -/
structure Ins (F : FTy → Type) where
  x : Mat F
  wq : S512x256.Idx → Elt F .bf16
  k : S2x4x256x64.Idx → Elt F .bf16
  v : S2x4x256x64.Idx → Elt F .bf16
  wo : S256x512.Idx → Elt F .bf16

def rdX0 (X : Ins F) : Vec F S256x512 .bf16 := (Memref.whole cc0_stg0_0).view.readAt (Elt F)
  (Rect.unit (s := S512x512) ![0, 0] S256x512.size inb_S512x512_S256x512_0_0).toLoadRect X.x
def rdX1 (X : Ins F) : Vec F S256x512 .bf16 := (Memref.whole cc0_stg0_0).view.readAt (Elt F)
  (Rect.unit (s := S512x512) ![256, 0] S256x512.size inb_S512x512_S256x512_256_0).toLoadRect X.x
def rdWq (X : Ins F) : Vec F S512x256 .bf16 := (Memref.whole cc0_stg1_0).view.readAt (Elt F)
  (Rect.unit (s := S512x256) ![0, 0] S512x256.size inb_S512x256_S512x256_0_0).toLoadRect X.wq
def rdWo (X : Ins F) : Vec F S256x512 .bf16 := (Memref.whole cc0_stg4_0).view.readAt (Elt F)
  (Rect.unit (s := S256x512) ![0, 0] S256x512.size inb_S256x512_S256x512_0_0).toLoadRect X.wo
/-- The keys and the values of one of the device's heads, in one of the two batches. -/
def rdK (X : Ins F) (off : Fin 4 → ℕ) (inb : ∀ a, off a + S1x1x256x64.size a ≤ S2x4x256x64.size a) : Vec F S1x1x256x64 .bf16 :=
  (Memref.whole cc0_stg2_0).view.readAt (Elt F) (Rect.unit (s := S2x4x256x64) off S1x1x256x64.size inb).toLoadRect X.k
def rdV (X : Ins F) (off : Fin 4 → ℕ) (inb : ∀ a, off a + S1x1x256x64.size a ≤ S2x4x256x64.size a) : Vec F S1x1x256x64 .bf16 :=
  (Memref.whole cc0_stg3_0).view.readAt (Elt F) (Rect.unit (s := S2x4x256x64) off S1x1x256x64.size inb).toLoadRect X.v

/-- The device's contribution to the rows of the first batch. -/
def half0 (X : Ins F) : Vec F S256x512 .bf16 :=
  k0_pay9 k0_pay1 (k0_pay3 (rdWo X)) (k0_pay4 (rdWq X) (rdX0 X)) (k0_pay5 (rdWq X) (rdX0 X) (rdK X ![0, 0, 0, 0] inb_S2x4x256x64_S1x1x256x64_0_0_0_0) (rdV X ![0, 0, 0, 0] inb_S2x4x256x64_S1x1x256x64_0_0_0_0))
    (k0_pay6 k0_pay1 (k0_pay4 (rdWq X) (rdX0 X)) (rdK X ![0, 1, 0, 0] inb_S2x4x256x64_S1x1x256x64_0_1_0_0) (rdV X ![0, 1, 0, 0] inb_S2x4x256x64_S1x1x256x64_0_1_0_0)) (k0_pay7 (rdV X ![0, 2, 0, 0] inb_S2x4x256x64_S1x1x256x64_0_2_0_0))
    (k0_pay8 k0_pay1 (k0_pay4 (rdWq X) (rdX0 X)) (rdK X ![0, 2, 0, 0] inb_S2x4x256x64_S1x1x256x64_0_2_0_0)) (constant S256x64 .f32 0x00000000#32) (rdK X ![0, 3, 0, 0] inb_S2x4x256x64_S1x1x256x64_0_3_0_0) (rdV X ![0, 3, 0, 0] inb_S2x4x256x64_S1x1x256x64_0_3_0_0)
/-- The same, of the second, before its rounding. -/
def half1F (X : Ins F) : FVec F S256x512 .f32 :=
  k0_pay16 k0_pay1 (k0_pay3 (rdWo X)) (k0_pay10 (k0_pay2 (rdWq X)) (rdX1 X))
    (k0_pay13 k0_pay1 (k0_pay11 (k0_pay2 (rdWq X)) (rdX1 X)) (k0_pay12 (rdK X ![1, 0, 0, 0] inb_S2x4x256x64_S1x1x256x64_1_0_0_0)) (rdV X ![1, 0, 0, 0] inb_S2x4x256x64_S1x1x256x64_1_0_0_0))
    (k0_pay14 k0_pay1 (k0_pay10 (k0_pay2 (rdWq X)) (rdX1 X)) (rdK X ![1, 1, 0, 0] inb_S2x4x256x64_S1x1x256x64_1_1_0_0) (rdV X ![1, 1, 0, 0] inb_S2x4x256x64_S1x1x256x64_1_1_0_0)) (k0_pay15 (k0_pay10 (k0_pay2 (rdWq X)) (rdX1 X)))
    (rdK X ![1, 2, 0, 0] inb_S2x4x256x64_S1x1x256x64_1_2_0_0) (rdV X ![1, 2, 0, 0] inb_S2x4x256x64_S1x1x256x64_1_2_0_0) (rdK X ![1, 3, 0, 0] inb_S2x4x256x64_S1x1x256x64_1_3_0_0) (rdV X ![1, 3, 0, 0] inb_S2x4x256x64_S1x1x256x64_1_3_0_0)
def half1 (X : Ins F) : Vec F S256x512 .bf16 := k0_pay17 (half1F X)

/-- The device's contribution to all rows. -/
def partVal (X : Ins F) : Mat F := fun i =>
  if (i 0).val < 256 then half0 X (ix2 (⟨(i 0).val % 256, Nat.mod_lt _ (by decide)⟩ : Fin 256) (i 1 : Fin 512))
  else half1 X (ix2 (⟨(i 0).val % 256, Nat.mod_lt _ (by decide)⟩ : Fin 256) (i 1 : Fin 512))

/-- What device `p` reads of its own contribution, and of a slot. -/
def rdOwn0 (P : Dev nD → Mat F) (p : Dev nD) : Vec F S16x512 .bf16 := (Memref.whole cc0_scratch0).view.readAt (Elt F)
  (Rect.unit (s := S512x512) (k0_off2 p 0#32) S16x512.size (k0_off2_inb p 0)).toLoadRect (P p)
def rdOwn1 (P : Dev nD → Mat F) (p : Dev nD) : Vec F S16x512 .bf16 := (Memref.whole cc0_scratch0).view.readAt (Elt F)
  (Rect.unit (s := S512x512) (k0_off2 p 256#32) S16x512.size (k0_off2_inb p 1)).toLoadRect (P p)
def rdSlot (P : Dev nD → Mat F) (p : Dev nD) (off : Fin 3 → ℕ) (inb : ∀ a, off a + S1x16x512.size a ≤ S30x16x512.size a) : Vec F S1x16x512 .bf16 :=
  (Memref.whole cc0_scratch1).view.readAt (Elt F) (Rect.unit (s := S30x16x512) off S1x16x512.size inb).toLoadRect (recvVal P p)

/-- Device `p`'s rows of the result in the first batch, and in the second: its own contribution and the fifteen it was sent, summed. -/
def red0 (P : Dev nD → Mat F) (p : Dev nD) : FVec F S16x512 .bf16 :=
  k0_pay29 (k0_pay28 (k0_pay27 (k0_pay26 (k0_pay25 (k0_pay24 (k0_pay23 (k0_pay22 (k0_pay21 (k0_pay20 (k0_pay19 (k0_pay18 (rdOwn0 P p) (rdSlot P p ![0,
    0, 0] inb_S30x16x512_S1x16x512_0_0_0)) (rdSlot P p ![1, 0, 0] inb_S30x16x512_S1x16x512_1_0_0)) (rdSlot P p ![2, 0, 0]
    inb_S30x16x512_S1x16x512_2_0_0)) (rdSlot P p ![3, 0, 0] inb_S30x16x512_S1x16x512_3_0_0) (rdSlot P p ![4, 0, 0] inb_S30x16x512_S1x16x512_4_0_0))
    (rdSlot P p ![5, 0, 0] inb_S30x16x512_S1x16x512_5_0_0)) (rdSlot P p ![6, 0, 0] inb_S30x16x512_S1x16x512_6_0_0)) (rdSlot P p ![7, 0, 0]
    inb_S30x16x512_S1x16x512_7_0_0) (rdSlot P p ![8, 0, 0] inb_S30x16x512_S1x16x512_8_0_0)) (rdSlot P p ![9, 0, 0] inb_S30x16x512_S1x16x512_9_0_0))
    (rdSlot P p ![10, 0, 0] inb_S30x16x512_S1x16x512_10_0_0)) (rdSlot P p ![11, 0, 0] inb_S30x16x512_S1x16x512_11_0_0) (rdSlot P p ![12, 0, 0]
    inb_S30x16x512_S1x16x512_12_0_0)) (rdSlot P p ![13, 0, 0] inb_S30x16x512_S1x16x512_13_0_0)) (rdSlot P p ![14, 0, 0]
    inb_S30x16x512_S1x16x512_14_0_0)
def red1 (P : Dev nD → Mat F) (p : Dev nD) : FVec F S16x512 .bf16 :=
  k0_pay44 (k0_pay43 (k0_pay42 (k0_pay40 (k0_pay39 (k0_pay38 (k0_pay36 (k0_pay35 (k0_pay34 (k0_pay32 (k0_pay31 (k0_pay30 (rdOwn1 P p) (rdSlot P p
    ![15, 0, 0] inb_S30x16x512_S1x16x512_15_0_0)) (rdSlot P p ![16, 0, 0] inb_S30x16x512_S1x16x512_16_0_0)) (rdSlot P p ![17, 0, 0]
    inb_S30x16x512_S1x16x512_17_0_0)) (k0_pay33 (rdSlot P p ![18, 0, 0] inb_S30x16x512_S1x16x512_18_0_0)) (rdSlot P p ![19, 0, 0]
    inb_S30x16x512_S1x16x512_19_0_0)) (rdSlot P p ![20, 0, 0] inb_S30x16x512_S1x16x512_20_0_0)) (rdSlot P p ![21, 0, 0]
    inb_S30x16x512_S1x16x512_21_0_0)) (k0_pay37 (rdSlot P p ![22, 0, 0] inb_S30x16x512_S1x16x512_22_0_0)) (rdSlot P p ![23, 0, 0]
    inb_S30x16x512_S1x16x512_23_0_0)) (rdSlot P p ![24, 0, 0] inb_S30x16x512_S1x16x512_24_0_0)) (rdSlot P p ![25, 0, 0]
    inb_S30x16x512_S1x16x512_25_0_0)) (k0_pay41 (rdSlot P p ![26, 0, 0] inb_S30x16x512_S1x16x512_26_0_0)) (rdSlot P p ![27, 0, 0]
    inb_S30x16x512_S1x16x512_27_0_0)) (rdSlot P p ![28, 0, 0] inb_S30x16x512_S1x16x512_28_0_0)) (rdSlot P p ![29, 0, 0]
    inb_S30x16x512_S1x16x512_29_0_0)
def red (P : Dev nD → Mat F) (h : Fin 2) (p : Dev nD) : FVec F S16x512 .bf16 := if h = 0 then red0 P p else red1 P p

/-- The result, from all contributions. -/
def outVal (P : Dev nD → Mat F) : Mat F := fun i =>
  red P (⟨(i 0).val / 256, Nat.div_lt_of_lt_mul (show (i 0).val < 256 * 2 from (i 0).isLt)⟩ : Fin 2)
    (⟨(i 0).val / 16 % 16, Nat.mod_lt _ (by decide)⟩ : Fin 16)
    (ix2 (⟨(i 0).val % 16, Nat.mod_lt _ (by decide)⟩ : Fin 16) (i 1 : Fin 512))

theorem outVal_at (P : Dev nD → Mat F) (h : Fin 2) (p : Dev nD) (r : Fin 16) (k : Fin 512) :
    outVal P (at2 h p r k) = red P h p (ix2 r k) := by
  have hh := h.isLt
  have hp : p.val < 16 := p.isLt
  have hr := r.isLt
  have e1 : (256 * h.val + 16 * p.val + r.val) / 256 = h.val := by omega
  have e2 : (256 * h.val + 16 * p.val + r.val) / 16 % 16 = p.val := by omega
  have e3 : (256 * h.val + 16 * p.val + r.val) % 16 = r.val := by omega
  have f1 : (⟨(256 * h.val + 16 * p.val + r.val) / 256, Nat.div_lt_of_lt_mul (by omega)⟩ : Fin 2) = h := Fin.ext e1
  have f2 : (⟨(256 * h.val + 16 * p.val + r.val) / 16 % 16, Nat.mod_lt _ (by decide)⟩ : Fin 16) = p := Fin.ext e2
  have f3 : (⟨(256 * h.val + 16 * p.val + r.val) % 16, Nat.mod_lt _ (by decide)⟩ : Fin 16) = r := Fin.ext e3
  exact congr (congr (congrArg (red P) f1) f2) (congrArg (fun t => ix2 t k) f3)

/-- The contributions and the result, from all inputs. -/
abbrev PX (X : Dev nD → Ins F) : Dev nD → Mat F := fun c => partVal (X c)
abbrev OX (X : Dev nD → Ins F) : Mat F := outVal (PX X)

/-! ## Loads and stores -/

theorem wpc_seq_eq {c : Dev nD} {β γ : Type} {p : Prog (TpuEff nD τ sig (Elt F) Λ₀ .tc) β} {k : β → Prog (TpuEff nD τ sig (Elt F) Λ₀ .tc) γ}
    {A B : sProp 𝕄} {x : β} {Q : γ → sProp 𝕄} (h : A ⊢ wpc c p (fun r => iprop(⌜r = x⌝ ∗ B))) (h' : B ⊢ wpc c (k x) Q) :
    A ⊢ wpc c (p >>= k) Q :=
  wpc_seq h fun r => by
    iintro ⟨%e, H⟩
    subst e
    iapply h'; iexact H

/-- `T` can be had from `M`, and gives it back. -/
abbrev Acc (M T : sProp 𝕄) : Prop := M ⊢ iprop(T ∗ (T -∗ M))

theorem acc_self {T : sProp 𝕄} : Acc T T := by
  iintro H; isplitl [H]; · iexact H
  iintro H; iexact H
theorem acc_left {M T G : sProp 𝕄} (h : Acc M T) : Acc iprop(M ∗ G) T := by
  iintro ⟨H, HG⟩
  ihave ⟨HT, HW⟩ := h $$ H
  isplitl [HT]; · iexact HT
  iintro HT
  isplitr [HG]; · iapply HW; iexact HT
  iexact HG
theorem acc_right {M T A : sProp 𝕄} (h : Acc M T) : Acc iprop(A ∗ M) T := by
  iintro ⟨HA, H⟩
  ihave ⟨HT, HW⟩ := h $$ H
  isplitl [HT]; · iexact HT
  iintro HT
  isplitl [HA]; · iexact HA
  iapply HW; iexact HT

theorem step_load {c : Dev nD} {sp : CoreSpace} {s : Shape} {e : EltTy} {m : Memref sig .tc sp s e} {r : LoadRect s} {hl : m.view.LoadsAt r}
    {S : Finset (Idx (m.view.loc (c : Thread nD τ)))} {q : PosShare TreeShare} {f : Buf (Elt F) (m.view.loc (c : Thread nD τ))}
    (hS : m.view.setOn r.set ⊆ S) {M : sProp 𝕄} (h : Acc M (m.view.loc (c : Thread nD τ) ↦[S]{q} f)) :
    M ⊢ wpc c (Prog.lift (.load m r hl)) (fun v => iprop(⌜v = m.view.readAt (Elt F) r f⌝ ∗ M)) := by
  unfold wpc Prog.lift
  iintro H
  ihave ⟨HT, HW⟩ := h $$ H
  iapply (wp_load 𝒱₀ (c : Thread nD τ) none Set.univ hS) $$ HT
  iintro HT
  rw [wp_ret]
  imodintro
  isplitr; · ipureintro; rfl
  iapply HW; iexact HT

theorem step_load_any {c : Dev nD} {sp : CoreSpace} {s : Shape} {e : EltTy} {m : Memref sig .tc sp s e} {r : LoadRect s} {hl : m.view.LoadsAt r}
    {S : Finset (Idx (m.view.loc (c : Thread nD τ)))} {q : PosShare TreeShare}
    (hS : m.view.setOn r.set ⊆ S) {M : sProp 𝕄} (h : Acc M iprop(∃ f, m.view.loc (c : Thread nD τ) ↦[S]{q} f)) :
    M ⊢ wpc c (Prog.lift (.load m r hl)) (fun _ => M) := by
  unfold wpc Prog.lift
  iintro H
  ihave ⟨⟨%f, HT⟩, HW⟩ := h $$ H
  iapply (wp_load 𝒱₀ (c : Thread nD τ) none Set.univ hS) $$ HT
  iintro HT
  rw [wp_ret]
  imodintro
  iapply HW; iexists f; iexact HT

/-- `M` holds some `T f`, and becomes `M'` when given `U` for it. -/
abbrev Chg {β : Type} (M M' : sProp 𝕄) (T : β → sProp 𝕄) (U : sProp 𝕄) : Prop := M ⊢ iprop((∃ f, T f) ∗ (U -∗ M'))

theorem chg_self {β : Type} {T : β → sProp 𝕄} {U : sProp 𝕄} : Chg iprop(∃ f, T f) U T U := by
  iintro H; isplitl [H]; · iexact H
  iintro H; iexact H
theorem chg_left {β : Type} {M M' : sProp 𝕄} {T : β → sProp 𝕄} {U G : sProp 𝕄} (h : Chg M M' T U) : Chg iprop(M ∗ G) iprop(M' ∗ G) T U := by
  iintro ⟨H, HG⟩
  ihave ⟨HT, HW⟩ := h $$ H
  isplitl [HT]; · iexact HT
  iintro HT
  isplitr [HG]; · iapply HW; iexact HT
  iexact HG
theorem chg_right {β : Type} {M M' : sProp 𝕄} {T : β → sProp 𝕄} {U A : sProp 𝕄} (h : Chg M M' T U) : Chg iprop(A ∗ M) iprop(A ∗ M') T U := by
  iintro ⟨HA, H⟩
  ihave ⟨HT, HW⟩ := h $$ H
  isplitl [HT]; · iexact HT
  iintro HT
  isplitl [HA]; · iexact HA
  iapply HW; iexact HT

theorem step_store {c : Dev nD} {sp : CoreSpace} {s : Shape} {e : EltTy} {m : Memref sig .tc sp s e} {r : Rect s} {w : r.shape.Idx → Elt F e}
    {hx : (m.access r).Stores Finset.univ} {hm : (Finset.univ : Finset r.shape.Idx) = Finset.univ ∨ ∀ a, r.stride a = 1}
    {S : Finset (Idx ((m.access r).loc (c : Thread nD τ)))} {g : Buf (Elt F) ((m.access r).loc (c : Thread nD τ))}
    (hS : (m.access r).set ⊆ S) (hg : ∀ f, ∀ i ∈ S, (m.access r).write (Elt F) f w Finset.univ i = g i) {M M' : sProp 𝕄}
    (h : Chg M M' (fun f => (m.access r).loc (c : Thread nD τ) ↦[S]{fullShare} f) ((m.access r).loc (c : Thread nD τ) ↦[S]{fullShare} g)) :
    M ⊢ wpc c (Prog.lift (.store m r w Finset.univ hx hm)) (fun _ => M') := by
  unfold wpc Prog.lift
  iintro H
  ihave ⟨⟨%f, HT⟩, HW⟩ := h $$ H
  iapply (wp_store 𝒱₀ (c : Thread nD τ) none Set.univ (hS : (m.access r).setOn Finset.univ ⊆ S)) $$ HT
  iintro HT
  rw [wp_ret]
  imodintro
  iapply HW
  iapply (Entails.of_eq (pointsTo_congr (hg f)))
  iexact HT

/-! ## The memory of a device -/

/-- The five staged inputs of device `c`. -/
def ins (c : Dev nD) (X : Ins F) : sProp 𝕄 :=
  iprop(((c : Thread nD τ).loc cc0_stg0_0 ↦[Finset.univ]{fullShare} X.x) ∗ ((c : Thread nD τ).loc cc0_stg1_0 ↦[Finset.univ]{fullShare} X.wq)
    ∗ ((c : Thread nD τ).loc cc0_stg2_0 ↦[Finset.univ]{fullShare} X.k) ∗ ((c : Thread nD τ).loc cc0_stg3_0 ↦[Finset.univ]{fullShare} X.v)
    ∗ ((c : Thread nD τ).loc cc0_stg4_0 ↦[Finset.univ]{fullShare} X.wo))

theorem acc_x (c : Dev nD) (X : Ins F) : Acc (ins c X) ((c : Thread nD τ).loc cc0_stg0_0 ↦[Finset.univ]{fullShare} X.x) := acc_left acc_self
theorem acc_wq (c : Dev nD) (X : Ins F) : Acc (ins c X) ((c : Thread nD τ).loc cc0_stg1_0 ↦[Finset.univ]{fullShare} X.wq) := acc_right (acc_left acc_self)
theorem acc_k (c : Dev nD) (X : Ins F) : Acc (ins c X) ((c : Thread nD τ).loc cc0_stg2_0 ↦[Finset.univ]{fullShare} X.k) :=
  acc_right (acc_right (acc_left acc_self))
theorem acc_v (c : Dev nD) (X : Ins F) : Acc (ins c X) ((c : Thread nD τ).loc cc0_stg3_0 ↦[Finset.univ]{fullShare} X.v) :=
  acc_right (acc_right (acc_right (acc_left acc_self)))
theorem acc_wo (c : Dev nD) (X : Ins F) : Acc (ins c X) ((c : Thread nD τ).loc cc0_stg4_0 ↦[Finset.univ]{fullShare} X.wo) :=
  acc_right (acc_right (acc_right (acc_right acc_self)))

/-- The rows of one batch. -/
def halfSet (h : Fin 2) : Finset S512x512.Idx := Finset.univ.filter fun i => (i 0).val / 256 = h.val
theorem mem_halfSet (h : Fin 2) (i : S512x512.Idx) : i ∈ halfSet h ↔ (i 0).val / 256 = h.val := by simp [halfSet]
abbrev halfPt (c : Dev nD) (h : Fin 2) (f : Mat F) : sProp 𝕄 := (c : Thread nD τ).loc cc0_scratch0 ↦[halfSet h]{fullShare} f
abbrev halfAny (c : Dev nD) (h : Fin 2) : sProp 𝕄 := iprop(∃ f : Mat F, halfPt c h f)
abbrev ownAny (c : Dev nD) (h : Fin 2) : sProp 𝕄 := iprop(∃ f : Mat F, outPt c h c fullShare f)

theorem rect_half (h : Fin 2) (off : Fin 2 → ℕ) (inb : ∀ a, off a + S256x512.size a ≤ S512x512.size a) (ho : off = ![256 * h.val, 0]) :
    (Rect.unit (s := S512x512) off S256x512.size inb).set = halfSet h := by
  subst ho
  ext i
  rw [Rect.mem_set_unit, mem_halfSet]
  have h1 : (i 1).val < 512 := (i 1).isLt
  have hh := h.isLt
  constructor
  · intro hx
    have h0 := hx 0
    have a : 256 * h.val ≤ (i 0).val := h0.1
    have b : (i 0).val < 256 * h.val + 256 := h0.2
    omega
  · intro hx a
    match a with
    | ⟨0, _⟩ => exact ⟨by show 256 * h.val ≤ (i 0).val; omega, by show (i 0).val < 256 * h.val + 256; omega⟩
    | ⟨1, _⟩ => exact ⟨Nat.zero_le _, by show (i 1).val < 0 + 512; omega⟩

theorem half_set (h : Fin 2) (off : Fin 2 → ℕ) (inb) (ho : off = ![256 * h.val, 0]) :
    ((Memref.whole cc0_scratch0).access (Rect.unit (s := S512x512) off S256x512.size inb)).set = halfSet h :=
  (View.set_slice_whole cc0_scratch0 _).trans (rect_half h off inb ho)

theorem half_load (h : Fin 2) (off : Fin 2 → ℕ) (inb) (ho : off = ![256 * h.val, 0]) :
    (Memref.whole cc0_scratch0).view.setOn (Rect.unit (s := S512x512) off S256x512.size inb).toLoadRect.set ⊆ halfSet h := by
  have e := half_set h off inb ho
  rw [show ((Memref.whole cc0_scratch0).access (Rect.unit (s := S512x512) off S256x512.size inb)).set = _ from View.set_slice _ _] at e
  exact le_of_eq e

theorem half_at (h : Fin 2) (off : Fin 2 → ℕ) (inb : ∀ a, off a + S256x512.size a ≤ S512x512.size a) (ho : off = ![256 * h.val, 0])
    (x : S256x512.Idx) : (Rect.unit (s := S512x512) off S256x512.size inb).emb x
      = (ix2 (⟨256 * h.val + (x 0).val, by have := h.isLt; have : (x 0).val < 256 := (x 0).isLt; omega⟩ : Fin 512) (x 1 : Fin 512) : S512x512.Idx) := by
  subst ho
  refine funext fun a => ?_
  match a with
  | ⟨0, _⟩ => exact Fin.ext (ValueKit.rect_emb_unit_val (s := S512x512) ![256 * h.val, 0] S256x512.size inb x 0)
  | ⟨1, _⟩ => exact Fin.ext ((ValueKit.rect_emb_unit_val (s := S512x512) ![256 * h.val, 0] S256x512.size inb x 1).trans (Nat.zero_add _))

theorem ix2_eta (x : S256x512.Idx) : (ix2 (x 0 : Fin 256) (x 1 : Fin 512) : S256x512.Idx) = x := by
  refine funext fun a => ?_
  match a with
  | ⟨0, _⟩ => rfl
  | ⟨1, _⟩ => rfl

/-- The store of the contribution to a batch leaves it there. -/
theorem half_stored0 (X : Ins F) (off : Fin 2 → ℕ) (inb) (ho : off = ![0, 0]) (f : Mat F) (i : S512x512.Idx) (hi : i ∈ halfSet 0) :
    ((Memref.whole cc0_scratch0).access (Rect.unit (s := S512x512) off S256x512.size inb)).write (Elt F) f (half0 X) Finset.univ i = partVal X i := by
  rw [← half_set 0 off inb ho] at hi
  obtain ⟨x, -, rfl⟩ := Finset.mem_map.mp hi
  have h0 : (x 0).val < 256 := (x 0).isLt
  rw [View.write_emb_of_mem _ _ (Finset.mem_univ x)]
  show half0 X x = partVal X ((Rect.unit (s := S512x512) off S256x512.size inb).emb x)
  rw [half_at 0 off inb ho]
  refine Eq.trans ?_ (if_pos (show 256 * 0 + (x 0).val < 256 by omega)).symm
  refine congrArg (half0 X) (Eq.trans (ix2_eta x).symm (congrArg (fun t : Fin 256 => (ix2 t (x 1 : Fin 512) : S256x512.Idx)) (Fin.ext ?_)))
  show (x 0).val = (256 * 0 + (x 0).val) % 256
  omega
theorem half_stored1 (X : Ins F) (off : Fin 2 → ℕ) (inb) (ho : off = ![256, 0]) (f : Mat F) (i : S512x512.Idx) (hi : i ∈ halfSet 1) :
    ((Memref.whole cc0_scratch0).access (Rect.unit (s := S512x512) off S256x512.size inb)).write (Elt F) f (half1 X) Finset.univ i = partVal X i := by
  rw [← half_set 1 off inb ho] at hi
  obtain ⟨x, -, rfl⟩ := Finset.mem_map.mp hi
  have h0 : (x 0).val < 256 := (x 0).isLt
  rw [View.write_emb_of_mem _ _ (Finset.mem_univ x)]
  show half1 X x = partVal X ((Rect.unit (s := S512x512) off S256x512.size inb).emb x)
  rw [half_at 1 off inb ho]
  refine Eq.trans ?_ (if_neg (show ¬ 256 * 1 + (x 0).val < 256 by omega)).symm
  refine congrArg (half1 X) (Eq.trans (ix2_eta x).symm (congrArg (fun t : Fin 256 => (ix2 t (x 1 : Fin 512) : S256x512.Idx)) (Fin.ext ?_)))
  show (x 0).val = (256 * 1 + (x 0).val) % 256
  omega

theorem own_load (h : Fin 2) (p : Dev nD) (off : Fin 2 → ℕ) (inb) (ho : off = ![row h p, 0]) :
    (Memref.whole cc0_scratch0).view.setOn (Rect.unit (s := S512x512) off S16x512.size inb).toLoadRect.set ⊆ rows (row h p) := by
  have e := partM_set h p off inb ho
  rw [show (partM off inb).view.set = _ from View.set_slice _ _] at e
  exact le_of_eq e
theorem out_load (h : Fin 2) (p : Dev nD) (off : Fin 2 → ℕ) (inb) (ho : off = ![row h p, 0]) :
    (Memref.whole cc0_stg5_0).view.setOn (Rect.unit (s := S512x512) off S16x512.size inb).toLoadRect.set ⊆ rows (row h p) := by
  have e := outM_set h p off inb ho
  rw [show (outM off inb).view.set = _ from View.set_slice _ _] at e
  exact le_of_eq e
theorem slot_load (h : Fin 2) (o : Fin 15) (off : Fin 3 → ℕ) (inb) (ho : off = ![sl h o, 0, 0]) :
    (Memref.whole cc0_scratch1).view.setOn (Rect.unit (s := S30x16x512) off S1x16x512.size inb).toLoadRect.set ⊆ slotSet (sl h o) := by
  have e := (View.set_slice_whole cc0_scratch1 (Rect.unit (s := S30x16x512) off S1x16x512.size inb)).trans (rect_slot h o off inb ho)
  rw [View.set_slice] at e
  exact le_of_eq e

theorem ix2_eta' (x : S16x512.Idx) : (ix2 (x 0 : Fin 16) (x 1 : Fin 512) : S16x512.Idx) = x := by
  refine funext fun a => ?_
  match a with
  | ⟨0, _⟩ => rfl
  | ⟨1, _⟩ => rfl

/-- The store of the device's rows of the result leaves them there. -/
theorem rows_stored (g : Mat F) (w : S16x512.Idx → Elt F .bf16) (h : Fin 2) (p : Dev nD) (hw : ∀ r k, w (ix2 r k) = g (at2 h p r k))
    (off : Fin 2 → ℕ) (inb) (ho : off = ![row h p, 0]) (f : Mat F) (i : S512x512.Idx) (hi : i ∈ rows (row h p)) :
    (outM off inb).view.write (Elt F) f w Finset.univ i = g i := by
  rw [← outM_set h p off inb ho] at hi
  obtain ⟨x, -, rfl⟩ := Finset.mem_map.mp hi
  rw [View.write_emb_of_mem _ _ (Finset.mem_univ x)]
  show w x = g ((Rect.unit (s := S512x512) off S16x512.size inb).emb x)
  rw [rowsAt h p off inb ho]
  exact (congrArg w (ix2_eta' x).symm).trans (hw (x 0) (x 1))

/-- A slot whose arrival has been waited for can be read. -/
theorem acc_slot (P : Dev nD → Mat F) (O : Mat F) (c : Dev nD) (h : Fin 2) (k : ℕ) (o : Fin 15) (ho : o.val < k) :
    Acc (Trk (waitA c 1 h) (waitB P O c 1 h) k) (slotPt c h o (recvVal P c)) := by
  have hm : o ∈ lt k := by simp [lt, ho]
  have e : bigSep (lt k) (waitB P O c 1 h) = iprop(waitB P O c 1 h o ∗ bigSep ((lt k).erase o) (waitB P O c 1 h)) := bigSep_erase hm
  unfold Trk
  rw [e]
  unfold Acc waitB
  rw [show pay P O c (some (1, h, o)) 0 = slotPt c h o (recvVal P c) from rfl]
  iintro ⟨HA, ⟨Hat, Hs⟩, HB⟩
  isplitl [Hs]; · iexact Hs
  iintro Hs
  isplitl [HA]; · iexact HA
  isplitr [HB]
  · isplitl [Hat]; · iexact Hat
    iexact Hs
  iexact HB

end Cert.KernelIdeal.Talk

end
-- ==== Proof.KI.Moves.lean ====
/-
  How the pieces a device holds are regrouped between one phase of the kernel and the next.
-/
module

public import proofs.«01_k».proof.Proof.KI.State

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

open Cert.KernelIdeal.Gen

variable {F : FTy → Type} [FloatOps F] [Named F]

local notation "𝕄" => MT nD τ sig Unit (Elt F) ℕ UU ℕ

variable (P : Dev nD → Mat F) (O : Mat F) (K : GSem nD τ sig → ℕ) (c : Dev nD)

/-! ## Ends of stretches -/

theorem wpc_ret_fact {c : Dev nD} {β : Type} {x : β} {A : sProp 𝕄} {φ : β → Prop} (h : φ x) :
    A ⊢ wpc c (.ret x : Prog (TpuEff nD τ sig (Elt F) Λ₀ .tc) β) (fun r => iprop(⌜φ r⌝ ∗ A)) :=
  wpc_ret (by
    iintro H
    isplitr
    · ipureintro; exact h
    · iexact H)

theorem wpc_seq_fact {c : Dev nD} {β γ : Type} {p : Prog (TpuEff nD τ sig (Elt F) Λ₀ .tc) β} {k : β → Prog (TpuEff nD τ sig (Elt F) Λ₀ .tc) γ}
    {A B : sProp 𝕄} {φ : β → Prop} {Q : γ → sProp 𝕄} (h : A ⊢ wpc c p (fun r => iprop(⌜φ r⌝ ∗ B))) (h' : ∀ r, φ r → (B ⊢ wpc c (k r) Q)) :
    A ⊢ wpc c (p >>= k) Q :=
  wpc_seq h fun r => by
    iintro ⟨%e, H⟩
    iapply (h' r e); iexact H

theorem none_owed {φ : GSem nD τ sig → Prop} : ∀ g u, 0 < (0 : CellTallies nD τ sig Unit) g u → φ g := fun _ _ h => absurd h (Nat.lt_irrefl 0)

/-- A step on the second of three pieces, when it is proved of the first. -/
theorem at_second {c : Dev nD} {β : Type} {p : Prog (TpuEff nD τ sig (Elt F) Λ₀ .tc) β} {B B' T T' W G : sProp 𝕄}
    (h : iprop(B ∗ T ∗ (W ∗ G)) ⊢ wpc c p (fun _ => iprop(B' ∗ T' ∗ (W ∗ G)))) :
    iprop(B ∗ W ∗ T ∗ G) ⊢ wpc c p (fun _ => iprop(B' ∗ W ∗ T' ∗ G)) := by
  have a : iprop(B ∗ W ∗ T ∗ G) ⊢ iprop(B ∗ T ∗ (W ∗ G)) := by
    iintro ⟨b, w, t, g⟩
    isplitl [b]; · iexact b
    isplitl [t]; · iexact t
    isplitl [w]; · iexact w
    iexact g
  have a' : iprop(B' ∗ T' ∗ (W ∗ G)) ⊢ iprop(B' ∗ W ∗ T' ∗ G) := by
    iintro ⟨b, t, w, g⟩
    isplitl [b]; · iexact b
    isplitl [w]; · iexact w
    isplitl [t]; · iexact t
    iexact g
  exact (BIBase.Entails.trans a h).trans (wp_mono _ _ _ fun _ => a')

/-! ## The copies' pieces, but for what is copied -/

def sendA0 (h : Fin 2) (o : Fin 15) : sProp 𝕄 :=
  iprop(dutyTok ER (cell c (some (0, h, o))) 0 0 ∗ dutyTok ER (gDma c 1 h o) 0 0 ∗ (∃ f, slotPt (nx c o) h o f) ∗ reached ER (gDma c 1 h o) 0)
def sendA0' (h : Fin 2) (o : Fin 15) : sProp 𝕄 :=
  iprop(dutyTok ER (cell c (some (2, h, o))) 0 0 ∗ dutyTok ER (gDma c 3 h o) 0 0 ∗ (∃ f, outPt (nx c o) h c fullShare f) ∗ reached ER (gDma c 3 h o) 0)

/-- Over all devices: this one's, and the others' by their distance. -/
theorem over_devs (Φ : Dev nD → sProp 𝕄) : bigSep Finset.univ Φ = iprop(Φ c ∗ bigSep Finset.univ fun o => Φ (nx c o)) := by
  rw [univ_nx c, bigSep_insert (notMem_nx c), bigSep_image_of_injOn ((nx_inj c).injOn)]; rfl
theorem over_devs' (Φ : Dev nD → sProp 𝕄) : bigSep Finset.univ Φ = iprop(Φ c ∗ bigSep Finset.univ fun o => Φ (pv c o)) := by
  rw [univ_pv c, bigSep_insert (notMem_pv c), bigSep_image_of_injOn ((pv_inj c).injOn)]; rfl

theorem rows_disjoint (h h' : Fin 2) (p p' : Dev nD) (ne : (h, p) ≠ (h', p')) : Disjoint (rows (row h p)) (rows (row h' p')) := by
  rw [Finset.disjoint_left]
  intro i hi hi'
  rw [mem_rows] at hi hi'
  have := p.isLt; have := p'.isLt; have := h.isLt; have := h'.isLt
  unfold row at hi hi'
  apply ne
  have e : h = h' := by apply Fin.ext; have := p.isLt; have := p'.isLt; change p.val < 16 at *; change p'.val < 16 at *; omega
  subst e
  have : p = p' := by apply Fin.ext; omega
  subst this; rfl

theorem halfSet_rows (h : Fin 2) : halfSet h = Finset.univ.biUnion fun p : Dev nD => rows (row h p) := by
  ext i
  rw [mem_halfSet, Finset.mem_biUnion]
  have hi : (i 0).val < 512 := (i 0).isLt
  have := h.isLt
  constructor
  · intro e
    refine ⟨⟨(i 0).val % 256 / 16, by change _ < 16; omega⟩, Finset.mem_univ _, ?_⟩
    rw [mem_rows]
    unfold row
    dsimp only
    omega
  · rintro ⟨p, -, hp⟩
    rw [mem_rows] at hp
    have : p.val < 16 := p.isLt
    unfold row at hp
    omega

theorem half_chunks (h : Fin 2) (f : Mat F) : halfPt c h f = bigSep Finset.univ fun p : Dev nD => partPt c h p f := by
  unfold halfPt
  rw [halfSet_rows, pointsTo_biUnion]
  · intro p _ p' _ ne
    exact rows_disjoint h h p p' (by simpa using ne)

/-- Before the copies of a half: the half is cut into its chunks. -/
theorem split_send (h : Fin 2) (A G : sProp 𝕄) :
    iprop(A ∗ bigSep Finset.univ (sendA0 c h) ∗ halfPt c h (P c) ∗ G)
      ⊢ iprop(A ∗ Trk (sendA P c h) (sendB c 0 h) 0 ∗ partPt c h c (P c) ∗ G) := by
  rw [half_chunks, over_devs c]
  have e : iprop(bigSep Finset.univ (fun o => partPt c h (nx c o) (P c)) ∗ bigSep Finset.univ (sendA0 c h)) ⊢ Trk (sendA P c h) (sendB c 0 h) 0 := by
    rw [← bigSep_sep']
    exact trk_zero _ _
  iintro ⟨a, s, ⟨p, ps⟩, g⟩
  isplitl [a]; · iexact a
  isplitl [s ps]
  · iapply e
    isplitl [ps]; · iexact ps
    iexact s
  isplitl [p]; · iexact p
  iexact g

/-- After the last copy of the second half. -/
theorem to_wait (T W G : sProp 𝕄) (g : Fin 15 → GSem nD τ sig) (o : CellTallies nD τ sig Unit) (A : sProp 𝕄) :
    iprop(base P O K c (oS g N 15 + o) ∗ T ∗ A ∗ W ∗ G) ⊢ iprop(base P O K c o ∗ W ∗ (T ∗ A ∗ G)) := by
  rw [oS_last, zero_add]
  iintro ⟨b, t, a, w, g⟩
  isplitl [b]; · iexact b
  isplitl [w]; · iexact w
  isplitl [t]; · iexact t
  isplitl [a]; · iexact a
  iexact g

/-! ## The phases -/

/-- Where the device stands at the semaphores of one kind, before any wait. -/
def AT (q : Fin 4) (h : Fin 2) : sProp 𝕄 := bigSep Finset.univ fun o : Fin 15 => atPos ER (cell c (some (q, h, o))) 0 ∅ 0
/-- The tokens for what the device's copies pay: its own semaphore, and the other device's. -/
def TK (q : Fin 4) (h : Fin 2) : sProp 𝕄 :=
  bigSep Finset.univ fun o : Fin 15 => iprop(dutyTok ER (cell c (some (q, h, o))) 0 0 ∗ dutyTok ER (gDma c (q + 1) h o) 0 0)
def WAa (q : Fin 4) (h : Fin 2) : sProp 𝕄 := bigSep Finset.univ (waitA c q h)
def WB (q : Fin 4) (h : Fin 2) : sProp 𝕄 := bigSep Finset.univ (waitB P O c q h)
def WS (q : Fin 4) (h : Fin 2) : sProp 𝕄 := bigSep Finset.univ (sendB (F := F) c q h)
def SA (h : Fin 2) : sProp 𝕄 := bigSep Finset.univ (sendA0 (F := F) c h)
def SA' (h : Fin 2) : sProp 𝕄 := bigSep Finset.univ (sendA0' (F := F) c h)
def barA : sProp 𝕄 := iprop(cred (tallyAt (cell c none) () 15) ∗ atPos ER (cell c none) 0 ∅ 0)
/-- The last share of the device's own chunk of the result, which no copy takes. -/
def leaf15 (h : Fin 2) : sProp 𝕄 := outPt c h c (leafOf (Fin.last 15)) O
def REST : sProp 𝕄 := iprop(WAa c 3 0 ∗ WAa c 3 1 ∗ AT c 0 0 ∗ AT c 0 1 ∗ AT c 2 0 ∗ AT c 2 1)

/-- What a device still owes. -/
abbrev owe4 : CellTallies nD τ sig Unit := oS (gDma c 3 1) N 0 + 0
abbrev owe3 : CellTallies nD τ sig Unit := oS (gDma c 3 0) N 0 + owe4 c
abbrev owe2 : CellTallies nD τ sig Unit := oS (gDma c 1 1) N 0 + owe3 c
abbrev owe1 : CellTallies nD τ sig Unit := oS (gDma c 1 0) N 0 + owe2 c

theorem above4 (l : ℕ) (hl : l < 3) : ∀ g u, 0 < owe4 c g u → ∃ p y, g = cell p y ∧ l < lvOf (some y) := by
  intro g u h
  obtain ⟨o, rfl⟩ := oS_pos (gDma c 3 1) N 0 g u (by simpa [owe4] using h)
  exact ⟨_, _, rfl, hl⟩
theorem above3 (l : ℕ) (hl : l < 3) : ∀ g u, 0 < owe3 c g u → ∃ p y, g = cell p y ∧ l < lvOf (some y) := by
  intro g u h
  rcases Nat.add_pos_iff_pos_or_pos.mp (show 0 < oS (gDma c 3 0) N 0 g u + owe4 c g u from h) with h | h
  · obtain ⟨o, rfl⟩ := oS_pos _ _ _ _ _ h
    exact ⟨_, _, rfl, hl⟩
  · exact above4 c l hl g u h
theorem above1 : ∀ g u, 0 < owe1 c g u → ∃ p y, g = cell p y ∧ 1 < lvOf (some y) := by
  intro g u h
  rcases Nat.add_pos_iff_pos_or_pos.mp (show 0 < oS (gDma c 1 0) N 0 g u + owe2 c g u from h) with h | h
  · obtain ⟨o, rfl⟩ := oS_pos _ _ _ _ _ h
    exact ⟨_, _, rfl, (Nat.lt_succ_self 1 : (1 : ℕ) < 2)⟩
  rcases Nat.add_pos_iff_pos_or_pos.mp (show 0 < oS (gDma c 1 1) N 0 g u + owe3 c g u from h) with h | h
  · obtain ⟨o, rfl⟩ := oS_pos _ _ _ _ _ h
    exact ⟨_, _, rfl, (Nat.lt_succ_self 1 : (1 : ℕ) < 2)⟩
  · exact above3 c 1 (by decide) g u h

theorem owed_last (g : Fin 15 → GSem nD τ sig) (n : ℕ) (o : CellTallies nD τ sig Unit) : base P O K c (oS g n 15 + o) ⊢ base P O K c o := by
  rw [oS_last, zero_add]

theorem send_end (h : Fin 2) : Trk (sendA P c h) (sendB c 0 h) 15 ⊢ WS (F := F) c 0 h := trk_last _ _
theorem send_end' (h : Fin 2) : Trk (sendA' O c h) (sendB c 2 h) 15 ⊢ WS (F := F) c 2 h := trk_last _ _
theorem wait_end (q : Fin 4) (h : Fin 2) : Trk (waitA c q h) (waitB P O c q h) 15 ⊢ WB P O c q h := trk_last _ _
theorem wait_start (q : Fin 4) (h : Fin 2) : WAa c q h ⊢ Trk (waitA c q h) (waitB P O c q h) 0 := trk_zero _ _
theorem wait_start' (q : Fin 4) (h : Fin 2) : iprop(WS c q h ∗ AT c q h) ⊢ Trk (waitA c q h) (waitB P O c q h) 0 := by
  unfold WS AT
  rw [← bigSep_sep']
  exact trk_zero _ _

theorem over16 (Φ : Fin 16 → sProp 𝕄) : bigSep Finset.univ Φ = iprop(Φ (Fin.last 15) ∗ bigSep Finset.univ fun o : Fin 15 => Φ o.castSucc) := by
  have u : (Finset.univ : Finset (Fin 16)) = insert (Fin.last 15) (Finset.univ.image (Fin.castSucc : Fin 15 → Fin 16)) := by decide
  rw [u, bigSep_insert (by decide), bigSep_image_of_injOn ((Fin.castSucc_injective 15).injOn)]; rfl

theorem leaves16 {ℓ : Loc nD τ sig} (I : Finset (Idx ℓ)) (f : Buf (Elt F) ℓ) :
    (ℓ ↦[I]{fullShare} f : sProp 𝕄) = iprop((ℓ ↦[I]{leafOf (Fin.last 15)} f) ∗ bigSep Finset.univ fun o : Fin 15 => ℓ ↦[I]{leafOf o.castSucc} f) :=
  (ShareLeaves.pointsTo_leaves I f 4 fullShare).trans (over16 (fun o : Fin 16 => (ℓ ↦[I]{leafOf o} f : sProp 𝕄)))

theorem own_leaves (h : Fin 2) : outPt c h c fullShare O = iprop(leaf15 O c h ∗ bigSep Finset.univ fun o : Fin 15 => outPt c h c (leafOf o.castSucc) O) :=
  leaves16 _ _

theorem share_own (h : Fin 2) : iprop(outPt c h c fullShare O ∗ SA' c h) ⊢ iprop(Trk (sendA' O c h) (sendB c 2 h) 0 ∗ leaf15 O c h) := by
  have e := own_leaves O c h
  have s : iprop(bigSep Finset.univ (fun o : Fin 15 => outPt c h c (leafOf o.castSucc) O) ∗ SA' c h) ⊢ Trk (sendA' O c h) (sendB c 2 h) 0 := by
    unfold SA'
    rw [← bigSep_sep']
    exact trk_zero _ _
  rw [e]
  iintro ⟨⟨l, ls⟩, sa⟩
  isplitl [ls sa]
  · iapply s; isplitl [ls]; · iexact ls
    iexact sa
  iexact l

theorem bar_split : iprop((bigSep Finset.univ (barPay c)) ∗ TK c 0 0 ∗ TK c 0 1 ∗ TK c 2 0 ∗ TK c 2 1)
    ⊢ iprop(SA (F := F) c 0 ∗ SA c 1 ∗ SA' c 0 ∗ SA' c 1) := by
  unfold TK SA SA'
  rw [← bigSep_sep', ← bigSep_sep', ← bigSep_sep', ← bigSep_sep', ← bigSep_sep', ← bigSep_sep', ← bigSep_sep']
  refine bigSep_mono fun o _ => ?_
  unfold barPay
  rw [show ∀ Φ : Fin 2 → sProp 𝕄, bigSep Finset.univ Φ = iprop(Φ 0 ∗ Φ 1) from fun Φ => bigSep_fin_two Φ]
  unfold sendA0 sendA0'
  show BIBase.Entails (PROP := sProp 𝕄) _ _
  iintro ⟨⟨⟨s0, d0, r0, q0⟩, ⟨s1, d1, r1, q1⟩⟩, ⟨a00, a01⟩, ⟨a10, a11⟩, ⟨b00, b01⟩, ⟨b10, b11⟩⟩
  isplitl [s0 r0 a00 a01]
  · isplitl [a00]; · iexact a00
    isplitl [a01]; · iexact a01
    isplitl [s0]; · iexact s0
    iexact r0
  isplitl [s1 r1 a10 a11]
  · isplitl [a10]; · iexact a10
    isplitl [a11]; · iexact a11
    isplitl [s1]; · iexact s1
    iexact r1
  isplitl [d0 q0 b00 b01]
  · isplitl [b00]; · iexact b00
    isplitl [b01]; · iexact b01
    isplitl [d0]; · iexact d0
    iexact q0
  isplitl [b10]; · iexact b10
  isplitl [b11]; · iexact b11
  isplitl [d1]; · iexact d1
  iexact q1

/-- After the signals. -/
theorem phase1 (A : sProp 𝕄) (G : sProp 𝕄) :
    iprop(base P O K c (oS (gBar c) 1 15 + owe1 c) ∗ Trk (sigA c) sigB 15 ∗ A ∗ barA c ∗ halfAny c 0 ∗ G)
      ⊢ iprop(base P O K c (owe1 c) ∗ barA c ∗ A ∗ halfAny c 0 ∗ G) := by
  iintro ⟨b, -, i, r, h, g⟩
  isplitl [b]
  · iapply (owed_last P O K c _ _ _)
    iexact b
  isplitl [r]
  · iexact r
  isplitl [i]
  · iexact i
  isplitl [h]
  · iexact h
  iexact g

/-- After the barrier: the first half of the contribution is cut, and what the others gave is sorted by the copies it is for. -/
theorem phase2 (A G : sProp 𝕄) :
    iprop(base P O K c (owe1 c) ∗ (atPos ER (cell c none) 1 ∅ 0 ∗ bigSep Finset.univ (barPay c)) ∗ A ∗ halfPt c 0 (P c) ∗ halfAny c 1 ∗ ownAny c 0 ∗ ownAny c 1
        ∗ TK c 0 0 ∗ TK c 0 1 ∗ TK c 2 0 ∗ TK c 2 1 ∗ G)
      ⊢ iprop(base P O K c (owe1 c) ∗ Trk (sendA P c 0) (sendB c 0 0) 0 ∗ A ∗ halfAny c 1 ∗ SA c 1
        ∗ (partPt c 0 c (P c) ∗ ownAny c 0 ∗ ownAny c 1 ∗ SA' c 0 ∗ SA' c 1 ∗ atPos ER (cell c none) 1 ∅ 0 ∗ G)) := by
  iintro ⟨b, ⟨p, bp⟩, a, h0, h1, o0, o1, t0, t1, t2, t3, g⟩
  ihave S := (bar_split (F := F) c) $$ [bp t0 t1 t2 t3]
  · isplitl [bp]; · iexact bp
    isplitl [t0]; · iexact t0
    isplitl [t1]; · iexact t1
    isplitl [t2]; · iexact t2
    iexact t3
  icases S with ⟨s0, s1, s2, s3⟩
  ihave S := (split_send P c 0 (base P O K c (owe1 c)) iprop(emp)) $$ [b s0 h0]
  · isplitl [b]; · iexact b
    isplitl [s0]; · unfold SA; iexact s0
    isplitl [h0]; · iexact h0
    iempintro
  icases S with ⟨b, t, q, -⟩
  isplitl [b]; · iexact b
  isplitl [t]; · iexact t
  isplitl [a]; · iexact a
  isplitl [h1]; · iexact h1
  isplitl [s1]; · iexact s1
  isplitl [q]; · iexact q
  isplitl [o0]; · iexact o0
  isplitl [o1]; · iexact o1
  isplitl [s2]; · iexact s2
  isplitl [s3]; · iexact s3
  isplitl [p]; · iexact p
  iexact g

/-- After the first half's copies out. -/
theorem phase3 (A : sProp 𝕄) (G : sProp 𝕄) :
    iprop(base P O K c (oS (gDma c 1 0) N 15 + owe2 c) ∗ Trk (sendA P c 0) (sendB c 0 0) 15 ∗ A ∗ halfAny c 1 ∗ SA c 1 ∗ G)
      ⊢ iprop(base P O K c (owe2 c) ∗ SA c 1 ∗ halfAny c 1 ∗ (A ∗ WS c 0 0 ∗ G)) := by
  iintro ⟨b, t, i, h, s, g⟩
  isplitl [b]
  · iapply (owed_last P O K c _ _ _)
    iexact b
  isplitl [s]
  · iexact s
  isplitl [h]
  · iexact h
  isplitl [i]
  · iexact i
  isplitl [t]
  · iapply (send_end P c 0)
    iexact t
  iexact g

/-- Before the last copy out of the second half. -/
theorem phase4 (A B T E : sProp 𝕄) (G : sProp 𝕄) :
    iprop(B ∗ T ∗ partPt c 1 c (P c) ∗ A ∗ WS c 0 0 ∗ partPt c 0 c (P c) ∗ ownAny c 0 ∗ ownAny c 1 ∗ SA' c 0 ∗ SA' c 1 ∗ E ∗ WAa c 1 0 ∗ G)
      ⊢ iprop(B ∗ T ∗ partPt c 0 c (P c) ∗ Trk (waitA c 1 0) (waitB P O c 1 0) 0 ∗ (ownAny c 0 ∗ SA' c 0 ∗ partPt c 1 c (P c) ∗ A ∗ WS c 0 0 ∗ ownAny c 1 ∗ SA' c 1 ∗ E ∗ G)) := by
  iintro ⟨b, t, p1, i, s00, p0, o0, o1, a0, a1, e, w, g⟩
  isplitl [b]
  · iexact b
  isplitl [t]
  · iexact t
  isplitl [p0]
  · iexact p0
  isplitl [w]
  · iapply (wait_start P O c 1 0)
    iexact w
  isplitl [o0]
  · iexact o0
  isplitl [a0]
  · iexact a0
  isplitl [p1]
  · iexact p1
  isplitl [i]
  · iexact i
  isplitl [s00]
  · iexact s00
  isplitl [o1]
  · iexact o1
  isplitl [a1]
  · iexact a1
  isplitl [e]
  · iexact e
  iexact g

/-- Before the first half's last arrival. -/
theorem phase5 (A B T W : sProp 𝕄) (G : sProp 𝕄) :
    iprop(B ∗ W ∗ T ∗ A ∗ ownAny c 0 ∗ G)
      ⊢ iprop(B ∗ W ∗ ownAny c 0 ∗ (T ∗ A ∗ G)) := by
  iintro ⟨b, w, t, p, o, g⟩
  isplitl [b]
  · iexact b
  isplitl [w]
  · iexact w
  isplitl [o]
  · iexact o
  isplitl [t]
  · iexact t
  isplitl [p]
  · iexact p
  iexact g

/-- The device's own chunk of the result is shared out among the copies of it. -/
theorem phase6 (B A1 A2 G : sProp 𝕄) (h : Fin 2) :
    iprop(B ∗ Trk (waitA c 1 h) (waitB P O c 1 h) 15 ∗ outPt c h c fullShare O ∗ A1 ∗ A2 ∗ SA' c h ∗ G)
      ⊢ iprop(B ∗ Trk (sendA' O c h) (sendB c 2 h) 0 ∗ (leaf15 O c h ∗ WB P O c 1 h ∗ A1 ∗ A2 ∗ G)) := by
  iintro ⟨b, w, o, a1, a2, s, g⟩
  ihave S := (share_own O c h) $$ [o s]
  · isplitl [o]; · iexact o
    iexact s
  icases S with ⟨t, l⟩
  isplitl [b]; · iexact b
  isplitl [t]; · iexact t
  isplitl [l]; · iexact l
  isplitl [w]; · iapply (wait_end P O c 1 h); iexact w
  isplitl [a1]; · iexact a1
  isplitl [a2]; · iexact a2
  iexact g

/-- The same, of the second half. -/
theorem phase9 (B A1 G : sProp 𝕄) (h : Fin 2) :
    iprop(B ∗ Trk (waitA c 1 h) (waitB P O c 1 h) 15 ∗ outPt c h c fullShare O ∗ A1 ∗ SA' c h ∗ G)
      ⊢ iprop(B ∗ Trk (sendA' O c h) (sendB c 2 h) 0 ∗ (leaf15 O c h ∗ WB P O c 1 h ∗ A1 ∗ G)) := by
  iintro ⟨b, w, o, a1, s, g⟩
  ihave S := (share_own O c h) $$ [o s]
  · isplitl [o]; · iexact o
    iexact s
  icases S with ⟨t, l⟩
  isplitl [b]; · iexact b
  isplitl [t]; · iexact t
  isplitl [l]; · iexact l
  isplitl [w]; · iapply (wait_end P O c 1 h); iexact w
  isplitl [a1]; · iexact a1
  iexact g

/-- After the first half's own chunk is copied to the others. -/
theorem phase7 (A A1 A2 E : sProp 𝕄) (G : sProp 𝕄) :
    iprop(base P O K c (oS (gDma c 3 0) N 15 + owe4 c) ∗ Trk (sendA' O c 0) (sendB c 2 0) 15 ∗ leaf15 O c 0 ∗ WB P O c 1 0 ∗ A1 ∗ A2 ∗ partPt c 1 c (P c) ∗ A ∗ WS c 0 0 ∗ ownAny c 1 ∗ SA' c 1 ∗ E ∗ WAa c 1 1 ∗ G)
      ⊢ iprop(base P O K c (owe4 c) ∗ Trk (waitA c 1 1) (waitB P O c 1 1) 0 ∗ partPt c 1 c (P c) ∗ ownAny c 1 ∗ SA' c 1 ∗ (WS c 2 0 ∗ leaf15 O c 0 ∗ WB P O c 1 0 ∗ A1 ∗ A2 ∗ A ∗ WS c 0 0 ∗ E ∗ G)) := by
  iintro ⟨b, t, l, wb, s01, p0, p1, i, s00, o1, a1, e, w, g⟩
  isplitl [b]
  · iapply (owed_last P O K c _ _ _)
    iexact b
  isplitl [w]
  · iapply (wait_start P O c 1 1)
    iexact w
  isplitl [p1]
  · iexact p1
  isplitl [o1]
  · iexact o1
  isplitl [a1]
  · iexact a1
  isplitl [t]
  · iapply (send_end' O c 0)
    iexact t
  isplitl [l]
  · iexact l
  isplitl [wb]
  · iexact wb
  isplitl [s01]
  · iexact s01
  isplitl [p0]
  · iexact p0
  isplitl [i]
  · iexact i
  isplitl [s00]
  · iexact s00
  isplitl [e]
  · iexact e
  iexact g

/-- Before the second half's last arrival. -/
theorem phase8 (A B W : sProp 𝕄) (G : sProp 𝕄) :
    iprop(B ∗ W ∗ A ∗ ownAny c 1 ∗ G)
      ⊢ iprop(B ∗ W ∗ ownAny c 1 ∗ (A ∗ G)) := by
  iintro ⟨b, w, p, o, g⟩
  isplitl [b]
  · iexact b
  isplitl [w]
  · iexact w
  isplitl [o]
  · iexact o
  isplitl [p]
  · iexact p
  iexact g

/-- Before the last waits: everything the device has is a wait to come, a wait that is over, or a piece of memory. -/
theorem phase10 (A1 A2 A3 A4 A5 A6 : sProp 𝕄) :
    iprop(base P O K c (oS (gDma c 3 1) N 15 + 0) ∗ Trk (sendA' O c 1) (sendB c 2 1) 15 ∗ (leaf15 O c 1 ∗ WB P O c 1 1 ∗ A1
        ∗ WS c 2 0 ∗ A2 ∗ A3 ∗ Trk (sendA P c 1) (sendB c 0 1) 15 ∗ A4 ∗ A5 ∗ WS c 0 0 ∗ A6 ∗ REST c))
      ⊢ iprop(base P O K c 0 ∗ Trk (waitA c 3 0) (waitB P O c 3 0) 0 ∗ Trk (waitA c 3 1) (waitB P O c 3 1) 0 ∗ Trk (waitA c 0 0) (waitB P O c 0 0) 0
        ∗ Trk (waitA c 2 0) (waitB P O c 2 0) 0 ∗ Trk (waitA c 0 1) (waitB P O c 0 1) 0 ∗ Trk (waitA c 2 1) (waitB P O c 2 1) 0
        ∗ (leaf15 O c 1 ∗ WB P O c 1 1 ∗ A1 ∗ A2 ∗ A3 ∗ A4 ∗ A5 ∗ A6)) := by
  unfold REST
  iintro ⟨b, t, l, wb, a1, s20, a2, a3, s01, a4, a5, s00, a6, w30, w31, c00, c01, c20, c21⟩
  isplitl [b]; · iapply (owed_last P O K c _ _ _); iexact b
  isplitl [w30]; · iapply (wait_start P O c 3 0); iexact w30
  isplitl [w31]; · iapply (wait_start P O c 3 1); iexact w31
  isplitl [s00 c00]
  · iapply (wait_start' P O c 0 0)
    isplitl [s00]; · iexact s00
    iexact c00
  isplitl [s20 c20]
  · iapply (wait_start' P O c 2 0)
    isplitl [s20]; · iexact s20
    iexact c20
  isplitl [s01 c01]
  · iapply (wait_start' P O c 0 1)
    isplitl [s01]; · iapply (send_end P c 1); iexact s01
    iexact c01
  isplitl [t c21]
  · iapply (wait_start' P O c 2 1)
    isplitl [t]; · iapply (send_end' O c 1); iexact t
    iexact c21
  isplitl [l]; · iexact l
  isplitl [wb]; · iexact wb
  isplitl [a1]; · iexact a1
  isplitl [a2]; · iexact a2
  isplitl [a3]; · iexact a3
  isplitl [a4]; · iexact a4
  isplitl [a5]; · iexact a5
  iexact a6

/-- These arrivals are all in. -/
theorem phase11 (B T1 T2 T3 T4 T5 : sProp 𝕄) (G : sProp 𝕄) :
    iprop(B ∗ Trk (waitA c 3 0) (waitB P O c 3 0) 15 ∗ T1 ∗ T2 ∗ T3 ∗ T4 ∗ T5 ∗ G)
      ⊢ iprop(B ∗ T1 ∗ T2 ∗ T3 ∗ T4 ∗ T5 ∗ (WB P O c 3 0 ∗ G)) := by
  iintro ⟨b, t, x1, x2, x3, x4, x5, g⟩
  isplitl [b]
  · iexact b
  isplitl [x1]
  · iexact x1
  isplitl [x2]
  · iexact x2
  isplitl [x3]
  · iexact x3
  isplitl [x4]
  · iexact x4
  isplitl [x5]
  · iexact x5
  isplitl [t]
  · iapply (wait_end P O c 3 0)
    iexact t
  iexact g

/-- These arrivals are all in. -/
theorem phase12 (B T1 T2 T3 T4 : sProp 𝕄) (G : sProp 𝕄) :
    iprop(B ∗ Trk (waitA c 3 1) (waitB P O c 3 1) 15 ∗ T1 ∗ T2 ∗ T3 ∗ T4 ∗ G)
      ⊢ iprop(B ∗ T1 ∗ T2 ∗ T3 ∗ T4 ∗ (WB P O c 3 1 ∗ G)) := by
  iintro ⟨b, t, x1, x2, x3, x4, g⟩
  isplitl [b]
  · iexact b
  isplitl [x1]
  · iexact x1
  isplitl [x2]
  · iexact x2
  isplitl [x3]
  · iexact x3
  isplitl [x4]
  · iexact x4
  isplitl [t]
  · iapply (wait_end P O c 3 1)
    iexact t
  iexact g

/-- The first half's copies are all over. -/
theorem phase13 (B T1 T2 : sProp 𝕄) (G : sProp 𝕄) :
    iprop(B ∗ Trk (waitA c 0 0) (waitB P O c 0 0) 15 ∗ Trk (waitA c 2 0) (waitB P O c 2 0) 15 ∗ T1 ∗ T2 ∗ G)
      ⊢ iprop(B ∗ T1 ∗ T2 ∗ (WB P O c 0 0 ∗ WB P O c 2 0 ∗ G)) := by
  iintro ⟨b, t, u, x1, x2, g⟩
  isplitl [b]
  · iexact b
  isplitl [x1]
  · iexact x1
  isplitl [x2]
  · iexact x2
  isplitl [t]
  · iapply (wait_end P O c 0 0)
    iexact t
  isplitl [u]
  · iapply (wait_end P O c 2 0)
    iexact u
  iexact g

/-- The second half's copies are all over. -/
theorem phase14 (B : sProp 𝕄) (G : sProp 𝕄) :
    iprop(B ∗ Trk (waitA c 0 1) (waitB P O c 0 1) 15 ∗ Trk (waitA c 2 1) (waitB P O c 2 1) 15 ∗ G)
      ⊢ iprop(B ∗ WB P O c 0 1 ∗ WB P O c 2 1 ∗ G) := by
  iintro ⟨b, t, u, g⟩
  isplitl [b]
  · iexact b
  isplitl [t]
  · iapply (wait_end P O c 0 1)
    iexact t
  isplitl [u]
  · iapply (wait_end P O c 2 1)
    iexact u
  iexact g

end Cert.KernelIdeal.Talk

end
-- ==== Proof.KI.PartsA.lean ====
/-
  The kernel's stretches 1 to 15: what each uses and leaves.
-/
module

public import proofs.«01_k».proof.Proof.KI.Moves
public import proofs.«01_k».proof.Proof.Gen.KernelIdeal.Skeleton

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

open Cert.KernelIdeal.Gen

variable {F : FTy → Type} [FloatOps F] [Named F]

local notation "𝕄" => MT nD τ sig Unit (Elt F) ℕ UU ℕ

variable (X : Dev nD → Ins F) (K : GSem nD τ sig → ℕ) (c : Dev nD)

set_option maxRecDepth 8000

/-- Stretch 1. -/
theorem part1 (o : CellTallies nD τ sig Unit) (G : sProp 𝕄) :
    iprop(base (PX X) (OX X) K c (oS (gBar c) 1 0 + o) ∗ Trk (sigA c) sigB 0 ∗ G)
      ⊢ wpc c (k0_part1 M0 W0 M1 W1 M2 W2 M3 W3 M4 W4 M5 W5 M6 W6 M7 W7 cc0_scratch2 cc0_scratch3 cc0_scratch4 cc0_scratch5)
        (fun r => iprop(⌜r.1 = c ∧ r.2.2.1 = SemArray.scalar (sig.barrier 0 rfl)⌝ ∗ base (PX X) (OX X) K c (oS (gBar c) 1 2 + o) ∗ Trk (sigA c) sigB 2 ∗ G)) := by
  rw [k0_part1_eq_skeleton]; unfold k0_part1_skel
  refine wpc_seq_eq wpc_device ?_
  refine wpc_seq (step_signal (PX X) (OX X) K c 0 (by decide) _ (dev1 c) _ rfl o _) fun _ => ?_
  refine wpc_seq (step_signal (PX X) (OX X) K c 1 (by decide) _ (dev2 c) _ rfl o _) fun _ => ?_
  exact wpc_ret_fact ⟨rfl, rfl⟩

/-- Stretch 2. -/
theorem part2 (v2 : BitVec 32) (v30 : BitVec 32) (c16_i32_18 : BitVec 32) (v31 : BitVec 1) (o : CellTallies nD τ sig Unit) (G : sProp 𝕄) :
    iprop(base (PX X) (OX X) K c (oS (gBar c) 1 2 + o) ∗ Trk (sigA c) sigB 2 ∗ G)
      ⊢ wpc c (k0_part2 M0 W0 M1 W1 M2 W2 M3 W3 M4 W4 M5 W5 M6 W6 M7 W7 cc0_scratch2 cc0_scratch3 cc0_scratch4 cc0_scratch5 c v2 (SemArray.scalar (sig.barrier 0 rfl)) v30 c16_i32_18 v31)
        (fun _ => iprop(base (PX X) (OX X) K c (oS (gBar c) 1 4 + o) ∗ Trk (sigA c) sigB 4 ∗ G)) := by
  rw [k0_part2_eq_skeleton]; unfold k0_part2_skel
  refine wpc_seq (step_signal (PX X) (OX X) K c 2 (by decide) _ (dev3 c) _ rfl o _) fun _ => ?_
  refine wpc_seq (step_signal (PX X) (OX X) K c 3 (by decide) _ (dev4 c) _ rfl o _) fun _ => ?_
  exact wpc_ret .rfl

/-- Stretch 3. -/
theorem part3 (v2 : BitVec 32) (v59 : BitVec 32) (v64 : BitVec 1) (v65 : BitVec 32) (o : CellTallies nD τ sig Unit) (G : sProp 𝕄) :
    iprop(base (PX X) (OX X) K c (oS (gBar c) 1 4 + o) ∗ Trk (sigA c) sigB 4 ∗ G)
      ⊢ wpc c (k0_part3 M0 W0 M1 W1 M2 W2 M3 W3 M4 W4 M5 W5 M6 W6 M7 W7 cc0_scratch2 cc0_scratch3 cc0_scratch4 cc0_scratch5 c v2 (SemArray.scalar (sig.barrier 0 rfl)) v59 v64 v65)
        (fun _ => iprop(base (PX X) (OX X) K c (oS (gBar c) 1 7 + o) ∗ Trk (sigA c) sigB 7 ∗ G)) := by
  rw [k0_part3_eq_skeleton]; unfold k0_part3_skel
  refine wpc_seq (step_signal (PX X) (OX X) K c 4 (by decide) _ (dev5 c) _ rfl o _) fun _ => ?_
  refine wpc_seq (step_signal (PX X) (OX X) K c 5 (by decide) _ (dev6 c) _ rfl o _) fun _ => ?_
  refine wpc_seq (step_signal (PX X) (OX X) K c 6 (by decide) _ (dev7 c) _ rfl o _) fun _ => ?_
  exact wpc_ret .rfl

/-- Stretch 4. -/
theorem part4 (v2 : BitVec 32) (v95 : BitVec 32) (c16_i32_63 : BitVec 32) (v96 : BitVec 1) (o : CellTallies nD τ sig Unit) (G : sProp 𝕄) :
    iprop(base (PX X) (OX X) K c (oS (gBar c) 1 7 + o) ∗ Trk (sigA c) sigB 7 ∗ G)
      ⊢ wpc c (k0_part4 M0 W0 M1 W1 M2 W2 M3 W3 M4 W4 M5 W5 M6 W6 M7 W7 cc0_scratch2 cc0_scratch3 cc0_scratch4 cc0_scratch5 c v2 (SemArray.scalar (sig.barrier 0 rfl)) v95 c16_i32_63 v96)
        (fun _ => iprop(base (PX X) (OX X) K c (oS (gBar c) 1 9 + o) ∗ Trk (sigA c) sigB 9 ∗ G)) := by
  rw [k0_part4_eq_skeleton]; unfold k0_part4_skel
  refine wpc_seq (step_signal (PX X) (OX X) K c 7 (by decide) _ (dev8 c) _ rfl o _) fun _ => ?_
  refine wpc_seq (step_signal (PX X) (OX X) K c 8 (by decide) _ (dev9 c) _ rfl o _) fun _ => ?_
  exact wpc_ret .rfl

/-- Stretch 5. -/
theorem part5 (v2 : BitVec 32) (v124 : BitVec 32) (v129 : BitVec 1) (v130 : BitVec 32) (o : CellTallies nD τ sig Unit) (G : sProp 𝕄) :
    iprop(base (PX X) (OX X) K c (oS (gBar c) 1 9 + o) ∗ Trk (sigA c) sigB 9 ∗ G)
      ⊢ wpc c (k0_part5 M0 W0 M1 W1 M2 W2 M3 W3 M4 W4 M5 W5 M6 W6 M7 W7 cc0_scratch2 cc0_scratch3 cc0_scratch4 cc0_scratch5 c v2 (SemArray.scalar (sig.barrier 0 rfl)) v124 v129 v130)
        (fun _ => iprop(base (PX X) (OX X) K c (oS (gBar c) 1 12 + o) ∗ Trk (sigA c) sigB 12 ∗ G)) := by
  rw [k0_part5_eq_skeleton]; unfold k0_part5_skel
  refine wpc_seq (step_signal (PX X) (OX X) K c 9 (by decide) _ (dev10 c) _ rfl o _) fun _ => ?_
  refine wpc_seq (step_signal (PX X) (OX X) K c 10 (by decide) _ (dev11 c) _ rfl o _) fun _ => ?_
  refine wpc_seq (step_signal (PX X) (OX X) K c 11 (by decide) _ (dev12 c) _ rfl o _) fun _ => ?_
  exact wpc_ret .rfl

/-- Stretch 6. -/
theorem part6 (v2 : BitVec 32) (v160 : BitVec 32) (c16_i32_108 : BitVec 32) (v161 : BitVec 1) (o : CellTallies nD τ sig Unit) (G : sProp 𝕄) :
    iprop(base (PX X) (OX X) K c (oS (gBar c) 1 12 + o) ∗ Trk (sigA c) sigB 12 ∗ G)
      ⊢ wpc c (k0_part6 M0 W0 M1 W1 M2 W2 M3 W3 M4 W4 M5 W5 M6 W6 M7 W7 cc0_scratch2 cc0_scratch3 cc0_scratch4 cc0_scratch5 c v2 (SemArray.scalar (sig.barrier 0 rfl)) v160 c16_i32_108 v161)
        (fun _ => iprop(base (PX X) (OX X) K c (oS (gBar c) 1 14 + o) ∗ Trk (sigA c) sigB 14 ∗ G)) := by
  rw [k0_part6_eq_skeleton]; unfold k0_part6_skel
  refine wpc_seq (step_signal (PX X) (OX X) K c 12 (by decide) _ (dev13 c) _ rfl o _) fun _ => ?_
  refine wpc_seq (step_signal (PX X) (OX X) K c 13 (by decide) _ (dev14 c) _ rfl o _) fun _ => ?_
  exact wpc_ret .rfl

/-- Stretch 7. -/
theorem part7 (v189 : BitVec 32) (v194 : BitVec 1) (v195 : BitVec 32) (o : CellTallies nD τ sig Unit) (G : sProp 𝕄) :
    iprop(base (PX X) (OX X) K c (oS (gBar c) 1 14 + o) ∗ Trk (sigA c) sigB 14 ∗ ins c (X c) ∗ G)
      ⊢ wpc c (k0_part7 M0 W0 M1 W1 M2 W2 M3 W3 M4 W4 M5 W5 M6 W6 M7 W7 cc0_scratch2 cc0_scratch3 cc0_scratch4 cc0_scratch5 c (SemArray.scalar (sig.barrier 0 rfl)) v189 v194 v195)
        (fun r => iprop(⌜r = ⟨k0_pay1, k0_pay2 (rdWq (X c)), k0_pay3 (rdWo (X c)), k0_pay4 (rdWq (X c)) (rdX0 (X c)), k0_pay5 (rdWq (X c)) (rdX0 (X c)) (rdK (X c) ![0, 0, 0, 0] inb_S2x4x256x64_S1x1x256x64_0_0_0_0) (rdV (X c) ![0, 0, 0, 0] inb_S2x4x256x64_S1x1x256x64_0_0_0_0)⟩⌝ ∗ base (PX X) (OX X) K c (oS (gBar c) 1 15 + o) ∗ Trk (sigA c) sigB 15 ∗ ins c (X c) ∗ G)) := by
  rw [k0_part7_eq_skeleton]; unfold k0_part7_skel
  refine wpc_seq (step_signal (PX X) (OX X) K c 14 (by decide) _ (dev15 c) _ rfl o _) fun _ => ?_
  refine wpc_seq_eq (step_load (Finset.subset_univ _) (acc_right (acc_right (acc_left (acc_wq c (X c)))))) ?_
  refine wpc_seq_eq (step_load (Finset.subset_univ _) (acc_right (acc_right (acc_left (acc_wo c (X c)))))) ?_
  refine wpc_seq_eq (step_load (Finset.subset_univ _) (acc_right (acc_right (acc_left (acc_x c (X c)))))) ?_
  refine wpc_seq_eq (step_load (Finset.subset_univ _) (acc_right (acc_right (acc_left (acc_k c (X c)))))) ?_
  refine wpc_seq_eq (step_load (Finset.subset_univ _) (acc_right (acc_right (acc_left (acc_v c (X c)))))) ?_
  exact wpc_ret_fact rfl

/-- Stretch 8. -/
theorem part8 (v204 : IVec S256x256 1) (v212 : FVec F S256x256 .bf16) (o : CellTallies nD τ sig Unit) (T : sProp 𝕄) (G : sProp 𝕄) :
    iprop(base (PX X) (OX X) K c o ∗ T ∗ ins c (X c) ∗ G)
      ⊢ wpc c (k0_part8 M0 W0 M1 W1 M2 W2 M3 W3 M4 W4 M5 W5 M6 W6 M7 W7 cc0_scratch2 cc0_scratch3 cc0_scratch4 cc0_scratch5 v204 v212)
        (fun r => iprop(⌜r = ⟨k0_pay6 v204 v212 (rdK (X c) ![0, 1, 0, 0] inb_S2x4x256x64_S1x1x256x64_0_1_0_0) (rdV (X c) ![0, 1, 0, 0] inb_S2x4x256x64_S1x1x256x64_0_1_0_0), k0_pay7 (rdV (X c) ![0, 2, 0, 0] inb_S2x4x256x64_S1x1x256x64_0_2_0_0), k0_pay8 v204 v212 (rdK (X c) ![0, 2, 0, 0] inb_S2x4x256x64_S1x1x256x64_0_2_0_0), (constant S256x64 .f32 0x00000000#32)⟩⌝ ∗ base (PX X) (OX X) K c o ∗ T ∗ ins c (X c) ∗ G)) := by
  rw [k0_part8_eq_skeleton]; unfold k0_part8_skel
  refine wpc_seq_eq (step_load (Finset.subset_univ _) (acc_right (acc_right (acc_left (acc_k c (X c)))))) ?_
  refine wpc_seq_eq (step_load (Finset.subset_univ _) (acc_right (acc_right (acc_left (acc_v c (X c)))))) ?_
  refine wpc_seq_eq (step_load (Finset.subset_univ _) (acc_right (acc_right (acc_left (acc_k c (X c)))))) ?_
  refine wpc_seq_eq (step_load (Finset.subset_univ _) (acc_right (acc_right (acc_left (acc_v c (X c)))))) ?_
  exact wpc_ret_fact rfl

/-- Stretch 9. -/
theorem part9 (v2 : BitVec 32) (v204 : IVec S256x256 1) (v208 : FVec F S256x512 .bf16) (v212 : FVec F S256x256 .bf16) (v230 : FVec F S256x64 .bf16) (v248 : FVec F S256x64 .bf16) (v253 : FVec F S256x64 .bf16) (v264 : FVec F S256x256 .bf16) (cst_176 : FVec F S256x64 .f32) (o : CellTallies nD τ sig Unit) (hO : ∀ g u, 0 < o g u → ∃ p y, g = cell p y ∧ 1 < lvOf (some y)) (hv : k0_pay9 v204 v208 v212 v230 v248 v253 v264 cst_176 (rdK (X c) ![0, 3, 0, 0] inb_S2x4x256x64_S1x1x256x64_0_3_0_0) (rdV (X c) ![0, 3, 0, 0] inb_S2x4x256x64_S1x1x256x64_0_3_0_0) = half0 (X c)) (G : sProp 𝕄) :
    iprop(base (PX X) (OX X) K c o ∗ barA c ∗ ins c (X c) ∗ halfAny c 0 ∗ G)
      ⊢ wpc c (k0_part9 M0 W0 M1 W1 M2 W2 M3 W3 M4 W4 M5 W5 M6 W6 M7 W7 cc0_scratch2 cc0_scratch3 cc0_scratch4 cc0_scratch5 v2 (SemArray.scalar (sig.barrier 0 rfl)) v204 v208 v212 v230 v248 v253 v264 cst_176)
        (fun _ => iprop(base (PX X) (OX X) K c o ∗ (atPos ER (cell c none) 1 ∅ 0 ∗ bigSep Finset.univ (barPay c)) ∗ ins c (X c) ∗ halfPt c 0 (PX X c) ∗ G)) := by
  rw [k0_part9_eq_skeleton]; unfold k0_part9_skel
  refine wpc_seq_eq (step_load (Finset.subset_univ _) (acc_right (acc_right (acc_left (acc_k c (X c)))))) ?_
  refine wpc_seq_eq (step_load (Finset.subset_univ _) (acc_right (acc_right (acc_left (acc_v c (X c)))))) ?_
  refine wpc_seq (step_load_any (half_load 0 _ _ rfl) (acc_right (acc_right (acc_right (acc_left acc_self))))) fun _ => ?_
  have hs := half_stored0 (X c) ![0, 0] inb_S512x512_S256x512_0_0 rfl
  rw [← hv] at hs
  refine wpc_seq (step_store (g := PX X c) (le_of_eq (half_set 0 _ _ rfl)) (by exact hs) (chg_right (chg_right (chg_right (chg_left chg_self))))) fun _ => ?_
  refine wpc_seq (step_barrier (PX X) (OX X) K c _ rfl o hO _) fun _ => ?_
  exact wpc_ret .rfl

/-- Stretch 10. -/
theorem part10 (v2 : BitVec 32) (v293 : BitVec 32) (v294 : BitVec 32) (v295 : BitVec 1) (v296 : BitVec 1) (v297 : BitVec 1) (o : CellTallies nD τ sig Unit) (G : sProp 𝕄) :
    iprop(base (PX X) (OX X) K c (oS (gDma c 1 0) N 0 + o) ∗ Trk (sendA (PX X) c 0) (sendB c 0 0) 0 ∗ G)
      ⊢ wpc c (k0_part10 M0 W0 M1 W1 M2 W2 M3 W3 M4 W4 M5 W5 M6 W6 M7 W7 cc0_scratch2 cc0_scratch3 cc0_scratch4 cc0_scratch5 c v2 v293 v294 v295 v296 v297)
        (fun _ => iprop(base (PX X) (OX X) K c (oS (gDma c 1 0) N 1 + o) ∗ Trk (sendA (PX X) c 0) (sendB c 0 0) 1 ∗ G)) := by
  rw [k0_part10_eq_skeleton]; unfold k0_part10_skel
  refine wpc_seq (step_send (PX X) (OX X) K c 0 0 (by decide) _ (dev16 c) _ _ rfl rfl _ _ (off1_0_0 c) _ _ _ rfl o _) fun _ => ?_
  exact wpc_ret .rfl

/-- Stretch 11. -/
theorem part11 (v2 : BitVec 32) (o : CellTallies nD τ sig Unit) (G : sProp 𝕄) :
    iprop(base (PX X) (OX X) K c (oS (gDma c 1 0) N 1 + o) ∗ Trk (sendA (PX X) c 0) (sendB c 0 0) 1 ∗ G)
      ⊢ wpc c (k0_part11 M0 W0 M1 W1 M2 W2 M3 W3 M4 W4 M5 W5 M6 W6 M7 W7 cc0_scratch2 cc0_scratch3 cc0_scratch4 cc0_scratch5 c v2)
        (fun _ => iprop(base (PX X) (OX X) K c (oS (gDma c 1 0) N 3 + o) ∗ Trk (sendA (PX X) c 0) (sendB c 0 0) 3 ∗ G)) := by
  rw [k0_part11_eq_skeleton]; unfold k0_part11_skel
  refine wpc_seq (step_send (PX X) (OX X) K c 0 1 (by decide) _ (dev17 c) _ _ rfl rfl _ _ (off1_0_1 c) _ _ _ rfl o _) fun _ => ?_
  refine wpc_seq (step_send (PX X) (OX X) K c 0 2 (by decide) _ (dev18 c) _ _ rfl rfl _ _ (off1_0_2 c) _ _ _ rfl o _) fun _ => ?_
  exact wpc_ret .rfl

/-- Stretch 12. -/
theorem part12 (v2 : BitVec 32) (v359 : BitVec 32) (v360 : BitVec 32) (v361 : BitVec 1) (v362 : BitVec 1) (v363 : BitVec 1) (o : CellTallies nD τ sig Unit) (G : sProp 𝕄) :
    iprop(base (PX X) (OX X) K c (oS (gDma c 1 0) N 3 + o) ∗ Trk (sendA (PX X) c 0) (sendB c 0 0) 3 ∗ G)
      ⊢ wpc c (k0_part12 M0 W0 M1 W1 M2 W2 M3 W3 M4 W4 M5 W5 M6 W6 M7 W7 cc0_scratch2 cc0_scratch3 cc0_scratch4 cc0_scratch5 c v2 v359 v360 v361 v362 v363)
        (fun _ => iprop(base (PX X) (OX X) K c (oS (gDma c 1 0) N 4 + o) ∗ Trk (sendA (PX X) c 0) (sendB c 0 0) 4 ∗ G)) := by
  rw [k0_part12_eq_skeleton]; unfold k0_part12_skel
  refine wpc_seq (step_send (PX X) (OX X) K c 0 3 (by decide) _ (dev19 c) _ _ rfl rfl _ _ (off1_0_3 c) _ _ _ rfl o _) fun _ => ?_
  exact wpc_ret .rfl

/-- Stretch 13. -/
theorem part13 (v2 : BitVec 32) (o : CellTallies nD τ sig Unit) (G : sProp 𝕄) :
    iprop(base (PX X) (OX X) K c (oS (gDma c 1 0) N 4 + o) ∗ Trk (sendA (PX X) c 0) (sendB c 0 0) 4 ∗ G)
      ⊢ wpc c (k0_part13 M0 W0 M1 W1 M2 W2 M3 W3 M4 W4 M5 W5 M6 W6 M7 W7 cc0_scratch2 cc0_scratch3 cc0_scratch4 cc0_scratch5 c v2)
        (fun _ => iprop(base (PX X) (OX X) K c (oS (gDma c 1 0) N 6 + o) ∗ Trk (sendA (PX X) c 0) (sendB c 0 0) 6 ∗ G)) := by
  rw [k0_part13_eq_skeleton]; unfold k0_part13_skel
  refine wpc_seq (step_send (PX X) (OX X) K c 0 4 (by decide) _ (dev20 c) _ _ rfl rfl _ _ (off1_0_4 c) _ _ _ rfl o _) fun _ => ?_
  refine wpc_seq (step_send (PX X) (OX X) K c 0 5 (by decide) _ (dev21 c) _ _ rfl rfl _ _ (off1_0_5 c) _ _ _ rfl o _) fun _ => ?_
  exact wpc_ret .rfl

/-- Stretch 14. -/
theorem part14 (v2 : BitVec 32) (v425 : BitVec 32) (v426 : BitVec 32) (v427 : BitVec 1) (v428 : BitVec 1) (v429 : BitVec 1) (o : CellTallies nD τ sig Unit) (G : sProp 𝕄) :
    iprop(base (PX X) (OX X) K c (oS (gDma c 1 0) N 6 + o) ∗ Trk (sendA (PX X) c 0) (sendB c 0 0) 6 ∗ G)
      ⊢ wpc c (k0_part14 M0 W0 M1 W1 M2 W2 M3 W3 M4 W4 M5 W5 M6 W6 M7 W7 cc0_scratch2 cc0_scratch3 cc0_scratch4 cc0_scratch5 c v2 v425 v426 v427 v428 v429)
        (fun _ => iprop(base (PX X) (OX X) K c (oS (gDma c 1 0) N 7 + o) ∗ Trk (sendA (PX X) c 0) (sendB c 0 0) 7 ∗ G)) := by
  rw [k0_part14_eq_skeleton]; unfold k0_part14_skel
  refine wpc_seq (step_send (PX X) (OX X) K c 0 6 (by decide) _ (dev22 c) _ _ rfl rfl _ _ (off1_0_6 c) _ _ _ rfl o _) fun _ => ?_
  exact wpc_ret .rfl

/-- Stretch 15. -/
theorem part15 (v2 : BitVec 32) (o : CellTallies nD τ sig Unit) (G : sProp 𝕄) :
    iprop(base (PX X) (OX X) K c (oS (gDma c 1 0) N 7 + o) ∗ Trk (sendA (PX X) c 0) (sendB c 0 0) 7 ∗ G)
      ⊢ wpc c (k0_part15 M0 W0 M1 W1 M2 W2 M3 W3 M4 W4 M5 W5 M6 W6 M7 W7 cc0_scratch2 cc0_scratch3 cc0_scratch4 cc0_scratch5 c v2)
        (fun _ => iprop(base (PX X) (OX X) K c (oS (gDma c 1 0) N 9 + o) ∗ Trk (sendA (PX X) c 0) (sendB c 0 0) 9 ∗ G)) := by
  rw [k0_part15_eq_skeleton]; unfold k0_part15_skel
  refine wpc_seq (step_send (PX X) (OX X) K c 0 7 (by decide) _ (dev23 c) _ _ rfl rfl _ _ (off1_0_7 c) _ _ _ rfl o _) fun _ => ?_
  refine wpc_seq (step_send (PX X) (OX X) K c 0 8 (by decide) _ (dev24 c) _ _ rfl rfl _ _ (off1_0_8 c) _ _ _ rfl o _) fun _ => ?_
  exact wpc_ret .rfl

end Cert.KernelIdeal.Talk

end
-- ==== Proof.KI.PartsB.lean ====
/-
  The kernel's stretches 16 to 31: what each uses and leaves.
-/
module

public import proofs.«01_k».proof.Proof.KI.Moves
public import proofs.«01_k».proof.Proof.Gen.KernelIdeal.Skeleton

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

open Cert.KernelIdeal.Gen

variable {F : FTy → Type} [FloatOps F] [Named F]

local notation "𝕄" => MT nD τ sig Unit (Elt F) ℕ UU ℕ

variable (X : Dev nD → Ins F) (K : GSem nD τ sig → ℕ) (c : Dev nD)

set_option maxRecDepth 8000

/-- Stretch 16. -/
theorem part16 (v2 : BitVec 32) (v491 : BitVec 32) (v492 : BitVec 32) (v493 : BitVec 1) (v494 : BitVec 1) (v495 : BitVec 1) (o : CellTallies nD τ sig Unit) (G : sProp 𝕄) :
    iprop(base (PX X) (OX X) K c (oS (gDma c 1 0) N 9 + o) ∗ Trk (sendA (PX X) c 0) (sendB c 0 0) 9 ∗ G)
      ⊢ wpc c (k0_part16 M0 W0 M1 W1 M2 W2 M3 W3 M4 W4 M5 W5 M6 W6 M7 W7 cc0_scratch2 cc0_scratch3 cc0_scratch4 cc0_scratch5 c v2 v491 v492 v493 v494 v495)
        (fun _ => iprop(base (PX X) (OX X) K c (oS (gDma c 1 0) N 10 + o) ∗ Trk (sendA (PX X) c 0) (sendB c 0 0) 10 ∗ G)) := by
  rw [k0_part16_eq_skeleton]; unfold k0_part16_skel
  refine wpc_seq (step_send (PX X) (OX X) K c 0 9 (by decide) _ (dev25 c) _ _ rfl rfl _ _ (off1_0_9 c) _ _ _ rfl o _) fun _ => ?_
  exact wpc_ret .rfl

/-- Stretch 17. -/
theorem part17 (v2 : BitVec 32) (o : CellTallies nD τ sig Unit) (G : sProp 𝕄) :
    iprop(base (PX X) (OX X) K c (oS (gDma c 1 0) N 10 + o) ∗ Trk (sendA (PX X) c 0) (sendB c 0 0) 10 ∗ G)
      ⊢ wpc c (k0_part17 M0 W0 M1 W1 M2 W2 M3 W3 M4 W4 M5 W5 M6 W6 M7 W7 cc0_scratch2 cc0_scratch3 cc0_scratch4 cc0_scratch5 c v2)
        (fun _ => iprop(base (PX X) (OX X) K c (oS (gDma c 1 0) N 12 + o) ∗ Trk (sendA (PX X) c 0) (sendB c 0 0) 12 ∗ G)) := by
  rw [k0_part17_eq_skeleton]; unfold k0_part17_skel
  refine wpc_seq (step_send (PX X) (OX X) K c 0 10 (by decide) _ (dev26 c) _ _ rfl rfl _ _ (off1_0_10 c) _ _ _ rfl o _) fun _ => ?_
  refine wpc_seq (step_send (PX X) (OX X) K c 0 11 (by decide) _ (dev27 c) _ _ rfl rfl _ _ (off1_0_11 c) _ _ _ rfl o _) fun _ => ?_
  exact wpc_ret .rfl

/-- Stretch 18. -/
theorem part18 (v2 : BitVec 32) (v557 : BitVec 32) (v558 : BitVec 32) (v559 : BitVec 1) (v560 : BitVec 1) (v561 : BitVec 1) (o : CellTallies nD τ sig Unit) (G : sProp 𝕄) :
    iprop(base (PX X) (OX X) K c (oS (gDma c 1 0) N 12 + o) ∗ Trk (sendA (PX X) c 0) (sendB c 0 0) 12 ∗ G)
      ⊢ wpc c (k0_part18 M0 W0 M1 W1 M2 W2 M3 W3 M4 W4 M5 W5 M6 W6 M7 W7 cc0_scratch2 cc0_scratch3 cc0_scratch4 cc0_scratch5 c v2 v557 v558 v559 v560 v561)
        (fun _ => iprop(base (PX X) (OX X) K c (oS (gDma c 1 0) N 13 + o) ∗ Trk (sendA (PX X) c 0) (sendB c 0 0) 13 ∗ G)) := by
  rw [k0_part18_eq_skeleton]; unfold k0_part18_skel
  refine wpc_seq (step_send (PX X) (OX X) K c 0 12 (by decide) _ (dev28 c) _ _ rfl rfl _ _ (off1_0_12 c) _ _ _ rfl o _) fun _ => ?_
  exact wpc_ret .rfl

/-- Stretch 19. -/
theorem part19 (v2 : BitVec 32) (v206 : FVec F S512x256 .bf16) (o : CellTallies nD τ sig Unit) (G : sProp 𝕄) :
    iprop(base (PX X) (OX X) K c (oS (gDma c 1 0) N 13 + o) ∗ Trk (sendA (PX X) c 0) (sendB c 0 0) 13 ∗ ins c (X c) ∗ G)
      ⊢ wpc c (k0_part19 M0 W0 M1 W1 M2 W2 M3 W3 M4 W4 M5 W5 M6 W6 M7 W7 cc0_scratch2 cc0_scratch3 cc0_scratch4 cc0_scratch5 c v2 v206)
        (fun r => iprop(⌜r = ⟨k0_pay10 v206 (rdX1 (X c)), k0_pay11 v206 (rdX1 (X c)), k0_pay12 (rdK (X c) ![1, 0, 0, 0] inb_S2x4x256x64_S1x1x256x64_1_0_0_0)⟩⌝ ∗ base (PX X) (OX X) K c (oS (gDma c 1 0) N 15 + o) ∗ Trk (sendA (PX X) c 0) (sendB c 0 0) 15 ∗ ins c (X c) ∗ G)) := by
  rw [k0_part19_eq_skeleton]; unfold k0_part19_skel
  refine wpc_seq (step_send (PX X) (OX X) K c 0 13 (by decide) _ (dev29 c) _ _ rfl rfl _ _ (off1_0_13 c) _ _ _ rfl o _) fun _ => ?_
  refine wpc_seq (step_send (PX X) (OX X) K c 0 14 (by decide) _ (dev30 c) _ _ rfl rfl _ _ (off1_0_14 c) _ _ _ rfl o _) fun _ => ?_
  refine wpc_seq_eq (step_load (Finset.subset_univ _) (acc_right (acc_right (acc_left (acc_x c (X c)))))) ?_
  refine wpc_seq_eq (step_load (Finset.subset_univ _) (acc_right (acc_right (acc_left (acc_k c (X c)))))) ?_
  exact wpc_ret_fact rfl

/-- Stretch 20. -/
theorem part20 (v204 : IVec S256x256 1) (v624 : FVec F S256x256 .bf16) (v625 : FVec F S256x64 .bf16) (v627 : FVec F S256x64 .bf16) (o : CellTallies nD τ sig Unit) (T : sProp 𝕄) (G : sProp 𝕄) :
    iprop(base (PX X) (OX X) K c o ∗ T ∗ ins c (X c) ∗ G)
      ⊢ wpc c (k0_part20 M0 W0 M1 W1 M2 W2 M3 W3 M4 W4 M5 W5 M6 W6 M7 W7 cc0_scratch2 cc0_scratch3 cc0_scratch4 cc0_scratch5 v204 v624 v625 v627)
        (fun r => iprop(⌜r = ⟨k0_pay13 v204 v625 v627 (rdV (X c) ![1, 0, 0, 0] inb_S2x4x256x64_S1x1x256x64_1_0_0_0), k0_pay14 v204 v624 (rdK (X c) ![1, 1, 0, 0] inb_S2x4x256x64_S1x1x256x64_1_1_0_0) (rdV (X c) ![1, 1, 0, 0] inb_S2x4x256x64_S1x1x256x64_1_1_0_0), k0_pay15 v624⟩⌝ ∗ base (PX X) (OX X) K c o ∗ T ∗ ins c (X c) ∗ G)) := by
  rw [k0_part20_eq_skeleton]; unfold k0_part20_skel
  refine wpc_seq_eq (step_load (Finset.subset_univ _) (acc_right (acc_right (acc_left (acc_v c (X c)))))) ?_
  refine wpc_seq_eq (step_load (Finset.subset_univ _) (acc_right (acc_right (acc_left (acc_k c (X c)))))) ?_
  refine wpc_seq_eq (step_load (Finset.subset_univ _) (acc_right (acc_right (acc_left (acc_v c (X c)))))) ?_
  exact wpc_ret_fact rfl

/-- Stretch 21. -/
theorem part21 (v204 : IVec S256x256 1) (v208 : FVec F S256x512 .bf16) (v624 : FVec F S256x256 .bf16) (v642 : FVec F S256x64 .bf16) (v660 : FVec F S256x64 .bf16) (v661 : FVec F S256x64 .bf16) (o : CellTallies nD τ sig Unit) (T : sProp 𝕄) (G : sProp 𝕄) :
    iprop(base (PX X) (OX X) K c o ∗ T ∗ ins c (X c) ∗ G)
      ⊢ wpc c (k0_part21 M0 W0 M1 W1 M2 W2 M3 W3 M4 W4 M5 W5 M6 W6 M7 W7 cc0_scratch2 cc0_scratch3 cc0_scratch4 cc0_scratch5 v204 v208 v624 v642 v660 v661)
        (fun r => iprop(⌜r = (k0_pay16 v204 v208 v624 v642 v660 v661 (rdK (X c) ![1, 2, 0, 0] inb_S2x4x256x64_S1x1x256x64_1_2_0_0) (rdV (X c) ![1, 2, 0, 0] inb_S2x4x256x64_S1x1x256x64_1_2_0_0) (rdK (X c) ![1, 3, 0, 0] inb_S2x4x256x64_S1x1x256x64_1_3_0_0) (rdV (X c) ![1, 3, 0, 0] inb_S2x4x256x64_S1x1x256x64_1_3_0_0))⌝ ∗ base (PX X) (OX X) K c o ∗ T ∗ ins c (X c) ∗ G)) := by
  rw [k0_part21_eq_skeleton]; unfold k0_part21_skel
  refine wpc_seq_eq (step_load (Finset.subset_univ _) (acc_right (acc_right (acc_left (acc_k c (X c)))))) ?_
  refine wpc_seq_eq (step_load (Finset.subset_univ _) (acc_right (acc_right (acc_left (acc_v c (X c)))))) ?_
  refine wpc_seq_eq (step_load (Finset.subset_univ _) (acc_right (acc_right (acc_left (acc_k c (X c)))))) ?_
  refine wpc_seq_eq (step_load (Finset.subset_univ _) (acc_right (acc_right (acc_left (acc_v c (X c)))))) ?_
  exact wpc_ret_fact rfl

/-- Stretch 22. -/
theorem part22 (v2 : BitVec 32) (v698 : FVec F S256x512 .f32) (o : CellTallies nD τ sig Unit) (hv : k0_pay17 v698 = half1 (X c)) (G : sProp 𝕄) :
    iprop(base (PX X) (OX X) K c (oS (gDma c 1 1) N 0 + o) ∗ SA c 1 ∗ halfAny c 1 ∗ G)
      ⊢ wpc c (k0_part22 M0 W0 M1 W1 M2 W2 M3 W3 M4 W4 M5 W5 M6 W6 M7 W7 cc0_scratch2 cc0_scratch3 cc0_scratch4 cc0_scratch5 c v2 v698)
        (fun _ => iprop(base (PX X) (OX X) K c (oS (gDma c 1 1) N 1 + o) ∗ Trk (sendA (PX X) c 1) (sendB c 0 1) 1 ∗ partPt c 1 c (PX X c) ∗ G)) := by
  rw [k0_part22_eq_skeleton]; unfold k0_part22_skel
  refine wpc_seq (step_load_any (half_load 1 _ _ rfl) (acc_right (acc_right (acc_left acc_self)))) fun _ => ?_
  have hs := half_stored1 (X c) ![256, 0] inb_S512x512_S256x512_256_0 rfl
  rw [← hv] at hs
  refine wpc_seq (step_store (g := PX X c) (le_of_eq (half_set 1 _ _ rfl)) (by exact hs) (chg_right (chg_right (chg_left chg_self)))) fun _ => ?_
  refine BIBase.Entails.trans (split_send (PX X) c 1 _ _) ?_
  refine wpc_seq (step_send (PX X) (OX X) K c 1 0 (by decide) _ (dev31 c) _ _ rfl rfl _ _ (off1_1_0 c) _ _ _ rfl o _) fun _ => ?_
  exact wpc_ret .rfl

/-- Stretch 23. -/
theorem part23 (v2 : BitVec 32) (v727 : BitVec 32) (v728 : BitVec 32) (v729 : BitVec 1) (v730 : BitVec 1) (c0_i32_527 : BitVec 32) (o : CellTallies nD τ sig Unit) (G : sProp 𝕄) :
    iprop(base (PX X) (OX X) K c (oS (gDma c 1 1) N 1 + o) ∗ Trk (sendA (PX X) c 1) (sendB c 0 1) 1 ∗ G)
      ⊢ wpc c (k0_part23 M0 W0 M1 W1 M2 W2 M3 W3 M4 W4 M5 W5 M6 W6 M7 W7 cc0_scratch2 cc0_scratch3 cc0_scratch4 cc0_scratch5 c v2 v727 v728 v729 v730 c0_i32_527)
        (fun _ => iprop(base (PX X) (OX X) K c (oS (gDma c 1 1) N 2 + o) ∗ Trk (sendA (PX X) c 1) (sendB c 0 1) 2 ∗ G)) := by
  rw [k0_part23_eq_skeleton]; unfold k0_part23_skel
  refine wpc_seq (step_send (PX X) (OX X) K c 1 1 (by decide) _ (dev32 c) _ _ rfl rfl _ _ (off1_1_1 c) _ _ _ rfl o _) fun _ => ?_
  exact wpc_ret .rfl

/-- Stretch 24. -/
theorem part24 (v2 : BitVec 32) (o : CellTallies nD τ sig Unit) (G : sProp 𝕄) :
    iprop(base (PX X) (OX X) K c (oS (gDma c 1 1) N 2 + o) ∗ Trk (sendA (PX X) c 1) (sendB c 0 1) 2 ∗ G)
      ⊢ wpc c (k0_part24 M0 W0 M1 W1 M2 W2 M3 W3 M4 W4 M5 W5 M6 W6 M7 W7 cc0_scratch2 cc0_scratch3 cc0_scratch4 cc0_scratch5 c v2)
        (fun _ => iprop(base (PX X) (OX X) K c (oS (gDma c 1 1) N 4 + o) ∗ Trk (sendA (PX X) c 1) (sendB c 0 1) 4 ∗ G)) := by
  rw [k0_part24_eq_skeleton]; unfold k0_part24_skel
  refine wpc_seq (step_send (PX X) (OX X) K c 1 2 (by decide) _ (dev33 c) _ _ rfl rfl _ _ (off1_1_2 c) _ _ _ rfl o _) fun _ => ?_
  refine wpc_seq (step_send (PX X) (OX X) K c 1 3 (by decide) _ (dev34 c) _ _ rfl rfl _ _ (off1_1_3 c) _ _ _ rfl o _) fun _ => ?_
  exact wpc_ret .rfl

/-- Stretch 25. -/
theorem part25 (v2 : BitVec 32) (v793 : BitVec 32) (v794 : BitVec 32) (v795 : BitVec 1) (v796 : BitVec 1) (c0_i32_576 : BitVec 32) (o : CellTallies nD τ sig Unit) (G : sProp 𝕄) :
    iprop(base (PX X) (OX X) K c (oS (gDma c 1 1) N 4 + o) ∗ Trk (sendA (PX X) c 1) (sendB c 0 1) 4 ∗ G)
      ⊢ wpc c (k0_part25 M0 W0 M1 W1 M2 W2 M3 W3 M4 W4 M5 W5 M6 W6 M7 W7 cc0_scratch2 cc0_scratch3 cc0_scratch4 cc0_scratch5 c v2 v793 v794 v795 v796 c0_i32_576)
        (fun _ => iprop(base (PX X) (OX X) K c (oS (gDma c 1 1) N 5 + o) ∗ Trk (sendA (PX X) c 1) (sendB c 0 1) 5 ∗ G)) := by
  rw [k0_part25_eq_skeleton]; unfold k0_part25_skel
  refine wpc_seq (step_send (PX X) (OX X) K c 1 4 (by decide) _ (dev35 c) _ _ rfl rfl _ _ (off1_1_4 c) _ _ _ rfl o _) fun _ => ?_
  exact wpc_ret .rfl

/-- Stretch 26. -/
theorem part26 (v2 : BitVec 32) (o : CellTallies nD τ sig Unit) (G : sProp 𝕄) :
    iprop(base (PX X) (OX X) K c (oS (gDma c 1 1) N 5 + o) ∗ Trk (sendA (PX X) c 1) (sendB c 0 1) 5 ∗ G)
      ⊢ wpc c (k0_part26 M0 W0 M1 W1 M2 W2 M3 W3 M4 W4 M5 W5 M6 W6 M7 W7 cc0_scratch2 cc0_scratch3 cc0_scratch4 cc0_scratch5 c v2)
        (fun _ => iprop(base (PX X) (OX X) K c (oS (gDma c 1 1) N 7 + o) ∗ Trk (sendA (PX X) c 1) (sendB c 0 1) 7 ∗ G)) := by
  rw [k0_part26_eq_skeleton]; unfold k0_part26_skel
  refine wpc_seq (step_send (PX X) (OX X) K c 1 5 (by decide) _ (dev36 c) _ _ rfl rfl _ _ (off1_1_5 c) _ _ _ rfl o _) fun _ => ?_
  refine wpc_seq (step_send (PX X) (OX X) K c 1 6 (by decide) _ (dev37 c) _ _ rfl rfl _ _ (off1_1_6 c) _ _ _ rfl o _) fun _ => ?_
  exact wpc_ret .rfl

/-- Stretch 27. -/
theorem part27 (v2 : BitVec 32) (v859 : BitVec 32) (v860 : BitVec 32) (v861 : BitVec 1) (v862 : BitVec 1) (c0_i32_624 : BitVec 32) (o : CellTallies nD τ sig Unit) (G : sProp 𝕄) :
    iprop(base (PX X) (OX X) K c (oS (gDma c 1 1) N 7 + o) ∗ Trk (sendA (PX X) c 1) (sendB c 0 1) 7 ∗ G)
      ⊢ wpc c (k0_part27 M0 W0 M1 W1 M2 W2 M3 W3 M4 W4 M5 W5 M6 W6 M7 W7 cc0_scratch2 cc0_scratch3 cc0_scratch4 cc0_scratch5 c v2 v859 v860 v861 v862 c0_i32_624)
        (fun _ => iprop(base (PX X) (OX X) K c (oS (gDma c 1 1) N 8 + o) ∗ Trk (sendA (PX X) c 1) (sendB c 0 1) 8 ∗ G)) := by
  rw [k0_part27_eq_skeleton]; unfold k0_part27_skel
  refine wpc_seq (step_send (PX X) (OX X) K c 1 7 (by decide) _ (dev38 c) _ _ rfl rfl _ _ (off1_1_7 c) _ _ _ rfl o _) fun _ => ?_
  exact wpc_ret .rfl

/-- Stretch 28. -/
theorem part28 (v2 : BitVec 32) (o : CellTallies nD τ sig Unit) (G : sProp 𝕄) :
    iprop(base (PX X) (OX X) K c (oS (gDma c 1 1) N 8 + o) ∗ Trk (sendA (PX X) c 1) (sendB c 0 1) 8 ∗ G)
      ⊢ wpc c (k0_part28 M0 W0 M1 W1 M2 W2 M3 W3 M4 W4 M5 W5 M6 W6 M7 W7 cc0_scratch2 cc0_scratch3 cc0_scratch4 cc0_scratch5 c v2)
        (fun _ => iprop(base (PX X) (OX X) K c (oS (gDma c 1 1) N 10 + o) ∗ Trk (sendA (PX X) c 1) (sendB c 0 1) 10 ∗ G)) := by
  rw [k0_part28_eq_skeleton]; unfold k0_part28_skel
  refine wpc_seq (step_send (PX X) (OX X) K c 1 8 (by decide) _ (dev39 c) _ _ rfl rfl _ _ (off1_1_8 c) _ _ _ rfl o _) fun _ => ?_
  refine wpc_seq (step_send (PX X) (OX X) K c 1 9 (by decide) _ (dev40 c) _ _ rfl rfl _ _ (off1_1_9 c) _ _ _ rfl o _) fun _ => ?_
  exact wpc_ret .rfl

/-- Stretch 29. -/
theorem part29 (v2 : BitVec 32) (v925 : BitVec 32) (v926 : BitVec 32) (v927 : BitVec 1) (v928 : BitVec 1) (c0_i32_672 : BitVec 32) (o : CellTallies nD τ sig Unit) (G : sProp 𝕄) :
    iprop(base (PX X) (OX X) K c (oS (gDma c 1 1) N 10 + o) ∗ Trk (sendA (PX X) c 1) (sendB c 0 1) 10 ∗ G)
      ⊢ wpc c (k0_part29 M0 W0 M1 W1 M2 W2 M3 W3 M4 W4 M5 W5 M6 W6 M7 W7 cc0_scratch2 cc0_scratch3 cc0_scratch4 cc0_scratch5 c v2 v925 v926 v927 v928 c0_i32_672)
        (fun _ => iprop(base (PX X) (OX X) K c (oS (gDma c 1 1) N 11 + o) ∗ Trk (sendA (PX X) c 1) (sendB c 0 1) 11 ∗ G)) := by
  rw [k0_part29_eq_skeleton]; unfold k0_part29_skel
  refine wpc_seq (step_send (PX X) (OX X) K c 1 10 (by decide) _ (dev41 c) _ _ rfl rfl _ _ (off1_1_10 c) _ _ _ rfl o _) fun _ => ?_
  exact wpc_ret .rfl

/-- Stretch 30. -/
theorem part30 (v2 : BitVec 32) (o : CellTallies nD τ sig Unit) (G : sProp 𝕄) :
    iprop(base (PX X) (OX X) K c (oS (gDma c 1 1) N 11 + o) ∗ Trk (sendA (PX X) c 1) (sendB c 0 1) 11 ∗ G)
      ⊢ wpc c (k0_part30 M0 W0 M1 W1 M2 W2 M3 W3 M4 W4 M5 W5 M6 W6 M7 W7 cc0_scratch2 cc0_scratch3 cc0_scratch4 cc0_scratch5 c v2)
        (fun _ => iprop(base (PX X) (OX X) K c (oS (gDma c 1 1) N 13 + o) ∗ Trk (sendA (PX X) c 1) (sendB c 0 1) 13 ∗ G)) := by
  rw [k0_part30_eq_skeleton]; unfold k0_part30_skel
  refine wpc_seq (step_send (PX X) (OX X) K c 1 11 (by decide) _ (dev42 c) _ _ rfl rfl _ _ (off1_1_11 c) _ _ _ rfl o _) fun _ => ?_
  refine wpc_seq (step_send (PX X) (OX X) K c 1 12 (by decide) _ (dev43 c) _ _ rfl rfl _ _ (off1_1_12 c) _ _ _ rfl o _) fun _ => ?_
  exact wpc_ret .rfl

/-- Stretch 31. -/
theorem part31 (v2 : BitVec 32) (v991 : BitVec 32) (v992 : BitVec 32) (v993 : BitVec 1) (v994 : BitVec 1) (c0_i32_720 : BitVec 32) (o : CellTallies nD τ sig Unit) (G : sProp 𝕄) :
    iprop(base (PX X) (OX X) K c (oS (gDma c 1 1) N 13 + o) ∗ Trk (sendA (PX X) c 1) (sendB c 0 1) 13 ∗ G)
      ⊢ wpc c (k0_part31 M0 W0 M1 W1 M2 W2 M3 W3 M4 W4 M5 W5 M6 W6 M7 W7 cc0_scratch2 cc0_scratch3 cc0_scratch4 cc0_scratch5 c v2 v991 v992 v993 v994 c0_i32_720)
        (fun _ => iprop(base (PX X) (OX X) K c (oS (gDma c 1 1) N 14 + o) ∗ Trk (sendA (PX X) c 1) (sendB c 0 1) 14 ∗ G)) := by
  rw [k0_part31_eq_skeleton]; unfold k0_part31_skel
  refine wpc_seq (step_send (PX X) (OX X) K c 1 13 (by decide) _ (dev44 c) _ _ rfl rfl _ _ (off1_1_13 c) _ _ _ rfl o _) fun _ => ?_
  exact wpc_ret .rfl

end Cert.KernelIdeal.Talk

end
-- ==== Proof.KI.PartsC.lean ====
/-
  The kernel's stretches 32 to 53: what each uses and leaves.
-/
module

public import proofs.«01_k».proof.Proof.KI.Moves
public import proofs.«01_k».proof.Proof.Gen.KernelIdeal.Skeleton

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

open Cert.KernelIdeal.Gen

variable {F : FTy → Type} [FloatOps F] [Named F]

local notation "𝕄" => MT nD τ sig Unit (Elt F) ℕ UU ℕ

variable (X : Dev nD → Ins F) (K : GSem nD τ sig → ℕ) (c : Dev nD)

set_option maxRecDepth 8000

/-- Stretch 32. -/
theorem part32 (v2 : BitVec 32) (o : CellTallies nD τ sig Unit) (hO : ∀ g u, 0 < o g u → ∃ p y, g = cell p y ∧ 2 < lvOf (some y)) (G : sProp 𝕄) :
    iprop(base (PX X) (OX X) K c (oS (gDma c 1 1) N 14 + o) ∗ Trk (sendA (PX X) c 1) (sendB c 0 1) 14 ∗ partPt c 0 c (PX X c) ∗ Trk (waitA c 1 0) (waitB (PX X) (OX X) c 1 0) 0 ∗ G)
      ⊢ wpc c (k0_part32 M0 W0 M1 W1 M2 W2 M3 W3 M4 W4 M5 W5 M6 W6 M7 W7 cc0_scratch2 cc0_scratch3 cc0_scratch4 cc0_scratch5 c v2)
        (fun r => iprop(⌜r = (k0_pay18 (rdOwn0 (PX X) c) (rdSlot (PX X) c ![0, 0, 0] inb_S30x16x512_S1x16x512_0_0_0))⌝ ∗ base (PX X) (OX X) K c o ∗ Trk (waitA c 1 0) (waitB (PX X) (OX X) c 1 0) 1 ∗ (Trk (sendA (PX X) c 1) (sendB c 0 1) 15 ∗ partPt c 0 c (PX X c) ∗ G))) := by
  rw [k0_part32_eq_skeleton]; unfold k0_part32_skel
  refine wpc_seq (step_send (PX X) (OX X) K c 1 14 (by decide) _ (dev45 c) _ _ rfl rfl _ _ (off1_1_14 c) _ _ _ rfl o _) fun _ => ?_
  refine wpc_seq_eq (step_load (own_load 0 c _ _ (off2_0 c)) (acc_right (acc_right (acc_left acc_self)))) ?_
  refine BIBase.Entails.trans (to_wait (PX X) (OX X) K c _ _ _ _ _ _) ?_
  refine wpc_seq (step_wait (PX X) (OX X) K c 1 0 0 (by decide) _ rfl (by exact credit_slot _ _ _) o hO _) fun _ => ?_
  refine wpc_seq_eq (step_load (slot_load 0 0 _ _ rfl) (acc_right (acc_left (acc_slot (PX X) (OX X) c 0 1 0 (by decide))))) ?_
  exact wpc_ret_fact rfl

/-- Stretch 33. -/
theorem part33 (v2 : BitVec 32) (v1061 : FVec F S16x512 .f32) (o : CellTallies nD τ sig Unit) (hO : ∀ g u, 0 < o g u → ∃ p y, g = cell p y ∧ 2 < lvOf (some y)) (G : sProp 𝕄) :
    iprop(base (PX X) (OX X) K c o ∗ Trk (waitA c 1 0) (waitB (PX X) (OX X) c 1 0) 1 ∗ G)
      ⊢ wpc c (k0_part33 M0 W0 M1 W1 M2 W2 M3 W3 M4 W4 M5 W5 M6 W6 M7 W7 cc0_scratch2 cc0_scratch3 cc0_scratch4 cc0_scratch5 c v2 v1061)
        (fun r => iprop(⌜r.1 = k0_pay19 v1061 (rdSlot (PX X) c ![1, 0, 0] inb_S30x16x512_S1x16x512_1_0_0)⌝ ∗ base (PX X) (OX X) K c o ∗ Trk (waitA c 1 0) (waitB (PX X) (OX X) c 1 0) 2 ∗ G)) := by
  rw [k0_part33_eq_skeleton]; unfold k0_part33_skel
  refine wpc_seq (step_wait (PX X) (OX X) K c 1 0 1 (by decide) _ rfl (by exact credit_slot _ _ _) o hO _) fun _ => ?_
  refine wpc_seq_eq (step_load (slot_load 0 1 _ _ rfl) (acc_right (acc_left (acc_slot (PX X) (OX X) c 0 2 1 (by decide))))) ?_
  exact wpc_ret_fact rfl

/-- Stretch 34. -/
theorem part34 (v2 : BitVec 32) (v1085 : FVec F S16x512 .f32) (v1088 : BitVec 32) (v1089 : BitVec 32) (v1090 : BitVec 1) (v1093 : BitVec 1) (o : CellTallies nD τ sig Unit) (hO : ∀ g u, 0 < o g u → ∃ p y, g = cell p y ∧ 2 < lvOf (some y)) (G : sProp 𝕄) :
    iprop(base (PX X) (OX X) K c o ∗ Trk (waitA c 1 0) (waitB (PX X) (OX X) c 1 0) 2 ∗ G)
      ⊢ wpc c (k0_part34 M0 W0 M1 W1 M2 W2 M3 W3 M4 W4 M5 W5 M6 W6 M7 W7 cc0_scratch2 cc0_scratch3 cc0_scratch4 cc0_scratch5 c v2 v1085 v1088 v1089 v1090 v1093)
        (fun r => iprop(⌜r = (k0_pay20 v1085 (rdSlot (PX X) c ![2, 0, 0] inb_S30x16x512_S1x16x512_2_0_0))⌝ ∗ base (PX X) (OX X) K c o ∗ Trk (waitA c 1 0) (waitB (PX X) (OX X) c 1 0) 3 ∗ G)) := by
  rw [k0_part34_eq_skeleton]; unfold k0_part34_skel
  refine wpc_seq (step_wait (PX X) (OX X) K c 1 0 2 (by decide) _ rfl (by exact credit_slot _ _ _) o hO _) fun _ => ?_
  refine wpc_seq_eq (step_load (slot_load 0 2 _ _ rfl) (acc_right (acc_left (acc_slot (PX X) (OX X) c 0 3 2 (by decide))))) ?_
  exact wpc_ret_fact rfl

/-- Stretch 35. -/
theorem part35 (v2 : BitVec 32) (v1109 : FVec F S16x512 .f32) (o : CellTallies nD τ sig Unit) (hO : ∀ g u, 0 < o g u → ∃ p y, g = cell p y ∧ 2 < lvOf (some y)) (G : sProp 𝕄) :
    iprop(base (PX X) (OX X) K c o ∗ Trk (waitA c 1 0) (waitB (PX X) (OX X) c 1 0) 3 ∗ G)
      ⊢ wpc c (k0_part35 M0 W0 M1 W1 M2 W2 M3 W3 M4 W4 M5 W5 M6 W6 M7 W7 cc0_scratch2 cc0_scratch3 cc0_scratch4 cc0_scratch5 c v2 v1109)
        (fun r => iprop(⌜r = (k0_pay21 v1109 (rdSlot (PX X) c ![3, 0, 0] inb_S30x16x512_S1x16x512_3_0_0) (rdSlot (PX X) c ![4, 0, 0] inb_S30x16x512_S1x16x512_4_0_0))⌝ ∗ base (PX X) (OX X) K c o ∗ Trk (waitA c 1 0) (waitB (PX X) (OX X) c 1 0) 5 ∗ G)) := by
  rw [k0_part35_eq_skeleton]; unfold k0_part35_skel
  refine wpc_seq (step_wait (PX X) (OX X) K c 1 0 3 (by decide) _ rfl (by exact credit_slot _ _ _) o hO _) fun _ => ?_
  refine wpc_seq_eq (step_load (slot_load 0 3 _ _ rfl) (acc_right (acc_left (acc_slot (PX X) (OX X) c 0 4 3 (by decide))))) ?_
  refine wpc_seq (step_wait (PX X) (OX X) K c 1 0 4 (by decide) _ rfl (by exact credit_slot _ _ _) o hO _) fun _ => ?_
  refine wpc_seq_eq (step_load (slot_load 0 4 _ _ rfl) (acc_right (acc_left (acc_slot (PX X) (OX X) c 0 5 4 (by decide))))) ?_
  exact wpc_ret_fact rfl

/-- Stretch 36. -/
theorem part36 (v2 : BitVec 32) (v1157 : FVec F S16x512 .f32) (o : CellTallies nD τ sig Unit) (hO : ∀ g u, 0 < o g u → ∃ p y, g = cell p y ∧ 2 < lvOf (some y)) (G : sProp 𝕄) :
    iprop(base (PX X) (OX X) K c o ∗ Trk (waitA c 1 0) (waitB (PX X) (OX X) c 1 0) 5 ∗ G)
      ⊢ wpc c (k0_part36 M0 W0 M1 W1 M2 W2 M3 W3 M4 W4 M5 W5 M6 W6 M7 W7 cc0_scratch2 cc0_scratch3 cc0_scratch4 cc0_scratch5 c v2 v1157)
        (fun r => iprop(⌜r.1 = k0_pay22 v1157 (rdSlot (PX X) c ![5, 0, 0] inb_S30x16x512_S1x16x512_5_0_0)⌝ ∗ base (PX X) (OX X) K c o ∗ Trk (waitA c 1 0) (waitB (PX X) (OX X) c 1 0) 6 ∗ G)) := by
  rw [k0_part36_eq_skeleton]; unfold k0_part36_skel
  refine wpc_seq (step_wait (PX X) (OX X) K c 1 0 5 (by decide) _ rfl (by exact credit_slot _ _ _) o hO _) fun _ => ?_
  refine wpc_seq_eq (step_load (slot_load 0 5 _ _ rfl) (acc_right (acc_left (acc_slot (PX X) (OX X) c 0 6 5 (by decide))))) ?_
  exact wpc_ret_fact rfl

/-- Stretch 37. -/
theorem part37 (v2 : BitVec 32) (v1181 : FVec F S16x512 .f32) (v1184 : BitVec 32) (v1185 : BitVec 32) (v1186 : BitVec 1) (v1189 : BitVec 1) (o : CellTallies nD τ sig Unit) (hO : ∀ g u, 0 < o g u → ∃ p y, g = cell p y ∧ 2 < lvOf (some y)) (G : sProp 𝕄) :
    iprop(base (PX X) (OX X) K c o ∗ Trk (waitA c 1 0) (waitB (PX X) (OX X) c 1 0) 6 ∗ G)
      ⊢ wpc c (k0_part37 M0 W0 M1 W1 M2 W2 M3 W3 M4 W4 M5 W5 M6 W6 M7 W7 cc0_scratch2 cc0_scratch3 cc0_scratch4 cc0_scratch5 c v2 v1181 v1184 v1185 v1186 v1189)
        (fun r => iprop(⌜r = (k0_pay23 v1181 (rdSlot (PX X) c ![6, 0, 0] inb_S30x16x512_S1x16x512_6_0_0))⌝ ∗ base (PX X) (OX X) K c o ∗ Trk (waitA c 1 0) (waitB (PX X) (OX X) c 1 0) 7 ∗ G)) := by
  rw [k0_part37_eq_skeleton]; unfold k0_part37_skel
  refine wpc_seq (step_wait (PX X) (OX X) K c 1 0 6 (by decide) _ rfl (by exact credit_slot _ _ _) o hO _) fun _ => ?_
  refine wpc_seq_eq (step_load (slot_load 0 6 _ _ rfl) (acc_right (acc_left (acc_slot (PX X) (OX X) c 0 7 6 (by decide))))) ?_
  exact wpc_ret_fact rfl

/-- Stretch 38. -/
theorem part38 (v2 : BitVec 32) (v1205 : FVec F S16x512 .f32) (o : CellTallies nD τ sig Unit) (hO : ∀ g u, 0 < o g u → ∃ p y, g = cell p y ∧ 2 < lvOf (some y)) (G : sProp 𝕄) :
    iprop(base (PX X) (OX X) K c o ∗ Trk (waitA c 1 0) (waitB (PX X) (OX X) c 1 0) 7 ∗ G)
      ⊢ wpc c (k0_part38 M0 W0 M1 W1 M2 W2 M3 W3 M4 W4 M5 W5 M6 W6 M7 W7 cc0_scratch2 cc0_scratch3 cc0_scratch4 cc0_scratch5 c v2 v1205)
        (fun r => iprop(⌜r = (k0_pay24 v1205 (rdSlot (PX X) c ![7, 0, 0] inb_S30x16x512_S1x16x512_7_0_0) (rdSlot (PX X) c ![8, 0, 0] inb_S30x16x512_S1x16x512_8_0_0))⌝ ∗ base (PX X) (OX X) K c o ∗ Trk (waitA c 1 0) (waitB (PX X) (OX X) c 1 0) 9 ∗ G)) := by
  rw [k0_part38_eq_skeleton]; unfold k0_part38_skel
  refine wpc_seq (step_wait (PX X) (OX X) K c 1 0 7 (by decide) _ rfl (by exact credit_slot _ _ _) o hO _) fun _ => ?_
  refine wpc_seq_eq (step_load (slot_load 0 7 _ _ rfl) (acc_right (acc_left (acc_slot (PX X) (OX X) c 0 8 7 (by decide))))) ?_
  refine wpc_seq (step_wait (PX X) (OX X) K c 1 0 8 (by decide) _ rfl (by exact credit_slot _ _ _) o hO _) fun _ => ?_
  refine wpc_seq_eq (step_load (slot_load 0 8 _ _ rfl) (acc_right (acc_left (acc_slot (PX X) (OX X) c 0 9 8 (by decide))))) ?_
  exact wpc_ret_fact rfl

/-- Stretch 39. -/
theorem part39 (v2 : BitVec 32) (v1253 : FVec F S16x512 .f32) (o : CellTallies nD τ sig Unit) (hO : ∀ g u, 0 < o g u → ∃ p y, g = cell p y ∧ 2 < lvOf (some y)) (G : sProp 𝕄) :
    iprop(base (PX X) (OX X) K c o ∗ Trk (waitA c 1 0) (waitB (PX X) (OX X) c 1 0) 9 ∗ G)
      ⊢ wpc c (k0_part39 M0 W0 M1 W1 M2 W2 M3 W3 M4 W4 M5 W5 M6 W6 M7 W7 cc0_scratch2 cc0_scratch3 cc0_scratch4 cc0_scratch5 c v2 v1253)
        (fun r => iprop(⌜r.1 = k0_pay25 v1253 (rdSlot (PX X) c ![9, 0, 0] inb_S30x16x512_S1x16x512_9_0_0)⌝ ∗ base (PX X) (OX X) K c o ∗ Trk (waitA c 1 0) (waitB (PX X) (OX X) c 1 0) 10 ∗ G)) := by
  rw [k0_part39_eq_skeleton]; unfold k0_part39_skel
  refine wpc_seq (step_wait (PX X) (OX X) K c 1 0 9 (by decide) _ rfl (by exact credit_slot _ _ _) o hO _) fun _ => ?_
  refine wpc_seq_eq (step_load (slot_load 0 9 _ _ rfl) (acc_right (acc_left (acc_slot (PX X) (OX X) c 0 10 9 (by decide))))) ?_
  exact wpc_ret_fact rfl

/-- Stretch 40. -/
theorem part40 (v2 : BitVec 32) (v1277 : FVec F S16x512 .f32) (v1280 : BitVec 32) (v1281 : BitVec 32) (v1282 : BitVec 1) (v1285 : BitVec 1) (o : CellTallies nD τ sig Unit) (hO : ∀ g u, 0 < o g u → ∃ p y, g = cell p y ∧ 2 < lvOf (some y)) (G : sProp 𝕄) :
    iprop(base (PX X) (OX X) K c o ∗ Trk (waitA c 1 0) (waitB (PX X) (OX X) c 1 0) 10 ∗ G)
      ⊢ wpc c (k0_part40 M0 W0 M1 W1 M2 W2 M3 W3 M4 W4 M5 W5 M6 W6 M7 W7 cc0_scratch2 cc0_scratch3 cc0_scratch4 cc0_scratch5 c v2 v1277 v1280 v1281 v1282 v1285)
        (fun r => iprop(⌜r = (k0_pay26 v1277 (rdSlot (PX X) c ![10, 0, 0] inb_S30x16x512_S1x16x512_10_0_0))⌝ ∗ base (PX X) (OX X) K c o ∗ Trk (waitA c 1 0) (waitB (PX X) (OX X) c 1 0) 11 ∗ G)) := by
  rw [k0_part40_eq_skeleton]; unfold k0_part40_skel
  refine wpc_seq (step_wait (PX X) (OX X) K c 1 0 10 (by decide) _ rfl (by exact credit_slot _ _ _) o hO _) fun _ => ?_
  refine wpc_seq_eq (step_load (slot_load 0 10 _ _ rfl) (acc_right (acc_left (acc_slot (PX X) (OX X) c 0 11 10 (by decide))))) ?_
  exact wpc_ret_fact rfl

/-- Stretch 41. -/
theorem part41 (v2 : BitVec 32) (v1301 : FVec F S16x512 .f32) (o : CellTallies nD τ sig Unit) (hO : ∀ g u, 0 < o g u → ∃ p y, g = cell p y ∧ 2 < lvOf (some y)) (G : sProp 𝕄) :
    iprop(base (PX X) (OX X) K c o ∗ Trk (waitA c 1 0) (waitB (PX X) (OX X) c 1 0) 11 ∗ G)
      ⊢ wpc c (k0_part41 M0 W0 M1 W1 M2 W2 M3 W3 M4 W4 M5 W5 M6 W6 M7 W7 cc0_scratch2 cc0_scratch3 cc0_scratch4 cc0_scratch5 c v2 v1301)
        (fun r => iprop(⌜r = (k0_pay27 v1301 (rdSlot (PX X) c ![11, 0, 0] inb_S30x16x512_S1x16x512_11_0_0) (rdSlot (PX X) c ![12, 0, 0] inb_S30x16x512_S1x16x512_12_0_0))⌝ ∗ base (PX X) (OX X) K c o ∗ Trk (waitA c 1 0) (waitB (PX X) (OX X) c 1 0) 13 ∗ G)) := by
  rw [k0_part41_eq_skeleton]; unfold k0_part41_skel
  refine wpc_seq (step_wait (PX X) (OX X) K c 1 0 11 (by decide) _ rfl (by exact credit_slot _ _ _) o hO _) fun _ => ?_
  refine wpc_seq_eq (step_load (slot_load 0 11 _ _ rfl) (acc_right (acc_left (acc_slot (PX X) (OX X) c 0 12 11 (by decide))))) ?_
  refine wpc_seq (step_wait (PX X) (OX X) K c 1 0 12 (by decide) _ rfl (by exact credit_slot _ _ _) o hO _) fun _ => ?_
  refine wpc_seq_eq (step_load (slot_load 0 12 _ _ rfl) (acc_right (acc_left (acc_slot (PX X) (OX X) c 0 13 12 (by decide))))) ?_
  exact wpc_ret_fact rfl

/-- Stretch 42. -/
theorem part42 (v2 : BitVec 32) (v1349 : FVec F S16x512 .f32) (o : CellTallies nD τ sig Unit) (hO : ∀ g u, 0 < o g u → ∃ p y, g = cell p y ∧ 2 < lvOf (some y)) (G : sProp 𝕄) :
    iprop(base (PX X) (OX X) K c o ∗ Trk (waitA c 1 0) (waitB (PX X) (OX X) c 1 0) 13 ∗ G)
      ⊢ wpc c (k0_part42 M0 W0 M1 W1 M2 W2 M3 W3 M4 W4 M5 W5 M6 W6 M7 W7 cc0_scratch2 cc0_scratch3 cc0_scratch4 cc0_scratch5 c v2 v1349)
        (fun r => iprop(⌜r.1 = k0_pay28 v1349 (rdSlot (PX X) c ![13, 0, 0] inb_S30x16x512_S1x16x512_13_0_0)⌝ ∗ base (PX X) (OX X) K c o ∗ Trk (waitA c 1 0) (waitB (PX X) (OX X) c 1 0) 14 ∗ G)) := by
  rw [k0_part42_eq_skeleton]; unfold k0_part42_skel
  refine wpc_seq (step_wait (PX X) (OX X) K c 1 0 13 (by decide) _ rfl (by exact credit_slot _ _ _) o hO _) fun _ => ?_
  refine wpc_seq_eq (step_load (slot_load 0 13 _ _ rfl) (acc_right (acc_left (acc_slot (PX X) (OX X) c 0 14 13 (by decide))))) ?_
  exact wpc_ret_fact rfl

/-- Stretch 43. -/
theorem part43 (v2 : BitVec 32) (v1373 : FVec F S16x512 .f32) (v1376 : BitVec 32) (v1377 : BitVec 32) (v1378 : BitVec 1) (v1381 : BitVec 1) (o : CellTallies nD τ sig Unit) (hO : ∀ g u, 0 < o g u → ∃ p y, g = cell p y ∧ 2 < lvOf (some y)) (hv : k0_pay29 v1373 (rdSlot (PX X) c ![14, 0, 0] inb_S30x16x512_S1x16x512_14_0_0) = red (PX X) 0 c) (G : sProp 𝕄) :
    iprop(base (PX X) (OX X) K c o ∗ Trk (waitA c 1 0) (waitB (PX X) (OX X) c 1 0) 14 ∗ ownAny c 0 ∗ G)
      ⊢ wpc c (k0_part43 M0 W0 M1 W1 M2 W2 M3 W3 M4 W4 M5 W5 M6 W6 M7 W7 cc0_scratch2 cc0_scratch3 cc0_scratch4 cc0_scratch5 c v2 v1373 v1376 v1377 v1378 v1381)
        (fun _ => iprop(base (PX X) (OX X) K c o ∗ Trk (waitA c 1 0) (waitB (PX X) (OX X) c 1 0) 15 ∗ outPt c 0 c fullShare (OX X) ∗ G)) := by
  rw [k0_part43_eq_skeleton]; unfold k0_part43_skel
  refine wpc_seq (step_wait (PX X) (OX X) K c 1 0 14 (by decide) _ rfl (by exact credit_slot _ _ _) o hO _) fun _ => ?_
  refine wpc_seq_eq (step_load (slot_load 0 14 _ _ rfl) (acc_right (acc_left (acc_slot (PX X) (OX X) c 0 15 14 (by decide))))) ?_
  refine wpc_seq (step_load_any (out_load 0 c _ _ (off2_0 c)) (acc_right (acc_right (acc_left acc_self)))) fun _ => ?_
  have hs := rows_stored (OX X) (red (PX X) 0 c) 0 c (fun r k => (outVal_at (PX X) 0 c r k).symm) _ (k0_off2_inb c 0) (off2_0 c)
  rw [← hv] at hs
  refine wpc_seq (step_store (g := OX X) (le_of_eq (outM_set 0 c _ _ (off2_0 c))) (by exact hs) (chg_right (chg_right (chg_left chg_self)))) fun _ => ?_
  exact wpc_ret .rfl

/-- Stretch 44. -/
theorem part44 (v2 : BitVec 32) (v1413 : BitVec 32) (v1414 : BitVec 32) (c0_i32_1049 : BitVec 32) (o : CellTallies nD τ sig Unit) (G : sProp 𝕄) :
    iprop(base (PX X) (OX X) K c (oS (gDma c 3 0) N 0 + o) ∗ Trk (sendA' (OX X) c 0) (sendB c 2 0) 0 ∗ G)
      ⊢ wpc c (k0_part44 M0 W0 M1 W1 M2 W2 M3 W3 M4 W4 M5 W5 M6 W6 M7 W7 cc0_scratch2 cc0_scratch3 cc0_scratch4 cc0_scratch5 c v2 v1413 v1414 c0_i32_1049)
        (fun _ => iprop(base (PX X) (OX X) K c (oS (gDma c 3 0) N 1 + o) ∗ Trk (sendA' (OX X) c 0) (sendB c 2 0) 1 ∗ G)) := by
  rw [k0_part44_eq_skeleton]; unfold k0_part44_skel
  refine wpc_seq (step_send' (PX X) (OX X) K c 0 0 (by decide) _ (dev46 c) _ _ rfl rfl _ _ (off3_0 c) o _) fun _ => ?_
  exact wpc_ret .rfl

/-- Stretch 45. -/
theorem part45 (v2 : BitVec 32) (o : CellTallies nD τ sig Unit) (G : sProp 𝕄) :
    iprop(base (PX X) (OX X) K c (oS (gDma c 3 0) N 1 + o) ∗ Trk (sendA' (OX X) c 0) (sendB c 2 0) 1 ∗ G)
      ⊢ wpc c (k0_part45 M0 W0 M1 W1 M2 W2 M3 W3 M4 W4 M5 W5 M6 W6 M7 W7 cc0_scratch2 cc0_scratch3 cc0_scratch4 cc0_scratch5 c v2)
        (fun _ => iprop(base (PX X) (OX X) K c (oS (gDma c 3 0) N 3 + o) ∗ Trk (sendA' (OX X) c 0) (sendB c 2 0) 3 ∗ G)) := by
  rw [k0_part45_eq_skeleton]; unfold k0_part45_skel
  refine wpc_seq (step_send' (PX X) (OX X) K c 0 1 (by decide) _ (dev47 c) _ _ rfl rfl _ _ (off3_0 c) o _) fun _ => ?_
  refine wpc_seq (step_send' (PX X) (OX X) K c 0 2 (by decide) _ (dev48 c) _ _ rfl rfl _ _ (off3_0 c) o _) fun _ => ?_
  exact wpc_ret .rfl

/-- Stretch 46. -/
theorem part46 (v2 : BitVec 32) (v1482 : BitVec 32) (o : CellTallies nD τ sig Unit) (G : sProp 𝕄) :
    iprop(base (PX X) (OX X) K c (oS (gDma c 3 0) N 3 + o) ∗ Trk (sendA' (OX X) c 0) (sendB c 2 0) 3 ∗ G)
      ⊢ wpc c (k0_part46 M0 W0 M1 W1 M2 W2 M3 W3 M4 W4 M5 W5 M6 W6 M7 W7 cc0_scratch2 cc0_scratch3 cc0_scratch4 cc0_scratch5 c v2 v1482)
        (fun _ => iprop(base (PX X) (OX X) K c (oS (gDma c 3 0) N 4 + o) ∗ Trk (sendA' (OX X) c 0) (sendB c 2 0) 4 ∗ G)) := by
  rw [k0_part46_eq_skeleton]; unfold k0_part46_skel
  refine wpc_seq (step_send' (PX X) (OX X) K c 0 3 (by decide) _ (dev49 c) _ _ rfl rfl _ _ (off3_0 c) o _) fun _ => ?_
  exact wpc_ret .rfl

/-- Stretch 47. -/
theorem part47 (v2 : BitVec 32) (o : CellTallies nD τ sig Unit) (G : sProp 𝕄) :
    iprop(base (PX X) (OX X) K c (oS (gDma c 3 0) N 4 + o) ∗ Trk (sendA' (OX X) c 0) (sendB c 2 0) 4 ∗ G)
      ⊢ wpc c (k0_part47 M0 W0 M1 W1 M2 W2 M3 W3 M4 W4 M5 W5 M6 W6 M7 W7 cc0_scratch2 cc0_scratch3 cc0_scratch4 cc0_scratch5 c v2)
        (fun _ => iprop(base (PX X) (OX X) K c (oS (gDma c 3 0) N 6 + o) ∗ Trk (sendA' (OX X) c 0) (sendB c 2 0) 6 ∗ G)) := by
  rw [k0_part47_eq_skeleton]; unfold k0_part47_skel
  refine wpc_seq (step_send' (PX X) (OX X) K c 0 4 (by decide) _ (dev50 c) _ _ rfl rfl _ _ (off3_0 c) o _) fun _ => ?_
  refine wpc_seq (step_send' (PX X) (OX X) K c 0 5 (by decide) _ (dev51 c) _ _ rfl rfl _ _ (off3_0 c) o _) fun _ => ?_
  exact wpc_ret .rfl

/-- Stretch 48. -/
theorem part48 (v2 : BitVec 32) (v1543 : BitVec 32) (v1544 : BitVec 32) (v1545 : BitVec 1) (v1548 : BitVec 1) (o : CellTallies nD τ sig Unit) (G : sProp 𝕄) :
    iprop(base (PX X) (OX X) K c (oS (gDma c 3 0) N 6 + o) ∗ Trk (sendA' (OX X) c 0) (sendB c 2 0) 6 ∗ G)
      ⊢ wpc c (k0_part48 M0 W0 M1 W1 M2 W2 M3 W3 M4 W4 M5 W5 M6 W6 M7 W7 cc0_scratch2 cc0_scratch3 cc0_scratch4 cc0_scratch5 c v2 v1543 v1544 v1545 v1548)
        (fun _ => iprop(base (PX X) (OX X) K c (oS (gDma c 3 0) N 7 + o) ∗ Trk (sendA' (OX X) c 0) (sendB c 2 0) 7 ∗ G)) := by
  rw [k0_part48_eq_skeleton]; unfold k0_part48_skel
  refine wpc_seq (step_send' (PX X) (OX X) K c 0 6 (by decide) _ (dev52 c) _ _ rfl rfl _ _ (off3_0 c) o _) fun _ => ?_
  exact wpc_ret .rfl

/-- Stretch 49. -/
theorem part49 (v2 : BitVec 32) (o : CellTallies nD τ sig Unit) (G : sProp 𝕄) :
    iprop(base (PX X) (OX X) K c (oS (gDma c 3 0) N 7 + o) ∗ Trk (sendA' (OX X) c 0) (sendB c 2 0) 7 ∗ G)
      ⊢ wpc c (k0_part49 M0 W0 M1 W1 M2 W2 M3 W3 M4 W4 M5 W5 M6 W6 M7 W7 cc0_scratch2 cc0_scratch3 cc0_scratch4 cc0_scratch5 c v2)
        (fun _ => iprop(base (PX X) (OX X) K c (oS (gDma c 3 0) N 9 + o) ∗ Trk (sendA' (OX X) c 0) (sendB c 2 0) 9 ∗ G)) := by
  rw [k0_part49_eq_skeleton]; unfold k0_part49_skel
  refine wpc_seq (step_send' (PX X) (OX X) K c 0 7 (by decide) _ (dev53 c) _ _ rfl rfl _ _ (off3_0 c) o _) fun _ => ?_
  refine wpc_seq (step_send' (PX X) (OX X) K c 0 8 (by decide) _ (dev54 c) _ _ rfl rfl _ _ (off3_0 c) o _) fun _ => ?_
  exact wpc_ret .rfl

/-- Stretch 50. -/
theorem part50 (v2 : BitVec 32) (v1612 : BitVec 32) (v1613 : BitVec 32) (v1614 : BitVec 1) (v1615 : BitVec 1) (o : CellTallies nD τ sig Unit) (G : sProp 𝕄) :
    iprop(base (PX X) (OX X) K c (oS (gDma c 3 0) N 9 + o) ∗ Trk (sendA' (OX X) c 0) (sendB c 2 0) 9 ∗ G)
      ⊢ wpc c (k0_part50 M0 W0 M1 W1 M2 W2 M3 W3 M4 W4 M5 W5 M6 W6 M7 W7 cc0_scratch2 cc0_scratch3 cc0_scratch4 cc0_scratch5 c v2 v1612 v1613 v1614 v1615)
        (fun _ => iprop(base (PX X) (OX X) K c (oS (gDma c 3 0) N 10 + o) ∗ Trk (sendA' (OX X) c 0) (sendB c 2 0) 10 ∗ G)) := by
  rw [k0_part50_eq_skeleton]; unfold k0_part50_skel
  refine wpc_seq (step_send' (PX X) (OX X) K c 0 9 (by decide) _ (dev55 c) _ _ rfl rfl _ _ (off3_0 c) o _) fun _ => ?_
  exact wpc_ret .rfl

/-- Stretch 51. -/
theorem part51 (v2 : BitVec 32) (v1648 : BitVec 32) (c0_i32_1225 : BitVec 32) (o : CellTallies nD τ sig Unit) (G : sProp 𝕄) :
    iprop(base (PX X) (OX X) K c (oS (gDma c 3 0) N 10 + o) ∗ Trk (sendA' (OX X) c 0) (sendB c 2 0) 10 ∗ G)
      ⊢ wpc c (k0_part51 M0 W0 M1 W1 M2 W2 M3 W3 M4 W4 M5 W5 M6 W6 M7 W7 cc0_scratch2 cc0_scratch3 cc0_scratch4 cc0_scratch5 c v2 v1648 c0_i32_1225)
        (fun _ => iprop(base (PX X) (OX X) K c (oS (gDma c 3 0) N 12 + o) ∗ Trk (sendA' (OX X) c 0) (sendB c 2 0) 12 ∗ G)) := by
  rw [k0_part51_eq_skeleton]; unfold k0_part51_skel
  refine wpc_seq (step_send' (PX X) (OX X) K c 0 10 (by decide) _ (dev56 c) _ _ rfl rfl _ _ (off3_0 c) o _) fun _ => ?_
  refine wpc_seq (step_send' (PX X) (OX X) K c 0 11 (by decide) _ (dev57 c) _ _ rfl rfl _ _ (off3_0 c) o _) fun _ => ?_
  exact wpc_ret .rfl

/-- Stretch 52. -/
theorem part52 (v2 : BitVec 32) (v1681 : BitVec 32) (v1682 : BitVec 32) (c0_i32_1249 : BitVec 32) (o : CellTallies nD τ sig Unit) (G : sProp 𝕄) :
    iprop(base (PX X) (OX X) K c (oS (gDma c 3 0) N 12 + o) ∗ Trk (sendA' (OX X) c 0) (sendB c 2 0) 12 ∗ G)
      ⊢ wpc c (k0_part52 M0 W0 M1 W1 M2 W2 M3 W3 M4 W4 M5 W5 M6 W6 M7 W7 cc0_scratch2 cc0_scratch3 cc0_scratch4 cc0_scratch5 c v2 v1681 v1682 c0_i32_1249)
        (fun _ => iprop(base (PX X) (OX X) K c (oS (gDma c 3 0) N 13 + o) ∗ Trk (sendA' (OX X) c 0) (sendB c 2 0) 13 ∗ G)) := by
  rw [k0_part52_eq_skeleton]; unfold k0_part52_skel
  refine wpc_seq (step_send' (PX X) (OX X) K c 0 12 (by decide) _ (dev58 c) _ _ rfl rfl _ _ (off3_0 c) o _) fun _ => ?_
  exact wpc_ret .rfl

/-- Stretch 53. -/
theorem part53 (v2 : BitVec 32) (v1712 : BitVec 32) (o : CellTallies nD τ sig Unit) (G : sProp 𝕄) :
    iprop(base (PX X) (OX X) K c (oS (gDma c 3 0) N 13 + o) ∗ Trk (sendA' (OX X) c 0) (sendB c 2 0) 13 ∗ G)
      ⊢ wpc c (k0_part53 M0 W0 M1 W1 M2 W2 M3 W3 M4 W4 M5 W5 M6 W6 M7 W7 cc0_scratch2 cc0_scratch3 cc0_scratch4 cc0_scratch5 c v2 v1712)
        (fun _ => iprop(base (PX X) (OX X) K c (oS (gDma c 3 0) N 15 + o) ∗ Trk (sendA' (OX X) c 0) (sendB c 2 0) 15 ∗ G)) := by
  rw [k0_part53_eq_skeleton]; unfold k0_part53_skel
  refine wpc_seq (step_send' (PX X) (OX X) K c 0 13 (by decide) _ (dev59 c) _ _ rfl rfl _ _ (off3_0 c) o _) fun _ => ?_
  refine wpc_seq (step_send' (PX X) (OX X) K c 0 14 (by decide) _ (dev60 c) _ _ rfl rfl _ _ (off3_0 c) o _) fun _ => ?_
  exact wpc_ret .rfl

end Cert.KernelIdeal.Talk

end
-- ==== Proof.KI.PartsD.lean ====
/-
  The kernel's stretches 54 to 75: what each uses and leaves.
-/
module

public import proofs.«01_k».proof.Proof.KI.Moves
public import proofs.«01_k».proof.Proof.Gen.KernelIdeal.Skeleton

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

open Cert.KernelIdeal.Gen

variable {F : FTy → Type} [FloatOps F] [Named F]

local notation "𝕄" => MT nD τ sig Unit (Elt F) ℕ UU ℕ

variable (X : Dev nD → Ins F) (K : GSem nD τ sig → ℕ) (c : Dev nD)

set_option maxRecDepth 8000

/-- Stretch 54. -/
theorem part54 (v2 : BitVec 32) (o : CellTallies nD τ sig Unit) (hO : ∀ g u, 0 < o g u → ∃ p y, g = cell p y ∧ 2 < lvOf (some y)) (G : sProp 𝕄) :
    iprop(base (PX X) (OX X) K c o ∗ Trk (waitA c 1 1) (waitB (PX X) (OX X) c 1 1) 0 ∗ partPt c 1 c (PX X c) ∗ G)
      ⊢ wpc c (k0_part54 M0 W0 M1 W1 M2 W2 M3 W3 M4 W4 M5 W5 M6 W6 M7 W7 cc0_scratch2 cc0_scratch3 cc0_scratch4 cc0_scratch5 c v2)
        (fun r => iprop(⌜r.1 = k0_pay30 (rdOwn1 (PX X) c) (rdSlot (PX X) c ![15, 0, 0] inb_S30x16x512_S1x16x512_15_0_0)⌝ ∗ base (PX X) (OX X) K c o ∗ Trk (waitA c 1 1) (waitB (PX X) (OX X) c 1 1) 1 ∗ partPt c 1 c (PX X c) ∗ G)) := by
  rw [k0_part54_eq_skeleton]; unfold k0_part54_skel
  refine wpc_seq_eq (step_load (own_load 1 c _ _ (off2_1 c)) (acc_right (acc_right (acc_left acc_self)))) ?_
  refine wpc_seq (step_wait (PX X) (OX X) K c 1 1 0 (by decide) _ rfl (by exact credit_slot _ _ _) o hO _) fun _ => ?_
  refine wpc_seq_eq (step_load (slot_load 1 0 _ _ rfl) (acc_right (acc_left (acc_slot (PX X) (OX X) c 1 1 0 (by decide))))) ?_
  exact wpc_ret_fact rfl

/-- Stretch 55. -/
theorem part55 (v2 : BitVec 32) (v1776 : FVec F S16x512 .f32) (v1779 : BitVec 32) (v1780 : BitVec 32) (v1781 : BitVec 1) (v1782 : BitVec 1) (c0_i32_1324 : BitVec 32) (o : CellTallies nD τ sig Unit) (hO : ∀ g u, 0 < o g u → ∃ p y, g = cell p y ∧ 2 < lvOf (some y)) (G : sProp 𝕄) :
    iprop(base (PX X) (OX X) K c o ∗ Trk (waitA c 1 1) (waitB (PX X) (OX X) c 1 1) 1 ∗ G)
      ⊢ wpc c (k0_part55 M0 W0 M1 W1 M2 W2 M3 W3 M4 W4 M5 W5 M6 W6 M7 W7 cc0_scratch2 cc0_scratch3 cc0_scratch4 cc0_scratch5 c v2 v1776 v1779 v1780 v1781 v1782 c0_i32_1324)
        (fun r => iprop(⌜r.1 = k0_pay31 v1776 (rdSlot (PX X) c ![16, 0, 0] inb_S30x16x512_S1x16x512_16_0_0)⌝ ∗ base (PX X) (OX X) K c o ∗ Trk (waitA c 1 1) (waitB (PX X) (OX X) c 1 1) 2 ∗ G)) := by
  rw [k0_part55_eq_skeleton]; unfold k0_part55_skel
  refine wpc_seq (step_wait (PX X) (OX X) K c 1 1 1 (by decide) _ rfl (by exact credit_slot _ _ _) o hO _) fun _ => ?_
  refine wpc_seq_eq (step_load (slot_load 1 1 _ _ rfl) (acc_right (acc_left (acc_slot (PX X) (OX X) c 1 2 1 (by decide))))) ?_
  exact wpc_ret_fact rfl

/-- Stretch 56. -/
theorem part56 (v2 : BitVec 32) (v1800 : FVec F S16x512 .f32) (v1814 : BitVec 32) (c0_i32_1350 : BitVec 32) (o : CellTallies nD τ sig Unit) (hO : ∀ g u, 0 < o g u → ∃ p y, g = cell p y ∧ 2 < lvOf (some y)) (G : sProp 𝕄) :
    iprop(base (PX X) (OX X) K c o ∗ Trk (waitA c 1 1) (waitB (PX X) (OX X) c 1 1) 2 ∗ G)
      ⊢ wpc c (k0_part56 M0 W0 M1 W1 M2 W2 M3 W3 M4 W4 M5 W5 M6 W6 M7 W7 cc0_scratch2 cc0_scratch3 cc0_scratch4 cc0_scratch5 c v2 v1800 v1814 c0_i32_1350)
        (fun r => iprop(⌜r = ⟨k0_pay32 v1800 (rdSlot (PX X) c ![17, 0, 0] inb_S30x16x512_S1x16x512_17_0_0), k0_pay33 (rdSlot (PX X) c ![18, 0, 0] inb_S30x16x512_S1x16x512_18_0_0)⟩⌝ ∗ base (PX X) (OX X) K c o ∗ Trk (waitA c 1 1) (waitB (PX X) (OX X) c 1 1) 4 ∗ G)) := by
  rw [k0_part56_eq_skeleton]; unfold k0_part56_skel
  refine wpc_seq (step_wait (PX X) (OX X) K c 1 1 2 (by decide) _ rfl (by exact credit_slot _ _ _) o hO _) fun _ => ?_
  refine wpc_seq_eq (step_load (slot_load 1 2 _ _ rfl) (acc_right (acc_left (acc_slot (PX X) (OX X) c 1 3 2 (by decide))))) ?_
  refine wpc_seq (step_wait (PX X) (OX X) K c 1 1 3 (by decide) _ rfl (by exact credit_slot _ _ _) o hO _) fun _ => ?_
  refine wpc_seq_eq (step_load (slot_load 1 3 _ _ rfl) (acc_right (acc_left (acc_slot (PX X) (OX X) c 1 4 3 (by decide))))) ?_
  exact wpc_ret_fact rfl

/-- Stretch 57. -/
theorem part57 (v2 : BitVec 32) (v1824 : FVec F S16x512 .f32) (v1846 : FVec F S16x512 .bf16) (o : CellTallies nD τ sig Unit) (hO : ∀ g u, 0 < o g u → ∃ p y, g = cell p y ∧ 2 < lvOf (some y)) (G : sProp 𝕄) :
    iprop(base (PX X) (OX X) K c o ∗ Trk (waitA c 1 1) (waitB (PX X) (OX X) c 1 1) 4 ∗ G)
      ⊢ wpc c (k0_part57 M0 W0 M1 W1 M2 W2 M3 W3 M4 W4 M5 W5 M6 W6 M7 W7 cc0_scratch2 cc0_scratch3 cc0_scratch4 cc0_scratch5 c v2 v1824 v1846)
        (fun r => iprop(⌜r.1 = k0_pay34 v1824 v1846 (rdSlot (PX X) c ![19, 0, 0] inb_S30x16x512_S1x16x512_19_0_0)⌝ ∗ base (PX X) (OX X) K c o ∗ Trk (waitA c 1 1) (waitB (PX X) (OX X) c 1 1) 5 ∗ G)) := by
  rw [k0_part57_eq_skeleton]; unfold k0_part57_skel
  refine wpc_seq (step_wait (PX X) (OX X) K c 1 1 4 (by decide) _ rfl (by exact credit_slot _ _ _) o hO _) fun _ => ?_
  refine wpc_seq_eq (step_load (slot_load 1 4 _ _ rfl) (acc_right (acc_left (acc_slot (PX X) (OX X) c 1 5 4 (by decide))))) ?_
  exact wpc_ret_fact rfl

/-- Stretch 58. -/
theorem part58 (v2 : BitVec 32) (v1872 : FVec F S16x512 .f32) (v1875 : BitVec 32) (v1876 : BitVec 32) (v1877 : BitVec 1) (v1878 : BitVec 1) (c0_i32_1400 : BitVec 32) (o : CellTallies nD τ sig Unit) (hO : ∀ g u, 0 < o g u → ∃ p y, g = cell p y ∧ 2 < lvOf (some y)) (G : sProp 𝕄) :
    iprop(base (PX X) (OX X) K c o ∗ Trk (waitA c 1 1) (waitB (PX X) (OX X) c 1 1) 5 ∗ G)
      ⊢ wpc c (k0_part58 M0 W0 M1 W1 M2 W2 M3 W3 M4 W4 M5 W5 M6 W6 M7 W7 cc0_scratch2 cc0_scratch3 cc0_scratch4 cc0_scratch5 c v2 v1872 v1875 v1876 v1877 v1878 c0_i32_1400)
        (fun r => iprop(⌜r.1 = k0_pay35 v1872 (rdSlot (PX X) c ![20, 0, 0] inb_S30x16x512_S1x16x512_20_0_0)⌝ ∗ base (PX X) (OX X) K c o ∗ Trk (waitA c 1 1) (waitB (PX X) (OX X) c 1 1) 6 ∗ G)) := by
  rw [k0_part58_eq_skeleton]; unfold k0_part58_skel
  refine wpc_seq (step_wait (PX X) (OX X) K c 1 1 5 (by decide) _ rfl (by exact credit_slot _ _ _) o hO _) fun _ => ?_
  refine wpc_seq_eq (step_load (slot_load 1 5 _ _ rfl) (acc_right (acc_left (acc_slot (PX X) (OX X) c 1 6 5 (by decide))))) ?_
  exact wpc_ret_fact rfl

/-- Stretch 59. -/
theorem part59 (v2 : BitVec 32) (v1896 : FVec F S16x512 .f32) (v1910 : BitVec 32) (c0_i32_1426 : BitVec 32) (o : CellTallies nD τ sig Unit) (hO : ∀ g u, 0 < o g u → ∃ p y, g = cell p y ∧ 2 < lvOf (some y)) (G : sProp 𝕄) :
    iprop(base (PX X) (OX X) K c o ∗ Trk (waitA c 1 1) (waitB (PX X) (OX X) c 1 1) 6 ∗ G)
      ⊢ wpc c (k0_part59 M0 W0 M1 W1 M2 W2 M3 W3 M4 W4 M5 W5 M6 W6 M7 W7 cc0_scratch2 cc0_scratch3 cc0_scratch4 cc0_scratch5 c v2 v1896 v1910 c0_i32_1426)
        (fun r => iprop(⌜r = ⟨k0_pay36 v1896 (rdSlot (PX X) c ![21, 0, 0] inb_S30x16x512_S1x16x512_21_0_0), k0_pay37 (rdSlot (PX X) c ![22, 0, 0] inb_S30x16x512_S1x16x512_22_0_0)⟩⌝ ∗ base (PX X) (OX X) K c o ∗ Trk (waitA c 1 1) (waitB (PX X) (OX X) c 1 1) 8 ∗ G)) := by
  rw [k0_part59_eq_skeleton]; unfold k0_part59_skel
  refine wpc_seq (step_wait (PX X) (OX X) K c 1 1 6 (by decide) _ rfl (by exact credit_slot _ _ _) o hO _) fun _ => ?_
  refine wpc_seq_eq (step_load (slot_load 1 6 _ _ rfl) (acc_right (acc_left (acc_slot (PX X) (OX X) c 1 7 6 (by decide))))) ?_
  refine wpc_seq (step_wait (PX X) (OX X) K c 1 1 7 (by decide) _ rfl (by exact credit_slot _ _ _) o hO _) fun _ => ?_
  refine wpc_seq_eq (step_load (slot_load 1 7 _ _ rfl) (acc_right (acc_left (acc_slot (PX X) (OX X) c 1 8 7 (by decide))))) ?_
  exact wpc_ret_fact rfl

/-- Stretch 60. -/
theorem part60 (v2 : BitVec 32) (v1920 : FVec F S16x512 .f32) (v1942 : FVec F S16x512 .bf16) (o : CellTallies nD τ sig Unit) (hO : ∀ g u, 0 < o g u → ∃ p y, g = cell p y ∧ 2 < lvOf (some y)) (G : sProp 𝕄) :
    iprop(base (PX X) (OX X) K c o ∗ Trk (waitA c 1 1) (waitB (PX X) (OX X) c 1 1) 8 ∗ G)
      ⊢ wpc c (k0_part60 M0 W0 M1 W1 M2 W2 M3 W3 M4 W4 M5 W5 M6 W6 M7 W7 cc0_scratch2 cc0_scratch3 cc0_scratch4 cc0_scratch5 c v2 v1920 v1942)
        (fun r => iprop(⌜r.1 = k0_pay38 v1920 v1942 (rdSlot (PX X) c ![23, 0, 0] inb_S30x16x512_S1x16x512_23_0_0)⌝ ∗ base (PX X) (OX X) K c o ∗ Trk (waitA c 1 1) (waitB (PX X) (OX X) c 1 1) 9 ∗ G)) := by
  rw [k0_part60_eq_skeleton]; unfold k0_part60_skel
  refine wpc_seq (step_wait (PX X) (OX X) K c 1 1 8 (by decide) _ rfl (by exact credit_slot _ _ _) o hO _) fun _ => ?_
  refine wpc_seq_eq (step_load (slot_load 1 8 _ _ rfl) (acc_right (acc_left (acc_slot (PX X) (OX X) c 1 9 8 (by decide))))) ?_
  exact wpc_ret_fact rfl

/-- Stretch 61. -/
theorem part61 (v2 : BitVec 32) (v1968 : FVec F S16x512 .f32) (v1971 : BitVec 32) (v1972 : BitVec 32) (v1973 : BitVec 1) (v1974 : BitVec 1) (c0_i32_1476 : BitVec 32) (o : CellTallies nD τ sig Unit) (hO : ∀ g u, 0 < o g u → ∃ p y, g = cell p y ∧ 2 < lvOf (some y)) (G : sProp 𝕄) :
    iprop(base (PX X) (OX X) K c o ∗ Trk (waitA c 1 1) (waitB (PX X) (OX X) c 1 1) 9 ∗ G)
      ⊢ wpc c (k0_part61 M0 W0 M1 W1 M2 W2 M3 W3 M4 W4 M5 W5 M6 W6 M7 W7 cc0_scratch2 cc0_scratch3 cc0_scratch4 cc0_scratch5 c v2 v1968 v1971 v1972 v1973 v1974 c0_i32_1476)
        (fun r => iprop(⌜r.1 = k0_pay39 v1968 (rdSlot (PX X) c ![24, 0, 0] inb_S30x16x512_S1x16x512_24_0_0)⌝ ∗ base (PX X) (OX X) K c o ∗ Trk (waitA c 1 1) (waitB (PX X) (OX X) c 1 1) 10 ∗ G)) := by
  rw [k0_part61_eq_skeleton]; unfold k0_part61_skel
  refine wpc_seq (step_wait (PX X) (OX X) K c 1 1 9 (by decide) _ rfl (by exact credit_slot _ _ _) o hO _) fun _ => ?_
  refine wpc_seq_eq (step_load (slot_load 1 9 _ _ rfl) (acc_right (acc_left (acc_slot (PX X) (OX X) c 1 10 9 (by decide))))) ?_
  exact wpc_ret_fact rfl

/-- Stretch 62. -/
theorem part62 (v2 : BitVec 32) (v1992 : FVec F S16x512 .f32) (v2006 : BitVec 32) (c0_i32_1502 : BitVec 32) (o : CellTallies nD τ sig Unit) (hO : ∀ g u, 0 < o g u → ∃ p y, g = cell p y ∧ 2 < lvOf (some y)) (G : sProp 𝕄) :
    iprop(base (PX X) (OX X) K c o ∗ Trk (waitA c 1 1) (waitB (PX X) (OX X) c 1 1) 10 ∗ G)
      ⊢ wpc c (k0_part62 M0 W0 M1 W1 M2 W2 M3 W3 M4 W4 M5 W5 M6 W6 M7 W7 cc0_scratch2 cc0_scratch3 cc0_scratch4 cc0_scratch5 c v2 v1992 v2006 c0_i32_1502)
        (fun r => iprop(⌜r = ⟨k0_pay40 v1992 (rdSlot (PX X) c ![25, 0, 0] inb_S30x16x512_S1x16x512_25_0_0), k0_pay41 (rdSlot (PX X) c ![26, 0, 0] inb_S30x16x512_S1x16x512_26_0_0)⟩⌝ ∗ base (PX X) (OX X) K c o ∗ Trk (waitA c 1 1) (waitB (PX X) (OX X) c 1 1) 12 ∗ G)) := by
  rw [k0_part62_eq_skeleton]; unfold k0_part62_skel
  refine wpc_seq (step_wait (PX X) (OX X) K c 1 1 10 (by decide) _ rfl (by exact credit_slot _ _ _) o hO _) fun _ => ?_
  refine wpc_seq_eq (step_load (slot_load 1 10 _ _ rfl) (acc_right (acc_left (acc_slot (PX X) (OX X) c 1 11 10 (by decide))))) ?_
  refine wpc_seq (step_wait (PX X) (OX X) K c 1 1 11 (by decide) _ rfl (by exact credit_slot _ _ _) o hO _) fun _ => ?_
  refine wpc_seq_eq (step_load (slot_load 1 11 _ _ rfl) (acc_right (acc_left (acc_slot (PX X) (OX X) c 1 12 11 (by decide))))) ?_
  exact wpc_ret_fact rfl

/-- Stretch 63. -/
theorem part63 (v2 : BitVec 32) (v2016 : FVec F S16x512 .f32) (v2038 : FVec F S16x512 .bf16) (o : CellTallies nD τ sig Unit) (hO : ∀ g u, 0 < o g u → ∃ p y, g = cell p y ∧ 2 < lvOf (some y)) (G : sProp 𝕄) :
    iprop(base (PX X) (OX X) K c o ∗ Trk (waitA c 1 1) (waitB (PX X) (OX X) c 1 1) 12 ∗ G)
      ⊢ wpc c (k0_part63 M0 W0 M1 W1 M2 W2 M3 W3 M4 W4 M5 W5 M6 W6 M7 W7 cc0_scratch2 cc0_scratch3 cc0_scratch4 cc0_scratch5 c v2 v2016 v2038)
        (fun r => iprop(⌜r.1 = k0_pay42 v2016 v2038 (rdSlot (PX X) c ![27, 0, 0] inb_S30x16x512_S1x16x512_27_0_0)⌝ ∗ base (PX X) (OX X) K c o ∗ Trk (waitA c 1 1) (waitB (PX X) (OX X) c 1 1) 13 ∗ G)) := by
  rw [k0_part63_eq_skeleton]; unfold k0_part63_skel
  refine wpc_seq (step_wait (PX X) (OX X) K c 1 1 12 (by decide) _ rfl (by exact credit_slot _ _ _) o hO _) fun _ => ?_
  refine wpc_seq_eq (step_load (slot_load 1 12 _ _ rfl) (acc_right (acc_left (acc_slot (PX X) (OX X) c 1 13 12 (by decide))))) ?_
  exact wpc_ret_fact rfl

/-- Stretch 64. -/
theorem part64 (v2 : BitVec 32) (v2064 : FVec F S16x512 .f32) (v2067 : BitVec 32) (v2068 : BitVec 32) (v2069 : BitVec 1) (v2070 : BitVec 1) (c0_i32_1552 : BitVec 32) (o : CellTallies nD τ sig Unit) (hO : ∀ g u, 0 < o g u → ∃ p y, g = cell p y ∧ 2 < lvOf (some y)) (G : sProp 𝕄) :
    iprop(base (PX X) (OX X) K c o ∗ Trk (waitA c 1 1) (waitB (PX X) (OX X) c 1 1) 13 ∗ G)
      ⊢ wpc c (k0_part64 M0 W0 M1 W1 M2 W2 M3 W3 M4 W4 M5 W5 M6 W6 M7 W7 cc0_scratch2 cc0_scratch3 cc0_scratch4 cc0_scratch5 c v2 v2064 v2067 v2068 v2069 v2070 c0_i32_1552)
        (fun r => iprop(⌜r.1 = k0_pay43 v2064 (rdSlot (PX X) c ![28, 0, 0] inb_S30x16x512_S1x16x512_28_0_0)⌝ ∗ base (PX X) (OX X) K c o ∗ Trk (waitA c 1 1) (waitB (PX X) (OX X) c 1 1) 14 ∗ G)) := by
  rw [k0_part64_eq_skeleton]; unfold k0_part64_skel
  refine wpc_seq (step_wait (PX X) (OX X) K c 1 1 13 (by decide) _ rfl (by exact credit_slot _ _ _) o hO _) fun _ => ?_
  refine wpc_seq_eq (step_load (slot_load 1 13 _ _ rfl) (acc_right (acc_left (acc_slot (PX X) (OX X) c 1 14 13 (by decide))))) ?_
  exact wpc_ret_fact rfl

/-- Stretch 65. -/
theorem part65 (v2 : BitVec 32) (v2088 : FVec F S16x512 .f32) (v2102 : BitVec 32) (c0_i32_1578 : BitVec 32) (o : CellTallies nD τ sig Unit) (hO : ∀ g u, 0 < o g u → ∃ p y, g = cell p y ∧ 2 < lvOf (some y)) (hv : k0_pay44 v2088 (rdSlot (PX X) c ![29, 0, 0] inb_S30x16x512_S1x16x512_29_0_0) = red (PX X) 1 c) (G : sProp 𝕄) :
    iprop(base (PX X) (OX X) K c o ∗ Trk (waitA c 1 1) (waitB (PX X) (OX X) c 1 1) 14 ∗ ownAny c 1 ∗ G)
      ⊢ wpc c (k0_part65 M0 W0 M1 W1 M2 W2 M3 W3 M4 W4 M5 W5 M6 W6 M7 W7 cc0_scratch2 cc0_scratch3 cc0_scratch4 cc0_scratch5 c v2 v2088 v2102 c0_i32_1578)
        (fun _ => iprop(base (PX X) (OX X) K c o ∗ Trk (waitA c 1 1) (waitB (PX X) (OX X) c 1 1) 15 ∗ outPt c 1 c fullShare (OX X) ∗ G)) := by
  rw [k0_part65_eq_skeleton]; unfold k0_part65_skel
  refine wpc_seq (step_wait (PX X) (OX X) K c 1 1 14 (by decide) _ rfl (by exact credit_slot _ _ _) o hO _) fun _ => ?_
  refine wpc_seq_eq (step_load (slot_load 1 14 _ _ rfl) (acc_right (acc_left (acc_slot (PX X) (OX X) c 1 15 14 (by decide))))) ?_
  refine wpc_seq (step_load_any (out_load 1 c _ _ (off2_1 c)) (acc_right (acc_right (acc_left acc_self)))) fun _ => ?_
  have hs := rows_stored (OX X) (red (PX X) 1 c) 1 c (fun r k => (outVal_at (PX X) 1 c r k).symm) _ (k0_off2_inb c 1) (off2_1 c)
  rw [← hv] at hs
  refine wpc_seq (step_store (g := OX X) (le_of_eq (outM_set 1 c _ _ (off2_1 c))) (by exact hs) (chg_right (chg_right (chg_left chg_self)))) fun _ => ?_
  exact wpc_ret .rfl

/-- Stretch 66. -/
theorem part66 (v2 : BitVec 32) (o : CellTallies nD τ sig Unit) (G : sProp 𝕄) :
    iprop(base (PX X) (OX X) K c (oS (gDma c 3 1) N 0 + o) ∗ Trk (sendA' (OX X) c 1) (sendB c 2 1) 0 ∗ G)
      ⊢ wpc c (k0_part66 M0 W0 M1 W1 M2 W2 M3 W3 M4 W4 M5 W5 M6 W6 M7 W7 cc0_scratch2 cc0_scratch3 cc0_scratch4 cc0_scratch5 c v2)
        (fun _ => iprop(base (PX X) (OX X) K c (oS (gDma c 3 1) N 2 + o) ∗ Trk (sendA' (OX X) c 1) (sendB c 2 1) 2 ∗ G)) := by
  rw [k0_part66_eq_skeleton]; unfold k0_part66_skel
  refine wpc_seq (step_send' (PX X) (OX X) K c 1 0 (by decide) _ (dev61 c) _ _ rfl rfl _ _ (off3_1 c) o _) fun _ => ?_
  refine wpc_seq (step_send' (PX X) (OX X) K c 1 1 (by decide) _ (dev62 c) _ _ rfl rfl _ _ (off3_1 c) o _) fun _ => ?_
  exact wpc_ret .rfl

/-- Stretch 67. -/
theorem part67 (v2 : BitVec 32) (v2166 : BitVec 32) (v2167 : BitVec 32) (v2168 : BitVec 1) (v2169 : BitVec 1) (o : CellTallies nD τ sig Unit) (G : sProp 𝕄) :
    iprop(base (PX X) (OX X) K c (oS (gDma c 3 1) N 2 + o) ∗ Trk (sendA' (OX X) c 1) (sendB c 2 1) 2 ∗ G)
      ⊢ wpc c (k0_part67 M0 W0 M1 W1 M2 W2 M3 W3 M4 W4 M5 W5 M6 W6 M7 W7 cc0_scratch2 cc0_scratch3 cc0_scratch4 cc0_scratch5 c v2 v2166 v2167 v2168 v2169)
        (fun _ => iprop(base (PX X) (OX X) K c (oS (gDma c 3 1) N 3 + o) ∗ Trk (sendA' (OX X) c 1) (sendB c 2 1) 3 ∗ G)) := by
  rw [k0_part67_eq_skeleton]; unfold k0_part67_skel
  refine wpc_seq (step_send' (PX X) (OX X) K c 1 2 (by decide) _ (dev63 c) _ _ rfl rfl _ _ (off3_1 c) o _) fun _ => ?_
  exact wpc_ret .rfl

/-- Stretch 68. -/
theorem part68 (v2 : BitVec 32) (v2202 : BitVec 32) (c0_i32_1652 : BitVec 32) (o : CellTallies nD τ sig Unit) (G : sProp 𝕄) :
    iprop(base (PX X) (OX X) K c (oS (gDma c 3 1) N 3 + o) ∗ Trk (sendA' (OX X) c 1) (sendB c 2 1) 3 ∗ G)
      ⊢ wpc c (k0_part68 M0 W0 M1 W1 M2 W2 M3 W3 M4 W4 M5 W5 M6 W6 M7 W7 cc0_scratch2 cc0_scratch3 cc0_scratch4 cc0_scratch5 c v2 v2202 c0_i32_1652)
        (fun _ => iprop(base (PX X) (OX X) K c (oS (gDma c 3 1) N 5 + o) ∗ Trk (sendA' (OX X) c 1) (sendB c 2 1) 5 ∗ G)) := by
  rw [k0_part68_eq_skeleton]; unfold k0_part68_skel
  refine wpc_seq (step_send' (PX X) (OX X) K c 1 3 (by decide) _ (dev64 c) _ _ rfl rfl _ _ (off3_1 c) o _) fun _ => ?_
  refine wpc_seq (step_send' (PX X) (OX X) K c 1 4 (by decide) _ (dev65 c) _ _ rfl rfl _ _ (off3_1 c) o _) fun _ => ?_
  exact wpc_ret .rfl

/-- Stretch 69. -/
theorem part69 (v2 : BitVec 32) (v2235 : BitVec 32) (v2236 : BitVec 32) (c0_i32_1676 : BitVec 32) (o : CellTallies nD τ sig Unit) (G : sProp 𝕄) :
    iprop(base (PX X) (OX X) K c (oS (gDma c 3 1) N 5 + o) ∗ Trk (sendA' (OX X) c 1) (sendB c 2 1) 5 ∗ G)
      ⊢ wpc c (k0_part69 M0 W0 M1 W1 M2 W2 M3 W3 M4 W4 M5 W5 M6 W6 M7 W7 cc0_scratch2 cc0_scratch3 cc0_scratch4 cc0_scratch5 c v2 v2235 v2236 c0_i32_1676)
        (fun _ => iprop(base (PX X) (OX X) K c (oS (gDma c 3 1) N 6 + o) ∗ Trk (sendA' (OX X) c 1) (sendB c 2 1) 6 ∗ G)) := by
  rw [k0_part69_eq_skeleton]; unfold k0_part69_skel
  refine wpc_seq (step_send' (PX X) (OX X) K c 1 5 (by decide) _ (dev66 c) _ _ rfl rfl _ _ (off3_1 c) o _) fun _ => ?_
  exact wpc_ret .rfl

/-- Stretch 70. -/
theorem part70 (v2 : BitVec 32) (v2266 : BitVec 32) (o : CellTallies nD τ sig Unit) (G : sProp 𝕄) :
    iprop(base (PX X) (OX X) K c (oS (gDma c 3 1) N 6 + o) ∗ Trk (sendA' (OX X) c 1) (sendB c 2 1) 6 ∗ G)
      ⊢ wpc c (k0_part70 M0 W0 M1 W1 M2 W2 M3 W3 M4 W4 M5 W5 M6 W6 M7 W7 cc0_scratch2 cc0_scratch3 cc0_scratch4 cc0_scratch5 c v2 v2266)
        (fun _ => iprop(base (PX X) (OX X) K c (oS (gDma c 3 1) N 8 + o) ∗ Trk (sendA' (OX X) c 1) (sendB c 2 1) 8 ∗ G)) := by
  rw [k0_part70_eq_skeleton]; unfold k0_part70_skel
  refine wpc_seq (step_send' (PX X) (OX X) K c 1 6 (by decide) _ (dev67 c) _ _ rfl rfl _ _ (off3_1 c) o _) fun _ => ?_
  refine wpc_seq (step_send' (PX X) (OX X) K c 1 7 (by decide) _ (dev68 c) _ _ rfl rfl _ _ (off3_1 c) o _) fun _ => ?_
  exact wpc_ret .rfl

/-- Stretch 71. -/
theorem part71 (v2 : BitVec 32) (v2302 : BitVec 32) (c16_i32_1724 : BitVec 32) (v2303 : BitVec 1) (c1_i32_1726 : BitVec 32) (o : CellTallies nD τ sig Unit) (G : sProp 𝕄) :
    iprop(base (PX X) (OX X) K c (oS (gDma c 3 1) N 8 + o) ∗ Trk (sendA' (OX X) c 1) (sendB c 2 1) 8 ∗ G)
      ⊢ wpc c (k0_part71 M0 W0 M1 W1 M2 W2 M3 W3 M4 W4 M5 W5 M6 W6 M7 W7 cc0_scratch2 cc0_scratch3 cc0_scratch4 cc0_scratch5 c v2 v2302 c16_i32_1724 v2303 c1_i32_1726)
        (fun _ => iprop(base (PX X) (OX X) K c (oS (gDma c 3 1) N 9 + o) ∗ Trk (sendA' (OX X) c 1) (sendB c 2 1) 9 ∗ G)) := by
  rw [k0_part71_eq_skeleton]; unfold k0_part71_skel
  refine wpc_seq (step_send' (PX X) (OX X) K c 1 8 (by decide) _ (dev69 c) _ _ rfl rfl _ _ (off3_1 c) o _) fun _ => ?_
  exact wpc_ret .rfl

/-- Stretch 72. -/
theorem part72 (v2 : BitVec 32) (v2335 : BitVec 32) (v2338 : BitVec 32) (c256_i32_1750 : BitVec 32) (o : CellTallies nD τ sig Unit) (G : sProp 𝕄) :
    iprop(base (PX X) (OX X) K c (oS (gDma c 3 1) N 9 + o) ∗ Trk (sendA' (OX X) c 1) (sendB c 2 1) 9 ∗ G)
      ⊢ wpc c (k0_part72 M0 W0 M1 W1 M2 W2 M3 W3 M4 W4 M5 W5 M6 W6 M7 W7 cc0_scratch2 cc0_scratch3 cc0_scratch4 cc0_scratch5 c v2 v2335 v2338 c256_i32_1750)
        (fun _ => iprop(base (PX X) (OX X) K c (oS (gDma c 3 1) N 11 + o) ∗ Trk (sendA' (OX X) c 1) (sendB c 2 1) 11 ∗ G)) := by
  rw [k0_part72_eq_skeleton]; unfold k0_part72_skel
  refine wpc_seq (step_send' (PX X) (OX X) K c 1 9 (by decide) _ (dev70 c) _ _ rfl rfl _ _ (off3_1 c) o _) fun _ => ?_
  refine wpc_seq (step_send' (PX X) (OX X) K c 1 10 (by decide) _ (dev71 c) _ _ rfl rfl _ _ (off3_1 c) o _) fun _ => ?_
  exact wpc_ret .rfl

/-- Stretch 73. -/
theorem part73 (v2 : BitVec 32) (v2371 : BitVec 32) (c16_i32_1775 : BitVec 32) (o : CellTallies nD τ sig Unit) (G : sProp 𝕄) :
    iprop(base (PX X) (OX X) K c (oS (gDma c 3 1) N 11 + o) ∗ Trk (sendA' (OX X) c 1) (sendB c 2 1) 11 ∗ G)
      ⊢ wpc c (k0_part73 M0 W0 M1 W1 M2 W2 M3 W3 M4 W4 M5 W5 M6 W6 M7 W7 cc0_scratch2 cc0_scratch3 cc0_scratch4 cc0_scratch5 c v2 v2371 c16_i32_1775)
        (fun _ => iprop(base (PX X) (OX X) K c (oS (gDma c 3 1) N 12 + o) ∗ Trk (sendA' (OX X) c 1) (sendB c 2 1) 12 ∗ G)) := by
  rw [k0_part73_eq_skeleton]; unfold k0_part73_skel
  refine wpc_seq (step_send' (PX X) (OX X) K c 1 11 (by decide) _ (dev72 c) _ _ rfl rfl _ _ (off3_1 c) o _) fun _ => ?_
  exact wpc_ret .rfl

/-- Stretch 74. -/
theorem part74 (v2 : BitVec 32) (v2404 : BitVec 32) (o : CellTallies nD τ sig Unit) (G : sProp 𝕄) :
    iprop(base (PX X) (OX X) K c (oS (gDma c 3 1) N 12 + o) ∗ Trk (sendA' (OX X) c 1) (sendB c 2 1) 12 ∗ G)
      ⊢ wpc c (k0_part74 M0 W0 M1 W1 M2 W2 M3 W3 M4 W4 M5 W5 M6 W6 M7 W7 cc0_scratch2 cc0_scratch3 cc0_scratch4 cc0_scratch5 c v2 v2404)
        (fun _ => iprop(base (PX X) (OX X) K c (oS (gDma c 3 1) N 14 + o) ∗ Trk (sendA' (OX X) c 1) (sendB c 2 1) 14 ∗ G)) := by
  rw [k0_part74_eq_skeleton]; unfold k0_part74_skel
  refine wpc_seq (step_send' (PX X) (OX X) K c 1 12 (by decide) _ (dev73 c) _ _ rfl rfl _ _ (off3_1 c) o _) fun _ => ?_
  refine wpc_seq (step_send' (PX X) (OX X) K c 1 13 (by decide) _ (dev74 c) _ _ rfl rfl _ _ (off3_1 c) o _) fun _ => ?_
  exact wpc_ret .rfl

/-- Stretch 75. -/
theorem part75 (v2 : BitVec 32) (o : CellTallies nD τ sig Unit) (G : sProp 𝕄) :
    iprop(base (PX X) (OX X) K c (oS (gDma c 3 1) N 14 + o) ∗ Trk (sendA' (OX X) c 1) (sendB c 2 1) 14 ∗ G)
      ⊢ wpc c (k0_part75 M0 W0 M1 W1 M2 W2 M3 W3 M4 W4 M5 W5 M6 W6 M7 W7 cc0_scratch2 cc0_scratch3 cc0_scratch4 cc0_scratch5 c v2)
        (fun _ => iprop(base (PX X) (OX X) K c (oS (gDma c 3 1) N 15 + o) ∗ Trk (sendA' (OX X) c 1) (sendB c 2 1) 15 ∗ G)) := by
  rw [k0_part75_eq_skeleton]; unfold k0_part75_skel
  refine wpc_seq (step_send' (PX X) (OX X) K c 1 14 (by decide) _ (dev75 c) _ _ rfl rfl _ _ (off3_1 c) o _) fun _ => ?_
  exact wpc_ret .rfl

end Cert.KernelIdeal.Talk

end
-- ==== Proof.KI.PartsE.lean ====
/-
  The kernel's stretches 76 to 101: what each uses and leaves.
-/
module

public import proofs.«01_k».proof.Proof.KI.Moves
public import proofs.«01_k».proof.Proof.Gen.KernelIdeal.Skeleton

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

open Cert.KernelIdeal.Gen

variable {F : FTy → Type} [FloatOps F] [Named F]

local notation "𝕄" => MT nD τ sig Unit (Elt F) ℕ UU ℕ

variable (X : Dev nD → Ins F) (K : GSem nD τ sig → ℕ) (c : Dev nD)

set_option maxRecDepth 8000

/-- Stretch 76. -/
theorem part76 (v2 : BitVec 32) (v2473 : BitVec 32) (c16_i32_1849 : BitVec 32) (G : sProp 𝕄) :
    iprop(base (PX X) (OX X) K c 0 ∗ Trk (waitA c 3 0) (waitB (PX X) (OX X) c 3 0) 0 ∗ G)
      ⊢ wpc c (k0_part76 M0 W0 M1 W1 M2 W2 M3 W3 M4 W4 M5 W5 M6 W6 M7 W7 cc0_scratch2 cc0_scratch3 cc0_scratch4 cc0_scratch5 c v2 v2473 c16_i32_1849)
        (fun _ => iprop(base (PX X) (OX X) K c 0 ∗ Trk (waitA c 3 0) (waitB (PX X) (OX X) c 3 0) 2 ∗ G)) := by
  rw [k0_part76_eq_skeleton]; unfold k0_part76_skel
  refine wpc_seq (step_wait (PX X) (OX X) K c 3 0 0 (by decide) _ rfl (by exact credit_out _ _) 0 none_owed _) fun _ => ?_
  refine wpc_seq (step_wait (PX X) (OX X) K c 3 0 1 (by decide) _ rfl (by exact credit_out _ _) 0 none_owed _) fun _ => ?_
  exact wpc_ret .rfl

/-- Stretch 77. -/
theorem part77 (v2 : BitVec 32) (c3_i32_1876 : BitVec 32) (G : sProp 𝕄) :
    iprop(base (PX X) (OX X) K c 0 ∗ Trk (waitA c 3 0) (waitB (PX X) (OX X) c 3 0) 2 ∗ G)
      ⊢ wpc c (k0_part77 M0 W0 M1 W1 M2 W2 M3 W3 M4 W4 M5 W5 M6 W6 M7 W7 cc0_scratch2 cc0_scratch3 cc0_scratch4 cc0_scratch5 c v2 c3_i32_1876)
        (fun _ => iprop(base (PX X) (OX X) K c 0 ∗ Trk (waitA c 3 0) (waitB (PX X) (OX X) c 3 0) 3 ∗ G)) := by
  rw [k0_part77_eq_skeleton]; unfold k0_part77_skel
  refine wpc_seq (step_wait (PX X) (OX X) K c 3 0 2 (by decide) _ rfl (by exact credit_out _ _) 0 none_owed _) fun _ => ?_
  exact wpc_ret .rfl

/-- Stretch 78. -/
theorem part78 (v2 : BitVec 32) (v2536 : BitVec 32) (G : sProp 𝕄) :
    iprop(base (PX X) (OX X) K c 0 ∗ Trk (waitA c 3 0) (waitB (PX X) (OX X) c 3 0) 3 ∗ G)
      ⊢ wpc c (k0_part78 M0 W0 M1 W1 M2 W2 M3 W3 M4 W4 M5 W5 M6 W6 M7 W7 cc0_scratch2 cc0_scratch3 cc0_scratch4 cc0_scratch5 c v2 v2536)
        (fun _ => iprop(base (PX X) (OX X) K c 0 ∗ Trk (waitA c 3 0) (waitB (PX X) (OX X) c 3 0) 5 ∗ G)) := by
  rw [k0_part78_eq_skeleton]; unfold k0_part78_skel
  refine wpc_seq (step_wait (PX X) (OX X) K c 3 0 3 (by decide) _ rfl (by exact credit_out _ _) 0 none_owed _) fun _ => ?_
  refine wpc_seq (step_wait (PX X) (OX X) K c 3 0 4 (by decide) _ rfl (by exact credit_out _ _) 0 none_owed _) fun _ => ?_
  exact wpc_ret .rfl

/-- Stretch 79. -/
theorem part79 (v2 : BitVec 32) (v2568 : BitVec 32) (c16_i32_1928 : BitVec 32) (c0_i32_1929 : BitVec 32) (G : sProp 𝕄) :
    iprop(base (PX X) (OX X) K c 0 ∗ Trk (waitA c 3 0) (waitB (PX X) (OX X) c 3 0) 5 ∗ G)
      ⊢ wpc c (k0_part79 M0 W0 M1 W1 M2 W2 M3 W3 M4 W4 M5 W5 M6 W6 M7 W7 cc0_scratch2 cc0_scratch3 cc0_scratch4 cc0_scratch5 c v2 v2568 c16_i32_1928 c0_i32_1929)
        (fun _ => iprop(base (PX X) (OX X) K c 0 ∗ Trk (waitA c 3 0) (waitB (PX X) (OX X) c 3 0) 6 ∗ G)) := by
  rw [k0_part79_eq_skeleton]; unfold k0_part79_skel
  refine wpc_seq (step_wait (PX X) (OX X) K c 3 0 5 (by decide) _ rfl (by exact credit_out _ _) 0 none_owed _) fun _ => ?_
  exact wpc_ret .rfl

/-- Stretch 80. -/
theorem part80 (v2 : BitVec 32) (v2599 : BitVec 32) (v2602 : BitVec 32) (c0_i32_1954 : BitVec 32) (G : sProp 𝕄) :
    iprop(base (PX X) (OX X) K c 0 ∗ Trk (waitA c 3 0) (waitB (PX X) (OX X) c 3 0) 6 ∗ G)
      ⊢ wpc c (k0_part80 M0 W0 M1 W1 M2 W2 M3 W3 M4 W4 M5 W5 M6 W6 M7 W7 cc0_scratch2 cc0_scratch3 cc0_scratch4 cc0_scratch5 c v2 v2599 v2602 c0_i32_1954)
        (fun _ => iprop(base (PX X) (OX X) K c 0 ∗ Trk (waitA c 3 0) (waitB (PX X) (OX X) c 3 0) 8 ∗ G)) := by
  rw [k0_part80_eq_skeleton]; unfold k0_part80_skel
  refine wpc_seq (step_wait (PX X) (OX X) K c 3 0 6 (by decide) _ rfl (by exact credit_out _ _) 0 none_owed _) fun _ => ?_
  refine wpc_seq (step_wait (PX X) (OX X) K c 3 0 7 (by decide) _ rfl (by exact credit_out _ _) 0 none_owed _) fun _ => ?_
  exact wpc_ret .rfl

/-- Stretch 81. -/
theorem part81 (v2 : BitVec 32) (v2631 : BitVec 32) (v2633 : BitVec 32) (G : sProp 𝕄) :
    iprop(base (PX X) (OX X) K c 0 ∗ Trk (waitA c 3 0) (waitB (PX X) (OX X) c 3 0) 8 ∗ G)
      ⊢ wpc c (k0_part81 M0 W0 M1 W1 M2 W2 M3 W3 M4 W4 M5 W5 M6 W6 M7 W7 cc0_scratch2 cc0_scratch3 cc0_scratch4 cc0_scratch5 c v2 v2631 v2633)
        (fun _ => iprop(base (PX X) (OX X) K c 0 ∗ Trk (waitA c 3 0) (waitB (PX X) (OX X) c 3 0) 9 ∗ G)) := by
  rw [k0_part81_eq_skeleton]; unfold k0_part81_skel
  refine wpc_seq (step_wait (PX X) (OX X) K c 3 0 8 (by decide) _ rfl (by exact credit_out _ _) 0 none_owed _) fun _ => ?_
  exact wpc_ret .rfl

/-- Stretch 82. -/
theorem part82 (v2 : BitVec 32) (v2662 : BitVec 32) (G : sProp 𝕄) :
    iprop(base (PX X) (OX X) K c 0 ∗ Trk (waitA c 3 0) (waitB (PX X) (OX X) c 3 0) 9 ∗ G)
      ⊢ wpc c (k0_part82 M0 W0 M1 W1 M2 W2 M3 W3 M4 W4 M5 W5 M6 W6 M7 W7 cc0_scratch2 cc0_scratch3 cc0_scratch4 cc0_scratch5 c v2 v2662)
        (fun _ => iprop(base (PX X) (OX X) K c 0 ∗ Trk (waitA c 3 0) (waitB (PX X) (OX X) c 3 0) 11 ∗ G)) := by
  rw [k0_part82_eq_skeleton]; unfold k0_part82_skel
  refine wpc_seq (step_wait (PX X) (OX X) K c 3 0 9 (by decide) _ rfl (by exact credit_out _ _) 0 none_owed _) fun _ => ?_
  refine wpc_seq (step_wait (PX X) (OX X) K c 3 0 10 (by decide) _ rfl (by exact credit_out _ _) 0 none_owed _) fun _ => ?_
  exact wpc_ret .rfl

/-- Stretch 83. -/
theorem part83 (v2 : BitVec 32) (v2696 : BitVec 32) (v2697 : BitVec 32) (v2698 : BitVec 1) (G : sProp 𝕄) :
    iprop(base (PX X) (OX X) K c 0 ∗ Trk (waitA c 3 0) (waitB (PX X) (OX X) c 3 0) 11 ∗ G)
      ⊢ wpc c (k0_part83 M0 W0 M1 W1 M2 W2 M3 W3 M4 W4 M5 W5 M6 W6 M7 W7 cc0_scratch2 cc0_scratch3 cc0_scratch4 cc0_scratch5 c v2 v2696 v2697 v2698)
        (fun _ => iprop(base (PX X) (OX X) K c 0 ∗ Trk (waitA c 3 0) (waitB (PX X) (OX X) c 3 0) 12 ∗ G)) := by
  rw [k0_part83_eq_skeleton]; unfold k0_part83_skel
  refine wpc_seq (step_wait (PX X) (OX X) K c 3 0 11 (by decide) _ rfl (by exact credit_out _ _) 0 none_owed _) fun _ => ?_
  exact wpc_ret .rfl

/-- Stretch 84. -/
theorem part84 (v2 : BitVec 32) (v2730 : BitVec 32) (c0_i32_2060 : BitVec 32) (G : sProp 𝕄) :
    iprop(base (PX X) (OX X) K c 0 ∗ Trk (waitA c 3 0) (waitB (PX X) (OX X) c 3 0) 12 ∗ G)
      ⊢ wpc c (k0_part84 M0 W0 M1 W1 M2 W2 M3 W3 M4 W4 M5 W5 M6 W6 M7 W7 cc0_scratch2 cc0_scratch3 cc0_scratch4 cc0_scratch5 c v2 v2730 c0_i32_2060)
        (fun _ => iprop(base (PX X) (OX X) K c 0 ∗ Trk (waitA c 3 0) (waitB (PX X) (OX X) c 3 0) 14 ∗ G)) := by
  rw [k0_part84_eq_skeleton]; unfold k0_part84_skel
  refine wpc_seq (step_wait (PX X) (OX X) K c 3 0 12 (by decide) _ rfl (by exact credit_out _ _) 0 none_owed _) fun _ => ?_
  refine wpc_seq (step_wait (PX X) (OX X) K c 3 0 13 (by decide) _ rfl (by exact credit_out _ _) 0 none_owed _) fun _ => ?_
  exact wpc_ret .rfl

/-- Stretch 85. -/
theorem part85 (v2 : BitVec 32) (v2759 : BitVec 32) (v2760 : BitVec 32) (v2761 : BitVec 1) (v2762 : BitVec 1) (c0_i32_2086 : BitVec 32) (G : sProp 𝕄) :
    iprop(base (PX X) (OX X) K c 0 ∗ Trk (waitA c 3 0) (waitB (PX X) (OX X) c 3 0) 14 ∗ G)
      ⊢ wpc c (k0_part85 M0 W0 M1 W1 M2 W2 M3 W3 M4 W4 M5 W5 M6 W6 M7 W7 cc0_scratch2 cc0_scratch3 cc0_scratch4 cc0_scratch5 c v2 v2759 v2760 v2761 v2762 c0_i32_2086)
        (fun _ => iprop(base (PX X) (OX X) K c 0 ∗ Trk (waitA c 3 0) (waitB (PX X) (OX X) c 3 0) 15 ∗ G)) := by
  rw [k0_part85_eq_skeleton]; unfold k0_part85_skel
  refine wpc_seq (step_wait (PX X) (OX X) K c 3 0 14 (by decide) _ rfl (by exact credit_out _ _) 0 none_owed _) fun _ => ?_
  exact wpc_ret .rfl

/-- Stretch 86. -/
theorem part86 (v2 : BitVec 32) (G : sProp 𝕄) :
    iprop(base (PX X) (OX X) K c 0 ∗ Trk (waitA c 3 1) (waitB (PX X) (OX X) c 3 1) 0 ∗ G)
      ⊢ wpc c (k0_part86 M0 W0 M1 W1 M2 W2 M3 W3 M4 W4 M5 W5 M6 W6 M7 W7 cc0_scratch2 cc0_scratch3 cc0_scratch4 cc0_scratch5 c v2)
        (fun _ => iprop(base (PX X) (OX X) K c 0 ∗ Trk (waitA c 3 1) (waitB (PX X) (OX X) c 3 1) 2 ∗ G)) := by
  rw [k0_part86_eq_skeleton]; unfold k0_part86_skel
  refine wpc_seq (step_wait (PX X) (OX X) K c 3 1 0 (by decide) _ rfl (by exact credit_out _ _) 0 none_owed _) fun _ => ?_
  refine wpc_seq (step_wait (PX X) (OX X) K c 3 1 1 (by decide) _ rfl (by exact credit_out _ _) 0 none_owed _) fun _ => ?_
  exact wpc_ret .rfl

/-- Stretch 87. -/
theorem part87 (v2 : BitVec 32) (v2822 : BitVec 32) (v2823 : BitVec 32) (v2828 : BitVec 1) (G : sProp 𝕄) :
    iprop(base (PX X) (OX X) K c 0 ∗ Trk (waitA c 3 1) (waitB (PX X) (OX X) c 3 1) 2 ∗ G)
      ⊢ wpc c (k0_part87 M0 W0 M1 W1 M2 W2 M3 W3 M4 W4 M5 W5 M6 W6 M7 W7 cc0_scratch2 cc0_scratch3 cc0_scratch4 cc0_scratch5 c v2 v2822 v2823 v2828)
        (fun _ => iprop(base (PX X) (OX X) K c 0 ∗ Trk (waitA c 3 1) (waitB (PX X) (OX X) c 3 1) 3 ∗ G)) := by
  rw [k0_part87_eq_skeleton]; unfold k0_part87_skel
  refine wpc_seq (step_wait (PX X) (OX X) K c 3 1 2 (by decide) _ rfl (by exact credit_out _ _) 0 none_owed _) fun _ => ?_
  exact wpc_ret .rfl

/-- Stretch 88. -/
theorem part88 (v2 : BitVec 32) (G : sProp 𝕄) :
    iprop(base (PX X) (OX X) K c 0 ∗ Trk (waitA c 3 1) (waitB (PX X) (OX X) c 3 1) 3 ∗ G)
      ⊢ wpc c (k0_part88 M0 W0 M1 W1 M2 W2 M3 W3 M4 W4 M5 W5 M6 W6 M7 W7 cc0_scratch2 cc0_scratch3 cc0_scratch4 cc0_scratch5 c v2)
        (fun _ => iprop(base (PX X) (OX X) K c 0 ∗ Trk (waitA c 3 1) (waitB (PX X) (OX X) c 3 1) 5 ∗ G)) := by
  rw [k0_part88_eq_skeleton]; unfold k0_part88_skel
  refine wpc_seq (step_wait (PX X) (OX X) K c 3 1 3 (by decide) _ rfl (by exact credit_out _ _) 0 none_owed _) fun _ => ?_
  refine wpc_seq (step_wait (PX X) (OX X) K c 3 1 4 (by decide) _ rfl (by exact credit_out _ _) 0 none_owed _) fun _ => ?_
  exact wpc_ret .rfl

/-- Stretch 89. -/
theorem part89 (v2 : BitVec 32) (v2893 : BitVec 32) (c16_i32_2189 : BitVec 32) (G : sProp 𝕄) :
    iprop(base (PX X) (OX X) K c 0 ∗ Trk (waitA c 3 1) (waitB (PX X) (OX X) c 3 1) 5 ∗ G)
      ⊢ wpc c (k0_part89 M0 W0 M1 W1 M2 W2 M3 W3 M4 W4 M5 W5 M6 W6 M7 W7 cc0_scratch2 cc0_scratch3 cc0_scratch4 cc0_scratch5 c v2 v2893 c16_i32_2189)
        (fun _ => iprop(base (PX X) (OX X) K c 0 ∗ Trk (waitA c 3 1) (waitB (PX X) (OX X) c 3 1) 7 ∗ G)) := by
  rw [k0_part89_eq_skeleton]; unfold k0_part89_skel
  refine wpc_seq (step_wait (PX X) (OX X) K c 3 1 5 (by decide) _ rfl (by exact credit_out _ _) 0 none_owed _) fun _ => ?_
  refine wpc_seq (step_wait (PX X) (OX X) K c 3 1 6 (by decide) _ rfl (by exact credit_out _ _) 0 none_owed _) fun _ => ?_
  exact wpc_ret .rfl

/-- Stretch 90. -/
theorem part90 (v2 : BitVec 32) (c8_i32_2216 : BitVec 32) (G : sProp 𝕄) :
    iprop(base (PX X) (OX X) K c 0 ∗ Trk (waitA c 3 1) (waitB (PX X) (OX X) c 3 1) 7 ∗ G)
      ⊢ wpc c (k0_part90 M0 W0 M1 W1 M2 W2 M3 W3 M4 W4 M5 W5 M6 W6 M7 W7 cc0_scratch2 cc0_scratch3 cc0_scratch4 cc0_scratch5 c v2 c8_i32_2216)
        (fun _ => iprop(base (PX X) (OX X) K c 0 ∗ Trk (waitA c 3 1) (waitB (PX X) (OX X) c 3 1) 8 ∗ G)) := by
  rw [k0_part90_eq_skeleton]; unfold k0_part90_skel
  refine wpc_seq (step_wait (PX X) (OX X) K c 3 1 7 (by decide) _ rfl (by exact credit_out _ _) 0 none_owed _) fun _ => ?_
  exact wpc_ret .rfl

/-- Stretch 91. -/
theorem part91 (v2 : BitVec 32) (v2956 : BitVec 32) (G : sProp 𝕄) :
    iprop(base (PX X) (OX X) K c 0 ∗ Trk (waitA c 3 1) (waitB (PX X) (OX X) c 3 1) 8 ∗ G)
      ⊢ wpc c (k0_part91 M0 W0 M1 W1 M2 W2 M3 W3 M4 W4 M5 W5 M6 W6 M7 W7 cc0_scratch2 cc0_scratch3 cc0_scratch4 cc0_scratch5 c v2 v2956)
        (fun _ => iprop(base (PX X) (OX X) K c 0 ∗ Trk (waitA c 3 1) (waitB (PX X) (OX X) c 3 1) 10 ∗ G)) := by
  rw [k0_part91_eq_skeleton]; unfold k0_part91_skel
  refine wpc_seq (step_wait (PX X) (OX X) K c 3 1 8 (by decide) _ rfl (by exact credit_out _ _) 0 none_owed _) fun _ => ?_
  refine wpc_seq (step_wait (PX X) (OX X) K c 3 1 9 (by decide) _ rfl (by exact credit_out _ _) 0 none_owed _) fun _ => ?_
  exact wpc_ret .rfl

/-- Stretch 92. -/
theorem part92 (v2 : BitVec 32) (v2988 : BitVec 32) (c16_i32_2268 : BitVec 32) (c0_i32_2269 : BitVec 32) (G : sProp 𝕄) :
    iprop(base (PX X) (OX X) K c 0 ∗ Trk (waitA c 3 1) (waitB (PX X) (OX X) c 3 1) 10 ∗ G)
      ⊢ wpc c (k0_part92 M0 W0 M1 W1 M2 W2 M3 W3 M4 W4 M5 W5 M6 W6 M7 W7 cc0_scratch2 cc0_scratch3 cc0_scratch4 cc0_scratch5 c v2 v2988 c16_i32_2268 c0_i32_2269)
        (fun _ => iprop(base (PX X) (OX X) K c 0 ∗ Trk (waitA c 3 1) (waitB (PX X) (OX X) c 3 1) 11 ∗ G)) := by
  rw [k0_part92_eq_skeleton]; unfold k0_part92_skel
  refine wpc_seq (step_wait (PX X) (OX X) K c 3 1 10 (by decide) _ rfl (by exact credit_out _ _) 0 none_owed _) fun _ => ?_
  exact wpc_ret .rfl

/-- Stretch 93. -/
theorem part93 (v2 : BitVec 32) (v3019 : BitVec 32) (v3022 : BitVec 32) (c256_i32_2294 : BitVec 32) (G : sProp 𝕄) :
    iprop(base (PX X) (OX X) K c 0 ∗ Trk (waitA c 3 1) (waitB (PX X) (OX X) c 3 1) 11 ∗ G)
      ⊢ wpc c (k0_part93 M0 W0 M1 W1 M2 W2 M3 W3 M4 W4 M5 W5 M6 W6 M7 W7 cc0_scratch2 cc0_scratch3 cc0_scratch4 cc0_scratch5 c v2 v3019 v3022 c256_i32_2294)
        (fun _ => iprop(base (PX X) (OX X) K c 0 ∗ Trk (waitA c 3 1) (waitB (PX X) (OX X) c 3 1) 13 ∗ G)) := by
  rw [k0_part93_eq_skeleton]; unfold k0_part93_skel
  refine wpc_seq (step_wait (PX X) (OX X) K c 3 1 11 (by decide) _ rfl (by exact credit_out _ _) 0 none_owed _) fun _ => ?_
  refine wpc_seq (step_wait (PX X) (OX X) K c 3 1 12 (by decide) _ rfl (by exact credit_out _ _) 0 none_owed _) fun _ => ?_
  exact wpc_ret .rfl

/-- Stretch 94. -/
theorem part94 (v2 : BitVec 32) (v3051 : BitVec 32) (v3053 : BitVec 32) (G : sProp 𝕄) :
    iprop(base (PX X) (OX X) K c 0 ∗ Trk (waitA c 3 1) (waitB (PX X) (OX X) c 3 1) 13 ∗ G)
      ⊢ wpc c (k0_part94 M0 W0 M1 W1 M2 W2 M3 W3 M4 W4 M5 W5 M6 W6 M7 W7 cc0_scratch2 cc0_scratch3 cc0_scratch4 cc0_scratch5 c v2 v3051 v3053)
        (fun _ => iprop(base (PX X) (OX X) K c 0 ∗ Trk (waitA c 3 1) (waitB (PX X) (OX X) c 3 1) 14 ∗ G)) := by
  rw [k0_part94_eq_skeleton]; unfold k0_part94_skel
  refine wpc_seq (step_wait (PX X) (OX X) K c 3 1 13 (by decide) _ rfl (by exact credit_out _ _) 0 none_owed _) fun _ => ?_
  exact wpc_ret .rfl

/-- Stretch 95. -/
theorem part95 (v2 : BitVec 32) (v3082 : BitVec 32) (G : sProp 𝕄) :
    iprop(base (PX X) (OX X) K c 0 ∗ Trk (waitA c 3 1) (waitB (PX X) (OX X) c 3 1) 14 ∗ Trk (waitA c 0 0) (waitB (PX X) (OX X) c 0 0) 0 ∗ G)
      ⊢ wpc c (k0_part95 M0 W0 M1 W1 M2 W2 M3 W3 M4 W4 M5 W5 M6 W6 M7 W7 cc0_scratch2 cc0_scratch3 cc0_scratch4 cc0_scratch5 c v2 v3082)
        (fun _ => iprop(base (PX X) (OX X) K c 0 ∗ Trk (waitA c 3 1) (waitB (PX X) (OX X) c 3 1) 15 ∗ Trk (waitA c 0 0) (waitB (PX X) (OX X) c 0 0) 1 ∗ G)) := by
  rw [k0_part95_eq_skeleton]; unfold k0_part95_skel
  refine wpc_seq (step_wait (PX X) (OX X) K c 3 1 14 (by decide) _ rfl (by exact credit_out _ _) 0 none_owed _) fun _ => ?_
  refine wpc_seq (at_second (B' := base (PX X) (OX X) K c 0) (T' := Trk (waitA c 0 0) (waitB (PX X) (OX X) c 0 0) 1) ?h) fun _ => ?_
  · exact step_wait (PX X) (OX X) K c 0 0 0 (by decide) _ rfl (by exact credit_part _ _) 0 none_owed _
  exact wpc_ret .rfl

/-- Stretch 96. -/
theorem part96 (v2 : BitVec 32) (v3113 : BitVec 32) (v3114 : BitVec 32) (v3115 : BitVec 1) (v3116 : BitVec 1) (v3117 : BitVec 1) (G : sProp 𝕄) :
    iprop(base (PX X) (OX X) K c 0 ∗ Trk (waitA c 0 0) (waitB (PX X) (OX X) c 0 0) 1 ∗ Trk (waitA c 2 0) (waitB (PX X) (OX X) c 2 0) 0 ∗ G)
      ⊢ wpc c (k0_part96 M0 W0 M1 W1 M2 W2 M3 W3 M4 W4 M5 W5 M6 W6 M7 W7 cc0_scratch2 cc0_scratch3 cc0_scratch4 cc0_scratch5 c v2 v3113 v3114 v3115 v3116 v3117)
        (fun _ => iprop(base (PX X) (OX X) K c 0 ∗ Trk (waitA c 0 0) (waitB (PX X) (OX X) c 0 0) 2 ∗ Trk (waitA c 2 0) (waitB (PX X) (OX X) c 2 0) 1 ∗ G)) := by
  rw [k0_part96_eq_skeleton]; unfold k0_part96_skel
  refine wpc_seq (at_second (B' := base (PX X) (OX X) K c 0) (T' := Trk (waitA c 2 0) (waitB (PX X) (OX X) c 2 0) 1) ?h) fun _ => ?_
  · exact step_wait (PX X) (OX X) K c 2 0 0 (by decide) _ rfl (by exact credit_out _ _) 0 none_owed _
  refine wpc_seq (step_wait (PX X) (OX X) K c 0 0 1 (by decide) _ rfl (by exact credit_part _ _) 0 none_owed _) fun _ => ?_
  exact wpc_ret .rfl

/-- Stretch 97. -/
theorem part97 (v2 : BitVec 32) (v3148 : BitVec 32) (c16_i32_2401 : BitVec 32) (G : sProp 𝕄) :
    iprop(base (PX X) (OX X) K c 0 ∗ Trk (waitA c 0 0) (waitB (PX X) (OX X) c 0 0) 2 ∗ Trk (waitA c 2 0) (waitB (PX X) (OX X) c 2 0) 1 ∗ G)
      ⊢ wpc c (k0_part97 M0 W0 M1 W1 M2 W2 M3 W3 M4 W4 M5 W5 M6 W6 M7 W7 cc0_scratch2 cc0_scratch3 cc0_scratch4 cc0_scratch5 c v2 v3148 c16_i32_2401)
        (fun _ => iprop(base (PX X) (OX X) K c 0 ∗ Trk (waitA c 0 0) (waitB (PX X) (OX X) c 0 0) 2 ∗ Trk (waitA c 2 0) (waitB (PX X) (OX X) c 2 0) 2 ∗ G)) := by
  rw [k0_part97_eq_skeleton]; unfold k0_part97_skel
  refine wpc_seq (at_second (B' := base (PX X) (OX X) K c 0) (T' := Trk (waitA c 2 0) (waitB (PX X) (OX X) c 2 0) 2) ?h) fun _ => ?_
  · exact step_wait (PX X) (OX X) K c 2 0 1 (by decide) _ rfl (by exact credit_out _ _) 0 none_owed _
  exact wpc_ret .rfl

/-- Stretch 98. -/
theorem part98 (v2 : BitVec 32) (G : sProp 𝕄) :
    iprop(base (PX X) (OX X) K c 0 ∗ Trk (waitA c 0 0) (waitB (PX X) (OX X) c 0 0) 2 ∗ Trk (waitA c 2 0) (waitB (PX X) (OX X) c 2 0) 2 ∗ G)
      ⊢ wpc c (k0_part98 M0 W0 M1 W1 M2 W2 M3 W3 M4 W4 M5 W5 M6 W6 M7 W7 cc0_scratch2 cc0_scratch3 cc0_scratch4 cc0_scratch5 c v2)
        (fun _ => iprop(base (PX X) (OX X) K c 0 ∗ Trk (waitA c 0 0) (waitB (PX X) (OX X) c 0 0) 3 ∗ Trk (waitA c 2 0) (waitB (PX X) (OX X) c 2 0) 3 ∗ G)) := by
  rw [k0_part98_eq_skeleton]; unfold k0_part98_skel
  refine wpc_seq (step_wait (PX X) (OX X) K c 0 0 2 (by decide) _ rfl (by exact credit_part _ _) 0 none_owed _) fun _ => ?_
  refine wpc_seq (at_second (B' := base (PX X) (OX X) K c 0) (T' := Trk (waitA c 2 0) (waitB (PX X) (OX X) c 2 0) 3) ?h) fun _ => ?_
  · exact step_wait (PX X) (OX X) K c 2 0 2 (by decide) _ rfl (by exact credit_out _ _) 0 none_owed _
  exact wpc_ret .rfl

/-- Stretch 99. -/
theorem part99 (v2 : BitVec 32) (v3206 : BitVec 32) (v3207 : BitVec 32) (v3212 : BitVec 1) (G : sProp 𝕄) :
    iprop(base (PX X) (OX X) K c 0 ∗ Trk (waitA c 0 0) (waitB (PX X) (OX X) c 0 0) 3 ∗ Trk (waitA c 2 0) (waitB (PX X) (OX X) c 2 0) 3 ∗ G)
      ⊢ wpc c (k0_part99 M0 W0 M1 W1 M2 W2 M3 W3 M4 W4 M5 W5 M6 W6 M7 W7 cc0_scratch2 cc0_scratch3 cc0_scratch4 cc0_scratch5 c v2 v3206 v3207 v3212)
        (fun _ => iprop(base (PX X) (OX X) K c 0 ∗ Trk (waitA c 0 0) (waitB (PX X) (OX X) c 0 0) 4 ∗ Trk (waitA c 2 0) (waitB (PX X) (OX X) c 2 0) 4 ∗ G)) := by
  rw [k0_part99_eq_skeleton]; unfold k0_part99_skel
  refine wpc_seq (step_wait (PX X) (OX X) K c 0 0 3 (by decide) _ rfl (by exact credit_part _ _) 0 none_owed _) fun _ => ?_
  refine wpc_seq (at_second (B' := base (PX X) (OX X) K c 0) (T' := Trk (waitA c 2 0) (waitB (PX X) (OX X) c 2 0) 4) ?h) fun _ => ?_
  · exact step_wait (PX X) (OX X) K c 2 0 3 (by decide) _ rfl (by exact credit_out _ _) 0 none_owed _
  exact wpc_ret .rfl

/-- Stretch 100. -/
theorem part100 (v2 : BitVec 32) (v3241 : BitVec 32) (c16_i32_2481 : BitVec 32) (v3242 : BitVec 1) (G : sProp 𝕄) :
    iprop(base (PX X) (OX X) K c 0 ∗ Trk (waitA c 0 0) (waitB (PX X) (OX X) c 0 0) 4 ∗ Trk (waitA c 2 0) (waitB (PX X) (OX X) c 2 0) 4 ∗ G)
      ⊢ wpc c (k0_part100 M0 W0 M1 W1 M2 W2 M3 W3 M4 W4 M5 W5 M6 W6 M7 W7 cc0_scratch2 cc0_scratch3 cc0_scratch4 cc0_scratch5 c v2 v3241 c16_i32_2481 v3242)
        (fun _ => iprop(base (PX X) (OX X) K c 0 ∗ Trk (waitA c 0 0) (waitB (PX X) (OX X) c 0 0) 5 ∗ Trk (waitA c 2 0) (waitB (PX X) (OX X) c 2 0) 4 ∗ G)) := by
  rw [k0_part100_eq_skeleton]; unfold k0_part100_skel
  refine wpc_seq (step_wait (PX X) (OX X) K c 0 0 4 (by decide) _ rfl (by exact credit_part _ _) 0 none_owed _) fun _ => ?_
  exact wpc_ret .rfl

/-- Stretch 101. -/
theorem part101 (v2 : BitVec 32) (G : sProp 𝕄) :
    iprop(base (PX X) (OX X) K c 0 ∗ Trk (waitA c 0 0) (waitB (PX X) (OX X) c 0 0) 5 ∗ Trk (waitA c 2 0) (waitB (PX X) (OX X) c 2 0) 4 ∗ G)
      ⊢ wpc c (k0_part101 M0 W0 M1 W1 M2 W2 M3 W3 M4 W4 M5 W5 M6 W6 M7 W7 cc0_scratch2 cc0_scratch3 cc0_scratch4 cc0_scratch5 c v2)
        (fun _ => iprop(base (PX X) (OX X) K c 0 ∗ Trk (waitA c 0 0) (waitB (PX X) (OX X) c 0 0) 6 ∗ Trk (waitA c 2 0) (waitB (PX X) (OX X) c 2 0) 5 ∗ G)) := by
  rw [k0_part101_eq_skeleton]; unfold k0_part101_skel
  refine wpc_seq (at_second (B' := base (PX X) (OX X) K c 0) (T' := Trk (waitA c 2 0) (waitB (PX X) (OX X) c 2 0) 5) ?h) fun _ => ?_
  · exact step_wait (PX X) (OX X) K c 2 0 4 (by decide) _ rfl (by exact credit_out _ _) 0 none_owed _
  refine wpc_seq (step_wait (PX X) (OX X) K c 0 0 5 (by decide) _ rfl (by exact credit_part _ _) 0 none_owed _) fun _ => ?_
  exact wpc_ret .rfl

end Cert.KernelIdeal.Talk

end
-- ==== Proof.KI.PartsF.lean ====
/-
  The kernel's stretches 102 to 129: what each uses and leaves.
-/
module

public import proofs.«01_k».proof.Proof.KI.Moves
public import proofs.«01_k».proof.Proof.Gen.KernelIdeal.Skeleton

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

open Cert.KernelIdeal.Gen

variable {F : FTy → Type} [FloatOps F] [Named F]

local notation "𝕄" => MT nD τ sig Unit (Elt F) ℕ UU ℕ

variable (X : Dev nD → Ins F) (K : GSem nD τ sig → ℕ) (c : Dev nD)

set_option maxRecDepth 8000

/-- Stretch 102. -/
theorem part102 (v2 : BitVec 32) (c16_i32_2535 : BitVec 32) (G : sProp 𝕄) :
    iprop(base (PX X) (OX X) K c 0 ∗ Trk (waitA c 0 0) (waitB (PX X) (OX X) c 0 0) 6 ∗ Trk (waitA c 2 0) (waitB (PX X) (OX X) c 2 0) 5 ∗ G)
      ⊢ wpc c (k0_part102 M0 W0 M1 W1 M2 W2 M3 W3 M4 W4 M5 W5 M6 W6 M7 W7 cc0_scratch2 cc0_scratch3 cc0_scratch4 cc0_scratch5 c v2 c16_i32_2535)
        (fun _ => iprop(base (PX X) (OX X) K c 0 ∗ Trk (waitA c 0 0) (waitB (PX X) (OX X) c 0 0) 7 ∗ Trk (waitA c 2 0) (waitB (PX X) (OX X) c 2 0) 6 ∗ G)) := by
  rw [k0_part102_eq_skeleton]; unfold k0_part102_skel
  refine wpc_seq (at_second (B' := base (PX X) (OX X) K c 0) (T' := Trk (waitA c 2 0) (waitB (PX X) (OX X) c 2 0) 6) ?h) fun _ => ?_
  · exact step_wait (PX X) (OX X) K c 2 0 5 (by decide) _ rfl (by exact credit_out _ _) 0 none_owed _
  refine wpc_seq (step_wait (PX X) (OX X) K c 0 0 6 (by decide) _ rfl (by exact credit_part _ _) 0 none_owed _) fun _ => ?_
  exact wpc_ret .rfl

/-- Stretch 103. -/
theorem part103 (v2 : BitVec 32) (v3335 : BitVec 32) (v3336 : BitVec 32) (G : sProp 𝕄) :
    iprop(base (PX X) (OX X) K c 0 ∗ Trk (waitA c 0 0) (waitB (PX X) (OX X) c 0 0) 7 ∗ Trk (waitA c 2 0) (waitB (PX X) (OX X) c 2 0) 6 ∗ G)
      ⊢ wpc c (k0_part103 M0 W0 M1 W1 M2 W2 M3 W3 M4 W4 M5 W5 M6 W6 M7 W7 cc0_scratch2 cc0_scratch3 cc0_scratch4 cc0_scratch5 c v2 v3335 v3336)
        (fun _ => iprop(base (PX X) (OX X) K c 0 ∗ Trk (waitA c 0 0) (waitB (PX X) (OX X) c 0 0) 7 ∗ Trk (waitA c 2 0) (waitB (PX X) (OX X) c 2 0) 7 ∗ G)) := by
  rw [k0_part103_eq_skeleton]; unfold k0_part103_skel
  refine wpc_seq (at_second (B' := base (PX X) (OX X) K c 0) (T' := Trk (waitA c 2 0) (waitB (PX X) (OX X) c 2 0) 7) ?h) fun _ => ?_
  · exact step_wait (PX X) (OX X) K c 2 0 6 (by decide) _ rfl (by exact credit_out _ _) 0 none_owed _
  exact wpc_ret .rfl

/-- Stretch 104. -/
theorem part104 (v2 : BitVec 32) (G : sProp 𝕄) :
    iprop(base (PX X) (OX X) K c 0 ∗ Trk (waitA c 0 0) (waitB (PX X) (OX X) c 0 0) 7 ∗ Trk (waitA c 2 0) (waitB (PX X) (OX X) c 2 0) 7 ∗ G)
      ⊢ wpc c (k0_part104 M0 W0 M1 W1 M2 W2 M3 W3 M4 W4 M5 W5 M6 W6 M7 W7 cc0_scratch2 cc0_scratch3 cc0_scratch4 cc0_scratch5 c v2)
        (fun _ => iprop(base (PX X) (OX X) K c 0 ∗ Trk (waitA c 0 0) (waitB (PX X) (OX X) c 0 0) 8 ∗ Trk (waitA c 2 0) (waitB (PX X) (OX X) c 2 0) 8 ∗ G)) := by
  rw [k0_part104_eq_skeleton]; unfold k0_part104_skel
  refine wpc_seq (step_wait (PX X) (OX X) K c 0 0 7 (by decide) _ rfl (by exact credit_part _ _) 0 none_owed _) fun _ => ?_
  refine wpc_seq (at_second (B' := base (PX X) (OX X) K c 0) (T' := Trk (waitA c 2 0) (waitB (PX X) (OX X) c 2 0) 8) ?h) fun _ => ?_
  · exact step_wait (PX X) (OX X) K c 2 0 7 (by decide) _ rfl (by exact credit_out _ _) 0 none_owed _
  exact wpc_ret .rfl

/-- Stretch 105. -/
theorem part105 (v2 : BitVec 32) (v3400 : BitVec 32) (c0_i32_2616 : BitVec 32) (G : sProp 𝕄) :
    iprop(base (PX X) (OX X) K c 0 ∗ Trk (waitA c 0 0) (waitB (PX X) (OX X) c 0 0) 8 ∗ Trk (waitA c 2 0) (waitB (PX X) (OX X) c 2 0) 8 ∗ G)
      ⊢ wpc c (k0_part105 M0 W0 M1 W1 M2 W2 M3 W3 M4 W4 M5 W5 M6 W6 M7 W7 cc0_scratch2 cc0_scratch3 cc0_scratch4 cc0_scratch5 c v2 v3400 c0_i32_2616)
        (fun _ => iprop(base (PX X) (OX X) K c 0 ∗ Trk (waitA c 0 0) (waitB (PX X) (OX X) c 0 0) 9 ∗ Trk (waitA c 2 0) (waitB (PX X) (OX X) c 2 0) 9 ∗ G)) := by
  rw [k0_part105_eq_skeleton]; unfold k0_part105_skel
  refine wpc_seq (step_wait (PX X) (OX X) K c 0 0 8 (by decide) _ rfl (by exact credit_part _ _) 0 none_owed _) fun _ => ?_
  refine wpc_seq (at_second (B' := base (PX X) (OX X) K c 0) (T' := Trk (waitA c 2 0) (waitB (PX X) (OX X) c 2 0) 9) ?h) fun _ => ?_
  · exact step_wait (PX X) (OX X) K c 2 0 8 (by decide) _ rfl (by exact credit_out _ _) 0 none_owed _
  exact wpc_ret .rfl

/-- Stretch 106. -/
theorem part106 (v2 : BitVec 32) (v3428 : BitVec 32) (v3429 : BitVec 32) (v3430 : BitVec 1) (G : sProp 𝕄) :
    iprop(base (PX X) (OX X) K c 0 ∗ Trk (waitA c 0 0) (waitB (PX X) (OX X) c 0 0) 9 ∗ Trk (waitA c 2 0) (waitB (PX X) (OX X) c 2 0) 9 ∗ G)
      ⊢ wpc c (k0_part106 M0 W0 M1 W1 M2 W2 M3 W3 M4 W4 M5 W5 M6 W6 M7 W7 cc0_scratch2 cc0_scratch3 cc0_scratch4 cc0_scratch5 c v2 v3428 v3429 v3430)
        (fun _ => iprop(base (PX X) (OX X) K c 0 ∗ Trk (waitA c 0 0) (waitB (PX X) (OX X) c 0 0) 10 ∗ Trk (waitA c 2 0) (waitB (PX X) (OX X) c 2 0) 9 ∗ G)) := by
  rw [k0_part106_eq_skeleton]; unfold k0_part106_skel
  refine wpc_seq (step_wait (PX X) (OX X) K c 0 0 9 (by decide) _ rfl (by exact credit_part _ _) 0 none_owed _) fun _ => ?_
  exact wpc_ret .rfl

/-- Stretch 107. -/
theorem part107 (v2 : BitVec 32) (G : sProp 𝕄) :
    iprop(base (PX X) (OX X) K c 0 ∗ Trk (waitA c 0 0) (waitB (PX X) (OX X) c 0 0) 10 ∗ Trk (waitA c 2 0) (waitB (PX X) (OX X) c 2 0) 9 ∗ G)
      ⊢ wpc c (k0_part107 M0 W0 M1 W1 M2 W2 M3 W3 M4 W4 M5 W5 M6 W6 M7 W7 cc0_scratch2 cc0_scratch3 cc0_scratch4 cc0_scratch5 c v2)
        (fun _ => iprop(base (PX X) (OX X) K c 0 ∗ Trk (waitA c 0 0) (waitB (PX X) (OX X) c 0 0) 11 ∗ Trk (waitA c 2 0) (waitB (PX X) (OX X) c 2 0) 10 ∗ G)) := by
  rw [k0_part107_eq_skeleton]; unfold k0_part107_skel
  refine wpc_seq (at_second (B' := base (PX X) (OX X) K c 0) (T' := Trk (waitA c 2 0) (waitB (PX X) (OX X) c 2 0) 10) ?h) fun _ => ?_
  · exact step_wait (PX X) (OX X) K c 2 0 9 (by decide) _ rfl (by exact credit_out _ _) 0 none_owed _
  refine wpc_seq (step_wait (PX X) (OX X) K c 0 0 10 (by decide) _ rfl (by exact credit_part _ _) 0 none_owed _) fun _ => ?_
  exact wpc_ret .rfl

/-- Stretch 108. -/
theorem part108 (v2 : BitVec 32) (v3494 : BitVec 32) (G : sProp 𝕄) :
    iprop(base (PX X) (OX X) K c 0 ∗ Trk (waitA c 0 0) (waitB (PX X) (OX X) c 0 0) 11 ∗ Trk (waitA c 2 0) (waitB (PX X) (OX X) c 2 0) 10 ∗ G)
      ⊢ wpc c (k0_part108 M0 W0 M1 W1 M2 W2 M3 W3 M4 W4 M5 W5 M6 W6 M7 W7 cc0_scratch2 cc0_scratch3 cc0_scratch4 cc0_scratch5 c v2 v3494)
        (fun _ => iprop(base (PX X) (OX X) K c 0 ∗ Trk (waitA c 0 0) (waitB (PX X) (OX X) c 0 0) 12 ∗ Trk (waitA c 2 0) (waitB (PX X) (OX X) c 2 0) 11 ∗ G)) := by
  rw [k0_part108_eq_skeleton]; unfold k0_part108_skel
  refine wpc_seq (at_second (B' := base (PX X) (OX X) K c 0) (T' := Trk (waitA c 2 0) (waitB (PX X) (OX X) c 2 0) 11) ?h) fun _ => ?_
  · exact step_wait (PX X) (OX X) K c 2 0 10 (by decide) _ rfl (by exact credit_out _ _) 0 none_owed _
  refine wpc_seq (step_wait (PX X) (OX X) K c 0 0 11 (by decide) _ rfl (by exact credit_part _ _) 0 none_owed _) fun _ => ?_
  exact wpc_ret .rfl

/-- Stretch 109. -/
theorem part109 (v2 : BitVec 32) (v3520 : BitVec 32) (v3521 : BitVec 32) (v3522 : BitVec 1) (v3523 : BitVec 1) (c0_i32_2726 : BitVec 32) (G : sProp 𝕄) :
    iprop(base (PX X) (OX X) K c 0 ∗ Trk (waitA c 0 0) (waitB (PX X) (OX X) c 0 0) 12 ∗ Trk (waitA c 2 0) (waitB (PX X) (OX X) c 2 0) 11 ∗ G)
      ⊢ wpc c (k0_part109 M0 W0 M1 W1 M2 W2 M3 W3 M4 W4 M5 W5 M6 W6 M7 W7 cc0_scratch2 cc0_scratch3 cc0_scratch4 cc0_scratch5 c v2 v3520 v3521 v3522 v3523 c0_i32_2726)
        (fun _ => iprop(base (PX X) (OX X) K c 0 ∗ Trk (waitA c 0 0) (waitB (PX X) (OX X) c 0 0) 13 ∗ Trk (waitA c 2 0) (waitB (PX X) (OX X) c 2 0) 12 ∗ G)) := by
  rw [k0_part109_eq_skeleton]; unfold k0_part109_skel
  refine wpc_seq (at_second (B' := base (PX X) (OX X) K c 0) (T' := Trk (waitA c 2 0) (waitB (PX X) (OX X) c 2 0) 12) ?h) fun _ => ?_
  · exact step_wait (PX X) (OX X) K c 2 0 11 (by decide) _ rfl (by exact credit_out _ _) 0 none_owed _
  refine wpc_seq (step_wait (PX X) (OX X) K c 0 0 12 (by decide) _ rfl (by exact credit_part _ _) 0 none_owed _) fun _ => ?_
  exact wpc_ret .rfl

/-- Stretch 110. -/
theorem part110 (v2 : BitVec 32) (v3555 : BitVec 32) (G : sProp 𝕄) :
    iprop(base (PX X) (OX X) K c 0 ∗ Trk (waitA c 0 0) (waitB (PX X) (OX X) c 0 0) 13 ∗ Trk (waitA c 2 0) (waitB (PX X) (OX X) c 2 0) 12 ∗ G)
      ⊢ wpc c (k0_part110 M0 W0 M1 W1 M2 W2 M3 W3 M4 W4 M5 W5 M6 W6 M7 W7 cc0_scratch2 cc0_scratch3 cc0_scratch4 cc0_scratch5 c v2 v3555)
        (fun _ => iprop(base (PX X) (OX X) K c 0 ∗ Trk (waitA c 0 0) (waitB (PX X) (OX X) c 0 0) 13 ∗ Trk (waitA c 2 0) (waitB (PX X) (OX X) c 2 0) 13 ∗ G)) := by
  rw [k0_part110_eq_skeleton]; unfold k0_part110_skel
  refine wpc_seq (at_second (B' := base (PX X) (OX X) K c 0) (T' := Trk (waitA c 2 0) (waitB (PX X) (OX X) c 2 0) 13) ?h) fun _ => ?_
  · exact step_wait (PX X) (OX X) K c 2 0 12 (by decide) _ rfl (by exact credit_out _ _) 0 none_owed _
  exact wpc_ret .rfl

/-- Stretch 111. -/
theorem part111 (v2 : BitVec 32) (G : sProp 𝕄) :
    iprop(base (PX X) (OX X) K c 0 ∗ Trk (waitA c 0 0) (waitB (PX X) (OX X) c 0 0) 13 ∗ Trk (waitA c 2 0) (waitB (PX X) (OX X) c 2 0) 13 ∗ G)
      ⊢ wpc c (k0_part111 M0 W0 M1 W1 M2 W2 M3 W3 M4 W4 M5 W5 M6 W6 M7 W7 cc0_scratch2 cc0_scratch3 cc0_scratch4 cc0_scratch5 c v2)
        (fun _ => iprop(base (PX X) (OX X) K c 0 ∗ Trk (waitA c 0 0) (waitB (PX X) (OX X) c 0 0) 14 ∗ Trk (waitA c 2 0) (waitB (PX X) (OX X) c 2 0) 14 ∗ G)) := by
  rw [k0_part111_eq_skeleton]; unfold k0_part111_skel
  refine wpc_seq (step_wait (PX X) (OX X) K c 0 0 13 (by decide) _ rfl (by exact credit_part _ _) 0 none_owed _) fun _ => ?_
  refine wpc_seq (at_second (B' := base (PX X) (OX X) K c 0) (T' := Trk (waitA c 2 0) (waitB (PX X) (OX X) c 2 0) 14) ?h) fun _ => ?_
  · exact step_wait (PX X) (OX X) K c 2 0 13 (by decide) _ rfl (by exact credit_out _ _) 0 none_owed _
  exact wpc_ret .rfl

/-- Stretch 112. -/
theorem part112 (v2 : BitVec 32) (v3613 : BitVec 32) (v3614 : BitVec 32) (v3615 : BitVec 1) (v3618 : BitVec 1) (G : sProp 𝕄) :
    iprop(base (PX X) (OX X) K c 0 ∗ Trk (waitA c 0 0) (waitB (PX X) (OX X) c 0 0) 14 ∗ Trk (waitA c 2 0) (waitB (PX X) (OX X) c 2 0) 14 ∗ G)
      ⊢ wpc c (k0_part112 M0 W0 M1 W1 M2 W2 M3 W3 M4 W4 M5 W5 M6 W6 M7 W7 cc0_scratch2 cc0_scratch3 cc0_scratch4 cc0_scratch5 c v2 v3613 v3614 v3615 v3618)
        (fun _ => iprop(base (PX X) (OX X) K c 0 ∗ Trk (waitA c 0 0) (waitB (PX X) (OX X) c 0 0) 15 ∗ Trk (waitA c 2 0) (waitB (PX X) (OX X) c 2 0) 15 ∗ G)) := by
  rw [k0_part112_eq_skeleton]; unfold k0_part112_skel
  refine wpc_seq (step_wait (PX X) (OX X) K c 0 0 14 (by decide) _ rfl (by exact credit_part _ _) 0 none_owed _) fun _ => ?_
  refine wpc_seq (at_second (B' := base (PX X) (OX X) K c 0) (T' := Trk (waitA c 2 0) (waitB (PX X) (OX X) c 2 0) 15) ?h) fun _ => ?_
  · exact step_wait (PX X) (OX X) K c 2 0 14 (by decide) _ rfl (by exact credit_out _ _) 0 none_owed _
  exact wpc_ret .rfl

/-- Stretch 113. -/
theorem part113 (v2 : BitVec 32) (v3648 : BitVec 32) (c16_i32_2833 : BitVec 32) (c0_i32_2834 : BitVec 32) (G : sProp 𝕄) :
    iprop(base (PX X) (OX X) K c 0 ∗ Trk (waitA c 0 1) (waitB (PX X) (OX X) c 0 1) 0 ∗ Trk (waitA c 2 1) (waitB (PX X) (OX X) c 2 1) 0 ∗ G)
      ⊢ wpc c (k0_part113 M0 W0 M1 W1 M2 W2 M3 W3 M4 W4 M5 W5 M6 W6 M7 W7 cc0_scratch2 cc0_scratch3 cc0_scratch4 cc0_scratch5 c v2 v3648 c16_i32_2833 c0_i32_2834)
        (fun _ => iprop(base (PX X) (OX X) K c 0 ∗ Trk (waitA c 0 1) (waitB (PX X) (OX X) c 0 1) 1 ∗ Trk (waitA c 2 1) (waitB (PX X) (OX X) c 2 1) 0 ∗ G)) := by
  rw [k0_part113_eq_skeleton]; unfold k0_part113_skel
  refine wpc_seq (step_wait (PX X) (OX X) K c 0 1 0 (by decide) _ rfl (by exact credit_part _ _) 0 none_owed _) fun _ => ?_
  exact wpc_ret .rfl

/-- Stretch 114. -/
theorem part114 (v2 : BitVec 32) (G : sProp 𝕄) :
    iprop(base (PX X) (OX X) K c 0 ∗ Trk (waitA c 0 1) (waitB (PX X) (OX X) c 0 1) 1 ∗ Trk (waitA c 2 1) (waitB (PX X) (OX X) c 2 1) 0 ∗ G)
      ⊢ wpc c (k0_part114 M0 W0 M1 W1 M2 W2 M3 W3 M4 W4 M5 W5 M6 W6 M7 W7 cc0_scratch2 cc0_scratch3 cc0_scratch4 cc0_scratch5 c v2)
        (fun _ => iprop(base (PX X) (OX X) K c 0 ∗ Trk (waitA c 0 1) (waitB (PX X) (OX X) c 0 1) 2 ∗ Trk (waitA c 2 1) (waitB (PX X) (OX X) c 2 1) 1 ∗ G)) := by
  rw [k0_part114_eq_skeleton]; unfold k0_part114_skel
  refine wpc_seq (at_second (B' := base (PX X) (OX X) K c 0) (T' := Trk (waitA c 2 1) (waitB (PX X) (OX X) c 2 1) 1) ?h) fun _ => ?_
  · exact step_wait (PX X) (OX X) K c 2 1 0 (by decide) _ rfl (by exact credit_out _ _) 0 none_owed _
  refine wpc_seq (step_wait (PX X) (OX X) K c 0 1 1 (by decide) _ rfl (by exact credit_part _ _) 0 none_owed _) fun _ => ?_
  exact wpc_ret .rfl

/-- Stretch 115. -/
theorem part115 (v2 : BitVec 32) (G : sProp 𝕄) :
    iprop(base (PX X) (OX X) K c 0 ∗ Trk (waitA c 0 1) (waitB (PX X) (OX X) c 0 1) 2 ∗ Trk (waitA c 2 1) (waitB (PX X) (OX X) c 2 1) 1 ∗ G)
      ⊢ wpc c (k0_part115 M0 W0 M1 W1 M2 W2 M3 W3 M4 W4 M5 W5 M6 W6 M7 W7 cc0_scratch2 cc0_scratch3 cc0_scratch4 cc0_scratch5 c v2)
        (fun _ => iprop(base (PX X) (OX X) K c 0 ∗ Trk (waitA c 0 1) (waitB (PX X) (OX X) c 0 1) 3 ∗ Trk (waitA c 2 1) (waitB (PX X) (OX X) c 2 1) 2 ∗ G)) := by
  rw [k0_part115_eq_skeleton]; unfold k0_part115_skel
  refine wpc_seq (at_second (B' := base (PX X) (OX X) K c 0) (T' := Trk (waitA c 2 1) (waitB (PX X) (OX X) c 2 1) 2) ?h) fun _ => ?_
  · exact step_wait (PX X) (OX X) K c 2 1 1 (by decide) _ rfl (by exact credit_out _ _) 0 none_owed _
  refine wpc_seq (step_wait (PX X) (OX X) K c 0 1 2 (by decide) _ rfl (by exact credit_part _ _) 0 none_owed _) fun _ => ?_
  exact wpc_ret .rfl

/-- Stretch 116. -/
theorem part116 (v2 : BitVec 32) (v3740 : BitVec 32) (v3742 : BitVec 32) (G : sProp 𝕄) :
    iprop(base (PX X) (OX X) K c 0 ∗ Trk (waitA c 0 1) (waitB (PX X) (OX X) c 0 1) 3 ∗ Trk (waitA c 2 1) (waitB (PX X) (OX X) c 2 1) 2 ∗ G)
      ⊢ wpc c (k0_part116 M0 W0 M1 W1 M2 W2 M3 W3 M4 W4 M5 W5 M6 W6 M7 W7 cc0_scratch2 cc0_scratch3 cc0_scratch4 cc0_scratch5 c v2 v3740 v3742)
        (fun _ => iprop(base (PX X) (OX X) K c 0 ∗ Trk (waitA c 0 1) (waitB (PX X) (OX X) c 0 1) 3 ∗ Trk (waitA c 2 1) (waitB (PX X) (OX X) c 2 1) 3 ∗ G)) := by
  rw [k0_part116_eq_skeleton]; unfold k0_part116_skel
  refine wpc_seq (at_second (B' := base (PX X) (OX X) K c 0) (T' := Trk (waitA c 2 1) (waitB (PX X) (OX X) c 2 1) 3) ?h) fun _ => ?_
  · exact step_wait (PX X) (OX X) K c 2 1 2 (by decide) _ rfl (by exact credit_out _ _) 0 none_owed _
  exact wpc_ret .rfl

/-- Stretch 117. -/
theorem part117 (v2 : BitVec 32) (G : sProp 𝕄) :
    iprop(base (PX X) (OX X) K c 0 ∗ Trk (waitA c 0 1) (waitB (PX X) (OX X) c 0 1) 3 ∗ Trk (waitA c 2 1) (waitB (PX X) (OX X) c 2 1) 3 ∗ G)
      ⊢ wpc c (k0_part117 M0 W0 M1 W1 M2 W2 M3 W3 M4 W4 M5 W5 M6 W6 M7 W7 cc0_scratch2 cc0_scratch3 cc0_scratch4 cc0_scratch5 c v2)
        (fun _ => iprop(base (PX X) (OX X) K c 0 ∗ Trk (waitA c 0 1) (waitB (PX X) (OX X) c 0 1) 4 ∗ Trk (waitA c 2 1) (waitB (PX X) (OX X) c 2 1) 4 ∗ G)) := by
  rw [k0_part117_eq_skeleton]; unfold k0_part117_skel
  refine wpc_seq (step_wait (PX X) (OX X) K c 0 1 3 (by decide) _ rfl (by exact credit_part _ _) 0 none_owed _) fun _ => ?_
  refine wpc_seq (at_second (B' := base (PX X) (OX X) K c 0) (T' := Trk (waitA c 2 1) (waitB (PX X) (OX X) c 2 1) 4) ?h) fun _ => ?_
  · exact step_wait (PX X) (OX X) K c 2 1 3 (by decide) _ rfl (by exact credit_out _ _) 0 none_owed _
  exact wpc_ret .rfl

/-- Stretch 118. -/
theorem part118 (v2 : BitVec 32) (v3807 : BitVec 32) (G : sProp 𝕄) :
    iprop(base (PX X) (OX X) K c 0 ∗ Trk (waitA c 0 1) (waitB (PX X) (OX X) c 0 1) 4 ∗ Trk (waitA c 2 1) (waitB (PX X) (OX X) c 2 1) 4 ∗ G)
      ⊢ wpc c (k0_part118 M0 W0 M1 W1 M2 W2 M3 W3 M4 W4 M5 W5 M6 W6 M7 W7 cc0_scratch2 cc0_scratch3 cc0_scratch4 cc0_scratch5 c v2 v3807)
        (fun _ => iprop(base (PX X) (OX X) K c 0 ∗ Trk (waitA c 0 1) (waitB (PX X) (OX X) c 0 1) 5 ∗ Trk (waitA c 2 1) (waitB (PX X) (OX X) c 2 1) 5 ∗ G)) := by
  rw [k0_part118_eq_skeleton]; unfold k0_part118_skel
  refine wpc_seq (step_wait (PX X) (OX X) K c 0 1 4 (by decide) _ rfl (by exact credit_part _ _) 0 none_owed _) fun _ => ?_
  refine wpc_seq (at_second (B' := base (PX X) (OX X) K c 0) (T' := Trk (waitA c 2 1) (waitB (PX X) (OX X) c 2 1) 5) ?h) fun _ => ?_
  · exact step_wait (PX X) (OX X) K c 2 1 4 (by decide) _ rfl (by exact credit_out _ _) 0 none_owed _
  exact wpc_ret .rfl

/-- Stretch 119. -/
theorem part119 (v2 : BitVec 32) (v3835 : BitVec 32) (v3836 : BitVec 32) (c0_i32_2996 : BitVec 32) (G : sProp 𝕄) :
    iprop(base (PX X) (OX X) K c 0 ∗ Trk (waitA c 0 1) (waitB (PX X) (OX X) c 0 1) 5 ∗ Trk (waitA c 2 1) (waitB (PX X) (OX X) c 2 1) 5 ∗ G)
      ⊢ wpc c (k0_part119 M0 W0 M1 W1 M2 W2 M3 W3 M4 W4 M5 W5 M6 W6 M7 W7 cc0_scratch2 cc0_scratch3 cc0_scratch4 cc0_scratch5 c v2 v3835 v3836 c0_i32_2996)
        (fun _ => iprop(base (PX X) (OX X) K c 0 ∗ Trk (waitA c 0 1) (waitB (PX X) (OX X) c 0 1) 6 ∗ Trk (waitA c 2 1) (waitB (PX X) (OX X) c 2 1) 5 ∗ G)) := by
  rw [k0_part119_eq_skeleton]; unfold k0_part119_skel
  refine wpc_seq (step_wait (PX X) (OX X) K c 0 1 5 (by decide) _ rfl (by exact credit_part _ _) 0 none_owed _) fun _ => ?_
  exact wpc_ret .rfl

/-- Stretch 120. -/
theorem part120 (v2 : BitVec 32) (G : sProp 𝕄) :
    iprop(base (PX X) (OX X) K c 0 ∗ Trk (waitA c 0 1) (waitB (PX X) (OX X) c 0 1) 6 ∗ Trk (waitA c 2 1) (waitB (PX X) (OX X) c 2 1) 5 ∗ G)
      ⊢ wpc c (k0_part120 M0 W0 M1 W1 M2 W2 M3 W3 M4 W4 M5 W5 M6 W6 M7 W7 cc0_scratch2 cc0_scratch3 cc0_scratch4 cc0_scratch5 c v2)
        (fun _ => iprop(base (PX X) (OX X) K c 0 ∗ Trk (waitA c 0 1) (waitB (PX X) (OX X) c 0 1) 7 ∗ Trk (waitA c 2 1) (waitB (PX X) (OX X) c 2 1) 6 ∗ G)) := by
  rw [k0_part120_eq_skeleton]; unfold k0_part120_skel
  refine wpc_seq (at_second (B' := base (PX X) (OX X) K c 0) (T' := Trk (waitA c 2 1) (waitB (PX X) (OX X) c 2 1) 6) ?h) fun _ => ?_
  · exact step_wait (PX X) (OX X) K c 2 1 5 (by decide) _ rfl (by exact credit_out _ _) 0 none_owed _
  refine wpc_seq (step_wait (PX X) (OX X) K c 0 1 6 (by decide) _ rfl (by exact credit_part _ _) 0 none_owed _) fun _ => ?_
  exact wpc_ret .rfl

/-- Stretch 121. -/
theorem part121 (v2 : BitVec 32) (c16_i32_3049 : BitVec 32) (G : sProp 𝕄) :
    iprop(base (PX X) (OX X) K c 0 ∗ Trk (waitA c 0 1) (waitB (PX X) (OX X) c 0 1) 7 ∗ Trk (waitA c 2 1) (waitB (PX X) (OX X) c 2 1) 6 ∗ G)
      ⊢ wpc c (k0_part121 M0 W0 M1 W1 M2 W2 M3 W3 M4 W4 M5 W5 M6 W6 M7 W7 cc0_scratch2 cc0_scratch3 cc0_scratch4 cc0_scratch5 c v2 c16_i32_3049)
        (fun _ => iprop(base (PX X) (OX X) K c 0 ∗ Trk (waitA c 0 1) (waitB (PX X) (OX X) c 0 1) 8 ∗ Trk (waitA c 2 1) (waitB (PX X) (OX X) c 2 1) 7 ∗ G)) := by
  rw [k0_part121_eq_skeleton]; unfold k0_part121_skel
  refine wpc_seq (at_second (B' := base (PX X) (OX X) K c 0) (T' := Trk (waitA c 2 1) (waitB (PX X) (OX X) c 2 1) 7) ?h) fun _ => ?_
  · exact step_wait (PX X) (OX X) K c 2 1 6 (by decide) _ rfl (by exact credit_out _ _) 0 none_owed _
  refine wpc_seq (step_wait (PX X) (OX X) K c 0 1 7 (by decide) _ rfl (by exact credit_part _ _) 0 none_owed _) fun _ => ?_
  exact wpc_ret .rfl

/-- Stretch 122. -/
theorem part122 (v2 : BitVec 32) (v3927 : BitVec 32) (v3928 : BitVec 32) (v3929 : BitVec 1) (v3930 : BitVec 1) (G : sProp 𝕄) :
    iprop(base (PX X) (OX X) K c 0 ∗ Trk (waitA c 0 1) (waitB (PX X) (OX X) c 0 1) 8 ∗ Trk (waitA c 2 1) (waitB (PX X) (OX X) c 2 1) 7 ∗ G)
      ⊢ wpc c (k0_part122 M0 W0 M1 W1 M2 W2 M3 W3 M4 W4 M5 W5 M6 W6 M7 W7 cc0_scratch2 cc0_scratch3 cc0_scratch4 cc0_scratch5 c v2 v3927 v3928 v3929 v3930)
        (fun _ => iprop(base (PX X) (OX X) K c 0 ∗ Trk (waitA c 0 1) (waitB (PX X) (OX X) c 0 1) 9 ∗ Trk (waitA c 2 1) (waitB (PX X) (OX X) c 2 1) 8 ∗ G)) := by
  rw [k0_part122_eq_skeleton]; unfold k0_part122_skel
  refine wpc_seq (at_second (B' := base (PX X) (OX X) K c 0) (T' := Trk (waitA c 2 1) (waitB (PX X) (OX X) c 2 1) 8) ?h) fun _ => ?_
  · exact step_wait (PX X) (OX X) K c 2 1 7 (by decide) _ rfl (by exact credit_out _ _) 0 none_owed _
  refine wpc_seq (step_wait (PX X) (OX X) K c 0 1 8 (by decide) _ rfl (by exact credit_part _ _) 0 none_owed _) fun _ => ?_
  exact wpc_ret .rfl

/-- Stretch 123. -/
theorem part123 (v2 : BitVec 32) (c9_i32_3104 : BitVec 32) (G : sProp 𝕄) :
    iprop(base (PX X) (OX X) K c 0 ∗ Trk (waitA c 0 1) (waitB (PX X) (OX X) c 0 1) 9 ∗ Trk (waitA c 2 1) (waitB (PX X) (OX X) c 2 1) 8 ∗ G)
      ⊢ wpc c (k0_part123 M0 W0 M1 W1 M2 W2 M3 W3 M4 W4 M5 W5 M6 W6 M7 W7 cc0_scratch2 cc0_scratch3 cc0_scratch4 cc0_scratch5 c v2 c9_i32_3104)
        (fun _ => iprop(base (PX X) (OX X) K c 0 ∗ Trk (waitA c 0 1) (waitB (PX X) (OX X) c 0 1) 9 ∗ Trk (waitA c 2 1) (waitB (PX X) (OX X) c 2 1) 9 ∗ G)) := by
  rw [k0_part123_eq_skeleton]; unfold k0_part123_skel
  refine wpc_seq (at_second (B' := base (PX X) (OX X) K c 0) (T' := Trk (waitA c 2 1) (waitB (PX X) (OX X) c 2 1) 9) ?h) fun _ => ?_
  · exact step_wait (PX X) (OX X) K c 2 1 8 (by decide) _ rfl (by exact credit_out _ _) 0 none_owed _
  exact wpc_ret .rfl

/-- Stretch 124. -/
theorem part124 (v2 : BitVec 32) (G : sProp 𝕄) :
    iprop(base (PX X) (OX X) K c 0 ∗ Trk (waitA c 0 1) (waitB (PX X) (OX X) c 0 1) 9 ∗ Trk (waitA c 2 1) (waitB (PX X) (OX X) c 2 1) 9 ∗ G)
      ⊢ wpc c (k0_part124 M0 W0 M1 W1 M2 W2 M3 W3 M4 W4 M5 W5 M6 W6 M7 W7 cc0_scratch2 cc0_scratch3 cc0_scratch4 cc0_scratch5 c v2)
        (fun _ => iprop(base (PX X) (OX X) K c 0 ∗ Trk (waitA c 0 1) (waitB (PX X) (OX X) c 0 1) 10 ∗ Trk (waitA c 2 1) (waitB (PX X) (OX X) c 2 1) 10 ∗ G)) := by
  rw [k0_part124_eq_skeleton]; unfold k0_part124_skel
  refine wpc_seq (step_wait (PX X) (OX X) K c 0 1 9 (by decide) _ rfl (by exact credit_part _ _) 0 none_owed _) fun _ => ?_
  refine wpc_seq (at_second (B' := base (PX X) (OX X) K c 0) (T' := Trk (waitA c 2 1) (waitB (PX X) (OX X) c 2 1) 10) ?h) fun _ => ?_
  · exact step_wait (PX X) (OX X) K c 2 1 9 (by decide) _ rfl (by exact credit_out _ _) 0 none_owed _
  exact wpc_ret .rfl

/-- Stretch 125. -/
theorem part125 (v2 : BitVec 32) (v4020 : BitVec 32) (v4021 : BitVec 32) (v4022 : BitVec 1) (v4023 : BitVec 1) (v4024 : BitVec 1) (G : sProp 𝕄) :
    iprop(base (PX X) (OX X) K c 0 ∗ Trk (waitA c 0 1) (waitB (PX X) (OX X) c 0 1) 10 ∗ Trk (waitA c 2 1) (waitB (PX X) (OX X) c 2 1) 10 ∗ G)
      ⊢ wpc c (k0_part125 M0 W0 M1 W1 M2 W2 M3 W3 M4 W4 M5 W5 M6 W6 M7 W7 cc0_scratch2 cc0_scratch3 cc0_scratch4 cc0_scratch5 c v2 v4020 v4021 v4022 v4023 v4024)
        (fun _ => iprop(base (PX X) (OX X) K c 0 ∗ Trk (waitA c 0 1) (waitB (PX X) (OX X) c 0 1) 11 ∗ Trk (waitA c 2 1) (waitB (PX X) (OX X) c 2 1) 11 ∗ G)) := by
  rw [k0_part125_eq_skeleton]; unfold k0_part125_skel
  refine wpc_seq (step_wait (PX X) (OX X) K c 0 1 10 (by decide) _ rfl (by exact credit_part _ _) 0 none_owed _) fun _ => ?_
  refine wpc_seq (at_second (B' := base (PX X) (OX X) K c 0) (T' := Trk (waitA c 2 1) (waitB (PX X) (OX X) c 2 1) 11) ?h) fun _ => ?_
  · exact step_wait (PX X) (OX X) K c 2 1 10 (by decide) _ rfl (by exact credit_out _ _) 0 none_owed _
  exact wpc_ret .rfl

/-- Stretch 126. -/
theorem part126 (v2 : BitVec 32) (v4055 : BitVec 32) (c16_i32_3185 : BitVec 32) (G : sProp 𝕄) :
    iprop(base (PX X) (OX X) K c 0 ∗ Trk (waitA c 0 1) (waitB (PX X) (OX X) c 0 1) 11 ∗ Trk (waitA c 2 1) (waitB (PX X) (OX X) c 2 1) 11 ∗ G)
      ⊢ wpc c (k0_part126 M0 W0 M1 W1 M2 W2 M3 W3 M4 W4 M5 W5 M6 W6 M7 W7 cc0_scratch2 cc0_scratch3 cc0_scratch4 cc0_scratch5 c v2 v4055 c16_i32_3185)
        (fun _ => iprop(base (PX X) (OX X) K c 0 ∗ Trk (waitA c 0 1) (waitB (PX X) (OX X) c 0 1) 12 ∗ Trk (waitA c 2 1) (waitB (PX X) (OX X) c 2 1) 11 ∗ G)) := by
  rw [k0_part126_eq_skeleton]; unfold k0_part126_skel
  refine wpc_seq (step_wait (PX X) (OX X) K c 0 1 11 (by decide) _ rfl (by exact credit_part _ _) 0 none_owed _) fun _ => ?_
  exact wpc_ret .rfl

/-- Stretch 127. -/
theorem part127 (v2 : BitVec 32) (G : sProp 𝕄) :
    iprop(base (PX X) (OX X) K c 0 ∗ Trk (waitA c 0 1) (waitB (PX X) (OX X) c 0 1) 12 ∗ Trk (waitA c 2 1) (waitB (PX X) (OX X) c 2 1) 11 ∗ G)
      ⊢ wpc c (k0_part127 M0 W0 M1 W1 M2 W2 M3 W3 M4 W4 M5 W5 M6 W6 M7 W7 cc0_scratch2 cc0_scratch3 cc0_scratch4 cc0_scratch5 c v2)
        (fun _ => iprop(base (PX X) (OX X) K c 0 ∗ Trk (waitA c 0 1) (waitB (PX X) (OX X) c 0 1) 13 ∗ Trk (waitA c 2 1) (waitB (PX X) (OX X) c 2 1) 12 ∗ G)) := by
  rw [k0_part127_eq_skeleton]; unfold k0_part127_skel
  refine wpc_seq (at_second (B' := base (PX X) (OX X) K c 0) (T' := Trk (waitA c 2 1) (waitB (PX X) (OX X) c 2 1) 12) ?h) fun _ => ?_
  · exact step_wait (PX X) (OX X) K c 2 1 11 (by decide) _ rfl (by exact credit_out _ _) 0 none_owed _
  refine wpc_seq (step_wait (PX X) (OX X) K c 0 1 12 (by decide) _ rfl (by exact credit_part _ _) 0 none_owed _) fun _ => ?_
  exact wpc_ret .rfl

/-- Stretch 128. -/
theorem part128 (v2 : BitVec 32) (v4113 : BitVec 32) (v4118 : BitVec 1) (v4119 : BitVec 32) (G : sProp 𝕄) :
    iprop(base (PX X) (OX X) K c 0 ∗ Trk (waitA c 0 1) (waitB (PX X) (OX X) c 0 1) 13 ∗ Trk (waitA c 2 1) (waitB (PX X) (OX X) c 2 1) 12 ∗ G)
      ⊢ wpc c (k0_part128 M0 W0 M1 W1 M2 W2 M3 W3 M4 W4 M5 W5 M6 W6 M7 W7 cc0_scratch2 cc0_scratch3 cc0_scratch4 cc0_scratch5 c v2 v4113 v4118 v4119)
        (fun _ => iprop(base (PX X) (OX X) K c 0 ∗ Trk (waitA c 0 1) (waitB (PX X) (OX X) c 0 1) 14 ∗ Trk (waitA c 2 1) (waitB (PX X) (OX X) c 2 1) 13 ∗ G)) := by
  rw [k0_part128_eq_skeleton]; unfold k0_part128_skel
  refine wpc_seq (at_second (B' := base (PX X) (OX X) K c 0) (T' := Trk (waitA c 2 1) (waitB (PX X) (OX X) c 2 1) 13) ?h) fun _ => ?_
  · exact step_wait (PX X) (OX X) K c 2 1 12 (by decide) _ rfl (by exact credit_out _ _) 0 none_owed _
  refine wpc_seq (step_wait (PX X) (OX X) K c 0 1 13 (by decide) _ rfl (by exact credit_part _ _) 0 none_owed _) fun _ => ?_
  exact wpc_ret .rfl

/-- Stretch 129. -/
theorem part129 (v2 : BitVec 32) (v4147 : BitVec 32) (c16_i32_3265 : BitVec 32) (v4148 : BitVec 1) (c1_i32_3267 : BitVec 32) (G : sProp 𝕄) :
    iprop(base (PX X) (OX X) K c 0 ∗ Trk (waitA c 0 1) (waitB (PX X) (OX X) c 0 1) 14 ∗ Trk (waitA c 2 1) (waitB (PX X) (OX X) c 2 1) 13 ∗ G)
      ⊢ wpc c (k0_part129 M0 W0 M1 W1 M2 W2 M3 W3 M4 W4 M5 W5 M6 W6 M7 W7 cc0_scratch2 cc0_scratch3 cc0_scratch4 cc0_scratch5 c v2 v4147 c16_i32_3265 v4148 c1_i32_3267)
        (fun _ => iprop(base (PX X) (OX X) K c 0 ∗ Trk (waitA c 0 1) (waitB (PX X) (OX X) c 0 1) 14 ∗ Trk (waitA c 2 1) (waitB (PX X) (OX X) c 2 1) 14 ∗ G)) := by
  rw [k0_part129_eq_skeleton]; unfold k0_part129_skel
  refine wpc_seq (at_second (B' := base (PX X) (OX X) K c 0) (T' := Trk (waitA c 2 1) (waitB (PX X) (OX X) c 2 1) 14) ?h) fun _ => ?_
  · exact step_wait (PX X) (OX X) K c 2 1 13 (by decide) _ rfl (by exact credit_out _ _) 0 none_owed _
  exact wpc_ret .rfl

end Cert.KernelIdeal.Talk

end
-- ==== Proof.KI.Body.lean ====
/-
  The kernel's body: its stretches one after another.
-/
module

public import proofs.«01_k».proof.Proof.KI.PartsA
public import proofs.«01_k».proof.Proof.KI.PartsB
public import proofs.«01_k».proof.Proof.KI.PartsC
public import proofs.«01_k».proof.Proof.KI.PartsD
public import proofs.«01_k».proof.Proof.KI.PartsE
public import proofs.«01_k».proof.Proof.KI.PartsF
public import proofs.«01_k».proof.Proof.Gen.KernelIdeal.Skeleton

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

open Cert.KernelIdeal.Gen

variable {F : FTy → Type} [FloatOps F] [Named F]

local notation "𝕄" => MT nD τ sig Unit (Elt F) ℕ UU ℕ

variable (X : Dev nD → Ins F) (K : GSem nD τ sig → ℕ) (c : Dev nD)

set_option maxRecDepth 8000

/-- The sum over the second half's own chunk and the first of its arrivals. -/
def mid1 (P : Dev nD → Mat F) (p : Dev nD) : FVec F S16x512 .f32 :=
  k0_pay38 (k0_pay36 (k0_pay35 (k0_pay34 (k0_pay32 (k0_pay31 (k0_pay30 (rdOwn1 P p) (rdSlot P p ![15, 0, 0] inb_S30x16x512_S1x16x512_15_0_0)) (rdSlot P p ![16, 0, 0] inb_S30x16x512_S1x16x512_16_0_0)) (rdSlot P p ![17, 0, 0] inb_S30x16x512_S1x16x512_17_0_0)) (k0_pay33 (rdSlot P p ![18, 0, 0] inb_S30x16x512_S1x16x512_18_0_0)) (rdSlot P p ![19, 0, 0] inb_S30x16x512_S1x16x512_19_0_0)) (rdSlot P p ![20, 0, 0] inb_S30x16x512_S1x16x512_20_0_0)) (rdSlot P p ![21, 0, 0] inb_S30x16x512_S1x16x512_21_0_0)) (k0_pay37 (rdSlot P p ![22, 0, 0] inb_S30x16x512_S1x16x512_22_0_0)) (rdSlot P p ![23, 0, 0] inb_S30x16x512_S1x16x512_23_0_0)

/-- What a device has at the start of the body. -/
def Start : sProp 𝕄 := iprop(base (PX X) (OX X) K c (oS (gBar c) 1 0 + owe1 c) ∗ Trk (sigA c) sigB 0 ∗ ins c (X c) ∗ barA c ∗ halfAny c 0 ∗ halfAny c 1 ∗ ownAny c 0 ∗ ownAny c 1 ∗ TK c 0 0 ∗ TK c 0 1 ∗ TK c 2 0 ∗ TK c 2 1 ∗ WAa c 1 0 ∗ WAa c 1 1 ∗ REST c)
/-- What it has at the end. -/
def Finish : sProp 𝕄 := iprop(base (PX X) (OX X) K c 0 ∗ WB (PX X) (OX X) c 0 1 ∗ WB (PX X) (OX X) c 2 1 ∗ (WB (PX X) (OX X) c 0 0 ∗ WB (PX X) (OX X) c 2 0 ∗ WB (PX X) (OX X) c 3 1 ∗ WB (PX X) (OX X) c 3 0 ∗ leaf15 (OX X) c 1 ∗ WB (PX X) (OX X) c 1 1 ∗ partPt c 1 c (PX X c) ∗ leaf15 (OX X) c 0 ∗ WB (PX X) (OX X) c 1 0 ∗ partPt c 0 c (PX X c) ∗ ins c (X c) ∗ atPos ER (cell c none) 1 ∅ 0))

theorem body1 :
    Start X K c ⊢ wpc c (k0_part130 M0 W0 M1 W1 M2 W2 M3 W3 M4 W4 M5 W5 M6 W6 M7 W7 cc0_scratch2 cc0_scratch3 cc0_scratch4 cc0_scratch5) (fun r => iprop(⌜r.1 = c ∧ r.2.2.1 = mid1 (PX X) c⌝ ∗ base (PX X) (OX X) K c (owe4 c) ∗ Trk (waitA c 1 1) (waitB (PX X) (OX X) c 1 1) 9 ∗ partPt c 1 c (PX X c) ∗ ownAny c 1 ∗ SA' c 1 ∗ (WS c 2 0 ∗ leaf15 (OX X) c 0 ∗ WB (PX X) (OX X) c 1 0 ∗ Trk (sendA (PX X) c 1) (sendB c 0 1) 15 ∗ partPt c 0 c (PX X c) ∗ ins c (X c) ∗ WS c 0 0 ∗ atPos ER (cell c none) 1 ∅ 0 ∗ REST c))) := by
  unfold Start
  rw [k0_part130_eq_skeleton]; unfold k0_part130_skel
  refine wpc_seq_fact (part1 X K c _ _) ?_
  rintro ⟨d0, v2, v3, v30, c16_i32_18, v31⟩ ⟨hd, (rfl : v3 = _)⟩
  obtain rfl := (show c = d0 from hd.symm)
  refine wpc_seq (part2 X K c _ _ _ _ _ _) ?_
  rintro ⟨v59, v64, v65⟩
  refine wpc_seq (part3 X K c _ _ _ _ _ _) ?_
  rintro ⟨v95, c16_i32_63, v96⟩
  refine wpc_seq (part4 X K c _ _ _ _ _ _) ?_
  rintro ⟨v124, v129, v130⟩
  refine wpc_seq (part5 X K c _ _ _ _ _ _) ?_
  rintro ⟨v160, c16_i32_108, v161⟩
  refine wpc_seq (part6 X K c _ _ _ _ _ _) ?_
  rintro ⟨v189, v194, v195⟩
  refine wpc_seq_eq (part7 X K c _ _ _ _ _) ?_
  refine wpc_seq_eq (part8 X K c _ _ _ _ _) ?_
  refine BIBase.Entails.trans (phase1 (PX X) (OX X) K c _ _) ?_
  refine wpc_seq (part9 X K c _ _ _ _ _ _ _ _ _ _ (above1 c) rfl _) ?_
  rintro ⟨v293, v294, v295, v296, v297⟩
  refine BIBase.Entails.trans (phase2 (PX X) (OX X) K c _ _) ?_
  refine wpc_seq (part10 X K c _ _ _ _ _ _ _ _) fun _ => ?_
  refine wpc_seq (part11 X K c _ _ _) ?_
  rintro ⟨v359, v360, v361, v362, v363⟩
  refine wpc_seq (part12 X K c _ _ _ _ _ _ _ _) fun _ => ?_
  refine wpc_seq (part13 X K c _ _ _) ?_
  rintro ⟨v425, v426, v427, v428, v429⟩
  refine wpc_seq (part14 X K c _ _ _ _ _ _ _ _) fun _ => ?_
  refine wpc_seq (part15 X K c _ _ _) ?_
  rintro ⟨v491, v492, v493, v494, v495⟩
  refine wpc_seq (part16 X K c _ _ _ _ _ _ _ _) fun _ => ?_
  refine wpc_seq (part17 X K c _ _ _) ?_
  rintro ⟨v557, v558, v559, v560, v561⟩
  refine wpc_seq (part18 X K c _ _ _ _ _ _ _ _) fun _ => ?_
  refine wpc_seq_eq (part19 X K c _ _ _ _) ?_
  refine wpc_seq_eq (part20 X K c _ _ _ _ _ _ _) ?_
  refine wpc_seq_eq (part21 X K c _ _ _ _ _ _ _ _ _) ?_
  refine BIBase.Entails.trans (phase3 (PX X) (OX X) K c _ _) ?_
  refine wpc_seq (part22 X K c _ _ _ rfl _) ?_
  rintro ⟨v727, v728, v729, v730, c0_i32_527⟩
  refine wpc_seq (part23 X K c _ _ _ _ _ _ _ _) fun _ => ?_
  refine wpc_seq (part24 X K c _ _ _) ?_
  rintro ⟨v793, v794, v795, v796, c0_i32_576⟩
  refine wpc_seq (part25 X K c _ _ _ _ _ _ _ _) fun _ => ?_
  refine wpc_seq (part26 X K c _ _ _) ?_
  rintro ⟨v859, v860, v861, v862, c0_i32_624⟩
  refine wpc_seq (part27 X K c _ _ _ _ _ _ _ _) fun _ => ?_
  refine wpc_seq (part28 X K c _ _ _) ?_
  rintro ⟨v925, v926, v927, v928, c0_i32_672⟩
  refine wpc_seq (part29 X K c _ _ _ _ _ _ _ _) fun _ => ?_
  refine wpc_seq (part30 X K c _ _ _) ?_
  rintro ⟨v991, v992, v993, v994, c0_i32_720⟩
  refine wpc_seq (part31 X K c _ _ _ _ _ _ _ _) fun _ => ?_
  refine BIBase.Entails.trans (phase4 (PX X) (OX X) c _ _ _ _ _) ?_
  refine wpc_seq_eq (part32 X K c _ _ (above3 c 2 (by decide)) _) ?_
  refine wpc_seq_fact (part33 X K c _ _ _ (above3 c 2 (by decide)) _) ?_
  rintro ⟨v1085, v1088, v1089, v1090, v1093⟩ (rfl : v1085 = _)
  refine wpc_seq_eq (part34 X K c _ _ _ _ _ _ _ (above3 c 2 (by decide)) _) ?_
  refine wpc_seq_eq (part35 X K c _ _ _ (above3 c 2 (by decide)) _) ?_
  refine wpc_seq_fact (part36 X K c _ _ _ (above3 c 2 (by decide)) _) ?_
  rintro ⟨v1181, v1184, v1185, v1186, v1189⟩ (rfl : v1181 = _)
  refine wpc_seq_eq (part37 X K c _ _ _ _ _ _ _ (above3 c 2 (by decide)) _) ?_
  refine wpc_seq_eq (part38 X K c _ _ _ (above3 c 2 (by decide)) _) ?_
  refine wpc_seq_fact (part39 X K c _ _ _ (above3 c 2 (by decide)) _) ?_
  rintro ⟨v1277, v1280, v1281, v1282, v1285⟩ (rfl : v1277 = _)
  refine wpc_seq_eq (part40 X K c _ _ _ _ _ _ _ (above3 c 2 (by decide)) _) ?_
  refine wpc_seq_eq (part41 X K c _ _ _ (above3 c 2 (by decide)) _) ?_
  refine wpc_seq_fact (part42 X K c _ _ _ (above3 c 2 (by decide)) _) ?_
  rintro ⟨v1373, v1376, v1377, v1378, v1381⟩ (rfl : v1373 = _)
  refine BIBase.Entails.trans (phase5 c _ _ _ _ _) ?_
  refine wpc_seq (part43 X K c _ _ _ _ _ _ _ (above3 c 2 (by decide)) rfl _) ?_
  rintro ⟨v1413, v1414, c0_i32_1049⟩
  refine BIBase.Entails.trans (phase6 (PX X) (OX X) c _ _ _ _ 0) ?_
  refine wpc_seq (part44 X K c _ _ _ _ _ _) fun _ => ?_
  refine wpc_seq (part45 X K c _ _ _) fun v1482 => ?_
  refine wpc_seq (part46 X K c _ _ _ _) fun _ => ?_
  refine wpc_seq (part47 X K c _ _ _) ?_
  rintro ⟨v1543, v1544, v1545, v1548⟩
  refine wpc_seq (part48 X K c _ _ _ _ _ _ _) fun _ => ?_
  refine wpc_seq (part49 X K c _ _ _) ?_
  rintro ⟨v1612, v1613, v1614, v1615⟩
  refine wpc_seq (part50 X K c _ _ _ _ _ _ _) ?_
  rintro ⟨v1648, c0_i32_1225⟩
  refine wpc_seq (part51 X K c _ _ _ _ _) ?_
  rintro ⟨v1681, v1682, c0_i32_1249⟩
  refine wpc_seq (part52 X K c _ _ _ _ _ _) fun v1712 => ?_
  refine wpc_seq (part53 X K c _ _ _ _) fun _ => ?_
  refine BIBase.Entails.trans (phase7 (PX X) (OX X) K c _ _ _ _ _) ?_
  refine wpc_seq_fact (part54 X K c _ _ (above4 c 2 (by decide)) _) ?_
  rintro ⟨v1776, v1779, v1780, v1781, v1782, c0_i32_1324⟩ (rfl : v1776 = _)
  refine wpc_seq_fact (part55 X K c _ _ _ _ _ _ _ _ (above4 c 2 (by decide)) _) ?_
  rintro ⟨v1800, v1814, c0_i32_1350⟩ (rfl : v1800 = _)
  refine wpc_seq_eq (part56 X K c _ _ _ _ _ (above4 c 2 (by decide)) _) ?_
  refine wpc_seq_fact (part57 X K c _ _ _ _ (above4 c 2 (by decide)) _) ?_
  rintro ⟨v1872, v1875, v1876, v1877, v1878, c0_i32_1400⟩ (rfl : v1872 = _)
  refine wpc_seq_fact (part58 X K c _ _ _ _ _ _ _ _ (above4 c 2 (by decide)) _) ?_
  rintro ⟨v1896, v1910, c0_i32_1426⟩ (rfl : v1896 = _)
  refine wpc_seq_eq (part59 X K c _ _ _ _ _ (above4 c 2 (by decide)) _) ?_
  refine wpc_seq_fact (part60 X K c _ _ _ _ (above4 c 2 (by decide)) _) ?_
  rintro ⟨v1968, v1971, v1972, v1973, v1974, c0_i32_1476⟩ (rfl : v1968 = _)
  exact wpc_ret_fact ⟨rfl, rfl⟩

theorem body2 (v2 v1971 v1972 : BitVec 32) (v1973 v1974 : BitVec 1) (c0 : BitVec 32) :
    iprop(base (PX X) (OX X) K c (owe4 c) ∗ Trk (waitA c 1 1) (waitB (PX X) (OX X) c 1 1) 9 ∗ partPt c 1 c (PX X c) ∗ ownAny c 1 ∗ SA' c 1 ∗ (WS c 2 0 ∗ leaf15 (OX X) c 0 ∗ WB (PX X) (OX X) c 1 0 ∗ Trk (sendA (PX X) c 1) (sendB c 0 1) 15 ∗ partPt c 0 c (PX X c) ∗ ins c (X c) ∗ WS c 0 0 ∗ atPos ER (cell c none) 1 ∅ 0 ∗ REST c))
      ⊢ wpc c (k0_part131 M0 W0 M1 W1 M2 W2 M3 W3 M4 W4 M5 W5 M6 W6 M7 W7 cc0_scratch2 cc0_scratch3 cc0_scratch4 cc0_scratch5 c v2 (mid1 (PX X) c) v1971 v1972 v1973 v1974 c0)
        (fun _ => iprop(base (PX X) (OX X) K c 0 ∗ Trk (waitA c 0 1) (waitB (PX X) (OX X) c 0 1) 7 ∗ Trk (waitA c 2 1) (waitB (PX X) (OX X) c 2 1) 6 ∗ (WB (PX X) (OX X) c 0 0 ∗ WB (PX X) (OX X) c 2 0 ∗ WB (PX X) (OX X) c 3 1 ∗ WB (PX X) (OX X) c 3 0 ∗ leaf15 (OX X) c 1 ∗ WB (PX X) (OX X) c 1 1 ∗ partPt c 1 c (PX X c) ∗ leaf15 (OX X) c 0 ∗ WB (PX X) (OX X) c 1 0 ∗ partPt c 0 c (PX X c) ∗ ins c (X c) ∗ atPos ER (cell c none) 1 ∅ 0))) := by
  rw [k0_part131_eq_skeleton]; unfold k0_part131_skel
  refine wpc_seq_fact (part61 X K c _ _ _ _ _ _ _ _ (above4 c 2 (by decide)) _) ?_
  rintro ⟨v1992, v2006, c0_i32_1502⟩ (rfl : v1992 = _)
  refine wpc_seq_eq (part62 X K c _ _ _ _ _ (above4 c 2 (by decide)) _) ?_
  refine wpc_seq_fact (part63 X K c _ _ _ _ (above4 c 2 (by decide)) _) ?_
  rintro ⟨v2064, v2067, v2068, v2069, v2070, c0_i32_1552⟩ (rfl : v2064 = _)
  refine wpc_seq_fact (part64 X K c _ _ _ _ _ _ _ _ (above4 c 2 (by decide)) _) ?_
  rintro ⟨v2088, v2102, c0_i32_1578⟩ (rfl : v2088 = _)
  refine BIBase.Entails.trans (phase8 c _ _ _ _) ?_
  refine wpc_seq (part65 X K c _ _ _ _ _ (above4 c 2 (by decide)) rfl _) fun _ => ?_
  refine BIBase.Entails.trans (phase9 (PX X) (OX X) c _ _ _ 1) ?_
  refine wpc_seq (part66 X K c _ _ _) ?_
  rintro ⟨v2166, v2167, v2168, v2169⟩
  refine wpc_seq (part67 X K c _ _ _ _ _ _ _) ?_
  rintro ⟨v2202, c0_i32_1652⟩
  refine wpc_seq (part68 X K c _ _ _ _ _) ?_
  rintro ⟨v2235, v2236, c0_i32_1676⟩
  refine wpc_seq (part69 X K c _ _ _ _ _ _) fun v2266 => ?_
  refine wpc_seq (part70 X K c _ _ _ _) ?_
  rintro ⟨v2302, c16_i32_1724, v2303, c1_i32_1726⟩
  refine wpc_seq (part71 X K c _ _ _ _ _ _ _) ?_
  rintro ⟨v2335, v2338, c256_i32_1750⟩
  refine wpc_seq (part72 X K c _ _ _ _ _ _) ?_
  rintro ⟨v2371, c16_i32_1775⟩
  refine wpc_seq (part73 X K c _ _ _ _ _) fun v2404 => ?_
  refine wpc_seq (part74 X K c _ _ _ _) fun _ => ?_
  refine wpc_seq (part75 X K c _ _ _) ?_
  rintro ⟨v2473, c16_i32_1849⟩
  refine BIBase.Entails.trans (phase10 (PX X) (OX X) K c _ _ _ _ _ _) ?_
  refine wpc_seq (part76 X K c _ _ _ _) fun c3_i32_1876 => ?_
  refine wpc_seq (part77 X K c _ _ _) fun v2536 => ?_
  refine wpc_seq (part78 X K c _ _ _) ?_
  rintro ⟨v2568, c16_i32_1928, c0_i32_1929⟩
  refine wpc_seq (part79 X K c _ _ _ _ _) ?_
  rintro ⟨v2599, v2602, c0_i32_1954⟩
  refine wpc_seq (part80 X K c _ _ _ _ _) ?_
  rintro ⟨v2631, v2633⟩
  refine wpc_seq (part81 X K c _ _ _ _) fun v2662 => ?_
  refine wpc_seq (part82 X K c _ _ _) ?_
  rintro ⟨v2696, v2697, v2698⟩
  refine wpc_seq (part83 X K c _ _ _ _ _) ?_
  rintro ⟨v2730, c0_i32_2060⟩
  refine wpc_seq (part84 X K c _ _ _ _) ?_
  rintro ⟨v2759, v2760, v2761, v2762, c0_i32_2086⟩
  refine wpc_seq (part85 X K c _ _ _ _ _ _ _) fun _ => ?_
  refine BIBase.Entails.trans (phase11 (PX X) (OX X) c _ _ _ _ _ _ _) ?_
  refine wpc_seq (part86 X K c _ _) ?_
  rintro ⟨v2822, v2823, v2828⟩
  refine wpc_seq (part87 X K c _ _ _ _ _) fun _ => ?_
  refine wpc_seq (part88 X K c _ _) ?_
  rintro ⟨v2893, c16_i32_2189⟩
  refine wpc_seq (part89 X K c _ _ _ _) fun c8_i32_2216 => ?_
  refine wpc_seq (part90 X K c _ _ _) fun v2956 => ?_
  refine wpc_seq (part91 X K c _ _ _) ?_
  rintro ⟨v2988, c16_i32_2268, c0_i32_2269⟩
  refine wpc_seq (part92 X K c _ _ _ _ _) ?_
  rintro ⟨v3019, v3022, c256_i32_2294⟩
  refine wpc_seq (part93 X K c _ _ _ _ _) ?_
  rintro ⟨v3051, v3053⟩
  refine wpc_seq (part94 X K c _ _ _ _) fun v3082 => ?_
  refine wpc_seq (part95 X K c _ _ _) ?_
  rintro ⟨v3113, v3114, v3115, v3116, v3117⟩
  refine BIBase.Entails.trans (phase12 (PX X) (OX X) c _ _ _ _ _ _) ?_
  refine wpc_seq (part96 X K c _ _ _ _ _ _ _) ?_
  rintro ⟨v3148, c16_i32_2401⟩
  refine wpc_seq (part97 X K c _ _ _ _) fun _ => ?_
  refine wpc_seq (part98 X K c _ _) ?_
  rintro ⟨v3206, v3207, v3212⟩
  refine wpc_seq (part99 X K c _ _ _ _ _) ?_
  rintro ⟨v3241, c16_i32_2481, v3242⟩
  refine wpc_seq (part100 X K c _ _ _ _ _) fun _ => ?_
  refine wpc_seq (part101 X K c _ _) fun c16_i32_2535 => ?_
  refine wpc_seq (part102 X K c _ _ _) ?_
  rintro ⟨v3335, v3336⟩
  refine wpc_seq (part103 X K c _ _ _ _) fun _ => ?_
  refine wpc_seq (part104 X K c _ _) ?_
  rintro ⟨v3400, c0_i32_2616⟩
  refine wpc_seq (part105 X K c _ _ _ _) ?_
  rintro ⟨v3428, v3429, v3430⟩
  refine wpc_seq (part106 X K c _ _ _ _ _) fun _ => ?_
  refine wpc_seq (part107 X K c _ _) fun v3494 => ?_
  refine wpc_seq (part108 X K c _ _ _) ?_
  rintro ⟨v3520, v3521, v3522, v3523, c0_i32_2726⟩
  refine wpc_seq (part109 X K c _ _ _ _ _ _ _) fun v3555 => ?_
  refine wpc_seq (part110 X K c _ _ _) fun _ => ?_
  refine wpc_seq (part111 X K c _ _) ?_
  rintro ⟨v3613, v3614, v3615, v3618⟩
  refine wpc_seq (part112 X K c _ _ _ _ _ _) ?_
  rintro ⟨v3648, c16_i32_2833, c0_i32_2834⟩
  refine BIBase.Entails.trans (phase13 (PX X) (OX X) c _ _ _ _) ?_
  refine wpc_seq (part113 X K c _ _ _ _ _) fun _ => ?_
  refine wpc_seq (part114 X K c _ _) fun _ => ?_
  refine wpc_seq (part115 X K c _ _) ?_
  rintro ⟨v3740, v3742⟩
  refine wpc_seq (part116 X K c _ _ _ _) fun _ => ?_
  refine wpc_seq (part117 X K c _ _) fun v3807 => ?_
  refine wpc_seq (part118 X K c _ _ _) ?_
  rintro ⟨v3835, v3836, c0_i32_2996⟩
  refine wpc_seq (part119 X K c _ _ _ _ _) fun _ => ?_
  exact part120 X K c _ _

/-- The body, from its start to its end. -/
theorem body :
    Start X K c ⊢ wpc c (cc0__body (F := F) M0 W0 M1 W1 M2 W2 M3 W3 M4 W4 M5 W5 M6 W6 M7 W7 cc0_scratch2 cc0_scratch3 cc0_scratch4 cc0_scratch5) (fun _ => Finish X K c) := by
  rw [cc0__body_eq_skeleton]; unfold cc0__body_skel
  refine wpc_seq_fact (body1 X K c) ?_
  rintro ⟨d0, v2, v1968, v1971, v1972, v1973, v1974, c0⟩ ⟨(hd : d0 = c), (hm : v1968 = _)⟩
  obtain rfl := hd.symm
  subst hm
  refine wpc_seq (body2 X K _ _ _ _ _ _ _) fun _ => ?_
  refine wpc_seq (part121 X K c _ _ _) ?_
  rintro ⟨v3927, v3928, v3929, v3930⟩
  refine wpc_seq (part122 X K c _ _ _ _ _ _) fun c9_i32_3104 => ?_
  refine wpc_seq (part123 X K c _ _ _) fun _ => ?_
  refine wpc_seq (part124 X K c _ _) ?_
  rintro ⟨v4020, v4021, v4022, v4023, v4024⟩
  refine wpc_seq (part125 X K c _ _ _ _ _ _ _) ?_
  rintro ⟨v4055, c16_i32_3185⟩
  refine wpc_seq (part126 X K c _ _ _ _) fun _ => ?_
  refine wpc_seq (part127 X K c _ _) ?_
  rintro ⟨v4113, v4118, v4119⟩
  refine wpc_seq (part128 X K c _ _ _ _ _) ?_
  rintro ⟨v4147, c16_i32_3265, v4148, c1_i32_3267⟩
  refine wpc_seq (part129 X K c _ _ _ _ _ _) fun _ => ?_
  refine wpc_seq (step_wait (PX X) (OX X) K c 0 1 14 (by decide) _ rfl (by exact credit_part _ _) 0 none_owed _) fun _ => ?_
  refine wpc_seq (at_second (B' := base (PX X) (OX X) K c 0) (T' := Trk (waitA c 2 1) (waitB (PX X) (OX X) c 2 1) 15) ?h) fun _ => ?_
  · exact step_wait (PX X) (OX X) K c 2 1 14 (by decide) _ rfl (by exact credit_out _ _) 0 none_owed _
  refine wpc_ret ?_
  unfold Finish
  exact phase14 (PX X) (OX X) c _ _

end Cert.KernelIdeal.Talk

end
-- ==== Proof.KI.Mem.lean ====
/-
  The three buffers the devices share, cut into the pieces the payloads speak of before the kernel runs, and joined again after.
-/
module

public import proofs.«01_k».proof.Proof.KI.Moves

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

open Cert.KernelIdeal.Gen

variable {F : FTy → Type} [FloatOps F] [Named F]

local notation "𝕄" => MT nD τ sig Unit (Elt F) ℕ UU ℕ

variable (P : Dev nD → Mat F) (O : Mat F) (K : GSem nD τ sig → ℕ) (c : Dev nD)

theorem two (Φ : Fin 2 → sProp 𝕄) : bigSep Finset.univ Φ = iprop(Φ 0 ∗ Φ 1) := BI.bigSep_fin_two Φ

theorem whole_halves : (Finset.univ : Finset S512x512.Idx) = Finset.univ.biUnion halfSet := by
  ext i
  have hi : (i 0).val < 512 := (i 0).isLt
  simp only [Finset.mem_univ, Finset.mem_biUnion, true_and, true_iff]
  exact ⟨⟨(i 0).val / 256, by omega⟩, (mem_halfSet _ i).mpr rfl⟩
theorem halves_disjoint (h h' : Fin 2) (ne : h ≠ h') : Disjoint (halfSet h) (halfSet h') := by
  rw [Finset.disjoint_left]; intro i hi hi'
  rw [mem_halfSet] at hi hi'
  exact ne (Fin.ext (hi.symm.trans hi'))
theorem whole_slots : (Finset.univ : Finset S30x16x512.Idx) = Finset.univ.biUnion fun x : Fin 2 × Fin 15 => slotSet (sl x.1 x.2) := by
  ext i
  have hi : (i 0).val < 30 := (i 0).isLt
  simp only [Finset.mem_univ, Finset.mem_biUnion, true_and, true_iff]
  refine ⟨(slotHalf (i 0), slotShift (i 0)), (mem_slotSet _ i).mpr ?_⟩
  show (i 0).val = 15 * ((i 0).val / 15) + (i 0).val % 15
  omega
theorem slots_disjoint (x y : Fin 2 × Fin 15) (ne : x ≠ y) : Disjoint (slotSet (sl x.1 x.2)) (slotSet (sl y.1 y.2)) := by
  rw [Finset.disjoint_left]; intro i hi hi'
  rw [mem_slotSet] at hi hi'
  have := x.1.isLt; have := x.2.isLt; have := y.1.isLt; have := y.2.isLt
  unfold sl at hi hi'
  exact ne (Prod.ext (Fin.ext (by omega)) (Fin.ext (by omega)))

/-- A buffer of 512 rows, as its two halves of sixteen chunks. -/
theorem part_split (f : Mat F) :
    ((c : Thread nD τ).loc cc0_scratch0 ↦[Finset.univ]{fullShare} f : sProp 𝕄) = bigSep Finset.univ fun h : Fin 2 => halfPt c h f := by
  unfold halfPt
  rw [whole_halves, pointsTo_biUnion]
  exact fun h _ h' _ ne => halves_disjoint h h' ne
theorem out_split (f : Mat F) :
    ((c : Thread nD τ).loc cc0_stg5_0 ↦[Finset.univ]{fullShare} f : sProp 𝕄)
      = bigSep Finset.univ fun h : Fin 2 => bigSep Finset.univ fun p : Dev nD => outPt c h p fullShare f := by
  rw [whole_halves, pointsTo_biUnion _ _ (fun h _ h' _ ne => halves_disjoint h h' ne)]
  exact bigSep_congr fun h _ => by
    rw [halfSet_rows, pointsTo_biUnion]
    intro p _ p' _ ne
    exact rows_disjoint h h p p' (by simpa using ne)
theorem slots_split (f : Slots F) :
    ((c : Thread nD τ).loc cc0_scratch1 ↦[Finset.univ]{fullShare} f : sProp 𝕄)
      = bigSep Finset.univ fun h : Fin 2 => bigSep Finset.univ fun o : Fin 15 => slotPt c h o f := by
  rw [whole_slots, pointsTo_biUnion _ _ (fun x _ y _ ne => slots_disjoint x y ne), bigSep_univ_prod]

def rvEquiv : Fin 15 ≃ Fin 15 := ⟨rv, rv, rv_rv, rv_rv⟩

/-- The pieces each signal hands over. -/
abbrev lend (o : Fin 15) : sProp 𝕄 :=
  bigSep Finset.univ fun h : Fin 2 => iprop((∃ f : Slots F, slotPt c h (rv o) f) ∗ ∃ f : Mat F, outPt c h (nx c o) fullShare f)

theorem lend_all (f : Slots F) (g : Mat F) :
    iprop((bigSep Finset.univ fun h : Fin 2 => bigSep Finset.univ fun o : Fin 15 => slotPt c h o f)
      ∗ bigSep Finset.univ fun h : Fin 2 => bigSep Finset.univ fun o : Fin 15 => outPt c h (nx c o) fullShare g)
      ⊢ bigSep Finset.univ (lend (F := F) c) := by
  rw [bigSep_univ_comm (fun (h : Fin 2) (o : Fin 15) => (slotPt c h o f : sProp 𝕄)),
    bigSep_univ_comm (fun (h : Fin 2) (o : Fin 15) => (outPt c h (nx c o) fullShare g : sProp 𝕄)),
    bigSep_univ_equiv rvEquiv (fun o : Fin 15 => (bigSep Finset.univ fun h : Fin 2 => slotPt c h o f : sProp 𝕄)), ← bigSep_sep']
  refine bigSep_mono fun o _ => ?_
  show BIBase.Entails (PROP := sProp 𝕄) _ _
  rw [← bigSep_sep']
  refine bigSep_mono fun h _ => ?_
  show BIBase.Entails (PROP := sProp 𝕄) _ _
  iintro ⟨a, b⟩
  isplitl [a]
  · iexists f; iexact a
  iexists g; iexact b

/-- The three buffers before the kernel. -/
theorem mem_in (f0 : Mat F) (f1 : Slots F) (f5 : Mat F) :
    iprop(((c : Thread nD τ).loc cc0_scratch0 ↦[Finset.univ]{fullShare} f0) ∗ ((c : Thread nD τ).loc cc0_scratch1 ↦[Finset.univ]{fullShare} f1)
      ∗ ((c : Thread nD τ).loc cc0_stg5_0 ↦[Finset.univ]{fullShare} f5))
      ⊢ iprop(halfAny (F := F) c 0 ∗ halfAny c 1 ∗ ownAny c 0 ∗ ownAny c 1 ∗ bigSep Finset.univ (lend (F := F) c)) := by
  rw [part_split, slots_split, out_split, two]
  rw [show (bigSep Finset.univ fun h : Fin 2 => bigSep Finset.univ fun p : Dev nD => outPt c h p fullShare f5 : sProp 𝕄)
      = bigSep Finset.univ fun h : Fin 2 => iprop(outPt c h c fullShare f5 ∗ bigSep Finset.univ fun o => outPt c h (nx c o) fullShare f5) from
    bigSep_congr fun h _ => over_devs c _]
  rw [bigSep_sep', two (fun h : Fin 2 => (outPt c h c fullShare f5 : sProp 𝕄))]
  iintro ⟨⟨p0, p1⟩, s, ⟨o0, o1⟩, o⟩
  isplitl [p0]; · iexists f0; iexact p0
  isplitl [p1]; · iexists f0; iexact p1
  isplitl [o0]; · iexists f5; iexact o0
  isplitl [o1]; · iexists f5; iexact o1
  iapply (lend_all c f1 f5)
  isplitl [s]; · iexact s
  iexact o

/-- The device's copy semaphores of one kind and half, each used once. -/
abbrev AU (q : Fin 4) (h : Fin 2) : sProp 𝕄 := bigSep Finset.univ fun o : Fin 15 => atPos ER (cell c (some (q, h, o))) 1 ∅ 0

theorem wb_split (q : Fin 4) (h : Fin 2) :
    WB P O c q h = iprop(AU c q h ∗ bigSep Finset.univ fun o : Fin 15 => pay P O c (some (q, h, o)) 0) := by
  unfold WB waitB; rw [bigSep_sep']

theorem au_all : (bigSep Finset.univ fun y : Fin 4 × Fin 2 × Fin 15 => (atPos ER (cell c (some y)) 1 ∅ 0 : sProp 𝕄))
    = iprop((AU c 0 0 ∗ AU c 0 1) ∗ (AU c 1 0 ∗ AU c 1 1) ∗ (AU c 2 0 ∗ AU c 2 1) ∗ AU c 3 0 ∗ AU c 3 1) := by
  rw [bigSep_univ_prod, bigSep_univ_eq_bigSepL [(0 : Fin 4), 1, 2, 3] (by decide) (by decide)]
  simp only [bigSep_univ_prod, BI.bigSep_fin_two]
  rfl

theorem part_back (h : Fin 2) :
    iprop(partPt c h c (P c) ∗ bigSep Finset.univ fun o : Fin 15 => pay P O c (some (0, h, o)) 0) ⊢ halfPt c h (P c) := by
  rw [half_chunks, over_devs c]; exact .rfl
theorem out_back (h : Fin 2) :
    iprop(leaf15 O c h ∗ (bigSep Finset.univ fun o : Fin 15 => pay P O c (some (2, h, o)) 0) ∗ bigSep Finset.univ fun o : Fin 15 => pay P O c (some (3, h, o)) 0)
      ⊢ bigSep Finset.univ fun p : Dev nD => outPt c h p fullShare O := by
  rw [over_devs' c, own_leaves]
  iintro ⟨a, b, d⟩
  isplitl [a b]
  · isplitl [a]; · iexact a
    iexact b
  iexact d

/-- The three buffers after the kernel, and the semaphores as the kernel leaves them. -/
theorem mem_out (E : sProp 𝕄) :
    iprop(WB P O c 0 1 ∗ WB P O c 2 1 ∗ (WB P O c 0 0 ∗ WB P O c 2 0 ∗ WB P O c 3 1 ∗ WB P O c 3 0 ∗ leaf15 O c 1 ∗ WB P O c 1 1 ∗ partPt c 1 c (P c)
        ∗ leaf15 O c 0 ∗ WB P O c 1 0 ∗ partPt c 0 c (P c) ∗ E))
      ⊢ iprop(((c : Thread nD τ).loc cc0_scratch0 ↦[Finset.univ]{fullShare} P c) ∗ ((c : Thread nD τ).loc cc0_scratch1 ↦[Finset.univ]{fullShare} recvVal P c)
        ∗ ((c : Thread nD τ).loc cc0_stg5_0 ↦[Finset.univ]{fullShare} O)
        ∗ (bigSep Finset.univ fun y : Fin 4 × Fin 2 × Fin 15 => atPos ER (cell c (some y)) 1 ∅ 0) ∗ E) := by
  rw [part_split, slots_split, out_split, au_all]
  simp only [two, wb_split]
  iintro ⟨⟨a01, p01⟩, ⟨a21, p21⟩, ⟨a00, p00⟩, ⟨a20, p20⟩, ⟨a31, p31⟩, ⟨a30, p30⟩, l1, ⟨a11, p11⟩, q1, l0, ⟨a10, p10⟩, q0, E⟩
  isplitl [p01 p00 q1 q0]
  · isplitl [p00 q0]
    · iapply (part_back P O c 0)
      isplitl [q0]; · iexact q0
      iexact p00
    iapply (part_back P O c 1)
    isplitl [q1]; · iexact q1
    iexact p01
  isplitl [p10 p11]
  · isplitl [p10]; · iexact p10
    iexact p11
  isplitl [p20 p21 p30 p31 l0 l1]
  · isplitl [p20 p30 l0]
    · iapply (out_back P O c 0)
      isplitl [l0]; · iexact l0
      isplitl [p20]; · iexact p20
      iexact p30
    iapply (out_back P O c 1)
    isplitl [l1]; · iexact l1
    isplitl [p21]; · iexact p21
    iexact p31
  isplitr [E]
  · isplitl [a00 a01]
    · isplitl [a00]; · iexact a00
      iexact a01
    isplitl [a10 a11]
    · isplitl [a10]; · iexact a10
      iexact a11
    isplitl [a20 a21]
    · isplitl [a20]; · iexact a20
      iexact a21
    isplitl [a30]; · iexact a30
    iexact a31
  iexact E

end Cert.KernelIdeal.Talk

end
-- ==== Proof.KI.Region.lean ====
/-
  The kernel as one segment of the program: what a device holds going in, the run of the body, and what it holds coming out.
-/
module

public import proofs.«01_k».proof.Proof.KI.Body
public import proofs.«01_k».proof.Proof.KI.Mem
public import proofs.«01_k».proof.Proof.Gen.KernelIdeal.Regions
public import Idealize.ShloMosaic.Lib.Pipeline.RegionTalk
public import Idealize.ShloMosaic.Lib.Rounds.Family

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

open Cert.KernelIdeal.Gen

variable {F : FTy → Type} [FloatOps F] [Named F]

open Idealize.ShloMosaic.Pipeline (Dat BodyObligation)

local notation "𝕄" => MT nD τ sig Unit (Elt F) ℕ UU ℕ

abbrev Y3 : Type := Fin 4 × Fin 2 × Fin 15

/-- The device's own copy semaphores. -/
def osem (y : Y3) : SemLoc sig := semOf (some y)

theorem osem_facts : Pipeline.OwnSemFacts spec0 osem :=
  ⟨by decide +kernel, fun a b h => Option.some.inj (semOf_inj h), by decide +kernel⟩

variable (m : (ℓ : Loc nD τ sig) → Buf (Elt F) ℓ) (c : Dev nD)

/-- What the kernel reads on device `c`, as the steps before it leave it. -/
def XX (c : Dev nD) : Ins F := ⟨V1 m c main_v5, V1 m c main_arg1, V1 m c main_v16, V1 m c main_v17, V1 m c main_arg4⟩

/-- The result of the kernel, on every device. -/
def res : Mat F := OX (XX m)

/-- What a device owes going in. -/
def O₀ (c : Dev nD) : CellTallies nD τ sig Unit := oS (gBar c) 1 0 + owe1 c

/-- The tokens for all a device pays. -/
def tokens (c : Dev nD) : sProp 𝕄 :=
  iprop((bigSep Finset.univ fun o : Fin 15 => dutyTok ER (gBar c o) 0 (rv o)) ∗ TK c 0 0 ∗ TK c 0 1 ∗ TK c 2 0 ∗ TK c 2 1)
/-- The right to wait for all that others pay. -/
def WC (c : Dev nD) (q : Fin 4) (h : Fin 2) : sProp 𝕄 := bigSep Finset.univ fun o : Fin 15 => cred (tallyAt (cell c (some (q, h, o))) () N)
def credits (c : Dev nD) : sProp 𝕄 := iprop(cred (tallyAt (cell c none) () 15) ∗ WC c 1 0 ∗ WC c 1 1 ∗ WC c 3 0 ∗ WC c 3 1)
/-- The rules of every semaphore, and that every barrier is in use. -/
def known (K : GSem nD τ sig → ℕ) : sProp 𝕄 :=
  iprop((bigSep Finset.univ fun x : Dev nD × Cell => cellInv ER (sched (PX (XX m)) (OX (XX m))) (K (cell x.1 x.2)) (cell x.1 x.2))
    ∗ bigSep Finset.univ fun p : Dev nD => reached ER (cell p none) 0)
instance known_persistent (K : GSem nD τ sig → ℕ) : BI.Persistent (known m K) := by unfold known; infer_instance

def Tk (c : Dev nD) : sProp 𝕄 :=
  iprop((∃ K, known m K) ∗ (bigSep Finset.univ fun y : Y3 => openTok ER (cell c (some y))) ∗ tokens c ∗ credits c ∗ atPos ER (cell c none) 0 ∅ 0)
def Xk (c : Dev nD) : sProp 𝕄 :=
  iprop((∃ K, Rec (PX (XX m)) (OX (XX m)) K c) ∗ (bigSep Finset.univ fun y : Y3 => atPos ER (cell c (some y)) 0 ∅ 0) ∗ tokens c ∗ credits c
    ∗ atPos ER (cell c none) 0 ∅ 0)
def Yk (c : Dev nD) : sProp 𝕄 := semVal (cell c none) 0

def dat (c : Dev nD) : Dat τ (Elt F) Unit ℕ UU ℕ cfg0 c where
  A w := match w with
    | ⟨0, _⟩ => V1 m c main_v5
    | ⟨1, _⟩ => V1 m c main_arg1
    | ⟨2, _⟩ => V1 m c main_v16
    | ⟨3, _⟩ => V1 m c main_v17
    | ⟨4, _⟩ => V1 m c main_arg4
    | ⟨5, _⟩ => V1 m c main_v18
  after w _ := match w with
    | ⟨0, _⟩ => (XX m c).x
    | ⟨1, _⟩ => (XX m c).wq
    | ⟨2, _⟩ => (XX m c).k
    | ⟨3, _⟩ => (XX m c).v
    | ⟨4, _⟩ => (XX m c).wo
    | ⟨5, _⟩ => res m
  Φ t := if t.val = 0 then iprop(Pipeline.scopedRest spec0 c ∗ (∃ r, prngReg c r) ∗ Xk m c)
    else iprop(Pipeline.scopedRest spec0 c ∗ (∃ r, prngReg c r) ∗ Pipeline.ownSems0 osem c ∗ Yk c)
  q _ := fullShare
  owed t := if t.val = 0 then O₀ c else 0

/-- The block of a window on a whole array is the array. -/
theorem emb_id (w : Fin 6) (a) (j) : (((win0 w).rect t0_0).emb j a : ℕ) = j a :=
  (win0 w).rect_emb_val_of_index_zero t0_0 a (by
    match w with
    | ⟨0, _⟩ => rfl
    | ⟨1, _⟩ => rfl
    | ⟨2, _⟩ => rfl
    | ⟨3, _⟩ => rfl
    | ⟨4, _⟩ => rfl
    | ⟨5, _⟩ => rfl) j

theorem read0 (f : S512x512.Idx → Elt F .bf16) : (win0_0.blk t0_0).view.read (Elt F) f = f := by
  funext j
  rw [View.read_apply]
  exact congrArg f (funext fun a => Fin.ext (emb_id 0 a j))
theorem read1 (f : S512x256.Idx → Elt F .bf16) : (win0_1.blk t0_0).view.read (Elt F) f = f := by
  funext j
  rw [View.read_apply]
  exact congrArg f (funext fun a => Fin.ext (emb_id 1 a j))
theorem read2 (f : S2x4x256x64.Idx → Elt F .bf16) : (win0_2.blk t0_0).view.read (Elt F) f = f := by
  funext j
  rw [View.read_apply]
  exact congrArg f (funext fun a => Fin.ext (emb_id 2 a j))
theorem read3 (f : S2x4x256x64.Idx → Elt F .bf16) : (win0_3.blk t0_0).view.read (Elt F) f = f := by
  funext j
  rw [View.read_apply]
  exact congrArg f (funext fun a => Fin.ext (emb_id 3 a j))
theorem read4 (f : S256x512.Idx → Elt F .bf16) : (win0_4.blk t0_0).view.read (Elt F) f = f := by
  funext j
  rw [View.read_apply]
  exact congrArg f (funext fun a => Fin.ext (emb_id 4 a j))
theorem read5 (f : S512x512.Idx → Elt F .bf16) : (win0_5.blk t0_0).view.read (Elt F) f = f := by
  funext j
  rw [View.read_apply]
  exact congrArg f (funext fun a => Fin.ext (emb_id 5 a j))

theorem before0 (d) : (dat m c).before 0 t0_0 d = (XX m c).x := by
  unfold Dat.before; rw [if_pos (fetch0_0 _)]; unfold Dat.fetched
  exact (show _ = (win0_0.blk t0_0).view.read (Elt F) (XX m c).x from rfl).trans (read0 _)
theorem before1 (d) : (dat m c).before 1 t0_0 d = (XX m c).wq := by
  unfold Dat.before; rw [if_pos (fetch0_1 _)]; unfold Dat.fetched
  exact (show _ = (win0_1.blk t0_0).view.read (Elt F) (XX m c).wq from rfl).trans (read1 _)
theorem before2 (d) : (dat m c).before 2 t0_0 d = (XX m c).k := by
  unfold Dat.before; rw [if_pos (fetch0_2 _)]; unfold Dat.fetched
  exact (show _ = (win0_2.blk t0_0).view.read (Elt F) (XX m c).k from rfl).trans (read2 _)
theorem before3 (d) : (dat m c).before 3 t0_0 d = (XX m c).v := by
  unfold Dat.before; rw [if_pos (fetch0_3 _)]; unfold Dat.fetched
  exact (show _ = (win0_3.blk t0_0).view.read (Elt F) (XX m c).v from rfl).trans (read3 _)
theorem before4 (d) : (dat m c).before 4 t0_0 d = (XX m c).wo := by
  unfold Dat.before; rw [if_pos (fetch0_4 _)]; unfold Dat.fetched
  exact (show _ = (win0_4.blk t0_0).view.read (Elt F) (XX m c).wo from rfl).trans (read4 _)

theorem arr_last : (dat m c).arrAt 5 cfg0.N = res m := by
  rw [show cfg0.N = 0 + 1 from N_0]
  unfold Dat.arrAt
  rw [dif_pos (show 0 < cfg0.N by rw [show cfg0.N = 1 from N_0]; decide), if_pos (flush0_5 _)]
  exact (read5 _).symm.trans (View.read_write_univ _ _)

/-! ## Into the body and out of it -/

theorem at_all : (bigSep Finset.univ fun y : Y3 => (atPos ER (cell c (some y)) 0 ∅ 0 : sProp 𝕄))
    = iprop((AT c 0 0 ∗ AT c 0 1) ∗ (AT c 1 0 ∗ AT c 1 1) ∗ (AT c 2 0 ∗ AT c 2 1) ∗ AT c 3 0 ∗ AT c 3 1) := by
  rw [bigSep_univ_prod, bigSep_univ_eq_bigSepL [(0 : Fin 4), 1, 2, 3] (by decide) (by decide)]
  simp only [bigSep_univ_prod, BI.bigSep_fin_two]
  rfl

theorem wa_split (q : Fin 4) (h : Fin 2) : WAa (F := F) c q h = iprop(WC c q h ∗ AT c q h) := by
  unfold WAa waitA WC AT; rw [bigSep_sep']

theorem sig_all : iprop((bigSep Finset.univ fun o : Fin 15 => (dutyTok ER (gBar c o) 0 (rv o) : sProp 𝕄)) ∗ bigSep Finset.univ (lend (F := F) c))
    ⊢ Trk (sigA (F := F) c) sigB 0 := by
  refine BIBase.Entails.trans ?_ (trk_zero _ _)
  unfold sigA lend
  rw [bigSep_sep']

/-- All that the invariant, the scratch and the staged blocks give is where the body starts. -/
theorem start_in (f0 : Mat F) (f1 : Slots F) (f5 : Mat F) :
    iprop(Xk m c ∗ (((c : Thread nD τ).loc cc0_scratch0 ↦[Finset.univ]{fullShare} f0) ∗ ((c : Thread nD τ).loc cc0_scratch1 ↦[Finset.univ]{fullShare} f1)
      ∗ ((c : Thread nD τ).loc cc0_stg5_0 ↦[Finset.univ]{fullShare} f5)) ∗ ins c (XX m c) ∗ ∃ W, owes (c : Thread nD τ) (O₀ c) W)
      ⊢ iprop(∃ K, Start (XX m) K c) := by
  unfold Xk tokens credits Start base REST barA
  rw [at_all]
  simp only [wa_split]
  iintro ⟨⟨⟨%K, #HR⟩, ⟨⟨a00, a01⟩, ⟨a10, a11⟩, ⟨a20, a21⟩, a30, a31⟩, ⟨tb, t00, t01, t20, t21⟩, ⟨cb, c10, c11, c30, c31⟩, ab⟩, Hm, Hi, HO⟩
  ihave Hm' := (mem_in (F := F) c f0 f1 f5) $$ Hm
  icases Hm' with ⟨h0, h1, o0, o1, hl⟩
  ihave Hs := (sig_all (F := F) c) $$ [tb hl]
  · isplitl [tb] <;> iassumption
  iexists K
  isplitl [HO]
  · isplitr; · iexact HR
    iexact HO
  isplitl [Hs]; · iexact Hs
  isplitl [Hi]; · iexact Hi
  isplitl [cb ab]
  · isplitl [cb] <;> iassumption
  isplitl [h0]; · iexact h0
  isplitl [h1]; · iexact h1
  isplitl [o0]; · iexact o0
  isplitl [o1]; · iexact o1
  isplitl [t00]; · iexact t00
  isplitl [t01]; · iexact t01
  isplitl [t20]; · iexact t20
  isplitl [t21]; · iexact t21
  isplitl [c10 a10]; · isplitl [c10] <;> iassumption
  isplitl [c11 a11]; · isplitl [c11] <;> iassumption
  isplitl [c30 a30]; · isplitl [c30] <;> iassumption
  isplitl [c31 a31]; · isplitl [c31] <;> iassumption
  isplitl [a00]; · iexact a00
  isplitl [a01]; · iexact a01
  isplitl [a20]; · iexact a20
  iexact a21

/-- At the end every semaphore of the device is closed, at zero. -/
theorem finish_out (K : GSem nD τ sig → ℕ) :
    Finish (XX m) K c ⊢ (|={Set.univ}=> iprop((((c : Thread nD τ).loc cc0_scratch0 ↦[Finset.univ]{fullShare} PX (XX m) c) ∗ ((c : Thread nD τ).loc cc0_scratch1 ↦[Finset.univ]{fullShare} recvVal (PX (XX m)) c)
      ∗ ((c : Thread nD τ).loc cc0_stg5_0 ↦[Finset.univ]{fullShare} res m)) ∗ ins c (XX m c) ∗ Pipeline.ownSems0 osem c ∗ Yk c
      ∗ ∃ W, owes (c : Thread nD τ) (0 : CellTallies nD τ sig Unit) W) : sProp 𝕄) := by
  unfold Finish base
  iintro ⟨⟨#HR, HO⟩, H⟩
  ihave H' := (mem_out (PX (XX m)) (OX (XX m)) c _) $$ H
  icases H' with ⟨H0, H1, H5, HA, Hi, Hb⟩
  imod (Rounds.cell_close ER (sched (PX (XX m)) (OX (XX m))) (g := cell c none) (Set.mem_univ (K (cell c none))) (by exact id) (R := 1)
    (fun r hr => duties_later _ _ _ r hr)) $$ [Hb] with HY
  · isplitr
    · iapply (rec_inv (PX (XX m)) (OX (XX m)) K c c none); iexact HR
    iexact Hb
  ihave HA' := (bigSep_with_persistent (R := Rec (PX (XX m)) (OX (XX m)) K c) (S := Finset.univ) (Φ := fun y : Y3 => (atPos ER (cell c (some y)) 1 ∅ 0 : sProp 𝕄))
    (Ψ := fun y : Y3 => iprop(cellInv ER (sched (PX (XX m)) (OX (XX m))) (K (cell c (some y))) (cell c (some y)) ∗ atPos ER (cell c (some y)) 1 ∅ 0))
    (fun y _ => by
      show BIBase.Entails (PROP := sProp 𝕄) _ _
      iintro ⟨#HR, Ha⟩
      isplitr
      · iapply (rec_inv (PX (XX m)) (OX (XX m)) K c c (some y)); iexact HR
      iexact Ha)) $$ [HA]
  · isplitr; · iexact HR
    iexact HA
  imod (Rounds.cells_close ER (sched (PX (XX m)) (OX (XX m))) (Finset.univ : Finset Y3) (fun y => cell c (some y)) (fun y => K (cell c (some y)))
    (fun y _ => Set.mem_univ _) (fun y _ => by exact id) (fun _ => 1) (fun y _ r hr => duties_later _ _ _ r hr)) $$ HA' with HS
  imodintro
  isplitl [H0 H1 H5]
  · isplitl [H0]; · iexact H0
    isplitl [H1]; · iexact H1
    iexact H5
  isplitl [Hi]; · iexact Hi
  unfold Pipeline.ownSems0 Yk
  isplitl [HS]; · iexact HS
  isplitl [HY]; · iexact HY
  iexact HO

theorem stg_own (b : Ref sig .tc) (f : Buf (Elt F) ((c : Thread nD τ).loc b)) :
    (owns (c : Thread nD τ) (Memref.whole b : Memref sig .tc _ _ _) fullShare f : sProp 𝕄) = ((c : Thread nD τ).loc b ↦[Finset.univ]{fullShare} f) :=
  owns_whole (c : Thread nD τ) b fullShare f

theorem phi0 : (dat m c).Φ 0 = iprop(Pipeline.scopedRest spec0 c ∗ (∃ r, prngReg c r) ∗ Xk m c) := rfl
theorem last_ne : ¬ (Fin.last cfg0.N).val = 0 := by
  rw [Fin.val_last, show cfg0.N = 1 from N_0]; decide
theorem phi1 : (dat m c).Φ (Fin.last cfg0.N) = iprop(Pipeline.scopedRest spec0 c ∗ (∃ r, prngReg c r) ∗ Pipeline.ownSems0 osem c ∗ Yk c) :=
  if_neg (t := iprop(Pipeline.scopedRest spec0 c ∗ (∃ r, prngReg c r) ∗ Xk m c)) last_ne
theorem owed_end : (dat m c).owed (Fin.last cfg0.N) = 0 := if_neg (t := O₀ c) last_ne
theorem succ_last : (t0_0 : Fin cfg0.N).succ = Fin.last cfg0.N := by
  apply Fin.ext; rw [Fin.val_succ, Fin.val_last, show cfg0.N = 1 from N_0]; rfl

theorem owes_in : (dat m c).owesAt () (t0_0 : Fin cfg0.N).castSucc ⊢ (iprop(∃ W, owes (c : Thread nD τ) (O₀ c) W) : sProp 𝕄) := by
  unfold Dat.owesAt Pipeline.owesWithin
  iintro ⟨%W, -, HO⟩; iexists W; iexact HO
theorem owes_out : (iprop(∃ W, owes (c : Thread nD τ) (0 : CellTallies nD τ sig Unit) W) : sProp 𝕄) ⊢ (dat m c).owesAt () (Fin.last cfg0.N) := by
  unfold Dat.owesAt Pipeline.owesWithin Dat.bound
  rw [owed_end, show (dat m c).recorded (Fin.last cfg0.N) = Set.univ from rfl]
  iintro ⟨%W, HO⟩; iexists W
  isplitr; · ipureintro; exact fun _ _ => Or.inl trivial
  iexact HO

set_option maxRecDepth 100000 in
set_option backward.isDefEq.respectTransparency.types false in
theorem body_ob : BodyObligation (dat m c) defs₀ 𝒱₀ () Set.univ := fun t => by
  obtain rfl := fin_N0 t
  rw [bigSep_W0, bigSep_W0, succ_last, phi1]
  show iprop((dat m c).Φ 0 ∗ (dat m c).owesAt () (t0_0 : Fin cfg0.N).castSucc
    ∗ (∃ d, owns (c : Thread nD τ) (Memref.whole cc0_stg0_0) fullShare ((dat m c).before 0 t0_0 d))
    ∗ (∃ d, owns (c : Thread nD τ) (Memref.whole cc0_stg1_0) fullShare ((dat m c).before 1 t0_0 d))
    ∗ (∃ d, owns (c : Thread nD τ) (Memref.whole cc0_stg2_0) fullShare ((dat m c).before 2 t0_0 d))
    ∗ (∃ d, owns (c : Thread nD τ) (Memref.whole cc0_stg3_0) fullShare ((dat m c).before 3 t0_0 d))
    ∗ (∃ d, owns (c : Thread nD τ) (Memref.whole cc0_stg4_0) fullShare ((dat m c).before 4 t0_0 d))
    ∗ ∃ d, owns (c : Thread nD τ) (Memref.whole cc0_stg5_0) fullShare ((dat m c).before 5 t0_0 d))
    ⊢ wpc c (cc0__body (F := F) M0 W0 M1 W1 M2 W2 M3 W3 M4 W4 M5 W5 M6 W6 M7 W7 cc0_scratch2 cc0_scratch3 cc0_scratch4 cc0_scratch5)
      (fun _ => iprop(iprop(Pipeline.scopedRest spec0 c ∗ (∃ r, prngReg c r) ∗ Pipeline.ownSems0 osem c ∗ Yk c) ∗ (dat m c).owesAt () (Fin.last cfg0.N)
    ∗ owns (c : Thread nD τ) (Memref.whole cc0_stg0_0) fullShare (XX m c).x
    ∗ owns (c : Thread nD τ) (Memref.whole cc0_stg1_0) fullShare (XX m c).wq
    ∗ owns (c : Thread nD τ) (Memref.whole cc0_stg2_0) fullShare (XX m c).k
    ∗ owns (c : Thread nD τ) (Memref.whole cc0_stg3_0) fullShare (XX m c).v
    ∗ owns (c : Thread nD τ) (Memref.whole cc0_stg4_0) fullShare (XX m c).wo
    ∗ owns (c : Thread nD τ) (Memref.whole cc0_stg5_0) fullShare (res m)))
  rw [phi0, scopedRest0_eq]
  simp only [before0, before1, before2, before3, before4, stg_own]
  iintro ⟨⟨⟨⟨%f0, H0⟩, %f1, H1⟩, Hp, HX⟩, HO, ⟨%d0, I0⟩, ⟨%d1, I1⟩, ⟨%d2, I2⟩, ⟨%d3, I3⟩, ⟨%d4, I4⟩, %d5, H5⟩
  ihave HO := (owes_in m c) $$ HO
  ihave HS := (start_in m c f0 f1 _) $$ [HX H0 H1 H5 I0 I1 I2 I3 I4 HO]
  · isplitl [HX]; · iexact HX
    isplitl [H0 H1 H5]
    · isplitl [H0]; · iexact H0
      isplitl [H1]; · iexact H1
      iexact H5
    isplitl [I0 I1 I2 I3 I4]
    · unfold ins
      isplitl [I0]; · iexact I0
      isplitl [I1]; · iexact I1
      isplitl [I2]; · iexact I2
      isplitl [I3]; · iexact I3
      iexact I4
    iexact HO
  icases HS with ⟨%K, HS⟩
  iapply (wp_fupd frame (wpE (defs₀ (F := F)) 𝒱₀ c none) Set.univ _ _)
  iapply (wp_wand_r frame (wpE (defs₀ (F := F)) 𝒱₀ c none) Set.univ)
  isplitl [HS]
  · iapply (body (XX m) K c)
    iexact HS
  · iintro %a HF
    imod (finish_out m c K) $$ HF with ⟨⟨H0, H1, H5⟩, Hi, HS, HY, HO⟩
    imodintro
    ihave HO := (owes_out m c) $$ HO
    unfold ins
    icases Hi with ⟨I0, I1, I2, I3, I4⟩
    isplitl [H0 H1 Hp HS HY]
    · isplitl [H0 H1]
      · isplitl [H0]; · iexists _; iexact H0
        iexists _; iexact H1
      isplitl [Hp]; · iexact Hp
      isplitl [HS]; · iexact HS
      iexact HY
    isplitl [HO]; · iexact HO
    isplitl [I0]; · iexact I0
    isplitl [I1]; · iexact I1
    isplitl [I2]; · iexact I2
    isplitl [I3]; · iexact I3
    isplitl [I4]; · iexact I4
    iexact H5

end Cert.KernelIdeal.Talk

end
-- ==== Proof.KI.Seg.lean ====
/-
  The kernel as one segment of the program: what a device holds going in, the run of the body, and what it holds coming out.
-/
module

public import proofs.«01_k».proof.Proof.KI.Region
public import proofs.«01_k».proof.Proof.Gen.KernelIdeal.Regions
public import Idealize.ShloMosaic.Lib.Pipeline.RegionTalk
public import Idealize.ShloMosaic.Lib.Rounds.Family

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

open Cert.KernelIdeal.Gen

variable {F : FTy → Type} [FloatOps F] [Named F]

open Idealize.ShloMosaic.Pipeline (Dat BodyObligation)

local notation "𝕄" => MT nD τ sig Unit (Elt F) ℕ UU ℕ

abbrev pdats (m : (ℓ : Loc nD τ sig) → Buf (Elt F) ℓ) : (p : Fin 1) → (c : Dev nD) → Dat τ (Elt F) Unit ℕ UU ℕ (cfgs p) c := fun _ c => dat m c

variable (m : (ℓ : Loc nD τ sig) → Buf (Elt F) ℓ) (c : Dev nD)

/-! ## The kernel as a step of the program -/

theorem hopen : iprop(Tk m c ∗ Pipeline.ownSems0 osem c ∗ levAts L lv) ⊢ (|={Set.univ}=> Xk m c : sProp 𝕄) := by
  have inv_at (K : GSem nD τ sig → ℕ) (y : Y3) : iprop(bigSep Finset.univ fun x : Dev nD × Cell => cellInv ER (sched (PX (XX m)) (OX (XX m))) (K (cell x.1 x.2)) (cell x.1 x.2))
      ⊢ (cellInv ER (sched (PX (XX m)) (OX (XX m))) (K (cell c (some y))) (cell c (some y)) : sProp 𝕄) :=
    bigSep_elim (i := (c, some y)) (Finset.mem_univ _) (Φ := fun x : Dev nD × Cell => (cellInv ER (sched (PX (XX m)) (OX (XX m))) (K (cell x.1 x.2)) (cell x.1 x.2) : sProp 𝕄))
  have bar_at : iprop(bigSep Finset.univ fun p : Dev nD => reached ER (cell p none) 0) ⊢ (reached ER (cell c none) 0 : sProp 𝕄) :=
    bigSep_elim (i := c) (Finset.mem_univ _) (Φ := fun p : Dev nD => (reached ER (cell p none) 0 : sProp 𝕄))
  unfold Tk Xk
  iintro ⟨⟨⟨%K, #HK⟩, Ho, Ht, Hc, Hb⟩, Hs, #Hl⟩
  ihave Ho' := (bigSep_with_persistent (R := known m K) (S := Finset.univ) (Φ := fun y : Y3 => (openTok ER (cell c (some y)) : sProp 𝕄))
    (Ψ := fun y : Y3 => iprop(cellInv ER (sched (PX (XX m)) (OX (XX m))) (K (cell c (some y))) (cell c (some y)) ∗ openTok ER (cell c (some y))))
    (fun y _ => by
      show BIBase.Entails (PROP := sProp 𝕄) _ _
      unfold known
      iintro ⟨⟨#HI, -⟩, Ha⟩
      isplitr
      · iapply (inv_at K y); iexact HI
      iexact Ha)) $$ [Ho]
  · isplitr; · iexact HK
    iexact Ho
  imod (Rounds.cells_open ER (sched (PX (XX m)) (OX (XX m))) (Finset.univ : Finset Y3) (fun y => cell c (some y)) (fun y => K (cell c (some y)))
    (fun y _ => Set.mem_univ _)) $$ [Ho' Hs] with Hop
  · isplitl [Ho']; · iexact Ho'
    unfold Pipeline.ownSems0; iexact Hs
  imodintro
  ihave Hop' := (Entails.of_eq (bigSep_sep' (s := (Finset.univ : Finset Y3)) (Φ := fun y => (atPos ER (cell c (some y)) 0 ∅ 0 : sProp 𝕄)) (Ψ := fun y => (reached ER (cell c (some y)) 0 : sProp 𝕄)))) $$ Hop
  icases Hop' with ⟨Hat, #Hr⟩
  isplitr [Hat Ht Hc Hb]
  · iexists K
    unfold Rec Lev known
    icases HK with ⟨#HI, #HB⟩
    isplitr; · iexact HI
    isplitr; · iexact Hl
    isplitr
    · rw [bigSep_univ_at _ (none : Cell), show (Finset.univ.erase (none : Cell)) = Finset.univ.map Function.Embedding.some from by decide +kernel, bigSep_map]
      isplitr
      · iapply bar_at; iexact HB
      iexact Hr
    iexact HB
  isplitl [Hat]; · iexact Hat
  isplitl [Ht]; · iexact Ht
  isplitl [Hc]; · iexact Hc
  iexact Hb

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- All that is owed at any time is at a barrier or at the arrival of a copy. -/
theorem owed_above : ∀ g u, 0 < O₀ c g u → ∃ p y, g = cell p y ∧ 0 < lvOf (some y) := by
  intro g u h
  rcases Nat.add_pos_iff_pos_or_pos.mp (show 0 < oS (gBar c) 1 0 g u + owe1 c g u from h) with h | h
  · obtain ⟨o, rfl⟩ := oS_pos _ _ _ _ _ h
    exact ⟨_, _, rfl, (Nat.lt_succ_self 0 : (0 : ℕ) < 1)⟩
  · obtain ⟨p, y, e, hy⟩ := above1 c g u h
    exact ⟨p, y, e, lt_trans Nat.zero_lt_one hy⟩

theorem cutD (t : Fin (cfg0.N + 1)) (g : GSem nD τ sig) (i : Unit) (h : 0 < (dat m c).owed t g i) : i ∈ L g ∧ (0 : ℕ) < lv g i := by
  have e : (dat m c).owed t = if t.val = 0 then O₀ c else 0 := rfl
  rw [e] at h
  split at h
  · obtain ⟨p, y, rfl, hy⟩ := owed_above c g i h
    exact ⟨by rw [L_cell]; exact Finset.mem_singleton_self _, by rw [lv_cell]; exact hy⟩
  · exact absurd h (Nat.lt_irrefl 0)

/-- No staging semaphore is one of the kernel's own. -/
theorem stage_level (w : Fin 6) (s : Fin ((win0 w).nbuf)) : cellOfSem (.dma ((win0 w).sem s)) = none := by
  unfold cellOfSem
  rw [dif_neg]
  rintro ⟨x, hx⟩
  revert hx
  revert x
  revert s
  revert w
  decide +kernel

theorem hin : iprop(Pipeline.scopedRest spec0 c ∗ (∃ r, prngReg c r) ∗ StableHlo.held (c.tc : Thread nD τ) (∅ : Finset (DevRef τ sig)) (V1 m c) ∗ Xk m c)
    ⊢ (dat m c).Φ 0 := by
  rw [phi0]
  iintro ⟨Hs, Hp, -, HK⟩
  isplitl [Hs]; · iexact Hs
  isplitl [Hp]; · iexact Hp
  iexact HK

/-- What the kernel leaves: its result on every device. -/
def outs : Outs (F := F) := fun _ r c' => if h : r = main_v18 then h ▸ (res m : Buf (Elt F) ((c' : Thread nD τ).loc main_v18)) else V1 m c' r

theorem hout : (dat m c).Φ (Fin.last cfg0.N)
    ⊢ iprop(Pipeline.scopedRest spec0 c ∗ (∃ r, prngReg c r) ∗ StableHlo.held (c.tc : Thread nD τ) (∅ : Finset (DevRef τ sig)) (V2 m (outs m) c) ∗ Pipeline.ownSems0 osem c ∗ Yk c) := by
  rw [phi1]
  iintro ⟨Hs, Hp, Ho, HY⟩
  isplitl [Hs]; · iexact Hs
  isplitl [Hp]; · iexact Hp
  isplitr; · unfold StableHlo.held; rw [bigSep_empty]; iempintro
  isplitl [Ho]; · iexact Ho
  iexact HY

theorem v2_out : V2 m (outs m) c (Proc.devRef .tc main_v18) = res m := Function.update_self _ _ _

abbrev Sr : Finset (DevRef τ sig) := Pipeline.ucRefs τ sig \ Pipeline.arrRefs (τ := τ) spec0

theorem arr_sub : Pipeline.arrRefs (τ := τ) spec0 ⊆ Pipeline.ucRefs τ sig := Pipeline.arrRefs_sub_ucRefs spec0 (by decide)

theorem v18_arr : Proc.devRef .tc main_v18 ∈ Pipeline.arrRefs (τ := τ) spec0 :=
  Finset.mem_map_of_mem _ (Finset.mem_image.mpr ⟨5, Finset.mem_univ _, rfl⟩)

set_option backward.isDefEq.respectTransparency.types false in
theorem hW (w : Fin 6) : (dat m c).arrAt w 0 = V1 m c (Proc.devRef .tc (Pipeline.arrRef spec0 w)) := by
  match w with
  | ⟨0, _⟩ => rfl
  | ⟨1, _⟩ => rfl
  | ⟨2, _⟩ => rfl
  | ⟨3, _⟩ => rfl
  | ⟨4, _⟩ => rfl
  | ⟨5, _⟩ => rfl

set_option backward.isDefEq.respectTransparency.types false in
theorem hW' (w : Fin 6) : (dat m c).arrAt w cfg0.N = V2 m (outs m) c (Proc.devRef .tc (Pipeline.arrRef spec0 w)) := by
  match w with
  | ⟨0, _⟩ => exact ((dat m c).arrAt_in 0 rfl _).trans (V2_of m (outs m) c main_v5 (by decide)).symm
  | ⟨1, _⟩ => exact ((dat m c).arrAt_in 1 rfl _).trans (V2_of m (outs m) c main_arg1 (by decide)).symm
  | ⟨2, _⟩ => exact ((dat m c).arrAt_in 2 rfl _).trans (V2_of m (outs m) c main_v16 (by decide)).symm
  | ⟨3, _⟩ => exact ((dat m c).arrAt_in 3 rfl _).trans (V2_of m (outs m) c main_v17 (by decide)).symm
  | ⟨4, _⟩ => exact ((dat m c).arrAt_in 4 rfl _).trans (V2_of m (outs m) c main_arg4 (by decide)).symm
  | ⟨5, _⟩ => exact (arr_last m c).trans (v2_out m c).symm

theorem shares (w : Fin 6) : (dat m c).share w = fullShare := by
  unfold Dat.share; split <;> rfl

set_option backward.isDefEq.respectTransparency.types false in
def reg0 : Pipeline.RegionSeg (pcfgs (F := F)) adm (pdats m) () defs₀ 𝒱₀ L lv 0 :=
  Pipeline.RegionSeg.ofTalk (pcfgs (F := F)) adm (pdats m) () defs₀ 𝒱₀ L lv 0 osem osem_facts
    ∅ Sr (Finset.empty_subset _) kitP rfl (fun c => (body_ob m c).loose)
    (fun _ => 0) O₀ (fun c => (zero_add (O₀ c)).symm) (owed_end m) (fun _ => rfl) (shares m)
    (V1 m) (V2 m (outs m)) (fun c b hb => Function.update_of_ne (fun e => (Finset.mem_sdiff.mp (Finset.mem_sdiff.mp hb).1).2 (by rw [show b = _ from e]; exact v18_arr)) _ _)
    (Tk m) Yk (Xk m) Yk (hopen m) (hin m) (hout m)
    (fun c => by iintro H; imodintro; iexact H)
    (fun _ => 0)
    ⟨fun _ _ _ => Finset.mem_singleton_self _, fun c w s => by show lvOf (cellOfSem (.dma ((win0 w).sem s))) ≤ 0; rw [stage_level]; exact le_refl _, fun c t g i h => cutD m c t g i h⟩
    (fun _ => iprop(emp))
    (hW m) (hW' m)

/-- What a device has beside its buffers before the kernel, and after it. -/
def E (i : Fin 2) (c : Dev nD) : sProp 𝕄 :=
  if i = 0 then iprop((∃ r, prngReg c r) ∗ Tk m c ∗ ∃ W, owes (c : Thread nD τ) (O₀ c) W)
  else iprop(Yk c ∗ ∃ W, owes (c : Thread nD τ) (0 : CellTallies nD τ sig Unit) W)

theorem reg_pre : iprop(StableHlo.held (c : Thread nD τ) (Pipeline.ucRefs τ sig) (V1 m c) ∗ E m 0 c) ⊢ (reg0 m).pre c := by
  show _ ⊢ iprop(StableHlo.held (c.tc : Thread nD τ) (Pipeline.arrRefs (τ := τ) spec0) (V1 m c) ∗ (∃ r, prngReg c r)
    ∗ (StableHlo.held (c.tc : Thread nD τ) Sr (V1 m c) ∗ emp) ∗ Tk m c ∗ ∃ Wd, owes (c : Thread nD τ) (0 + O₀ c) Wd)
  rw [StableHlo.held_sub_split (c.tc : Thread nD τ) arr_sub (V1 m c), zero_add]
  unfold E; rw [if_pos rfl]
  iintro ⟨⟨Ha, Hr⟩, Hp, HT, HO⟩
  isplitl [Ha]; · iexact Ha
  isplitl [Hp]; · iexact Hp
  isplitl [Hr]
  · isplitl [Hr]; · iexact Hr
    iempintro
  isplitl [HT]; · iexact HT
  iexact HO

theorem reg_post : (reg0 m).post c ⊢ iprop(StableHlo.held (c : Thread nD τ) (Pipeline.ucRefs τ sig) (V2 m (outs m) c) ∗ E m 1 c) := by
  show iprop(StableHlo.held (c.tc : Thread nD τ) (Pipeline.arrRefs (τ := τ) spec0) (V2 m (outs m) c) ∗ (∃ r, prngReg c r)
    ∗ (StableHlo.held (c.tc : Thread nD τ) Sr (V2 m (outs m) c) ∗ emp) ∗ Yk c ∗ ∃ Wd, owes (c : Thread nD τ) (0 : CellTallies nD τ sig Unit) Wd) ⊢ _
  rw [StableHlo.held_sub_split (c.tc : Thread nD τ) arr_sub (V2 m (outs m) c)]
  unfold E; rw [if_neg (by decide)]
  iintro ⟨Ha, -, ⟨Hr, -⟩, Hb, HO⟩
  isplitl [Ha Hr]
  · isplitl [Ha] <;> iassumption
  isplitl [Hb]; · iexact Hb
  iexact HO

end Cert.KernelIdeal.Talk

end
-- ==== Proof.KI.Deal.lean ====
/-
  The kernel as one segment of the program: what a device holds going in, the run of the body, and what it holds coming out.
-/
module

public import proofs.«01_k».proof.Proof.KI.Region
public import proofs.«01_k».proof.Proof.Gen.KernelIdeal.Regions
public import Idealize.ShloMosaic.Lib.Pipeline.RegionTalk
public import Idealize.ShloMosaic.Lib.Rounds.Family

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

open Cert.KernelIdeal.Gen

variable {F : FTy → Type} [FloatOps F] [Named F]

open Idealize.ShloMosaic.Pipeline (Dat BodyObligation)

local notation "𝕄" => MT nD τ sig Unit (Elt F) ℕ UU ℕ

variable (m : (ℓ : Loc nD τ sig) → Buf (Elt F) ℓ) (c : Dev nD)

/-! ## What every device is given at the launch -/

def barEmb : Dev nD ↪ GSem nD τ sig := ⟨fun c => cell c none, fun _ _ h => congrArg Prod.fst (cell_inj (a₁ := (_, none)) (a₂ := (_, none)) h)⟩
def ownEmb : Dev nD × Y3 ↪ GSem nD τ sig :=
  ⟨fun p => cell p.1 (some p.2), fun p q h => by
    have e := cell_inj (a₁ := (p.1, some p.2)) (a₂ := (q.1, some q.2)) h
    exact Prod.ext (congrArg (fun r : Dev nD × Cell => r.1) e) (Option.some.inj (congrArg (fun r : Dev nD × Cell => r.2) e))⟩
abbrev barCells : Finset (GSem nD τ sig) := Finset.univ.map barEmb
abbrev ownCells : Finset (GSem nD τ sig) := Finset.univ.map ownEmb

def tokAt : Dev nD × (Fin 15 ⊕ Y3) → GSem nD τ sig × ℕ × Fin 15
  | (c, .inl o) => (cell c none, 0, o)
  | (c, .inr y) => (cell c (some y), 0, 0)
theorem tokAt_inj : Function.Injective tokAt := by
  rintro ⟨c, o | y⟩ ⟨c', o' | y'⟩ h
  · have e := cell_inj (a₁ := (c, none)) (a₂ := (c', none)) (congrArg Prod.fst h)
    exact Prod.ext (congrArg (fun r : Dev nD × Cell => r.1) e) (congrArg Sum.inl (congrArg (fun t => t.2.2) h))
  · have e := cell_inj (a₁ := (c, none)) (a₂ := (c', some y')) (congrArg Prod.fst h)
    exact absurd (congrArg Prod.snd e) (by intro h; cases h)
  · have e := cell_inj (a₁ := (c, some y)) (a₂ := (c', none)) (congrArg Prod.fst h)
    exact absurd (congrArg Prod.snd e) (by intro h; cases h)
  · have e := cell_inj (a₁ := (c, some y)) (a₂ := (c', some y')) (congrArg Prod.fst h)
    exact Prod.ext (congrArg (fun r : Dev nD × Cell => r.1) e) (congrArg Sum.inr (Option.some.inj (congrArg (fun r : Dev nD × Cell => r.2) e)))
/-- Every payment due, once. -/
def toks : Finset (GSem nD τ sig × ℕ × Fin 15) := Finset.univ.map ⟨tokAt, tokAt_inj⟩

theorem cells_disjoint : Disjoint (barCells : Finset (GSem nD τ sig)) ownCells := by
  rw [Finset.disjoint_left]
  rintro g h₁ h₂
  obtain ⟨c, -, rfl⟩ := Finset.mem_map.mp h₁
  obtain ⟨p, -, h⟩ := Finset.mem_map.mp h₂
  have e := cell_inj (a₁ := (p.1, some p.2)) (a₂ := (c, none)) h
  exact absurd (congrArg Prod.snd e) (by intro h; cases h)

theorem cell_mem (x : Dev nD × Cell) : cell x.1 x.2 ∈ (barCells ∪ ownCells : Finset (GSem nD τ sig)) := by
  rcases x with ⟨c, _ | y⟩
  · exact Finset.mem_union_left _ (Finset.mem_map_of_mem barEmb (Finset.mem_univ c))
  · exact Finset.mem_union_right _ (Finset.mem_map_of_mem ownEmb (Finset.mem_univ (c, y)))

/-! ### Each payment's token goes to the device that pays -/

def nxEquiv (o : Fin 15) : Dev nD ≃ Dev nD := ⟨fun c => nx c o, fun c => pv c o, fun c => pv_nx c o, fun c => nx_pv c o⟩

/-- The tokens of the payments into one batch of a device's own semaphores. -/
def DT (q : Fin 4) (h : Fin 2) (c : Dev nD) : sProp 𝕄 := bigSep Finset.univ fun o : Fin 15 => dutyTok ER (cell c (some (q, h, o))) 0 0
/-- The same of the payments the device makes to others. -/
def DG (q : Fin 4) (h : Fin 2) (c : Dev nD) : sProp 𝕄 := bigSep Finset.univ fun o : Fin 15 => dutyTok ER (gDma c q h o) 0 0

theorem around (q : Fin 4) (h : Fin 2) : (bigSep Finset.univ fun c : Dev nD => DT (F := F) q h c) = bigSep Finset.univ fun c : Dev nD => DG (F := F) q h c := by
  unfold DT DG
  rw [bigSep_univ_comm (fun (c : Dev nD) (o : Fin 15) => (dutyTok ER (cell c (some (q, h, o))) 0 0 : sProp 𝕄)),
    bigSep_univ_comm (fun (c : Dev nD) (o : Fin 15) => (dutyTok ER (gDma c q h o) 0 0 : sProp 𝕄))]
  exact bigSep_congr fun o _ => bigSep_univ_equiv (nxEquiv o) (fun c : Dev nD => (dutyTok ER (cell c (some (q, h, o))) 0 0 : sProp 𝕄))

theorem around_bar : (bigSep Finset.univ fun c : Dev nD => bigSep Finset.univ fun o : Fin 15 => (dutyTok ER (cell c none) 0 o : sProp 𝕄))
    = bigSep Finset.univ fun c : Dev nD => bigSep Finset.univ fun o : Fin 15 => (dutyTok ER (gBar c o) 0 (rv o) : sProp 𝕄) := by
  rw [bigSep_univ_comm (fun (c : Dev nD) (o : Fin 15) => (dutyTok ER (cell c none) 0 o : sProp 𝕄)),
    bigSep_univ_comm (fun (c : Dev nD) (o : Fin 15) => (dutyTok ER (gBar c o) 0 (rv o) : sProp 𝕄)),
    bigSep_univ_equiv rvEquiv (fun o : Fin 15 => (bigSep Finset.univ fun c : Dev nD => dutyTok ER (cell c none) 0 o : sProp 𝕄))]
  exact bigSep_congr fun o _ => bigSep_univ_equiv (nxEquiv o) (fun c : Dev nD => (dutyTok ER (cell c none) 0 (rv o) : sProp 𝕄))

theorem tk_eq (q : Fin 4) (h : Fin 2) : TK (F := F) c q h = iprop(DT (F := F) q h c ∗ DG (F := F) (q + 1) h c) := by
  unfold TK DT DG; rw [bigSep_sep']

theorem dt_all (c : Dev nD) : (bigSep Finset.univ fun y : Y3 => (dutyTok ER (cell c (some y)) 0 0 : sProp 𝕄))
    = iprop((DT 0 0 c ∗ DT 0 1 c) ∗ (DT 1 0 c ∗ DT 1 1 c) ∗ (DT 2 0 c ∗ DT 2 1 c) ∗ DT 3 0 c ∗ DT 3 1 c) := by
  rw [bigSep_univ_prod, bigSep_univ_eq_bigSepL [(0 : Fin 4), 1, 2, 3] (by decide) (by decide)]
  simp only [bigSep_univ_prod, BI.bigSep_fin_two]
  rfl

theorem toks_split : bigSep toks (fun x => (dutyTok ER x.1 x.2.1 x.2.2 : sProp 𝕄)) ⊢ bigSep Finset.univ fun c : Dev nD => tokens (F := F) c := by
  unfold toks; rw [bigSep_map, bigSep_univ_prod]
  refine BIBase.Entails.trans (Q := bigSep Finset.univ fun c : Dev nD => iprop((bigSep Finset.univ fun o : Fin 15 => (dutyTok ER (cell c none) 0 o : sProp 𝕄))
        ∗ bigSep Finset.univ fun y : Y3 => (dutyTok ER (cell c (some y)) 0 0 : sProp 𝕄)))
    (Entails.of_eq (bigSep_congr fun c _ => bigSep_univ_sum _)) ?_
  simp only [dt_all, bigSep_sep', around_bar, around 1 0, around 1 1, around 3 0, around 3 1]
  unfold tokens
  simp only [tk_eq, bigSep_sep', show (0 : Fin 4) + 1 = 1 from rfl, show (2 : Fin 4) + 1 = 3 from rfl]
  iintro ⟨tb, ⟨t00, t01⟩, ⟨t10, t11⟩, ⟨t20, t21⟩, t30, t31⟩
  isplitl [tb]; · iexact tb
  isplitl [t00 t10]; · isplitl [t00] <;> iassumption
  isplitl [t01 t11]; · isplitl [t01] <;> iassumption
  isplitl [t20 t30]; · isplitl [t20] <;> iassumption
  isplitl [t21] <;> iassumption

/-! ### What others owe to a device is what it may wait for -/

/-- All devices' payments to the places after them, at one semaphore of one device. -/
theorem owed_sum (f : Fin 15 → Cell) (n : ℕ) (c : Dev nD) (x : Cell) :
    ∑ d : Dev nD, oS (fun o => cell (nx d o) (f o)) n 0 (cell c x) () = ∑ o : Fin 15, if f o = x then n else 0 := by
  unfold oS
  rw [ge_zero]
  simp only [Finset.sum_apply, Finsupp.finsetSum_apply]
  rw [Finset.sum_comm]
  refine Finset.sum_congr rfl fun o _ => ?_
  rw [Finset.sum_eq_single (pv c o)]
  · rw [nx_pv, tallyAt_apply]
    by_cases h : f o = x
    · rw [if_pos h, if_pos ⟨by rw [h], rfl⟩]
    · rw [if_neg h, if_neg]
      rintro ⟨e, -⟩
      exact h (congrArg Prod.snd (cell_inj (a₁ := (c, x)) (a₂ := (c, f o)) e)).symm
  · intro d _ hd
    rw [tallyAt_apply, if_neg]
    rintro ⟨e, -⟩
    have e' : c = nx d o := congrArg Prod.fst (cell_inj (a₁ := (c, x)) (a₂ := (nx d o, f o)) e)
    exact hd (by rw [e', pv_nx])
  · exact fun h => absurd (Finset.mem_univ _) h

theorem owed_all (c : Dev nD) (x : Cell) : ∑ d : Dev nD, O₀ d (cell c x) ()
    = (∑ _o : Fin 15, if none = x then 1 else 0) + ((∑ o : Fin 15, if some (1, 0, o) = x then N else 0) + ((∑ o : Fin 15, if some (1, 1, o) = x then N else 0)
      + ((∑ o : Fin 15, if some (3, 0, o) = x then N else 0) + ((∑ o : Fin 15, if some (3, 1, o) = x then N else 0) + 0)))) := by
  rw [← owed_sum (fun _ => none) 1 c x, ← owed_sum (fun o => some (1, 0, o)) N c x, ← owed_sum (fun o => some (1, 1, o)) N c x,
    ← owed_sum (fun o => some (3, 0, o)) N c x, ← owed_sum (fun o => some (3, 1, o)) N c x, add_zero]
  simp only [← Finset.sum_add_distrib]
  refine Finset.sum_congr rfl fun d _ => ?_
  rw [show O₀ d = oS (gBar d) 1 0 + (oS (gDma d 1 0) N 0 + (oS (gDma d 1 1) N 0 + (oS (gDma d 3 0) N 0 + (oS (gDma d 3 1) N 0 + 0)))) from rfl]
  simp only [Pi.add_apply, Finsupp.add_apply, Pi.zero_apply, Finsupp.zero_apply, add_zero]

theorem owed_bar (c : Dev nD) : ∑ d : Dev nD, O₀ d (cell c none) () = 15 := by
  rw [owed_all]; simp
theorem owed_dma (c : Dev nD) (q : Fin 4) (h : Fin 2) (o : Fin 15) (hq : q = 1 ∨ q = 3) : ∑ d : Dev nD, O₀ d (cell c (some (q, h, o))) () = N := by
  rw [owed_all]
  rcases hq with rfl | rfl <;> (match h with | 0 => ?_ | 1 => ?_) <;> simp [Finset.sum_ite_eq']

theorem launch_of (x : Cell) (n : ℕ) (hn : ∑ d : Dev nD, O₀ d (cell c x) () = n) :
    tallyOn (cell c x) (launchCredit (Pipeline.owing O₀) 0 (cell c x)) = (tallyAt (cell c x) () n : CellTallies nD τ sig Unit) := by
  unfold tallyAt; refine congrArg _ (Finsupp.ext fun u => ?_); cases u
  rw [Pipeline.launchCredit_owing, Finsupp.single_eq_same, hn]

theorem fours (Φ : Fin 4 → sProp 𝕄) : bigSep Finset.univ Φ = iprop(Φ 0 ∗ Φ 1 ∗ Φ 2 ∗ Φ 3) := by
  rw [bigSep_univ_eq_bigSepL [(0 : Fin 4), 1, 2, 3] (by decide) (by decide)]; rfl

theorem creds : (Pipeline.launchCred O₀ c : sProp 𝕄) ⊢ credits (F := F) c := by
  unfold Pipeline.launchCred
  refine BIBase.Entails.trans (bigSep_subset (t := Finset.univ.image semOf) (Finset.subset_univ _)) ?_
  rw [bigSep_image_of_injOn (fun a _ b _ h => semOf_inj h)]
  rw [bigSep_univ_at _ (none : Cell), show (Finset.univ.erase (none : Cell)) = Finset.univ.map Function.Embedding.some from by decide +kernel, bigSep_map,
    bigSep_univ_prod, fours]
  simp only [bigSep_univ_prod, two]
  have hd (q : Fin 4) (h : Fin 2) (hq : q = 1 ∨ q = 3) : (bigSep Finset.univ fun o : Fin 15 =>
      (cred (tallyOn ((c.tc : Thread nD τ), semOf (Function.Embedding.some (q, h, o))) (launchCredit (Pipeline.owing O₀) 0 ((c.tc : Thread nD τ), semOf (Function.Embedding.some (q, h, o))))) : sProp 𝕄))
      = WC c q h := bigSep_congr fun o _ => congrArg cred (launch_of c (some (q, h, o)) N (owed_dma c q h o hq))
  unfold credits
  rw [← launch_of c none 15 (owed_bar c), ← hd 1 0 (.inl rfl), ← hd 1 1 (.inl rfl), ← hd 3 0 (.inr rfl), ← hd 3 1 (.inr rfl)]
  iintro ⟨H, -, ⟨H10, H11⟩, -, H30, H31⟩
  isplitl [H]; · iexact H
  isplitl [H10]; · iexact H10
  isplitl [H11]; · iexact H11
  isplitl [H30]; · iexact H30
  iexact H31

end Cert.KernelIdeal.Talk

end
-- ==== Proof.KI.Run.lean ====
/-
  The run of the whole program, from the launch to the end.
-/
module

public import proofs.«01_k».proof.Proof.KI.Seg
public import proofs.«01_k».proof.Proof.KI.Deal
public import proofs.«01_k».proof.Proof.Gen.KernelIdeal.Regions
public import Idealize.ShloMosaic.Lib.Pipeline.RegionTalk
public import Idealize.ShloMosaic.Lib.Rounds.Family
public import Idealize.ShloMosaic.Lib.Pipeline.Frame

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

open Cert.KernelIdeal.Gen

variable {F : FTy → Type} [FloatOps F] [Named F]

open Idealize.ShloMosaic.Pipeline (Dat BodyObligation)

local notation "𝕄" => MT nD τ sig Unit (Elt F) ℕ UU ℕ

variable (m : (ℓ : Loc nD τ sig) → Buf (Elt F) ℓ) (ρ : Dev nD → PrngReg)

def u₀ : UU := (initOf (Pipeline.cells cfgs cellOf_inj) (Pipeline.launchToks cfgs cellOf_inj), launchOf barCells ownCells toks)

/-- A resource given whole to the first device. -/
def onFirst (X : sProp 𝕄) (c : Dev nD) : sProp 𝕄 := if c = 0 then X else iprop(emp)
theorem onFirst_all (X : sProp 𝕄) : bigSep Finset.univ (onFirst (F := F) X) = X := by
  rw [bigSep_univ_at _ (0 : Dev nD), bigSep_congr (s := Finset.univ.erase (0 : Dev nD)) (Ψ := fun _ => (BI.emp : sProp 𝕄))
      fun c hc => by unfold onFirst; rw [if_neg (Finset.ne_of_mem_erase hc)]; rfl, BI.bigSep_emp_const]
  unfold onFirst; rw [if_pos rfl]
  exact BI.equiv_iff.mp sep_emp
def G : Dev nD → sProp 𝕄 := onFirst (BI.own (ER (launchOf barCells ownCells toks)))

theorem unscoped_eq : ∀ sm : SemLoc sig, sm.isScoped .tc = false → sm = semOf none := by decide +kernel

theorem sems_eq (c : Dev nD) : (unscopedSems0 c : sProp 𝕄) = semVal (cell c none) 0 := by
  unfold unscopedSems0
  rw [show (Finset.univ.filter fun sm : SemLoc sig => ¬ sm.isScoped .tc = true) = {semOf none} from by decide +kernel, BI.bigSep_singleton]
  rfl

/-- What a device has of its own besides the records. -/
def mine (c : Dev nD) : sProp 𝕄 :=
  iprop(atPos ER (cell c none) 0 ∅ 0 ∗ (bigSep Finset.univ fun y : Y3 => openTok ER (cell c (some y))) ∗ tokens (F := F) c ∗ credits (F := F) c
    ∗ owes (c : Thread nD τ) (O₀ c) ∅ ∗ prngReg c (ρ c))

theorem E_intro (K : GSem nD τ sig → ℕ) (c : Dev nD) : iprop(known m K ∗ mine ρ c) ⊢ E m 0 c := by
  unfold mine E Tk; rw [if_pos rfl]
  iintro ⟨#HK, Hb, Ho, Ht, Hc, HO, Hp⟩
  isplitl [Hp]; · iexists _; iexact Hp
  isplitr [HO]
  · isplitr; · iexists K; iexact HK
    isplitl [Ho]; · iexact Ho
    isplitl [Ht]; · iexact Ht
    isplitl [Hc]; · iexact Hc
    iexact Hb
  iexists _; iexact HO

theorem known_intro (K : GSem nD τ sig → ℕ) :
    iprop((bigSep (barCells ∪ ownCells) fun g => cellInv ER (sched (PX (XX m)) (OX (XX m))) (K g) g) ∗ bigSep barCells fun g => reached ER g 0) ⊢ known m K := by
  have h1 : iprop(bigSep (barCells ∪ ownCells) fun g => cellInv ER (sched (PX (XX m)) (OX (XX m))) (K g) g)
      ⊢ (bigSep Finset.univ fun x : Dev nD × Cell => cellInv ER (sched (PX (XX m)) (OX (XX m))) (K (cell x.1 x.2)) (cell x.1 x.2) : sProp 𝕄) := by
    refine BIBase.Entails.trans (bigSep_of_persistent (Finset.univ : Finset (Dev nD × Cell)) _) (bigSep_mono fun x _ => ?_)
    exact bigSep_elim (i := cell x.1 x.2) (cell_mem x) (Φ := fun g => (cellInv ER (sched (PX (XX m)) (OX (XX m))) (K g) g : sProp 𝕄))
  have h2 : iprop(bigSep barCells fun g => reached ER g 0) ⊢ (bigSep Finset.univ fun p : Dev nD => reached ER (cell p none) 0 : sProp 𝕄) :=
    Entails.of_eq (bigSep_map (s := Finset.univ) barEmb (Φ := fun g : GSem nD τ sig => (reached ER g 0 : sProp 𝕄)))
  unfold known
  iintro ⟨Hi, Hr⟩
  isplitl [Hi]
  · iapply h1; iexact Hi
  iapply h2; iexact Hr

theorem start : iprop((bigSep Finset.univ fun c : Dev nD => iprop(unscopedSems0 c ∗ owes (c : Thread nD τ) (O₀ c) ∅ ∗ Pipeline.launchCred O₀ c ∗ prngReg c (ρ c) ∗ G (F := F) c)) ∗ levAts L lv)
      ⊢ (|={Set.univ}=> bigSep Finset.univ (E m 0) : sProp 𝕄) := by
  have hv : bigSep Finset.univ (fun c : Dev nD => (semVal (cell c none) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (cell c none) 0 ∅ 0 : sProp 𝕄)) :=
    Entails.of_eq (bigSep_map (s := Finset.univ) barEmb (Φ := fun g : GSem nD τ sig => (atPos ER g 0 ∅ 0 : sProp 𝕄)))
  have hop : bigSep ownCells (fun g => (openTok ER g : sProp 𝕄))
      ⊢ bigSep Finset.univ (fun c : Dev nD => (bigSep Finset.univ fun y : Y3 => openTok ER (cell c (some y)) : sProp 𝕄)) :=
    Entails.of_eq (by rw [bigSep_map, bigSep_univ_prod]; rfl)
  have hcr : (bigSep Finset.univ fun c : Dev nD => Pipeline.launchCred O₀ c) ⊢ (bigSep Finset.univ fun c : Dev nD => credits (F := F) c : sProp 𝕄) :=
    bigSep_mono fun c _ => creds c
  simp only [sems_eq]
  simp only [bigSep_sep']
  iintro ⟨⟨Hv, HO, Hcr, Hp, HG⟩, -⟩
  ihave Hu := (show bigSep Finset.univ (G (F := F)) ⊢ BI.own (ER (launchOf barCells ownCells toks)) from
    Entails.of_eq (onFirst_all (F := F) (BI.own (ER (launchOf barCells ownCells toks))))) $$ HG
  ihave Hv := hv $$ Hv
  imod (Rounds.fund_launch ER (sched (PX (XX m)) (OX (XX m))) cells_disjoint (fun g _ h => h) toks) $$ [Hv Hu] with ⟨%K, -, #Hinv, #Hr, Hat, Hopen, Htok⟩
  · isplitl [Hv] <;> iassumption
  ihave Hat := hat $$ Hat
  ihave Hop := hop $$ Hopen
  ihave Hcr := hcr $$ Hcr
  ihave Htok := (toks_split (F := F)) $$ Htok
  imodintro
  iapply (bigSep_with_persistent (R := known m K) (S := Finset.univ) (Φ := fun c : Dev nD => mine (F := F) ρ c) (fun c _ => E_intro m ρ K c))
  isplitr
  · iapply (known_intro m K)
    isplitr; · iexact Hinv
    iexact Hr
  unfold mine
  simp only [bigSep_sep']
  isplitl [Hat]; · iexact Hat
  isplitl [Hop]; · iexact Hop
  isplitl [Htok]; · iexact Htok
  isplitl [Hcr]; · iexact Hcr
  isplitl [HO]; · iexact HO
  iexact Hp

theorem E_last (c : Dev nD) : E m 1 c ⊢ iprop(Yk c ∗ ∃ W, owes (c : Thread nD τ) (0 : CellTallies nD τ sig Unit) W) := by
  unfold E; rw [if_neg (by decide)]

theorem L_of_ne : ∀ g : GSem nD τ sig, g.1.2 ≠ .tc → L g = ∅ := fun g h => if_neg h

set_option backward.isDefEq.respectTransparency.types false in
/-- From any memory with every counter at zero, every fair run of the program ends; at the end every device's arguments are as they were,
    its result is the kernel's, reshaped, and every counter is at zero. -/
theorem run [∀ e, Nonempty (Elt F e)] : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.mem ((c.tc : Thread nD τ).loc main_v19) = V3 m (outs m) c (Proc.devRef .tc main_v19)) ∧ r.2.sem = fun _ => 0) := by
  refine Pipeline.θ_run_regions_kit_dev_sems (pcfgs (F := F)) adm (pdats m) () cellOf_inj EP defs₀ 𝒱₀ L lv m ρ main
    (segs m (outs m) 𝒱₀ L lv (E m) () (pdats m) (reg0 m))
    (fun c Q => by
      rewrite [main_chain c, Pipeline.Seg.run_eq_chain,
        show (segs m (outs m) 𝒱₀ L lv (E m) () (pdats m) (reg0 m) c).map Pipeline.Seg.prog = [
          StableHlo.seq (hostOps0 c),
          Prog.lift (.customCall (Pipeline.entry 0) ()),
          StableHlo.seq hostOps1 ] from rfl]
      dsimp (config := { failIfUnchanged := false }) only
      exact .rfl)
    (fun c => by simp only [segs, Pipeline.Seg.pipes_host, Pipeline.Seg.pipes_region, Pipeline.Seg.pipes_nil]; decide) O₀ L_of_ne (G (F := F)) u₀
    (by
      unfold u₀ G
      iintro Hu
      ihave H := (ownU_pair _ _) $$ Hu
      icases H with ⟨HP, HX⟩
      imodintro
      isplitl [HP]; · iexact HP
      rw [onFirst_all]; iexact HX)
    (T₀ := fun c => iprop(StableHlo.held (c : Thread nD τ) (Pipeline.ucRefs τ sig) (V0 m c) ∗ E m 0 c))
    (Tₙ := fun c => iprop(StableHlo.held (c : Thread nD τ) (Pipeline.ucRefs τ sig) (V3 m (outs m) c) ∗ Yk c))
    (hch := fun c => ⟨.rfl, reg_pre m c, reg_post m c, (sep_mono .rfl (E_last m c)).trans (sep_assoc (PROP := sProp 𝕄)).2⟩)
    (hinit := ?_)
    (QY := fun c s => ((s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4))
      ∧ s.mem ((c.tc : Thread nD τ).loc main_v19) = V3 m (outs m) c (Proc.devRef .tc main_v19)) ∧ s.sem (cell c none) = 0)
    (hfin := fun c s' => ?_)
    (hQ := fun s h hs => ⟨fun c => (h c).1, sem_eq_zero hs fun c sm hsm => by
      obtain rfl := unscoped_eq sm hsm
      exact (h c).2⟩)
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G (F := F) c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G (F := F) c))
            : sProp 𝕄) := by
      rw [← bigSep_sep']
      exact bigSep_mono fun c _ => by rw [← Pipeline.unscopedBufs_held (Ix := Unit) (Name := ℕ) (U := UU) (Lvl := ℕ) c (V0 m c)]; exact BI.Entails.refl _
    iintro ⟨H, Hla⟩
    ihave H' := hsplit $$ H
    icases H' with ⟨Hh, Hr⟩
    imod (start m ρ) $$ [Hr Hla] with HE
    · isplitl [Hr]; · iexact Hr
      iexact Hla
    imodintro
    rw [bigSep_sep']
    isplitl [Hh]; · iexact Hh
    iexact HE
  · unfold StableHlo.held Yk
    iintro ⟨⟨Hh, Hb⟩, HSI⟩
    icombine HSI Hb gives %hb
    ihave Hr := (pointsTo_read_all (Pipeline.ucRefs τ sig) (fun b => ((c : Thread nD τ).1, b)) (V3 m (outs m) c) s') $$ [Hh HSI]
    · isplitl [Hh] <;> iassumption
    icases Hr with ⟨%h, HSI⟩
    imodintro
    isplitr
    · ipureintro
      exact ⟨⟨⟨(h (Proc.devRef .tc main_arg0) (Finset.mem_filter.mpr ⟨StableHlo.devRef_mem_tcRefs main_arg0, by decide⟩)).trans (V3_main_arg0 m (outs m) c),
        (h (Proc.devRef .tc main_arg1) (Finset.mem_filter.mpr ⟨StableHlo.devRef_mem_tcRefs main_arg1, by decide⟩)).trans (V3_main_arg1 m (outs m) c),
        (h (Proc.devRef .tc main_arg2) (Finset.mem_filter.mpr ⟨StableHlo.devRef_mem_tcRefs main_arg2, by decide⟩)).trans (V3_main_arg2 m (outs m) c),
        (h (Proc.devRef .tc main_arg3) (Finset.mem_filter.mpr ⟨StableHlo.devRef_mem_tcRefs main_arg3, by decide⟩)).trans (V3_main_arg3 m (outs m) c),
        (h (Proc.devRef .tc main_arg4) (Finset.mem_filter.mpr ⟨StableHlo.devRef_mem_tcRefs main_arg4, by decide⟩)).trans (V3_main_arg4 m (outs m) c)⟩,
        h (Proc.devRef .tc main_v19) (Finset.mem_filter.mpr ⟨StableHlo.devRef_mem_tcRefs main_v19, by decide⟩)⟩, by simpa using hb⟩
    · iexact HSI

end Cert.KernelIdeal.Talk

end
-- ==== Proof.Top.Frames.lean ====
/-
  The two frames of the kernel, from its one run. The printed kernel and the kernel over the extended reals are one text
  but for the mask value, which the second names: read over the printed floats with the name standing for the
  printed pattern, the second is the first.
-/
module

public import proofs.«01_k».proof.Defs
public import proofs.«01_k».proof.Proof.Gen.Kernel
public import proofs.«01_k».proof.Proof.Gen.KernelIdeal
public import proofs.«01_k».proof.Proof.KI.Run

@[expose] public section

noncomputable section

namespace Cert.Proof

open Idealize.ShloMosaic Idealize.SL.Sem

/-- The kernel over any floats runs to the end, and its arguments and its counters end as they began. -/
theorem frame_of_run {F : FTy → Type} [FloatOps F] [Named F] [∀ e, Nonempty (Elt F e)]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  (θ_run Cert.KernelIdeal.defs _ _).mono (fun _ h => ⟨fun c => (h.1 c).1, h.2⟩) (Cert.KernelIdeal.Talk.run (F := F) m ρ)

/-- Over the printed floats a named constant is read as the pattern it is printed with, which makes the two texts of the kernel one. -/
local instance printedNames : Named Bits where
  named _ _ {φ} b := Scalar.ofBits φ b

set_option maxRecDepth 100000 in
/-- The two texts give the one call the same body, -/
theorem body_one : (Cert.Kernel.defs₀ (F := Bits) : Defs Cert.KernelIdeal.nD Cert.KernelIdeal.τ Cert.KernelIdeal.sig (Elt Bits) Cert.KernelIdeal.Λ₀)
    = Cert.KernelIdeal.defs₀ (F := Bits) := by
  funext p
  cases p with
  | tc =>
    funext l a
    match l, a with
    | 0, (t, s) => rfl
    | ⟨_ + 1, h⟩, _ => exact absurd h (Nat.not_lt.2 (Nat.le_add_left _ _))
  | scScalar _ => rfl
  | scVector _ _ => rfl

set_option maxRecDepth 100000 in
/-- and so the same table of bodies. -/
theorem table_one : (Cert.Kernel.defs (F := Bits) : Defs Cert.KernelIdeal.nD Cert.KernelIdeal.τ Cert.KernelIdeal.sig (Elt Bits)
      (Pipeline.Sig Cert.KernelIdeal.Λ₀ (Fin 1) fun p => (Cert.KernelIdeal.pcfgs (F := Bits) p).Adm))
    = Cert.KernelIdeal.defs (F := Bits) := congrArg (Pipeline.defs Cert.KernelIdeal.pcfgs) body_one

set_option maxRecDepth 100000 in
/-- The printed kernel runs, its arguments and its counters end as they began. -/
theorem frame_p : Cert.quiescent_Kernel := fun m ρ _ =>
  (congrArg (fun D => θ_run D (onTc (τ := Cert.KernelIdeal.τ) (Cert.KernelIdeal.main (F := Bits))) ⟨m, fun _ => 0, ρ⟩ _) table_one).mpr
    (frame_of_run (F := Bits) m ρ)

/-- So does the kernel over the extended reals. -/
theorem frame_pi : Cert.quiescent_KernelIdeal := fun m ρ _ => frame_of_run (F := Ideal) m ρ

end Cert.Proof

end
-- ==== Proof.Val.Attn.lean ====
/-
  Windowed attention on the extended reals, and why the greatest score need not be subtracted first.
-/
module

public import Idealize.ShloMosaic.Lib.Pointwise

@[expose] public section

noncomputable section

namespace Cert.Val

open Idealize.ShloMosaic

/-- Whether row `i` looks at column `j`, as a bit. -/
def near (i j : Fin 256) : BitVec 1 := IntOp.cmpi .sle (IntOp.absi (IntOp.subi (BitVec.ofNat 32 i.val) (BitVec.ofNat 32 j.val))) 128#32

theorem near_self (i : Fin 256) : near i i = 1#1 := by
  have h : IntOp.subi (BitVec.ofNat 32 i.val) (BitVec.ofNat 32 i.val) = 0#32 := BitVec.sub_self _
  unfold near
  rw [h]
  decide

/-- The factor of the scores, an eighth. -/
def eighth : EReal := Ideal.ofBits .f32 0x3E000000#32

theorem ninf : Ideal.ofBits .f32 0xFF800000#32 = ⊥ := by simp [Ideal.ofBits, Ideal.ieee]

/-- The score of row `i` at column `j`: nothing outside the window. -/
def score (q k : Fin 256 → Fin 64 → EReal) (i j : Fin 256) : EReal := Scalar.select (near i j) ((∑ d, q i d * k j d) * eighth) ⊥

/-- The weights of a row of scores. -/
def weight (t : Fin 256 → EReal) (j : Fin 256) : EReal := Ideal.div (Ideal.exp (t j)) (∑ l, Ideal.exp (t l))

/-- The greatest of a row of scores. -/
def top (t : Fin 256 → EReal) : EReal := Finset.fold max ⊥ t Finset.univ

/-- What row `i` gets from the values `v`. -/
def attend (q k v : Fin 256 → Fin 64 → EReal) (i : Fin 256) (d : Fin 64) : EReal := ∑ j, weight (score q k i) j * v j d

theorem coe_sum {ι : Type} (s : Finset ι) (r : ι → ℝ) : ((∑ i ∈ s, r i : ℝ) : EReal) = ∑ i ∈ s, (r i : EReal) :=
  map_sum (⟨⟨(↑), EReal.coe_zero⟩, EReal.coe_add⟩ : ℝ →+ EReal) r s

/-- An extended real that is a real. -/
def IsReal (a : EReal) : Prop := ∃ r : ℝ, a = r

theorem IsReal.mul {a b : EReal} : IsReal a → IsReal b → IsReal (a * b)
  | ⟨r, hr⟩, ⟨s, hs⟩ => ⟨r * s, by rw [hr, hs, EReal.coe_mul]⟩
theorem IsReal.sum {ι : Type} (s : Finset ι) {f : ι → EReal} (h : ∀ i, IsReal (f i)) : IsReal (∑ i ∈ s, f i) := by
  choose r hr using h
  exact ⟨∑ i ∈ s, r i, by rw [coe_sum]; exact Finset.sum_congr rfl fun i _ => hr i⟩

theorem eighth_fin : IsReal eighth := by
  refine ⟨1 / 8, ?_⟩
  simp [eighth, Ideal.ofBits, Ideal.ieee, -EReal.coe_mul]
  norm_num

/-- Subtracting the greatest score of a row changes no weight. -/
theorem weight_sub_top (t : Fin 256 → EReal) (h : ∀ j, t j = ⊥ ∨ IsReal (t j)) (i : Fin 256) (hi : IsReal (t i)) (j : Fin 256) :
    weight (fun l => t l - top t) j = weight t j := by
  -- the greatest is a real
  obtain ⟨μ, hμ⟩ : IsReal (top t) := by
    have h1 : top t ≠ ⊥ := by
      intro e
      have := (Finset.le_fold_max (f := t) (b := ⊥) (s := Finset.univ) (t i)).mpr (.inr ⟨i, Finset.mem_univ _, le_rfl⟩)
      obtain ⟨r, hr⟩ := hi
      rw [show Finset.fold max ⊥ t Finset.univ = ⊥ from e, hr] at this
      exact EReal.coe_ne_bot r (le_bot_iff.mp this)
    have h2 : top t < ⊤ := (Finset.fold_max_lt (c := ⊤)).mpr ⟨bot_lt_top, fun l _ => by
      rcases h l with e | ⟨r, e⟩
      · rw [e]; exact bot_lt_top
      · rw [e]; exact EReal.coe_lt_top r⟩
    exact ⟨(top t).toReal, (EReal.coe_toReal h2.ne h1).symm⟩
  -- every exponential is a real, the row's own one positive
  have hE : ∀ l, ∃ e : ℝ, 0 ≤ e ∧ Ideal.exp (t l) = e ∧ Ideal.exp (t l - top t) = ((e * Real.exp (-μ) : ℝ) : EReal) := fun l => by
    rcases h l with e | ⟨r, e⟩
    · exact ⟨0, le_rfl, by rw [e, Ideal.exp_bot, EReal.coe_zero], by rw [e, hμ, zero_mul, EReal.bot_sub, Ideal.exp_bot, EReal.coe_zero]⟩
    · exact ⟨Real.exp r, (Real.exp_pos r).le, by rw [e, Ideal.exp_coe], by rw [e, hμ, ← EReal.coe_sub, Ideal.exp_coe, ← Real.exp_add, sub_eq_add_neg]⟩
  choose e he0 he1 he2 using hE
  have hpos : 0 < ∑ l, e l := by
    refine Finset.sum_pos' (fun l _ => he0 l) ⟨i, Finset.mem_univ _, ?_⟩
    obtain ⟨r, hr⟩ := hi
    have := he1 i
    rw [hr, Ideal.exp_coe] at this
    rw [← EReal.coe_injective this]
    exact Real.exp_pos r
  unfold weight
  simp only [he1, he2, ← coe_sum]
  rw [← Finset.sum_mul, Ideal.div_coe hpos.ne', Ideal.div_coe (mul_pos hpos (Real.exp_pos _)).ne', ← EReal.coe_mul, ← EReal.coe_mul]
  congr 1
  field_simp

/-- The scores of rows of reals meet what `weight_sub_top` asks. -/
theorem score_fin {q k : Fin 256 → Fin 64 → EReal} (hq : ∀ i d, IsReal (q i d)) (hk : ∀ j d, IsReal (k j d)) (i j : Fin 256) :
    score q k i j = ⊥ ∨ IsReal (score q k i j) := by
  unfold score
  rcases BitVec.eq_zero_or_eq_one (near i j) with e | e
  · rw [e]; exact .inl rfl
  · rw [e]; exact .inr (.mul (.sum _ fun d => (hq i d).mul (hk j d)) eighth_fin)
theorem score_self_fin {q k : Fin 256 → Fin 64 → EReal} (hq : ∀ i d, IsReal (q i d)) (hk : ∀ j d, IsReal (k j d)) (i : Fin 256) :
    IsReal (score q k i i) := by
  unfold score
  rw [near_self]
  exact .mul (.sum _ fun d => (hq i d).mul (hk i d)) eighth_fin

/-! ## The whole layer -/

/-- What the layer is given. -/
structure Layer where
  x : Fin 2 → Fin 256 → Fin 512 → EReal
  wq : Fin 512 → Fin 4096 → EReal
  k : Fin 2 → Fin 256 → Fin 64 → Fin 64 → EReal
  v : Fin 2 → Fin 256 → Fin 64 → Fin 64 → EReal
  wo : Fin 4096 → Fin 512 → EReal

namespace Layer

/-- The queries of head `h`. -/
def q (L : Layer) (b : Fin 2) (h : Fin 64) (i : Fin 256) (d : Fin 64) : EReal := ∑ e, L.x b i e * L.wq e (⟨64 * h.val + d.val, by omega⟩ : Fin 4096)

/-- Head `h` of batch `b`. -/
def head (L : Layer) (b : Fin 2) (h : Fin 64) : Fin 256 → Fin 64 → EReal := attend (L.q b h) (fun j d => L.k b j h d) (fun j d => L.v b j h d)

/-- The heads side by side. -/
def ctx (L : Layer) (b : Fin 2) (i : Fin 256) (c : Fin 4096) : EReal :=
  L.head b (⟨c.val / 64, by omega⟩ : Fin 64) i (⟨c.val % 64, by omega⟩ : Fin 64)

/-- The result. -/
def out (L : Layer) (b : Fin 2) (i : Fin 256) (n : Fin 512) : EReal := ∑ c, L.ctx b i c * L.wo c n

/-- What device `p` contributes: its 256 of the 4096 columns. -/
def part (L : Layer) (p : Fin 16) (b : Fin 2) (i : Fin 256) (n : Fin 512) : EReal :=
  ∑ y : Fin 256, L.ctx b i (⟨256 * p.val + y.val, by omega⟩ : Fin 4096) * L.wo (⟨256 * p.val + y.val, by omega⟩ : Fin 4096) n

/-- The contributions make up the result. -/
theorem sum_part (L : Layer) (b : Fin 2) (i : Fin 256) (n : Fin 512) : ∑ p, L.part p b i n = L.out b i n := by
  unfold part out
  rw [← Finset.sum_product', Finset.univ_product_univ, ← (finProdFinEquiv (m := 16) (n := 256)).sum_comp (fun c : Fin 4096 => L.ctx b i c * L.wo c n)]
  refine Finset.sum_congr rfl fun a _ => ?_
  have e : (⟨256 * a.1.val + a.2.val, by omega⟩ : Fin 4096) = finProdFinEquiv a := Fin.ext (by simp [finProdFinEquiv]; omega)
  rw [e]

/-- The scores' ingredients are reals. -/
structure Finite (L : Layer) : Prop where
  x : ∀ b i e, IsReal (L.x b i e)
  wq : ∀ e c, IsReal (L.wq e c)
  k : ∀ b j h d, IsReal (L.k b j h d)

theorem Finite.q {L : Layer} (H : L.Finite) (b h i d) : IsReal (L.q b h i d) := .sum _ fun e => (H.x b i e).mul (H.wq e _)

end Layer

end Cert.Val
-- ==== Proof.Val.Part.lean ====
/-
  What one device contributes, entry by entry.
-/
module

public import proofs.«01_k».proof.Proof.Val.Attn
public import proofs.«01_k».proof.Proof.KI.State

@[expose] public section

noncomputable section

namespace Cert.Val

open Idealize.ShloMosaic Cert.KernelIdeal Cert.KernelIdeal.Gen Cert.KernelIdeal.Talk

section
variable {F : FTy → Type} [FloatOps F] [Named F]

/-- One head, as the kernel computes it. -/
def kHead (q k v : FVec F S256x64 .bf16) : FVec F S256x64 .bf16 :=
  have e : FVec F S256x256 .f32 := exp (select k0_pay1 (mulf (matmul dot_S256x64_S256x64_S256x256_1_1_0_0_n_n none q k
    (constant S256x256 .f32 0x00000000#32)) (broadcast S256x256 (Scalar.ofBits .f32 0x3E000000#32)))
    (broadcast S256x256 (Named.named κ "mask" 0xC1F00000#32)))
  truncf .bf16 (matmul dot_S256x256_S256x64_S256x64_1_0_0_1_n_n none (truncf .bf16 (divf e (broadcastTo S256x256 (shapeCast S256x1
    (multiReduction .add [1] S256 e 0x00000000#32 reduces_S256x256_S256 (.inl rfl) rfl) shapeCasts_S256_S256x1) broadcasts_S256x1_S256x256))
    bitsLt_bf16_f32) v (constant S256x64 .f32 0x00000000#32)) bitsLt_bf16_f32

/-- The queries of a batch, all the device's heads side by side. -/
def kQuery (x : Vec F S256x512 .bf16) (wq : Vec F S512x256 .bf16) : FVec F S256x256 .bf16 :=
  truncf .bf16 (matmul dot_S256x512_S512x256_S256x256_1_0_0_1_n_n none (shapeCast S256x512 x shapeCasts_S256x512_S256x512)
    (shapeCast S512x256 wq shapeCasts_S512x256_S512x256) (constant S256x256 .f32 0x00000000#32)) bitsLt_bf16_f32

/-- The rows of one head out of a block of keys or values. -/
def kRows (u : Vec F S1x1x256x64 .bf16) : FVec F S256x64 .bf16 := shapeCast S256x64 u shapeCasts_S1x1x256x64_S256x64

/-- The device's contribution to one batch. -/
def kHalf (x : Vec F S256x512 .bf16) (wq : Vec F S512x256 .bf16) (wo : Vec F S256x512 .bf16) (k v : Fin 4 → Vec F S1x1x256x64 .bf16) :
    FVec F S256x512 .bf16 :=
  shapeCast S256x512 (truncf .bf16 (matmul dot_S256x256_S256x512_S256x512_1_0_0_1_n_n none (concatenate S256x256 1
    [⟨S256x64, kHead (extractStridedSlice S256x64 ![0, 0] (kQuery x wq) slices_S256x256_o0_0_S256x64) (kRows (k 0)) (kRows (v 0))⟩,
     ⟨S256x64, kHead (extractStridedSlice S256x64 ![0, 64] (kQuery x wq) slices_S256x256_o0_64_S256x64) (kRows (k 1)) (kRows (v 1))⟩,
     ⟨S256x64, kHead (extractStridedSlice S256x64 ![0, 128] (kQuery x wq) slices_S256x256_o0_128_S256x64) (kRows (k 2)) (kRows (v 2))⟩,
     ⟨S256x64, kHead (extractStridedSlice S256x64 ![0, 192] (kQuery x wq) slices_S256x256_o0_192_S256x64) (kRows (k 3)) (kRows (v 3))⟩]
    concatenates_S256x64_S256x64_S256x64_S256x64_S256x256_d1) (shapeCast S256x512 wo shapeCasts_S256x512_S256x512)
    (constant S256x512 .f32 0x00000000#32)) bitsLt_bf16_f32) shapeCasts_S256x512_S256x512

theorem rdX0_apply (X : Ins F) (i : Fin 256) (e : Fin 512) : rdX0 X (ix2 i e) = X.x (ix2 (⟨256 * 0 + i.val, by omega⟩ : Fin 512) e) := by
  show View.ld X.x (Rect.unit (s := S512x512) ![0, 0] S256x512.size inb_S512x512_S256x512_0_0) _ = _
  pointwise
theorem rdX1_apply (X : Ins F) (i : Fin 256) (e : Fin 512) : rdX1 X (ix2 i e) = X.x (ix2 (⟨256 * 1 + i.val, by omega⟩ : Fin 512) e) := by
  show View.ld X.x (Rect.unit (s := S512x512) ![256, 0] S256x512.size inb_S512x512_S256x512_256_0) _ = _
  pointwise
theorem rdWq_apply (X : Ins F) (e : Fin 512) (c : Fin 256) : rdWq X (ix2 e c) = X.wq (ix2 e c) := by
  show View.ld X.wq (Rect.unit (s := S512x256) ![0, 0] S512x256.size inb_S512x256_S512x256_0_0) _ = _
  pointwise
theorem rdWo_apply (X : Ins F) (c : Fin 256) (n : Fin 512) : rdWo X (ix2 c n) = X.wo (ix2 c n) := by
  show View.ld X.wo (Rect.unit (s := S256x512) ![0, 0] S256x512.size inb_S256x512_S256x512_0_0) _ = _
  pointwise
theorem rdK_apply (X : Ins F) (b : Fin 2) (a : Fin 4) (inb) (j : Fin 256) (d : Fin 64) :
    rdK X ![b.val, a.val, 0, 0] inb (ix4 (0 : Fin 1) (0 : Fin 1) j d) = X.k (ix4 b a j d) := by
  show View.ld X.k (Rect.unit (s := S2x4x256x64) ![b.val, a.val, 0, 0] S1x1x256x64.size inb) _ = _
  pointwise
theorem rdV_apply (X : Ins F) (b : Fin 2) (a : Fin 4) (inb) (j : Fin 256) (d : Fin 64) :
    rdV X ![b.val, a.val, 0, 0] inb (ix4 (0 : Fin 1) (0 : Fin 1) j d) = X.v (ix4 b a j d) := by
  show View.ld X.v (Rect.unit (s := S2x4x256x64) ![b.val, a.val, 0, 0] S1x1x256x64.size inb) _ = _
  pointwise

theorem half0_eq (X : Ins F) : half0 X = kHalf (rdX0 X) (rdWq X) (rdWo X)
    ![rdK X ![0, 0, 0, 0] inb_S2x4x256x64_S1x1x256x64_0_0_0_0, rdK X ![0, 1, 0, 0] inb_S2x4x256x64_S1x1x256x64_0_1_0_0,
      rdK X ![0, 2, 0, 0] inb_S2x4x256x64_S1x1x256x64_0_2_0_0, rdK X ![0, 3, 0, 0] inb_S2x4x256x64_S1x1x256x64_0_3_0_0]
    ![rdV X ![0, 0, 0, 0] inb_S2x4x256x64_S1x1x256x64_0_0_0_0, rdV X ![0, 1, 0, 0] inb_S2x4x256x64_S1x1x256x64_0_1_0_0,
      rdV X ![0, 2, 0, 0] inb_S2x4x256x64_S1x1x256x64_0_2_0_0, rdV X ![0, 3, 0, 0] inb_S2x4x256x64_S1x1x256x64_0_3_0_0] := rfl
theorem half1_eq (X : Ins F) : half1 X = kHalf (rdX1 X) (rdWq X) (rdWo X)
    ![rdK X ![1, 0, 0, 0] inb_S2x4x256x64_S1x1x256x64_1_0_0_0, rdK X ![1, 1, 0, 0] inb_S2x4x256x64_S1x1x256x64_1_1_0_0,
      rdK X ![1, 2, 0, 0] inb_S2x4x256x64_S1x1x256x64_1_2_0_0, rdK X ![1, 3, 0, 0] inb_S2x4x256x64_S1x1x256x64_1_3_0_0]
    ![rdV X ![1, 0, 0, 0] inb_S2x4x256x64_S1x1x256x64_1_0_0_0, rdV X ![1, 1, 0, 0] inb_S2x4x256x64_S1x1x256x64_1_1_0_0,
      rdV X ![1, 2, 0, 0] inb_S2x4x256x64_S1x1x256x64_1_2_0_0, rdV X ![1, 3, 0, 0] inb_S2x4x256x64_S1x1x256x64_1_3_0_0] := rfl
end

set_option maxRecDepth 16384

theorem pay1_apply (i j : Fin 256) : k0_pay1 (ix2 i j) = near i j := by
  pointwise [k0_pay1, near]

theorem mask_eq : Named.named (F := Ideal) κ "mask" (φ := .f32) 0xC1F00000#32 = ⊥ := rfl

theorem kHead_apply {q k v : FVec Ideal S256x64 .bf16} {Q K V : Fin 256 → Fin 64 → EReal} (hq : ∀ i d, q (ix2 i d) = Q i d)
    (hk : ∀ i d, k (ix2 i d) = K i d) (hv : ∀ i d, v (ix2 i d) = V i d) (i : Fin 256) (d : Fin 64) : kHead q k v (ix2 i d) = attend Q K V i d := by
  pointwise [kHead]
  simp only [hq, hk, hv, mask_eq, pay1_apply]
  rfl

/-- The queries of one of the device's heads. -/
def dQuery (x : Vec Ideal S256x512 .bf16) (wq : Vec Ideal S512x256 .bf16) (a : Fin 4) (i : Fin 256) (d : Fin 64) : EReal :=
  ∑ e : Fin 512, x (ix2 i e) * wq (ix2 e (⟨64 * a.val + d.val, by omega⟩ : Fin 256))

theorem kQuery_apply (x : Vec Ideal S256x512 .bf16) (wq : Vec Ideal S512x256 .bf16) (a : Fin 4) (hs : S256x256.Slices ![0, 64 * a.val] S256x64)
    (i : Fin 256) (d : Fin 64) : extractStridedSlice S256x64 ![0, 64 * a.val] (kQuery x wq) hs (ix2 i d) = dQuery x wq a i d := by
  pointwise [kQuery, dQuery]

/-- The contribution to a batch: the heads of the device, each through its rows of the output weights. -/
theorem kHalf_apply (x : Vec Ideal S256x512 .bf16) (wq : Vec Ideal S512x256 .bf16) (wo : Vec Ideal S256x512 .bf16)
    (k v : Fin 4 → Vec Ideal S1x1x256x64 .bf16) (i : Fin 256) (n : Fin 512) :
    kHalf x wq wo k v (ix2 i n) = ∑ y : Fin 256, attend (dQuery x wq (⟨y.val / 64, by omega⟩ : Fin 4))
      (fun j d => k (⟨y.val / 64, by omega⟩ : Fin 4) (ix4 (0 : Fin 1) (0 : Fin 1) j d)) (fun j d => v (⟨y.val / 64, by omega⟩ : Fin 4) (ix4 (0 : Fin 1) (0 : Fin 1) j d))
      i (⟨y.val % 64, by omega⟩ : Fin 64) * wo (ix2 y n) := by
  pointwise [kHalf]
  refine Finset.sum_congr rfl fun y _ => congrArg (· * _) ?_
  have hk (a : Fin 4) (j : Fin 256) (d : Fin 64) : kRows (k a) (ix2 j d) = k a (ix4 (0 : Fin 1) (0 : Fin 1) j d) := by pointwise [kRows]
  have hv (a : Fin 4) (j : Fin 256) (d : Fin 64) : kRows (v a) (ix2 j d) = v a (ix4 (0 : Fin 1) (0 : Fin 1) j d) := by pointwise [kRows]
  have hy := y.isLt
  have key (a : Fin 4) (q : FVec Ideal S256x64 .bf16) (hq : ∀ i d, q (ix2 i d) = dQuery x wq a i d) (d : Fin 64) (ha : y.val / 64 = a.val)
      (hd : y.val % 64 = d.val) : kHead q (kRows (k a)) (kRows (v a)) (ix2 i d)
      = attend (dQuery x wq (⟨y.val / 64, by omega⟩ : Fin 4)) (fun j d => k (⟨y.val / 64, by omega⟩ : Fin 4) (ix4 (0 : Fin 1) (0 : Fin 1) j d))
        (fun j d => v (⟨y.val / 64, by omega⟩ : Fin 4) (ix4 (0 : Fin 1) (0 : Fin 1) j d)) i (⟨y.val % 64, by omega⟩ : Fin 64) := by
    have e1 : (⟨y.val / 64, by omega⟩ : Fin 4) = a := Fin.ext ha
    have e2 : (⟨y.val % 64, by omega⟩ : Fin 64) = d := Fin.ext hd
    rw [e1, e2]
    exact kHead_apply hq (hk a) (hv a) i d
  by_cases h1 : y.val < 64
  · exact (dif_pos h1).trans (key 0 _ (kQuery_apply x wq 0 _) ⟨y.val, h1⟩ (show y.val / 64 = 0 by omega) (show y.val % 64 = y.val by omega))
  refine (dif_neg h1).trans ?_
  by_cases h2 : y.val - 64 < 64
  · exact (dif_pos h2).trans (key 1 _ (kQuery_apply x wq 1 _) ⟨y.val - 64, h2⟩ (show y.val / 64 = 1 by omega) (show y.val % 64 = y.val - 64 by omega))
  refine (dif_neg h2).trans ?_
  by_cases h3 : y.val - 64 - 64 < 64
  · exact (dif_pos h3).trans (key 2 _ (kQuery_apply x wq 2 _) ⟨y.val - 64 - 64, h3⟩ (show y.val / 64 = 2 by omega)
      (show y.val % 64 = y.val - 64 - 64 by omega))
  · exact (dif_neg h3).trans (key 3 _ (kQuery_apply x wq 3 _) ⟨y.val - 64 - 64 - 64, by omega⟩ (show y.val / 64 = 3 by omega)
      (show y.val % 64 = y.val - 64 - 64 - 64 by omega))

/-- Device `p` is given its share of the layer. -/
structure Holds (L : Layer) (p : Fin 16) (X : Ins Ideal) : Prop where
  x : ∀ (b : Fin 2) (i : Fin 256) (e : Fin 512), X.x (ix2 (⟨256 * b.val + i.val, by omega⟩ : Fin 512) e) = L.x b i e
  wq : ∀ (e : Fin 512) (c : Fin 256), X.wq (ix2 e c) = L.wq e (⟨256 * p.val + c.val, by omega⟩ : Fin 4096)
  k : ∀ (b : Fin 2) (a : Fin 4) (j : Fin 256) (d : Fin 64), X.k (ix4 b a j d) = L.k b j (⟨4 * p.val + a.val, by omega⟩ : Fin 64) d
  v : ∀ (b : Fin 2) (a : Fin 4) (j : Fin 256) (d : Fin 64), X.v (ix4 b a j d) = L.v b j (⟨4 * p.val + a.val, by omega⟩ : Fin 64) d
  wo : ∀ (c : Fin 256) (n : Fin 512), X.wo (ix2 c n) = L.wo (⟨256 * p.val + c.val, by omega⟩ : Fin 4096) n

/-- A batch of a device that holds its share. -/
theorem kHalf_part {L : Layer} {p : Fin 16} {X : Ins Ideal} (H : Holds L p X) (b : Fin 2) (x : Vec Ideal S256x512 .bf16)
    (hx : ∀ i e, x (ix2 i e) = L.x b i e) (k v : Fin 4 → Vec Ideal S1x1x256x64 .bf16) (hk : ∀ a j d, k a (ix4 (0 : Fin 1) (0 : Fin 1) j d) = X.k (ix4 b a j d))
    (hv : ∀ a j d, v a (ix4 (0 : Fin 1) (0 : Fin 1) j d) = X.v (ix4 b a j d)) (i : Fin 256) (n : Fin 512) :
    kHalf x (rdWq X) (rdWo X) k v (ix2 i n) = L.part p b i n := by
  rw [kHalf_apply]
  unfold Layer.part
  refine Finset.sum_congr rfl fun y _ => ?_
  rw [rdWo_apply, H.wo]
  refine congrArg (· * _) ?_
  have hy := y.isLt
  have e1 : (⟨(256 * p.val + y.val) / 64, by omega⟩ : Fin 64) = ⟨4 * p.val + y.val / 64, by omega⟩ := Fin.ext (by show _ / _ = _ + _; omega)
  have e2 : (⟨(256 * p.val + y.val) % 64, by omega⟩ : Fin 64) = ⟨y.val % 64, by omega⟩ := Fin.ext (by show _ % _ = _ % _; omega)
  show _ = L.head b (⟨(256 * p.val + y.val) / 64, _⟩ : Fin 64) i (⟨(256 * p.val + y.val) % 64, _⟩ : Fin 64)
  rw [e1, e2]
  have eq (a : Fin 4) : dQuery x (rdWq X) a = L.q b (⟨4 * p.val + a.val, by omega⟩ : Fin 64) := by
    funext i d
    refine Finset.sum_congr rfl fun e _ => ?_
    rw [hx, rdWq_apply, H.wq]
    exact congrArg (fun c => _ * L.wq e c) (Fin.ext (show 256 * p.val + (64 * a.val + d.val) = 64 * (4 * p.val + a.val) + d.val by omega))
  unfold Layer.head
  rw [eq]
  simp only [hk, hv, H.k, H.v]

/-- What a device that holds its share contributes. -/
theorem partVal_apply {L : Layer} {p : Fin 16} {X : Ins Ideal} (H : Holds L p X) (b : Fin 2) (i : Fin 256) (n : Fin 512) :
    partVal X (ix2 (⟨256 * b.val + i.val, by omega⟩ : Fin 512) n) = L.part p b i n := by
  have hi := i.isLt
  have e : (⟨(256 * b.val + i.val) % 256, Nat.mod_lt _ (by decide)⟩ : Fin 256) = i := Fin.ext (by show _ % _ = _; omega)
  have hr (k : Fin 4 → Vec Ideal S1x1x256x64 .bf16) (u : S2x4x256x64.Idx → EReal) (b : Fin 2)
    (h0 : ∀ j d, k 0 (ix4 (0 : Fin 1) (0 : Fin 1) j d) = u (ix4 b (0 : Fin 4) j d)) (h1 : ∀ j d, k 1 (ix4 (0 : Fin 1) (0 : Fin 1) j d) = u (ix4 b (1 : Fin 4) j d))
    (h2 : ∀ j d, k 2 (ix4 (0 : Fin 1) (0 : Fin 1) j d) = u (ix4 b (2 : Fin 4) j d)) (h3 : ∀ j d, k 3 (ix4 (0 : Fin 1) (0 : Fin 1) j d) = u (ix4 b (3 : Fin 4) j d)) (a : Fin 4) :
    ∀ j d, k a (ix4 (0 : Fin 1) (0 : Fin 1) j d) = u (ix4 b a j d) := by
    match a with
    | 0 => exact h0
    | 1 => exact h1
    | 2 => exact h2
    | 3 => exact h3
  match b with
  | 0 =>
    refine (if_pos (show 256 * 0 + i.val < 256 by omega)).trans ?_
    refine (congrArg (fun t => half0 X (ix2 t n)) e).trans ?_
    rw [half0_eq]
    exact kHalf_part H 0 _ (fun i e => (rdX0_apply X i e).trans (H.x 0 i e)) _ _
      (hr _ X.k 0 (rdK_apply X 0 0 _) (rdK_apply X 0 1 _) (rdK_apply X 0 2 _) (rdK_apply X 0 3 _))
      (hr _ X.v 0 (rdV_apply X 0 0 _) (rdV_apply X 0 1 _) (rdV_apply X 0 2 _) (rdV_apply X 0 3 _)) i n
  | 1 =>
    refine (if_neg (show ¬ 256 * 1 + i.val < 256 by omega)).trans ?_
    refine (congrArg (fun t => half1 X (ix2 t n)) e).trans ?_
    rw [half1_eq]
    exact kHalf_part H 1 _ (fun i e => (rdX1_apply X i e).trans (H.x 1 i e)) _ _
      (hr _ X.k 1 (rdK_apply X 1 0 _) (rdK_apply X 1 1 _) (rdK_apply X 1 2 _) (rdK_apply X 1 3 _))
      (hr _ X.v 1 (rdV_apply X 1 0 _) (rdV_apply X 1 1 _) (rdV_apply X 1 2 _) (rdV_apply X 1 3 _)) i n

end Cert.Val
-- ==== Proof.Val.Exch.lean ====
/-
  What the exchange leaves: every row is the sum of all devices' contributions to it.
-/
module

public import proofs.«01_k».proof.Proof.Val.Part

@[expose] public section

noncomputable section

namespace Cert.Val

open Idealize.ShloMosaic Cert.KernelIdeal Cert.KernelIdeal.Gen Cert.KernelIdeal.Talk

set_option maxRecDepth 16384

theorem rdSlot_apply (P : Dev nD → Mat Ideal) (p : Dev nD) (h : Fin 2) (o : Fin 15) (j : ℕ) (hj : j = sl h o) (inb) (r : Fin 16) (n : Fin 512) :
    rdSlot P p ![j, 0, 0] inb (ix3 (0 : Fin 1) r n) = P (pv p o) (at2 h p r n) := by
  subst hj
  have e : rdSlot P p ![sl h o, 0, 0] inb (ix3 (0 : Fin 1) r n) = recvVal P p (ix3 (⟨sl h o, sl_lt h o⟩ : Fin 30) r n) := by
    show View.ld (recvVal P p) (Rect.unit (s := S30x16x512) ![sl h o, 0, 0] S1x16x512.size inb) _ = _
    pointwise
  rw [e, ix3_eq_valueIdx]
  exact recvVal_at P p h o r n
theorem rdOwn0_apply (P : Dev nD → Mat Ideal) (p : Dev nD) (r : Fin 16) (n : Fin 512) : rdOwn0 P p (ix2 r n) = P p (at2 0 p r n) :=
  congrArg (P p) (rowsAt 0 p _ _ (off2_0 p) _)
theorem rdOwn1_apply (P : Dev nD → Mat Ideal) (p : Dev nD) (r : Fin 16) (n : Fin 512) : rdOwn1 P p (ix2 r n) = P p (at2 1 p r n) :=
  congrArg (P p) (rowsAt 1 p _ _ (off2_1 p) _)

/-- One's own and the fifteen before one are all sixteen. -/
theorem sum_round (f : Dev nD → EReal) (p : Dev nD) :
    f p + f (pv p 0) + f (pv p 1) + f (pv p 2) + f (pv p 3) + f (pv p 4) + f (pv p 5) + f (pv p 6) + f (pv p 7) + f (pv p 8) + f (pv p 9)
      + f (pv p 10) + f (pv p 11) + f (pv p 12) + f (pv p 13) + f (pv p 14) = ∑ c, f c := by
  have hb : Function.Bijective fun o : Fin 16 => (⟨(p.val + 16 - o.val) % 16, Nat.mod_lt _ (by decide)⟩ : Dev nD) := by revert p; decide
  rw [← hb.sum_comp f, show (Finset.univ : Finset (Fin 16)).sum _ = _ from Fin.sum_univ_castSucc _]
  simp only [Fin.sum_univ_castSucc, Fin.sum_univ_zero, zero_add]
  have hp : p.val < 16 := p.isLt
  have e0 : (⟨(p.val + 16 - 0) % 16, Nat.mod_lt _ (by decide)⟩ : Dev nD) = p := Fin.ext (by show _ % _ = _; omega)
  exact congrArg (· + f (pv p 0) + f (pv p 1) + f (pv p 2) + f (pv p 3) + f (pv p 4) + f (pv p 5) + f (pv p 6) + f (pv p 7) + f (pv p 8) + f (pv p 9)
      + f (pv p 10) + f (pv p 11) + f (pv p 12) + f (pv p 13) + f (pv p 14)) (congrArg f e0).symm

theorem red0_apply (P : Dev nD → Mat Ideal) (p : Dev nD) (r : Fin 16) (n : Fin 512) : red0 P p (ix2 r n) = ∑ c, P c (at2 0 p r n) := by
  rw [← sum_round (fun c => P c (at2 0 p r n)) p]
  unfold red0
  unfold_payloads
  pointwise
  rw [rdOwn0_apply, rdSlot_apply P p 0 0 0 rfl, rdSlot_apply P p 0 1 1 rfl, rdSlot_apply P p 0 2 2 rfl, rdSlot_apply P p 0 3 3 rfl,
    rdSlot_apply P p 0 4 4 rfl, rdSlot_apply P p 0 5 5 rfl, rdSlot_apply P p 0 6 6 rfl, rdSlot_apply P p 0 7 7 rfl, rdSlot_apply P p 0 8 8 rfl,
    rdSlot_apply P p 0 9 9 rfl, rdSlot_apply P p 0 10 10 rfl, rdSlot_apply P p 0 11 11 rfl, rdSlot_apply P p 0 12 12 rfl,
    rdSlot_apply P p 0 13 13 rfl, rdSlot_apply P p 0 14 14 rfl]
theorem red1_apply (P : Dev nD → Mat Ideal) (p : Dev nD) (r : Fin 16) (n : Fin 512) : red1 P p (ix2 r n) = ∑ c, P c (at2 1 p r n) := by
  rw [← sum_round (fun c => P c (at2 1 p r n)) p]
  unfold red1
  unfold_payloads
  pointwise
  rw [rdOwn1_apply, rdSlot_apply P p 1 0 15 rfl, rdSlot_apply P p 1 1 16 rfl, rdSlot_apply P p 1 2 17 rfl, rdSlot_apply P p 1 3 18 rfl,
    rdSlot_apply P p 1 4 19 rfl, rdSlot_apply P p 1 5 20 rfl, rdSlot_apply P p 1 6 21 rfl, rdSlot_apply P p 1 7 22 rfl, rdSlot_apply P p 1 8 23 rfl,
    rdSlot_apply P p 1 9 24 rfl, rdSlot_apply P p 1 10 25 rfl, rdSlot_apply P p 1 11 26 rfl, rdSlot_apply P p 1 12 27 rfl,
    rdSlot_apply P p 1 13 28 rfl, rdSlot_apply P p 1 14 29 rfl]

/-- The kernel's result is the sum of the contributions. -/
theorem outVal_apply (P : Dev nD → Mat Ideal) (i : S512x512.Idx) : outVal P i = ∑ c, P c i := by
  have hi : (i 0).val < 512 := (i 0).isLt
  obtain ⟨h, p, r, n, rfl⟩ : ∃ (h : Fin 2) (p : Dev nD) (r : Fin 16) (n : Fin 512), i = at2 h p r n := by
    refine ⟨⟨(i 0).val / 256, by omega⟩, ⟨(i 0).val / 16 % 16, Nat.mod_lt _ (by decide)⟩, ⟨(i 0).val % 16, Nat.mod_lt _ (by decide)⟩, i 1, ?_⟩
    funext a
    match a with
    | ⟨0, _⟩ => exact Fin.ext (by show (i 0).val = 256 * ((i 0).val / 256) + 16 * ((i 0).val / 16 % 16) + (i 0).val % 16; omega)
    | ⟨1, _⟩ => rfl
  rw [outVal_at, ← ix2_eq_valueIdx]
  unfold red
  match h with
  | 0 => exact red0_apply P p r n
  | 1 => exact red1_apply P p r n

end Cert.Val
-- ==== Proof.Val.Ref.lean ====
/-
  What the reference computes, entry by entry.
-/
module

public import proofs.«01_k».proof.Proof.Val.Attn
public import proofs.«01_k».proof.Proof.Gen.ReferenceIdeal.Run
public import Idealize.ShloMosaic.Lib.Pointwise
public import Idealize.ShloMosaic.Lib.Routing.OpsOrder

@[expose] public section

noncomputable section

namespace Cert.Val
open Idealize.ShloMosaic Cert.ReferenceIdeal Cert.ReferenceIdeal.Gen

section
variable {F : FTy → Type} [FloatOps F]

/-- Which columns a row looks at. -/
def rBand : IVec S256x256 1 :=
  cmpi .sle (absi (subi (broadcastInDim S256x256 ![0, 1] bcast_S256x1_S256x256_0_1 (broadcastInDim S256x1 ![0] bcast_S256_S256x1_0 (iotaInDim S256 32 0)))
    (broadcastInDim S256x256 ![0, 1] bcast_S1x256_S256x256_0_1 (broadcastInDim S1x256 ![1] bcast_S256_S1x256_1 (iotaInDim S256 32 0)))))
    (broadcastInDim S256x256 ![] bcast_S_S256x256 (constantI S_ 32 128#32))
/-- Whether a row looks at any column. -/
def rKeep : IVec S256 1 := Host.reduce IntOp.ori rBand (constantI S_ 1 0#1) reducesTo_S256x256_S256_d1 h_S_
/-- The masked scores. -/
def rScore (x : FVec F S2x256x512 .bf16) (wq : FVec F S512x4096 .bf16) (k : FVec F S2x256x64x64 .bf16) : FVec F S2x64x256x256 .f32 :=
  select (broadcastInDim S2x64x256x256 ![0, 1, 2, 3] bcast_S1x1x256x256_S2x64x256x256_0_1_2_3 (broadcastInDim S1x1x256x256 ![2, 3] bcast_S256x256_S1x1x256x256_2_3 rBand))
    (mulf (Host.dotGeneral dot_S2x256x64x64_S2x256x64x64_S2x64x256x256_3_3_1_1_02_02 none
      (shapeCast S2x256x64x64 (Host.dotGeneral dot_S2x256x512_S512x4096_S2x256x4096_2_0_01_1_n_n none (extf .f32 x bitsLt_bf16_f32) (extf .f32 wq bitsLt_bf16_f32)) shapeCasts_S2x256x4096_S2x256x64x64)
      (extf .f32 k bitsLt_bf16_f32)) (broadcastInDim S2x64x256x256 ![] bcast_S_S2x64x256x256 (constant S_ .f32 0x3E000000#32)))
    (broadcastInDim S2x64x256x256 ![] bcast_S_S2x64x256x256 (id (constant S_ .f32 0xFF800000#32)))
/-- The greatest score of each row. -/
def rTop (s : FVec F S2x64x256x256 .f32) : FVec F S2x64x256 .f32 :=
  Host.reduce FloatOps.maximumf s (constant S_ .f32 0xFF800000#32) reducesTo_S2x64x256x256_S2x64x256_d3 h_S_
/-- The exponentials of the scores' distances to the greatest. -/
def rExp (s : FVec F S2x64x256x256 .f32) : FVec F S2x64x256x256 .f32 :=
  Host.exp (subf s (broadcastInDim S2x64x256x256 ![0, 1, 2, 3] bcast_S2x64x256x1_S2x64x256x256_0_1_2_3 (broadcastInDim S2x64x256x1 ![0, 1, 2] bcast_S2x64x256_S2x64x256x1_0_1_2 (rTop s))))
/-- The weights. -/
def rWeight (s : FVec F S2x64x256x256 .f32) : FVec F S2x64x256x256 .f32 :=
  select (broadcastInDim S2x64x256x256 ![0, 1, 2, 3] bcast_S1x1x256x1_S2x64x256x256_0_1_2_3 (broadcastInDim S1x1x256x1 ![2] bcast_S256_S1x1x256x1_2 rKeep))
    (Host.divf (rExp s) (broadcastInDim S2x64x256x256 ![0, 1, 2, 3] bcast_S2x64x256x1_S2x64x256x256_0_1_2_3
      (select (broadcastInDim S2x64x256x1 ![0, 1, 2, 3] bcast_S1x1x256x1_S2x64x256x1_0_1_2_3 (broadcastInDim S1x1x256x1 ![2] bcast_S256_S1x1x256x1_2 rKeep))
        (broadcastInDim S2x64x256x1 ![0, 1, 2] bcast_S2x64x256_S2x64x256x1_0_1_2 (Host.reduceAdd (rExp s) (constant S_ .f32 0x00000000#32) reducesTo_S2x64x256x256_S2x64x256_d3 h_S_))
        (broadcastInDim S2x64x256x1 ![] bcast_S_S2x64x256x1 (id (constant S_ .f32 0x3F800000#32))))))
    (broadcastInDim S2x64x256x256 ![] bcast_S_S2x64x256x256 (id (constant S_ .f32 0x00000000#32)))
/-- The result. -/
def rOut (w : FVec F S2x64x256x256 .f32) (v : FVec F S2x256x64x64 .bf16) (wo : FVec F S4096x512 .bf16) : FVec F S2x256x512 .bf16 :=
  truncf .bf16 (Host.dotGeneral dot_S2x256x4096_S4096x512_S2x256x512_2_0_01_1_n_n none
    (shapeCast S2x256x4096 (transpose S2x256x64x64 [0, 3, 1, 2] (Host.dotGeneral dot_S2x256x64x64_S2x64x256x256_S2x64x64x256_1_3_3_2_02_01 none
      (extf .f32 v bitsLt_bf16_f32) w) transposes_S2x64x64x256_S2x256x64x64_0_3_1_2) shapeCasts_S2x256x64x64_S2x256x4096)
    (extf .f32 wo bitsLt_bf16_f32)) bitsLt_bf16_f32

set_option maxRecDepth 8192 in
/-- The reference's result, by these steps. -/
theorem ref_eq (m : (ℓ : Loc nD τ sig) → Buf (Elt F) ℓ) (c : Dev nD) : Cert.ReferenceIdeal.Value.res_main_v40 m c =
    rOut (rWeight (rScore (m ((c.tc : Thread nD τ).loc main_arg0)) (m ((c.tc : Thread nD τ).loc main_arg1)) (m ((c.tc : Thread nD τ).loc main_arg2))))
      (m ((c.tc : Thread nD τ).loc main_arg3)) (m ((c.tc : Thread nD τ).loc main_arg4)) := rfl
end

set_option maxRecDepth 16384

/-- The reference's arrays as a layer. -/
def layer (x : FVec Ideal S2x256x512 .bf16) (wq : FVec Ideal S512x4096 .bf16) (k v : FVec Ideal S2x256x64x64 .bf16) (wo : FVec Ideal S4096x512 .bf16) : Layer where
  x b i e := x (ix3 b i e)
  wq e c := wq (ix2 e c)
  k b j h d := k (ix4 b j h d)
  v b j h d := v (ix4 b j h d)
  wo c n := wo (ix2 c n)

theorem rBand_apply (i j : Fin 256) : rBand (ix2 i j) = near i j := by
  pointwise [rBand, near]

/-- Every row looks at its own column. -/
theorem rKeep_apply (i : Fin 256) : rKeep (ix1 i) = 1#1 := by
  pointwise [rKeep]
  refine (Routing.fold_ori _ _).mpr ⟨i, Finset.mem_univ _, ?_⟩
  rw [rBand_apply, near_self]

theorem rScore_apply (x : FVec Ideal S2x256x512 .bf16) (wq : FVec Ideal S512x4096 .bf16) (k v : FVec Ideal S2x256x64x64 .bf16) (wo : FVec Ideal S4096x512 .bf16)
    (b : Fin 2) (h : Fin 64) (i j : Fin 256) :
    rScore x wq k (ix4 b h i j) = score ((layer x wq k v wo).q b h) (fun j d => (layer x wq k v wo).k b j h d) i j := by
  pointwise [rScore]
  rw [rBand_apply]
  have e : id (constant (F := Ideal) S_ .f32 4286578688#32) ix0 = ⊥ := ninf
  rw [e]
  have e2 : ∀ d : Fin 64, (⟨h.val * 64 + d.val, by omega⟩ : Fin 4096) = ⟨64 * h.val + d.val, by omega⟩ := fun d => Fin.ext (congrArg (· + d.val) (Nat.mul_comm _ _))
  simp only [e2]
  rfl

theorem rExp_apply (s : FVec Ideal S2x64x256x256 .f32) (b : Fin 2) (h : Fin 64) (i j : Fin 256) :
    rExp s (ix4 b h i j) = Ideal.exp (s (ix4 b h i j) - top (fun l => s (ix4 b h i l))) := by
  pointwise [rExp, rTop]
  rw [ninf]
  rfl

theorem rWeight_apply (s : FVec Ideal S2x64x256x256 .f32) (b : Fin 2) (h : Fin 64) (i j : Fin 256) :
    rWeight s (ix4 b h i j) = weight (fun l => s (ix4 b h i l) - top (fun l => s (ix4 b h i l))) j := by
  pointwise [rWeight]
  simp only [rKeep_apply, rExp_apply]
  rfl

theorem rOut_apply (w : FVec Ideal S2x64x256x256 .f32) (v : FVec Ideal S2x256x64x64 .bf16) (wo : FVec Ideal S4096x512 .bf16)
    (b : Fin 2) (i : Fin 256) (n : Fin 512) :
    rOut w v wo (ix3 b i n) = ∑ c : Fin 4096, (∑ j, w (ix4 b (⟨c.val / 64, by omega⟩ : Fin 64) i j)
      * v (ix4 b j (⟨c.val / 64, by omega⟩ : Fin 64) (⟨c.val % 64, by omega⟩ : Fin 64))) * wo (ix2 c n) := by
  pointwise [rOut]
  refine Finset.sum_congr rfl fun c _ => congrArg (· * _) (Finset.sum_congr rfl fun j _ => mul_comm _ _)

/-- The reference computes the layer. -/
theorem ref_apply (x : FVec Ideal S2x256x512 .bf16) (wq : FVec Ideal S512x4096 .bf16) (k v : FVec Ideal S2x256x64x64 .bf16) (wo : FVec Ideal S4096x512 .bf16)
    (H : (layer x wq k v wo).Finite) (b : Fin 2) (i : Fin 256) (n : Fin 512) :
    rOut (rWeight (rScore x wq k)) v wo (ix3 b i n) = (layer x wq k v wo).out b i n := by
  rw [rOut_apply]
  simp only [rWeight_apply, rScore_apply x wq k v wo]
  have e (h : Fin 64) (j : Fin 256) := weight_sub_top _ (score_fin (H.q b h) (fun j d => H.k b j h d) i) i (score_self_fin (H.q b h) (fun j d => H.k b j h d) i) j
  simp only [e]
  rfl

end Cert.Val
-- ==== Proof.Val.Host.lean ====
/-
  The arrays as the steps before and after the kernel hand them over: each device starts from its share of the layer, and
  the kernel's result is what is returned, row by row.
-/
module

public import proofs.«01_k».proof.Proof.Val.Exch
public import proofs.«01_k».proof.Proof.Val.Ref
public import proofs.«01_k».proof.Proof.KI.Run
public import Idealize.ShloMosaic.Lib.StableHlo.ReadAt

@[expose] public section

set_option maxRecDepth 16384

noncomputable section

namespace Cert.Val

open Idealize.ShloMosaic Cert.KernelIdeal Cert.KernelIdeal.Gen Cert.KernelIdeal.Talk

variable (m : (l : Loc nD τ sig) → Buf (Elt Ideal) l) (c : Dev nD)

/-- The batches one under the other. -/
theorem v5_at (b : Fin 2) (i : Fin 256) (e : Fin 512) :
    V1 m c (Proc.devRef .tc main_v5) (ix2 (⟨256 * b.val + i.val, by omega⟩ : Fin 512) e) = m (c, Proc.devRef .tc main_arg0) (ix3 b i e) := by
  after_reads_at

theorem wq_at : V1 m c (Proc.devRef .tc main_arg1) = m (c, Proc.devRef .tc main_arg1) := by
  after_reads_simp

theorem wo_at : V1 m c (Proc.devRef .tc main_arg4) = m (c, Proc.devRef .tc main_arg4) := by
  after_reads_simp

/-- Four times the device's place in the ring of sixteen. -/
def fours (c : Dev nD) : S_.Idx → BitVec 32 :=
  muli (Host.remui (Host.divui (constantI S_ 32 (Dev.word c)) (constantI S_ 32 1#32)) (constantI S_ 32 16#32)) (constantI S_ 32 4#32)

/-- The number of the device's first head, counted from the end if it is negative. -/
def first (c : Dev nD) : S_.Idx → BitVec 32 :=
  select (cmpi .slt (fours c) (constantI S_ 32 0#32)) (addi (fours c) (constantI S_ 32 64#32)) (fours c)

/-- It is never negative, so it is four times the device. -/
theorem first_toInt : ∀ (c : Dev nD) (i : S_.Idx), (first c i).toInt = ((4 * c.val : Nat) : Int) := by
  intro c i
  unfold first fours
  pointwise
  revert c
  decide

theorem ix4_ext {n0 n1 n2 n3 : Nat} {a a' : Fin n0} {b b' : Fin n1} {d d' : Fin n2} {e e' : Fin n3} (ha : a.val = a'.val) (hb : b.val = b'.val)
    (hd : d.val = d'.val) (he : e.val = e'.val) : ix4 a b d e = ix4 a' b' d' e' := by
  rw [Fin.ext ha, Fin.ext hb, Fin.ext hd, Fin.ext he]

/-- Where a window that starts at the device's first head reads: its own head number is counted from there. -/
theorem window_at {f : Fin 4 → Int} (h0 : f 0 = 0) (h1 : f 1 = 0) (h2 : f 2 = (first c (Shape.Idx.first h_S_)).toInt) (h3 : f 3 = 0)
    (b : Fin 2) (a : Fin 4) (j : Fin 256) (d : Fin 64) (i0 : Fin 2) (i1 : Fin 256) (i2 i3 : Fin 64)
    (e0 : i0.val = Host.clampedStart S2x256x64x64 S2x256x4x64 rfl f 0 + b.val) (e1 : i1.val = Host.clampedStart S2x256x64x64 S2x256x4x64 rfl f 1 + j.val)
    (e2 : i2.val = Host.clampedStart S2x256x64x64 S2x256x4x64 rfl f 2 + a.val) (e3 : i3.val = Host.clampedStart S2x256x64x64 S2x256x4x64 rfl f 3 + d.val) :
    ix4 i0 i1 i2 i3 = ix4 b j (⟨4 * c.val + a.val, by have : c.val < 16 := c.isLt; omega⟩ : Fin 64) d := by
  have hc : c.val < 16 := c.isLt
  rw [Host.clampedStart_of_le _ _ _ 0 h0 (by decide)] at e0
  rw [Host.clampedStart_of_le _ _ _ 0 h1 (by decide)] at e1
  rw [Host.clampedStart_of_le _ _ _ (4 * c.val) (h2.trans (first_toInt c _)) (show 4 * c.val + 4 ≤ 64 by omega)] at e2
  rw [Host.clampedStart_of_le _ _ _ 0 h3 (by decide)] at e3
  exact ix4_ext (by omega) (by omega) e2 (by omega)

/-- The keys of the device's heads. -/
theorem v16_at (b : Fin 2) (a : Fin 4) (j : Fin 256) (d : Fin 64) :
    V1 m c (Proc.devRef .tc main_v16) (ix4 b a j d)
      = m (c, Proc.devRef .tc main_arg2) (ix4 b j (⟨4 * c.val + a.val, by have : c.val < 16 := c.isLt; omega⟩ : Fin 64) d) := by
  after_reads_at
  refine congrArg (m (c, Proc.devRef .tc main_arg2)) (window_at c ?_ ?_ ?_ ?_ b a j d _ _ _ _ rfl rfl rfl rfl)
  · show BitVec.toInt (StableHlo.upto (hostOps0 c) (V0 m c) 17 (Proc.devRef .tc main_c_4) (Shape.Idx.first h_S_)) = 0
    after_reads_simp
    rfl
  · show BitVec.toInt (StableHlo.upto (hostOps0 c) (V0 m c) 17 (Proc.devRef .tc main_c_5) (Shape.Idx.first h_S_)) = 0
    after_reads_simp
    rfl
  · show BitVec.toInt (StableHlo.upto (hostOps0 c) (V0 m c) 17 (Proc.devRef .tc main_v9) (Shape.Idx.first h_S_)) = (first c _).toInt
    after_reads_simp
    rfl
  · show BitVec.toInt (StableHlo.upto (hostOps0 c) (V0 m c) 17 (Proc.devRef .tc main_c_6) (Shape.Idx.first h_S_)) = 0
    after_reads_simp
    rfl

/-- The values of the device's heads. -/
theorem v17_at (b : Fin 2) (a : Fin 4) (j : Fin 256) (d : Fin 64) :
    V1 m c (Proc.devRef .tc main_v17) (ix4 b a j d)
      = m (c, Proc.devRef .tc main_arg3) (ix4 b j (⟨4 * c.val + a.val, by have : c.val < 16 := c.isLt; omega⟩ : Fin 64) d) := by
  after_reads_at
  refine congrArg (m (c, Proc.devRef .tc main_arg3)) (window_at c ?_ ?_ ?_ ?_ b a j d _ _ _ _ rfl rfl rfl rfl)
  · show BitVec.toInt (StableHlo.upto (hostOps0 c) (V0 m c) 28 (Proc.devRef .tc main_c_10) (Shape.Idx.first h_S_)) = 0
    after_reads_simp
    rfl
  · show BitVec.toInt (StableHlo.upto (hostOps0 c) (V0 m c) 28 (Proc.devRef .tc main_c_11) (Shape.Idx.first h_S_)) = 0
    after_reads_simp
    rfl
  · show BitVec.toInt (StableHlo.upto (hostOps0 c) (V0 m c) 28 (Proc.devRef .tc main_v14) (Shape.Idx.first h_S_)) = (first c _).toInt
    after_reads_simp
    rfl
  · show BitVec.toInt (StableHlo.upto (hostOps0 c) (V0 m c) 28 (Proc.devRef .tc main_c_12) (Shape.Idx.first h_S_)) = 0
    after_reads_simp
    rfl

/-- What is returned, from what the kernel leaves: the rows of a batch lie one under the other. -/
theorem v19_at (b : Fin 2) (i : Fin 256) (n : Fin 512) :
    V3 m (outs m) c (Proc.devRef .tc main_v19) (ix3 b i n) = res m (ix2 (⟨256 * b.val + i.val, by omega⟩ : Fin 512) n) := by
  rw [← v2_out m c, show (⟨256 * b.val + i.val, by omega⟩ : Fin 512) = ⟨b.val * 256 + i.val, by omega⟩ from Fin.ext (by simp only; omega)]
  after_reads_at

/-- Columns of the query weights that lie on a device. -/
theorem wq_block (w : FVec Ideal ⟨2, ![512, 4096]⟩ .bf16) (p : Fin 16) (e : Fin 512) (a : Fin 256) :
    Layout.block ⟨2, ![512, 256]⟩ ⟨2, ![512, 4096]⟩ 1 16 p w (by decide) (ix2 e a) = w (ix2 e (⟨256 * p.val + a.val, by omega⟩ : Fin 4096)) := by
  refine congrArg w (funext fun k => Fin.ext ?_)
  match k with
  | ⟨0, _⟩ => rfl
  | ⟨1, _⟩ => show p.val * 256 + a.val = 256 * p.val + a.val; omega

/-- Rows of the output weights that lie on a device. -/
theorem wo_block (w : FVec Ideal ⟨2, ![4096, 512]⟩ .bf16) (p : Fin 16) (a : Fin 256) (n : Fin 512) :
    Layout.block ⟨2, ![256, 512]⟩ ⟨2, ![4096, 512]⟩ 0 16 p w (by decide) (ix2 a n) = w (ix2 (⟨256 * p.val + a.val, by omega⟩ : Fin 4096) n) := by
  refine congrArg w (funext fun k => Fin.ext ?_)
  match k with
  | ⟨0, _⟩ => show p.val * 256 + a.val = 256 * p.val + a.val; omega
  | ⟨1, _⟩ => rfl

/-- If the devices hold a layer's arrays, the query weights by columns and the output weights by rows, then each starts
    the kernel with its share of the layer. -/
theorem holds {x : FVec Ideal S2x256x512 .bf16} {wq : FVec Ideal ⟨2, ![512, 4096]⟩ .bf16} {k v : FVec Ideal S2x256x64x64 .bf16}
    {wo : FVec Ideal ⟨2, ![4096, 512]⟩ .bf16} (hx : m (c, Proc.devRef .tc main_arg0) = x)
    (hq : m (c, Proc.devRef .tc main_arg1) = Layout.block ⟨2, ![512, 256]⟩ ⟨2, ![512, 4096]⟩ 1 16 c wq (by decide))
    (hk : m (c, Proc.devRef .tc main_arg2) = k) (hv : m (c, Proc.devRef .tc main_arg3) = v)
    (ho : m (c, Proc.devRef .tc main_arg4) = Layout.block ⟨2, ![256, 512]⟩ ⟨2, ![4096, 512]⟩ 0 16 c wo (by decide)) :
    Holds (layer x wq k v wo) c (XX m c) where
  x b i e := (v5_at m c b i e).trans (congrFun hx _)
  wq e a := (congrFun ((wq_at m c).trans hq) _).trans (wq_block wq c e a)
  k b a j d := (v16_at m c b a j d).trans (congrFun hk _)
  v b a j d := (v17_at m c b a j d).trans (congrFun hv _)
  wo a n := (congrFun ((wo_at m c).trans ho) _).trans (wo_block wo c a n)

/-- Then every device returns the layer. -/
theorem v19_out {L : Layer} (H : ∀ c, Holds L c (XX m c)) (b : Fin 2) (i : Fin 256) (n : Fin 512) :
    V3 m (outs m) c (Proc.devRef .tc main_v19) (ix3 b i n) = L.out b i n := by
  refine (v19_at m c b i n).trans ((outVal_apply (PX (XX m)) _).trans ((L.sum_part b i n).symm.trans ?_).symm)
  exact Finset.sum_congr rfl fun p _ => (partVal_apply (H p) b i n).symm

end Cert.Val

end
-- ==== Proof.Val.Meet.lean ====
/-
  The equation: where the scores are finite, the kernel returns what the reference returns.
-/
module

public import proofs.«01_k».proof.Proof.Val.Host
public import proofs.«01_k».proof.Pre_finite_scores_KernelIdeal
public import proofs.«01_k».proof.Defs
public import proofs.«01_k».proof.Proof.Gen.ReferenceIdeal

@[expose] public section

set_option maxRecDepth 16384

noncomputable section

namespace Cert.Val

open Idealize.ShloMosaic Idealize.SL.Sem

/-- Smaller than infinity in absolute value: a real number. -/
theorem real_of_lt {a : EReal} (h : BitVec.ofBool (decide ((FloatOps.absf (F := Ideal) (φ := .f32) a : EReal) < Ideal.ofBits .f32 0x7F800000#32)) = 1#1) : IsReal a := by
  have top : Ideal.ofBits .f32 0x7F800000#32 = ⊤ := by simp [Ideal.ofBits, Ideal.ieee]
  rw [top] at h
  induction a with
  | bot => exact absurd h (by simp [FloatOps.absf])
  | top => exact absurd h (by simp [FloatOps.absf])
  | coe r => exact ⟨r, rfl⟩

section
open Cert.Pre_finite_scores_KernelIdeal
variable [Facts] (x : FVec Ideal S2x256x512 .bf16) (wq : FVec Ideal S512x256 .bf16) (k v : FVec Ideal S2x256x64x64 .bf16) (wo : FVec Ideal S256x512 .bf16)

theorem x_real (h : (fn x wq k v wo).1 = fun _ => 1#1) (b : Fin 2) (i : Fin 256) (e : Fin 512) : IsReal (x (ix3 b i e)) :=
  real_of_lt ((show _ = (fn x wq k v wo).1 (ix3 b i e) by unfold fn; pointwise).trans (congrFun h _))

theorem wq_real (h : (fn x wq k v wo).2.1 = fun _ => 1#1) (e : Fin 512) (a : Fin 256) : IsReal (wq (ix2 e a)) :=
  real_of_lt ((show _ = (fn x wq k v wo).2.1 (ix2 e a) by unfold fn; pointwise).trans (congrFun h _))

theorem k_real (h : (fn x wq k v wo).2.2 = fun _ => 1#1) (b : Fin 2) (j : Fin 256) (n d : Fin 64) : IsReal (k (ix4 b j n d)) :=
  real_of_lt ((show _ = (fn x wq k v wo).2.2 (ix4 b j n d) by unfold fn; pointwise).trans (congrFun h _))
end

variable [Cert.Pre_finite_scores_KernelIdeal.Facts]
  {m : (l : Loc Cert.KernelIdeal.nD Cert.KernelIdeal.τ Cert.KernelIdeal.sig) → Buf (Elt Ideal) l}
  {x : FVec Ideal Cert.KernelIdeal.S2x256x512 .bf16} {wq : FVec Ideal ⟨2, ![512, 4096]⟩ .bf16}
  {k v : FVec Ideal Cert.KernelIdeal.S2x256x64x64 .bf16} {wo : FVec Ideal ⟨2, ![4096, 512]⟩ .bf16}

/-- The devices hold the layer's arrays, the query weights by columns and the output weights by rows. -/
structure Split (m : (l : Loc Cert.KernelIdeal.nD Cert.KernelIdeal.τ Cert.KernelIdeal.sig) → Buf (Elt Ideal) l)
    (x : FVec Ideal Cert.KernelIdeal.S2x256x512 .bf16) (wq : FVec Ideal ⟨2, ![512, 4096]⟩ .bf16) (k v : FVec Ideal Cert.KernelIdeal.S2x256x64x64 .bf16)
    (wo : FVec Ideal ⟨2, ![4096, 512]⟩ .bf16) : Prop where
  x c : m (c, Proc.devRef .tc Cert.KernelIdeal.main_arg0) = x
  wq c : m (c, Proc.devRef .tc Cert.KernelIdeal.main_arg1) = Layout.block ⟨2, ![512, 256]⟩ ⟨2, ![512, 4096]⟩ 1 16 c wq (by decide)
  k c : m (c, Proc.devRef .tc Cert.KernelIdeal.main_arg2) = k
  v c : m (c, Proc.devRef .tc Cert.KernelIdeal.main_arg3) = v
  wo c : m (c, Proc.devRef .tc Cert.KernelIdeal.main_arg4) = Layout.block ⟨2, ![256, 512]⟩ ⟨2, ![4096, 512]⟩ 0 16 c wo (by decide)

/-- What is known finite on every device is finite in the layer: a column of the query weights lies on some device. -/
theorem Split.finite (h : Split m x wq k v wo) (hp : Cert.Pre_KernelIdeal_finite_scores_KernelIdeal m) : (layer x wq k v wo).Finite where
  x b i e := by
    have := x_real _ _ _ _ _ (hp 0).1 b i e
    rwa [show m ((((0 : Dev Cert.KernelIdeal.nD).tc : Thread Cert.KernelIdeal.nD Cert.KernelIdeal.τ).loc Cert.KernelIdeal.main_arg0)) = x from h.x 0] at this
  wq e a := by
    have := wq_real _ _ _ _ _ (hp (⟨a.val / 256, by omega⟩ : Fin 16)).2.1 e ⟨a.val % 256, Nat.mod_lt _ (by decide)⟩
    refine (congrArg IsReal ((congrFun (h.wq _) _).trans ((wq_block wq _ e _).trans ?_))).mp this
    exact congrArg (fun q : Fin 4096 => wq (ix2 e q)) (Fin.ext (Nat.div_add_mod a.val 256))
  k b j n d := by
    have := k_real _ _ _ _ _ (hp 0).2.2 b j n d
    rwa [show m ((((0 : Dev Cert.KernelIdeal.nD).tc : Thread Cert.KernelIdeal.nD Cert.KernelIdeal.τ).loc Cert.KernelIdeal.main_arg2)) = k from h.k 0] at this

/-- The kernel's result on every device is the reference's. -/
theorem Split.meet (h : Split m x wq k v wo) (hp : Cert.Pre_KernelIdeal_finite_scores_KernelIdeal m) (c : Dev Cert.KernelIdeal.nD) :
    Cert.KernelIdeal.Gen.V3 m (Cert.KernelIdeal.Talk.outs m) c (Proc.devRef .tc Cert.KernelIdeal.main_v19) = rOut (rWeight (rScore x wq k)) v wo := by
  funext i
  obtain ⟨b, r, n, rfl⟩ : ∃ b r n, i = ix3 b r n := ⟨i 0, i 1, i 2, by funext a; match a with | ⟨0, _⟩ => rfl | ⟨1, _⟩ => rfl | ⟨2, _⟩ => rfl⟩
  exact (v19_out m c (L := layer x wq k v wo) (fun c => holds m c (h.x c) (h.wq c) (h.k c) (h.v c) (h.wo c)) b r n).trans
    (ref_apply x wq k v wo (h.finite hp) b r n).symm

end Cert.Val

end
-- ==== Proof.lean ====
/- The proof of the certificate's claim: the kernel as printed, the kernel over the extended reals and the
   reference run to the end and leave their arguments and every counter as they were; the kernel over the
   extended reals is the printed one with its mask value named, and it returns on every device what the reference
   returns. The kernel's run is `Cert.KernelIdeal.Talk.run` (Proof/KI/Run.lean), the equation `Cert.Val.Split.meet`
   (Proof/Val/Meet.lean). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Top.Frames
public import proofs.«01_k».proof.Proof.Val.Meet
public import Idealize.ShloMosaic.Adequacy
public import Idealize.ShloMosaic.Init

@[expose] public section

noncomputable section

namespace Cert.Proof

open Idealize.ShloMosaic Idealize.SL.Sem

/-- The reference runs, its arguments end as they began, and it has no counter. -/
theorem frame_ri : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The one rewriting of the kernel: its mask value is named, and the name stands for `⊥`. -/
theorem preserves : Cert.preserves_Kernel_KernelIdeal :=
  IdealRules.named_const.statement Cert.KernelIdeal.κ "mask" .f32 0xC1F00000#32 ⊥ rfl

/-- The shape relations that the precondition names. -/
theorem facts_pre : Cert.Pre_finite_scores_KernelIdeal.Facts := ⟨by decide, by decide, by decide, by decide⟩

/-- The same at the reference's shapes. -/
theorem facts_pre_reference : Cert.Pre_finite_scores_ReferenceIdeal.Facts := ⟨by decide, by decide, by decide, by decide⟩

/-- The kernel returns, on every device, what the reference returns. -/
theorem algebraic [Cert.Pre_finite_scores_KernelIdeal.Facts] :
    Cert.algebraic_KernelIdeal_ReferenceIdeal_pre_finite_scores_KernelIdeal := fun m ρ m' ρ' hp h =>
  ⟨Cert.ReferenceIdeal.Value.res_main_v40 m' 0,
    (θ_run Cert.KernelIdeal.defs _ _).mono
      (fun _ r c => ⟨(r.1 c).2.trans ((Cert.Val.Split.meet ⟨fun c => (h c).1, fun c => (h c).2.1, fun c => (h c).2.2.1, fun c => (h c).2.2.2.1,
        fun c => (h c).2.2.2.2⟩ hp c).trans (Cert.Val.ref_eq m' 0).symm), (r.1 c).1⟩)
      (Cert.KernelIdeal.Talk.run (F := Ideal) m ρ),
    (θ_run Cert.ReferenceIdeal.defs _ _).mono (fun _ r => r 0) (Cert.ReferenceIdeal.Value.run (F := Ideal) m' ρ')⟩

/-- Everything that is claimed. -/
theorem claim : Cert.Claim := ⟨Cert.Kernel.Gen.facts, Cert.KernelIdeal.Gen.facts, Cert.ReferenceIdeal.Gen.facts, facts_pre, facts_pre_reference,
  frame_p, frame_pi, fun m ρ _ => frame_pi m ρ trivial, frame_ri, fun m ρ _ => frame_ri m ρ trivial, preserves, @algebraic facts_pre⟩

end Cert.Proof

end
